-- ==== Defs.lean ====
def Pre_Kernel [hPre_groups_cut_the_rows : Cert.Pre_groups_cut_the_rows.Facts] (m : (ℓ : Loc Cert.Kernel.nD Cert.Kernel.τ Cert.Kernel.sig) → Buf (Elt Bits) ℓ) : Prop :=
  ∀ c : Dev Cert.Kernel.nD,
    (Cert.Pre_groups_cut_the_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_groups_cut_the_rows : Cert.Pre_groups_cut_the_rows.Facts] (m : (ℓ : Loc Cert.KernelIdeal.nD Cert.KernelIdeal.τ Cert.KernelIdeal.sig) → Buf (Elt Ideal) ℓ) : Prop :=
  ∀ c : Dev Cert.KernelIdeal.nD,
    (Cert.Pre_groups_cut_the_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_numbers_and_cut [hPre_numbers_and_cut : Cert.Pre_numbers_and_cut.Facts] (m : (ℓ : Loc Cert.KernelIdeal.nD Cert.KernelIdeal.τ Cert.KernelIdeal.sig) → Buf (Elt Ideal) ℓ) : Prop :=
  ∀ c : Dev Cert.KernelIdeal.nD,
    (Cert.Pre_numbers_and_cut.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_numbers_and_cut.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_numbers_and_cut [hPre_numbers_and_cut : Cert.Pre_numbers_and_cut.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_numbers_and_cut.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_numbers_and_cut.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] [hPre_groups_cut_the_rows : Cert.Pre_groups_cut_the_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_groups_cut_the_rows : Cert.Pre_groups_cut_the_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_numbers_and_cut [hKernelIdeal : Cert.KernelIdeal.Facts] [hPre_numbers_and_cut : Cert.Pre_numbers_and_cut.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_numbers_and_cut m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_numbers_and_cut [hReferenceIdeal : Cert.ReferenceIdeal.Facts] [hPre_numbers_and_cut : Cert.Pre_numbers_and_cut.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_numbers_and_cut m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_numbers_and_cut [hKernelIdeal : Cert.KernelIdeal.Facts] [hReferenceIdeal : Cert.ReferenceIdeal.Facts] [hPre_numbers_and_cut : Cert.Pre_numbers_and_cut.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_numbers_and_cut m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_groups_cut_the_rows : Cert.Pre_groups_cut_the_rows.Facts) (hPre_numbers_and_cut : Cert.Pre_numbers_and_cut.Facts),
    quiescent_Kernel (hKernel := hKernel) (hPre_groups_cut_the_rows := hPre_groups_cut_the_rows)
    ∧ quiescent_KernelIdeal (hKernelIdeal := hKernelIdeal) (hPre_groups_cut_the_rows := hPre_groups_cut_the_rows)
    ∧ quiescent_KernelIdeal_pre_numbers_and_cut (hKernelIdeal := hKernelIdeal) (hPre_numbers_and_cut := hPre_numbers_and_cut)
    ∧ quiescent_ReferenceIdeal (hReferenceIdeal := hReferenceIdeal)
    ∧ quiescent_ReferenceIdeal_pre_numbers_and_cut (hReferenceIdeal := hReferenceIdeal) (hPre_numbers_and_cut := hPre_numbers_and_cut)
    ∧ preserves_Kernel_KernelIdeal
    ∧ algebraic_KernelIdeal_ReferenceIdeal_pre_numbers_and_cut (hKernelIdeal := hKernelIdeal) (hReferenceIdeal := hReferenceIdeal) (hPre_numbers_and_cut := hPre_numbers_and_cut)
-- ==== Pre_groups_cut_the_rows.lean ====
abbrev S24576x2816 : Shape := ⟨2, ![24576, 2816]⟩
abbrev S8 : Shape := ⟨1, ![8]⟩
abbrev S8x2816x2048 : Shape := ⟨3, ![8, 2816, 2048]⟩
abbrev S8x22x16 : Shape := ⟨3, ![8, 22, 16]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S24576x2816 .bf16) (main_arg1 : IVec S8 32) (main_arg2 : FVec F S8x2816x2048 .fp8e4m3) (main_arg3 : FVec F S8x22x16 .f32) (main_arg4 : FVec F S8x2816x2048 .fp8e4m3) (main_arg5 : FVec F S8x22x16 .f32) : IVec S8 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 24576#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 32 := constantI S_ 32 0#32
  let main_v5 : IVec S_ 32 := (fun x v => Host.reduce IntOp.addi x v reducesTo_S8_S_d0 h_S_) main_arg1 main_c_1
  let main_c_2 : IVec S_ 32 := constantI S_ 32 24576#32
  let main_v6 : IVec S_ 1 := cmpi .eq main_v5 main_c_2
  let main_v7 : IVec S8 1 := broadcastInDim S8 ![] bcast_S_S8 main_v6
  let main_v8 : IVec S8 1 := andi main_v4 main_v7
  main_v8
-- ==== Pre_numbers_and_cut.lean ====
abbrev S24576x2816 : Shape := ⟨2, ![24576, 2816]⟩
abbrev S8 : Shape := ⟨1, ![8]⟩
abbrev S8x2816x2048 : Shape := ⟨3, ![8, 2816, 2048]⟩
abbrev S8x22x16 : Shape := ⟨3, ![8, 22, 16]⟩
abbrev S_ : Shape := ⟨0, ![]⟩

class Facts : Prop where
  bcast_S_S24576x2816 : S_.BroadcastsInDim S24576x2816 (![] : Fin 0 → Fin S24576x2816.rank)
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S24576x2816 .bf16) (main_arg1 : IVec S8 32) (main_arg2 : FVec F S8x2816x2048 .fp8e4m3) (main_arg3 : FVec F S8x22x16 .f32) (main_arg4 : FVec F S8x2816x2048 .fp8e4m3) (main_arg5 : FVec F S8x22x16 .f32) : IVec S24576x2816 1 × IVec S8 1 :=
  let main_v0 : FVec F S24576x2816 .bf16 := Host.absf main_arg0
  let main_cst : FVec F S_ .bf16 := constant S_ .bf16 0x7F7F#16
  let main_v1 : FVec F S24576x2816 .bf16 := broadcastInDim S24576x2816 ![] bcast_S_S24576x2816 main_cst
  let main_v2 : IVec S24576x2816 1 := cmpf .ole main_v0 main_v1
  let main_v3 : FVec F S24576x2816 .bf16 := Host.absf main_arg0
  let main_cst_0 : FVec F S_ .bf16 := constant S_ .bf16 0x7F80#16
  let main_v4 : FVec F S24576x2816 .bf16 := broadcastInDim S24576x2816 ![] bcast_S_S24576x2816 main_cst_0
  let main_v5 : IVec S24576x2816 1 := cmpf .oeq main_v3 main_v4
  let main_v6 : IVec S24576x2816 1 := ori main_v2 main_v5
  let main_c : IVec S_ 32 := constantI S_ 32 0#32
  let main_v7 : IVec S8 32 := broadcastInDim S8 ![] bcast_S_S8 main_c
  let main_v8 : IVec S8 1 := cmpi .sge main_arg1 main_v7
  let main_c_1 : IVec S_ 32 := constantI S_ 32 24576#32
  let main_v9 : IVec S8 32 := broadcastInDim S8 ![] bcast_S_S8 main_c_1
  let main_v10 : IVec S8 1 := cmpi .sle main_arg1 main_v9
  let main_v11 : IVec S8 1 := andi main_v8 main_v10
  let main_c_2 : IVec S_ 32 := constantI S_ 32 0#32
  let main_v12 : IVec S_ 32 := (fun x v => Host.reduce IntOp.addi x v reducesTo_S8_S_d0 h_S_) main_arg1 main_c_2
  let main_c_3 : IVec S_ 32 := constantI S_ 32 24576#32
  let main_v13 : IVec S_ 1 := cmpi .eq main_v12 main_c_3
  let main_v14 : IVec S8 1 := broadcastInDim S8 ![] bcast_S_S8 main_v13
  let main_v15 : IVec S8 1 := andi main_v11 main_v14
  (main_v6, main_v15)
-- ==== Kernel.lean ====
abbrev S24576x2816 : Shape := ⟨2, ![24576, 2816]⟩
abbrev S8 : Shape := ⟨1, ![8]⟩
abbrev S8x2816x2048 : Shape := ⟨3, ![8, 2816, 2048]⟩
abbrev S8x22x16 : Shape := ⟨3, ![8, 22, 16]⟩
abbrev S_ : Shape := ⟨0, ![]⟩
abbrev S55 : Shape := ⟨1, ![55]⟩
abbrev S1 : Shape := ⟨1, ![1]⟩
abbrev S1x8 : Shape := ⟨2, ![1, 8]⟩
abbrev S55x1 : Shape := ⟨2, ![55, 1]⟩
abbrev S55x8 : Shape := ⟨2, ![55, 8]⟩
abbrev S24576x2048 : Shape := ⟨2, ![24576, 2048]⟩
abbrev S512x2816 : Shape := ⟨2, ![512, 2816]⟩
abbrev S1x2816x2048 : Shape := ⟨3, ![1, 2816, 2048]⟩
abbrev S512x2048 : Shape := ⟨2, ![512, 2048]⟩
abbrev S128x128 : Shape := ⟨2, ![128, 128]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S512x256 : Shape := ⟨2, ![512, 256]⟩
abbrev S1x1x1 : Shape := ⟨3, ![1, 1, 1]⟩
abbrev S1x128x128 : Shape := ⟨3, ![1, 128, 128]⟩
abbrev S256x256 : Shape := ⟨2, ![256, 256]⟩

abbrev nBuf : Space → Nat
  | .hbm => 136
  | .vmem => 9
  | .smem => 6
  | _ => 0

abbrev hbmTy0_0 (i : Nat) : BufTy := match i % 128 with
  | 0 => ⟨S24576x2816, .bf16⟩
  | 1 => ⟨S8, .i32⟩
  | 2 => ⟨S8x2816x2048, .fp8e4m3⟩
  | 3 => ⟨S8x22x16, .f32⟩
  | 4 => ⟨S8x2816x2048, .fp8e4m3⟩
  | 5 => ⟨S8x22x16, .f32⟩
  | 6 => ⟨S_, .i32⟩
  | 7 => ⟨S_, .i32⟩
  | 8 => ⟨S8, .i32⟩
  | 9 => ⟨S8, .i32⟩
  | 10 => ⟨S_, .i32⟩
  | 11 => ⟨S_, .i32⟩
  | 12 => ⟨S8, .i32⟩
  | 13 => ⟨S8, .i32⟩
  | 14 => ⟨S8, .i32⟩
  | 15 => ⟨S_, .i32⟩
  | 16 => ⟨S8, .i32⟩
  | 17 => ⟨S8, .i1⟩
  | 18 => ⟨S8, .i32⟩
  | 19 => ⟨S8, .i32⟩
  | 20 => ⟨S_, .i32⟩
  | 21 => ⟨S8, .i32⟩
  | 22 => ⟨S8, .i1⟩
  | 23 => ⟨S8, .i1⟩
  | 24 => ⟨S_, .i32⟩
  | 25 => ⟨S8, .i32⟩
  | 26 => ⟨S8, .i32⟩
  | 27 => ⟨S8, .i32⟩
  | 28 => ⟨S_, .i32⟩
  | 29 => ⟨S8, .i32⟩
  | 30 => ⟨S8, .i32⟩
  | 31 => ⟨S_, .i32⟩
  | 32 => ⟨S8, .i32⟩
  | 33 => ⟨S8, .i32⟩
  | 34 => ⟨S_, .i32⟩
  | 35 => ⟨S_, .i32⟩
  | 36 => ⟨S8, .i32⟩
  | 37 => ⟨S8, .i32⟩
  | 38 => ⟨S8, .i32⟩
  | 39 => ⟨S_, .i32⟩
  | 40 => ⟨S8, .i32⟩
  | 41 => ⟨S8, .i1⟩
  | 42 => ⟨S8, .i32⟩
  | 43 => ⟨S8, .i32⟩
  | 44 => ⟨S_, .i32⟩
  | 45 => ⟨S8, .i32⟩
  | 46 => ⟨S8, .i1⟩
  | 47 => ⟨S8, .i1⟩
  | 48 => ⟨S_, .i32⟩
  | 49 => ⟨S8, .i32⟩
  | 50 => ⟨S8, .i32⟩
  | 51 => ⟨S8, .i32⟩
  | 52 => ⟨S_, .i32⟩
  | 53 => ⟨S8, .i32⟩
  | 54 => ⟨S8, .i1⟩
  | 55 => ⟨S8, .i32⟩
  | 56 => ⟨S_, .i32⟩
  | 57 => ⟨S8, .i32⟩
  | 58 => ⟨S8, .i32⟩
  | 59 => ⟨S_, .i32⟩
  | 60 => ⟨S_, .i32⟩
  | 61 => ⟨S8, .i32⟩
  | 62 => ⟨S8, .i32⟩
  | 63 => ⟨S_, .i32⟩
  | 64 => ⟨S_, .i32⟩
  | 65 => ⟨S8, .i32⟩
  | 66 => ⟨S55, .i32⟩
  | 67 => ⟨S1, .i32⟩
  | 68 => ⟨S_, .i32⟩
  | 69 => ⟨S_, .i32⟩
  | 70 => ⟨S_, .i32⟩
  | 71 => ⟨S55, .i32⟩
  | 72 => ⟨S55, .i32⟩
  | 73 => ⟨S1x8, .i32⟩
  | 74 => ⟨S55x1, .i32⟩
  | 75 => ⟨S55x8, .i32⟩
  | 76 => ⟨S55x8, .i32⟩
  | 77 => ⟨S55x8, .i1⟩
  | 78 => ⟨S55x8, .i32⟩
  | 79 => ⟨S_, .i32⟩
  | 80 => ⟨S_, .i32⟩
  | 81 => ⟨S55, .i32⟩
  | 82 => ⟨S55, .i1⟩
  | 83 => ⟨S_, .i32⟩
  | 84 => ⟨S55, .i32⟩
  | 85 => ⟨S55, .i32⟩
  | 86 => ⟨S55, .i32⟩
  | 87 => ⟨S55x1, .i32⟩
  | 88 => ⟨S55, .i32⟩
  | 89 => ⟨S55, .i32⟩
  | 90 => ⟨S8, .i32⟩
  | 91 => ⟨S_, .i32⟩
  | 92 => ⟨S55, .i32⟩
  | 93 => ⟨S55, .i1⟩
  | 94 => ⟨S_, .i32⟩
  | 95 => ⟨S55, .i32⟩
  | 96 => ⟨S55, .i32⟩
  | 97 => ⟨S55, .i32⟩
  | 98 => ⟨S55x1, .i32⟩
  | 99 => ⟨S55, .i32⟩
  | 100 => ⟨S_, .i32⟩
  | 101 => ⟨S55, .i32⟩
  | 102 => ⟨S55, .i32⟩
  | 103 => ⟨S_, .i32⟩
  | 104 => ⟨S55, .i32⟩
  | 105 => ⟨S55, .i1⟩
  | 106 => ⟨S_, .i32⟩
  | 107 => ⟨S55, .i32⟩
  | 108 => ⟨S55, .i32⟩
  | 109 => ⟨S55, .i32⟩
  | 110 => ⟨S55x1, .i32⟩
  | 111 => ⟨S55, .i32⟩
  | 112 => ⟨S55, .i32⟩
  | 113 => ⟨S_, .i32⟩
  | 114 => ⟨S55, .i32⟩
  | 115 => ⟨S1, .i32⟩
  | 116 => ⟨S_, .i32⟩
  | 117 => ⟨S55, .i32⟩
  | 118 => ⟨S55, .i1⟩
  | 119 => ⟨S_, .i32⟩
  | 120 => ⟨S55, .i32⟩
  | 121 => ⟨S55, .i1⟩
  | 122 => ⟨S_, .i32⟩
  | 123 => ⟨S55, .i32⟩
  | 124 => ⟨S55, .i32⟩
  | 125 => ⟨S55, .i32⟩
  | 126 => ⟨S55x1, .i32⟩
  | 127 => ⟨S55, .i32⟩
  | _ => ⟨S24576x2816, .bf16⟩

abbrev hbmTy0_1 (i : Nat) : BufTy := match i % 128 with
  | 0 => ⟨S55, .i32⟩
  | 1 => ⟨S_, .i32⟩
  | 2 => ⟨S55, .i32⟩
  | 3 => ⟨S55, .i32⟩
  | 4 => ⟨S_, .i32⟩
  | 5 => ⟨S_, .i32⟩
  | 6 => ⟨S55, .i32⟩
  | 7 => ⟨S24576x2048, .bf16⟩
  | _ => ⟨S24576x2816, .bf16⟩

abbrev hbmTy (i : Nat) : BufTy := match i / 128 with
  | 0 => hbmTy0_0 i
  | 1 => hbmTy0_1 i
  | _ => ⟨S24576x2816, .bf16⟩

abbrev bufTy : (tb : Table) → Fin (tcTables nBuf tb) → BufTy
  | .hbm, ⟨i, _⟩ => hbmTy i
  | .local _ .vmem, ⟨0, _⟩ => ⟨S512x2816, .bf16⟩
  | .local _ .vmem, ⟨1, _⟩ => ⟨S512x2816, .bf16⟩
  | .local _ .vmem, ⟨2, _⟩ => ⟨S1x2816x2048, .fp8e4m3⟩
  | .local _ .vmem, ⟨3, _⟩ => ⟨S1x2816x2048, .fp8e4m3⟩
  | .local _ .vmem, ⟨4, _⟩ => ⟨S1x2816x2048, .fp8e4m3⟩
  | .local _ .vmem, ⟨5, _⟩ => ⟨S1x2816x2048, .fp8e4m3⟩
  | .local _ .vmem, ⟨6, _⟩ => ⟨S512x2048, .bf16⟩
  | .local _ .vmem, ⟨7, _⟩ => ⟨S512x2048, .bf16⟩
  | .local _ .vmem, ⟨8, _⟩ => ⟨S512x2816, .bf16⟩
  | .local _ .smem, ⟨0, _⟩ => ⟨S55, .i32⟩
  | .local _ .smem, ⟨1, _⟩ => ⟨S55, .i32⟩
  | .local _ .smem, ⟨2, _⟩ => ⟨S55, .i32⟩
  | .local _ .smem, ⟨3, _⟩ => ⟨S55, .i32⟩
  | .local _ .smem, ⟨4, _⟩ => ⟨S8x22x16, .f32⟩
  | .local _ .smem, ⟨5, _⟩ => ⟨S8x22x16, .f32⟩
  | _, _ => ⟨S24576x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_c : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_0 : Ref sig .tc := ⟨.hbm, 24, rfl⟩
abbrev main_call1_v12 : Ref sig .tc := ⟨.hbm, 25, rfl⟩
abbrev main_call1_v13 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_c_2 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v7 : Ref sig .tc := ⟨.hbm, 51, rfl⟩
abbrev main_c_3 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_c_4 : Ref sig .tc := ⟨.hbm, 56, rfl⟩
abbrev main_v11 : Ref sig .tc := ⟨.hbm, 57, rfl⟩
abbrev main_v12 : Ref sig .tc := ⟨.hbm, 58, rfl⟩
abbrev main_c_5 : Ref sig .tc := ⟨.hbm, 59, rfl⟩
abbrev main_call3_v0 : Ref sig .tc := ⟨.hbm, 60, rfl⟩
abbrev main_call3_v1 : Ref sig .tc := ⟨.hbm, 61, rfl⟩
abbrev main_v13 : Ref sig .tc := ⟨.hbm, 62, rfl⟩
abbrev main_call4_call0_c : Ref sig .tc := ⟨.hbm, 63, rfl⟩
abbrev main_call4_call0_v0 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_c_6 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_c_7 : Ref sig .tc := ⟨.hbm, 79, rfl⟩
abbrev main_c_8 : Ref sig .tc := ⟨.hbm, 80, rfl⟩
abbrev main_v28 : Ref sig .tc := ⟨.hbm, 81, rfl⟩
abbrev main_v29 : Ref sig .tc := ⟨.hbm, 82, rfl⟩
abbrev main_c_9 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_c_10 : Ref sig .tc := ⟨.hbm, 91, rfl⟩
abbrev main_v37 : Ref sig .tc := ⟨.hbm, 92, rfl⟩
abbrev main_v38 : Ref sig .tc := ⟨.hbm, 93, rfl⟩
abbrev main_c_11 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_c_12 : Ref sig .tc := ⟨.hbm, 100, rfl⟩
abbrev main_v45 : Ref sig .tc := ⟨.hbm, 101, rfl⟩
abbrev main_v46 : Ref sig .tc := ⟨.hbm, 102, rfl⟩
abbrev main_c_13 : Ref sig .tc := ⟨.hbm, 103, rfl⟩
abbrev main_v47 : Ref sig .tc := ⟨.hbm, 104, rfl⟩
abbrev main_v48 : Ref sig .tc := ⟨.hbm, 105, rfl⟩
abbrev main_c_14 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_c_15 : Ref sig .tc := ⟨.hbm, 113, rfl⟩
abbrev main_v55 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_c_16 : Ref sig .tc := ⟨.hbm, 119, rfl⟩
abbrev main_v61 : Ref sig .tc := ⟨.hbm, 120, rfl⟩
abbrev main_v62 : Ref sig .tc := ⟨.hbm, 121, rfl⟩
abbrev main_c_17 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_c_18 : Ref sig .tc := ⟨.hbm, 129, rfl⟩
abbrev main_v69 : Ref sig .tc := ⟨.hbm, 130, rfl⟩
abbrev main_v70 : Ref sig .tc := ⟨.hbm, 131, rfl⟩
abbrev main_c_19 : Ref sig .tc := ⟨.hbm, 132, rfl⟩
abbrev main_call5_v0 : Ref sig .tc := ⟨.hbm, 133, rfl⟩
abbrev main_call5_v1 : Ref sig .tc := ⟨.hbm, 134, rfl⟩
abbrev main_v72 : Ref sig .tc := ⟨.hbm, 135, rfl⟩
abbrev main_v27 : Ref sig .tc := ⟨.smem, 0, rfl⟩
abbrev main_v44 : Ref sig .tc := ⟨.smem, 1, rfl⟩
abbrev main_v56 : Ref sig .tc := ⟨.smem, 2, rfl⟩
abbrev main_v71 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg3_0 : Ref sig .tc := ⟨.smem, 4, rfl⟩
abbrev cc0_stg4_0 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![55], ![false]⟩

abbrev pre0 : Pipeline.Prefetch sig := ⟨4, ![main_v27.idx, main_v44.idx, main_v56.idx, main_v71.idx], fun | 0 => main_v27.names | 1 => main_v44.names | 2 => main_v56.names | 3 => main_v71.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v9 : BitVec 32 := Scalar.subi arg0 c1_i32
  let c0_i32_0 : BitVec 32 := 0#32
  let v10 : BitVec 32 := Scalar.maxsi v9 c0_i32_0
  let v11 : Index := Scalar.indexCast v10
  ![v11.toNat]
def k0_off3 (v5 : BitVec 32) : Fin 3 → Nat :=
  let v29 : Index := Scalar.indexCast v5
  let c0_5 : Index := 0#32
  let c0_6 : Index := 0#32
  ![v29.toNat, 0, 0]
def k0_cond2 (v1 : BitVec 32) (v3 : BitVec 32) : BitVec 1 :=
  let v17 : BitVec 1 := Scalar.cmpi .sgt v3 v1
  let v18 : BitVec 32 := Scalar.extui v17
  let c0_i32_2 : BitVec 32 := 0#32
  let v19 : BitVec 1 := Scalar.cmpi .ne v18 c0_i32_2
  v19

def k0_off4 (v5 : BitVec 32) : Fin 3 → Nat :=
  let v37 : Index := Scalar.indexCast v5
  let c0_10 : Index := 0#32
  let c1 : Index := 1#32
  ![v37.toNat, 0, 1]
def k0_off5 (v5 : BitVec 32) : Fin 3 → Nat :=
  let v46 : Index := Scalar.indexCast v5
  let c1_13 : Index := 1#32
  let c0_14 : Index := 0#32
  ![v46.toNat, 1, 0]
def k0_off6 (v5 : BitVec 32) : Fin 3 → Nat :=
  let v54 : Index := Scalar.indexCast v5
  let c1_18 : Index := 1#32
  let c1_19 : Index := 1#32
  ![v54.toNat, 1, 1]
def k0_off7 (v5 : BitVec 32) : Fin 3 → Nat :=
  let v104 : Index := Scalar.indexCast v5
  let c2 : Index := 2#32
  let c0_46 : Index := 0#32
  ![v104.toNat, 2, 0]
def k0_off8 (v5 : BitVec 32) : Fin 3 → Nat :=
  let v112 : Index := Scalar.indexCast v5
  let c2_50 : Index := 2#32
  let c1_51 : Index := 1#32
  ![v112.toNat, 2, 1]
def k0_off9 (v5 : BitVec 32) : Fin 3 → Nat :=
  let v121 : Index := Scalar.indexCast v5
  let c3 : Index := 3#32
  let c0_55 : Index := 0#32
  ![v121.toNat, 3, 0]
def k0_off10 (v5 : BitVec 32) : Fin 3 → Nat :=
  let v129 : Index := Scalar.indexCast v5
  let c3_58 : Index := 3#32
  let c1_59 : Index := 1#32
  ![v129.toNat, 3, 1]
def k0_off11 (v5 : BitVec 32) : Fin 3 → Nat :=
  let v179 : Index := Scalar.indexCast v5
  let c4 : Index := 4#32
  let c0_86 : Index := 0#32
  ![v179.toNat, 4, 0]
def k0_off12 (v5 : BitVec 32) : Fin 3 → Nat :=
  let v187 : Index := Scalar.indexCast v5
  let c4_90 : Index := 4#32
  let c1_91 : Index := 1#32
  ![v187.toNat, 4, 1]
def k0_off13 (v5 : BitVec 32) : Fin 3 → Nat :=
  let v196 : Index := Scalar.indexCast v5
  let c5 : Index := 5#32
  let c0_95 : Index := 0#32
  ![v196.toNat, 5, 0]
def k0_off14 (v5 : BitVec 32) : Fin 3 → Nat :=
  let v204 : Index := Scalar.indexCast v5
  let c5_98 : Index := 5#32
  let c1_99 : Index := 1#32
  ![v204.toNat, 5, 1]
def k0_off15 (v5 : BitVec 32) : Fin 3 → Nat :=
  let v254 : Index := Scalar.indexCast v5
  let c6 : Index := 6#32
  let c0_126 : Index := 0#32
  ![v254.toNat, 6, 0]
def k0_off16 (v5 : BitVec 32) : Fin 3 → Nat :=
  let v262 : Index := Scalar.indexCast v5
  let c6_130 : Index := 6#32
  let c1_131 : Index := 1#32
  ![v262.toNat, 6, 1]
def k0_off17 (v5 : BitVec 32) : Fin 3 → Nat :=
  let v271 : Index := Scalar.indexCast v5
  let c7 : Index := 7#32
  let c0_135 : Index := 0#32
  ![v271.toNat, 7, 0]
def k0_off18 (v5 : BitVec 32) : Fin 3 → Nat :=
  let v279 : Index := Scalar.indexCast v5
  let c7_138 : Index := 7#32
  let c1_139 : Index := 1#32
  ![v279.toNat, 7, 1]
def k0_off19 (v5 : BitVec 32) : Fin 3 → Nat :=
  let v329 : Index := Scalar.indexCast v5
  let c8 : Index := 8#32
  let c0_166 : Index := 0#32
  ![v329.toNat, 8, 0]
def k0_off20 (v5 : BitVec 32) : Fin 3 → Nat :=
  let v337 : Index := Scalar.indexCast v5
  let c8_170 : Index := 8#32
  let c1_171 : Index := 1#32
  ![v337.toNat, 8, 1]
def k0_off21 (v5 : BitVec 32) : Fin 3 → Nat :=
  let v346 : Index := Scalar.indexCast v5
  let c9 : Index := 9#32
  let c0_175 : Index := 0#32
  ![v346.toNat, 9, 0]
def k0_off22 (v5 : BitVec 32) : Fin 3 → Nat :=
  let v354 : Index := Scalar.indexCast v5
  let c9_178 : Index := 9#32
  let c1_179 : Index := 1#32
  ![v354.toNat, 9, 1]
def k0_off23 (v5 : BitVec 32) : Fin 3 → Nat :=
  let v404 : Index := Scalar.indexCast v5
  let c10 : Index := 10#32
  let c0_206 : Index := 0#32
  ![v404.toNat, 10, 0]
def k0_off24 (v5 : BitVec 32) : Fin 3 → Nat :=
  let v412 : Index := Scalar.indexCast v5
  let c10_210 : Index := 10#32
  let c1_211 : Index := 1#32
  ![v412.toNat, 10, 1]
def k0_off25 (v5 : BitVec 32) : Fin 3 → Nat :=
  let v421 : Index := Scalar.indexCast v5
  let c11 : Index := 11#32
  let c0_215 : Index := 0#32
  ![v421.toNat, 11, 0]
def k0_off26 (v5 : BitVec 32) : Fin 3 → Nat :=
  let v429 : Index := Scalar.indexCast v5
  let c11_218 : Index := 11#32
  let c1_219 : Index := 1#32
  ![v429.toNat, 11, 1]
def k0_off27 (v5 : BitVec 32) : Fin 3 → Nat :=
  let v479 : Index := Scalar.indexCast v5
  let c12 : Index := 12#32
  let c0_246 : Index := 0#32
  ![v479.toNat, 12, 0]
def k0_off28 (v5 : BitVec 32) : Fin 3 → Nat :=
  let v487 : Index := Scalar.indexCast v5
  let c12_250 : Index := 12#32
  let c1_251 : Index := 1#32
  ![v487.toNat, 12, 1]
def k0_off29 (v5 : BitVec 32) : Fin 3 → Nat :=
  let v496 : Index := Scalar.indexCast v5
  let c13 : Index := 13#32
  let c0_255 : Index := 0#32
  ![v496.toNat, 13, 0]
def k0_off30 (v5 : BitVec 32) : Fin 3 → Nat :=
  let v504 : Index := Scalar.indexCast v5
  let c13_258 : Index := 13#32
  let c1_259 : Index := 1#32
  ![v504.toNat, 13, 1]
def k0_off31 (v5 : BitVec 32) : Fin 3 → Nat :=
  let v554 : Index := Scalar.indexCast v5
  let c14 : Index := 14#32
  let c0_286 : Index := 0#32
  ![v554.toNat, 14, 0]
def k0_off32 (v5 : BitVec 32) : Fin 3 → Nat :=
  let v562 : Index := Scalar.indexCast v5
  let c14_290 : Index := 14#32
  let c1_291 : Index := 1#32
  ![v562.toNat, 14, 1]
def k0_off33 (v5 : BitVec 32) : Fin 3 → Nat :=
  let v571 : Index := Scalar.indexCast v5
  let c15 : Index := 15#32
  let c0_295 : Index := 0#32
  ![v571.toNat, 15, 0]
def k0_off34 (v5 : BitVec 32) : Fin 3 → Nat :=
  let v579 : Index := Scalar.indexCast v5
  let c15_298 : Index := 15#32
  let c1_299 : Index := 1#32
  ![v579.toNat, 15, 1]
def k0_off35 (v5 : BitVec 32) : Fin 3 → Nat :=
  let v629 : Index := Scalar.indexCast v5
  let c16 : Index := 16#32
  let c0_326 : Index := 0#32
  ![v629.toNat, 16, 0]
def k0_off36 (v5 : BitVec 32) : Fin 3 → Nat :=
  let v637 : Index := Scalar.indexCast v5
  let c16_330 : Index := 16#32
  let c1_331 : Index := 1#32
  ![v637.toNat, 16, 1]
def k0_off37 (v5 : BitVec 32) : Fin 3 → Nat :=
  let v646 : Index := Scalar.indexCast v5
  let c17 : Index := 17#32
  let c0_335 : Index := 0#32
  ![v646.toNat, 17, 0]
def k0_off38 (v5 : BitVec 32) : Fin 3 → Nat :=
  let v654 : Index := Scalar.indexCast v5
  let c17_338 : Index := 17#32
  let c1_339 : Index := 1#32
  ![v654.toNat, 17, 1]
def k0_off39 (v5 : BitVec 32) : Fin 3 → Nat :=
  let v704 : Index := Scalar.indexCast v5
  let c18 : Index := 18#32
  let c0_366 : Index := 0#32
  ![v704.toNat, 18, 0]
def k0_off40 (v5 : BitVec 32) : Fin 3 → Nat :=
  let v712 : Index := Scalar.indexCast v5
  let c18_370 : Index := 18#32
  let c1_371 : Index := 1#32
  ![v712.toNat, 18, 1]
def k0_off41 (v5 : BitVec 32) : Fin 3 → Nat :=
  let v721 : Index := Scalar.indexCast v5
  let c19 : Index := 19#32
  let c0_375 : Index := 0#32
  ![v721.toNat, 19, 0]
def k0_off42 (v5 : BitVec 32) : Fin 3 → Nat :=
  let v729 : Index := Scalar.indexCast v5
  let c19_378 : Index := 19#32
  let c1_379 : Index := 1#32
  ![v729.toNat, 19, 1]
def k0_off43 (v5 : BitVec 32) : Fin 3 → Nat :=
  let v779 : Index := Scalar.indexCast v5
  let c20 : Index := 20#32
  let c0_406 : Index := 0#32
  ![v779.toNat, 20, 0]
def k0_off44 (v5 : BitVec 32) : Fin 3 → Nat :=
  let v787 : Index := Scalar.indexCast v5
  let c20_410 : Index := 20#32
  let c1_411 : Index := 1#32
  ![v787.toNat, 20, 1]
def k0_off45 (v5 : BitVec 32) : Fin 3 → Nat :=
  let v796 : Index := Scalar.indexCast v5
  let c21 : Index := 21#32
  let c0_415 : Index := 0#32
  ![v796.toNat, 21, 0]
def k0_off46 (v5 : BitVec 32) : Fin 3 → Nat :=
  let v804 : Index := Scalar.indexCast v5
  let c21_418 : Index := 21#32
  let c1_419 : Index := 1#32
  ![v804.toNat, 21, 1]
def k0_off47 (v5 : BitVec 32) : Fin 3 → Nat :=
  let v871 : Index := Scalar.indexCast v5
  let c0_456 : Index := 0#32
  let c2_457 : Index := 2#32
  ![v871.toNat, 0, 2]
def k0_off48 (v5 : BitVec 32) : Fin 3 → Nat :=
  let v879 : Index := Scalar.indexCast v5
  let c0_461 : Index := 0#32
  let c3_462 : Index := 3#32
  ![v879.toNat, 0, 3]
def k0_off49 (v5 : BitVec 32) : Fin 3 → Nat :=
  let v888 : Index := Scalar.indexCast v5
  let c1_466 : Index := 1#32
  let c2_467 : Index := 2#32
  ![v888.toNat, 1, 2]
def k0_off50 (v5 : BitVec 32) : Fin 3 → Nat :=
  let v896 : Index := Scalar.indexCast v5
  let c1_471 : Index := 1#32
  let c3_472 : Index := 3#32
  ![v896.toNat, 1, 3]
def k0_off51 (v5 : BitVec 32) : Fin 3 → Nat :=
  let v946 : Index := Scalar.indexCast v5
  let c2_500 : Index := 2#32
  let c2_501 : Index := 2#32
  ![v946.toNat, 2, 2]
def k0_off52 (v5 : BitVec 32) : Fin 3 → Nat :=
  let v954 : Index := Scalar.indexCast v5
  let c2_505 : Index := 2#32
  let c3_506 : Index := 3#32
  ![v954.toNat, 2, 3]
def k0_off53 (v5 : BitVec 32) : Fin 3 → Nat :=
  let v963 : Index := Scalar.indexCast v5
  let c3_510 : Index := 3#32
  let c2_511 : Index := 2#32
  ![v963.toNat, 3, 2]
def k0_off54 (v5 : BitVec 32) : Fin 3 → Nat :=
  let v971 : Index := Scalar.indexCast v5
  let c3_515 : Index := 3#32
  let c3_516 : Index := 3#32
  ![v971.toNat, 3, 3]
def k0_off55 (v5 : BitVec 32) : Fin 3 → Nat :=
  let v1021 : Index := Scalar.indexCast v5
  let c4_544 : Index := 4#32
  let c2_545 : Index := 2#32
  ![v1021.toNat, 4, 2]
def k0_off56 (v5 : BitVec 32) : Fin 3 → Nat :=
  let v1029 : Index := Scalar.indexCast v5
  let c4_549 : Index := 4#32
  let c3_550 : Index := 3#32
  ![v1029.toNat, 4, 3]
def k0_off57 (v5 : BitVec 32) : Fin 3 → Nat :=
  let v1038 : Index := Scalar.indexCast v5
  let c5_554 : Index := 5#32
  let c2_555 : Index := 2#32
  ![v1038.toNat, 5, 2]
def k0_off58 (v5 : BitVec 32) : Fin 3 → Nat :=
  let v1046 : Index := Scalar.indexCast v5
  let c5_559 : Index := 5#32
  let c3_560 : Index := 3#32
  ![v1046.toNat, 5, 3]
def k0_off59 (v5 : BitVec 32) : Fin 3 → Nat :=
  let v1096 : Index := Scalar.indexCast v5
  let c6_588 : Index := 6#32
  let c2_589 : Index := 2#32
  ![v1096.toNat, 6, 2]
def k0_off60 (v5 : BitVec 32) : Fin 3 → Nat :=
  let v1104 : Index := Scalar.indexCast v5
  let c6_593 : Index := 6#32
  let c3_594 : Index := 3#32
  ![v1104.toNat, 6, 3]
def k0_off61 (v5 : BitVec 32) : Fin 3 → Nat :=
  let v1113 : Index := Scalar.indexCast v5
  let c7_598 : Index := 7#32
  let c2_599 : Index := 2#32
  ![v1113.toNat, 7, 2]
def k0_off62 (v5 : BitVec 32) : Fin 3 → Nat :=
  let v1121 : Index := Scalar.indexCast v5
  let c7_603 : Index := 7#32
  let c3_604 : Index := 3#32
  ![v1121.toNat, 7, 3]
def k0_off63 (v5 : BitVec 32) : Fin 3 → Nat :=
  let v1171 : Index := Scalar.indexCast v5
  let c8_632 : Index := 8#32
  let c2_633 : Index := 2#32
  ![v1171.toNat, 8, 2]
def k0_off64 (v5 : BitVec 32) : Fin 3 → Nat :=
  let v1179 : Index := Scalar.indexCast v5
  let c8_637 : Index := 8#32
  let c3_638 : Index := 3#32
  ![v1179.toNat, 8, 3]
def k0_off65 (v5 : BitVec 32) : Fin 3 → Nat :=
  let v1188 : Index := Scalar.indexCast v5
  let c9_642 : Index := 9#32
  let c2_643 : Index := 2#32
  ![v1188.toNat, 9, 2]
def k0_off66 (v5 : BitVec 32) : Fin 3 → Nat :=
  let v1196 : Index := Scalar.indexCast v5
  let c9_647 : Index := 9#32
  let c3_648 : Index := 3#32
  ![v1196.toNat, 9, 3]
def k0_off67 (v5 : BitVec 32) : Fin 3 → Nat :=
  let v1246 : Index := Scalar.indexCast v5
  let c10_676 : Index := 10#32
  let c2_677 : Index := 2#32
  ![v1246.toNat, 10, 2]
def k0_off68 (v5 : BitVec 32) : Fin 3 → Nat :=
  let v1254 : Index := Scalar.indexCast v5
  let c10_681 : Index := 10#32
  let c3_682 : Index := 3#32
  ![v1254.toNat, 10, 3]
def k0_off69 (v5 : BitVec 32) : Fin 3 → Nat :=
  let v1263 : Index := Scalar.indexCast v5
  let c11_686 : Index := 11#32
  let c2_687 : Index := 2#32
  ![v1263.toNat, 11, 2]
def k0_off70 (v5 : BitVec 32) : Fin 3 → Nat :=
  let v1271 : Index := Scalar.indexCast v5
  let c11_691 : Index := 11#32
  let c3_692 : Index := 3#32
  ![v1271.toNat, 11, 3]
def k0_off71 (v5 : BitVec 32) : Fin 3 → Nat :=
  let v1321 : Index := Scalar.indexCast v5
  let c12_720 : Index := 12#32
  let c2_721 : Index := 2#32
  ![v1321.toNat, 12, 2]
def k0_off72 (v5 : BitVec 32) : Fin 3 → Nat :=
  let v1329 : Index := Scalar.indexCast v5
  let c12_725 : Index := 12#32
  let c3_726 : Index := 3#32
  ![v1329.toNat, 12, 3]
def k0_off73 (v5 : BitVec 32) : Fin 3 → Nat :=
  let v1338 : Index := Scalar.indexCast v5
  let c13_730 : Index := 13#32
  let c2_731 : Index := 2#32
  ![v1338.toNat, 13, 2]
def k0_off74 (v5 : BitVec 32) : Fin 3 → Nat :=
  let v1346 : Index := Scalar.indexCast v5
  let c13_735 : Index := 13#32
  let c3_736 : Index := 3#32
  ![v1346.toNat, 13, 3]
def k0_off75 (v5 : BitVec 32) : Fin 3 → Nat :=
  let v1396 : Index := Scalar.indexCast v5
  let c14_764 : Index := 14#32
  let c2_765 : Index := 2#32
  ![v1396.toNat, 14, 2]
def k0_off76 (v5 : BitVec 32) : Fin 3 → Nat :=
  let v1404 : Index := Scalar.indexCast v5
  let c14_769 : Index := 14#32
  let c3_770 : Index := 3#32
  ![v1404.toNat, 14, 3]
def k0_off77 (v5 : BitVec 32) : Fin 3 → Nat :=
  let v1413 : Index := Scalar.indexCast v5
  let c15_774 : Index := 15#32
  let c2_775 : Index := 2#32
  ![v1413.toNat, 15, 2]
def k0_off78 (v5 : BitVec 32) : Fin 3 → Nat :=
  let v1421 : Index := Scalar.indexCast v5
  let c15_779 : Index := 15#32
  let c3_780 : Index := 3#32
  ![v1421.toNat, 15, 3]
def k0_off79 (v5 : BitVec 32) : Fin 3 → Nat :=
  let v1471 : Index := Scalar.indexCast v5
  let c16_808 : Index := 16#32
  let c2_809 : Index := 2#32
  ![v1471.toNat, 16, 2]
def k0_off80 (v5 : BitVec 32) : Fin 3 → Nat :=
  let v1479 : Index := Scalar.indexCast v5
  let c16_813 : Index := 16#32
  let c3_814 : Index := 3#32
  ![v1479.toNat, 16, 3]
def k0_off81 (v5 : BitVec 32) : Fin 3 → Nat :=
  let v1488 : Index := Scalar.indexCast v5
  let c17_818 : Index := 17#32
  let c2_819 : Index := 2#32
  ![v1488.toNat, 17, 2]
def k0_off82 (v5 : BitVec 32) : Fin 3 → Nat :=
  let v1496 : Index := Scalar.indexCast v5
  let c17_823 : Index := 17#32
  let c3_824 : Index := 3#32
  ![v1496.toNat, 17, 3]
def k0_off83 (v5 : BitVec 32) : Fin 3 → Nat :=
  let v1546 : Index := Scalar.indexCast v5
  let c18_852 : Index := 18#32
  let c2_853 : Index := 2#32
  ![v1546.toNat, 18, 2]
def k0_off84 (v5 : BitVec 32) : Fin 3 → Nat :=
  let v1554 : Index := Scalar.indexCast v5
  let c18_857 : Index := 18#32
  let c3_858 : Index := 3#32
  ![v1554.toNat, 18, 3]
def k0_off85 (v5 : BitVec 32) : Fin 3 → Nat :=
  let v1563 : Index := Scalar.indexCast v5
  let c19_862 : Index := 19#32
  let c2_863 : Index := 2#32
  ![v1563.toNat, 19, 2]
def k0_off86 (v5 : BitVec 32) : Fin 3 → Nat :=
  let v1571 : Index := Scalar.indexCast v5
  let c19_867 : Index := 19#32
  let c3_868 : Index := 3#32
  ![v1571.toNat, 19, 3]
def k0_off87 (v5 : BitVec 32) : Fin 3 → Nat :=
  let v1621 : Index := Scalar.indexCast v5
  let c20_896 : Index := 20#32
  let c2_897 : Index := 2#32
  ![v1621.toNat, 20, 2]
def k0_off88 (v5 : BitVec 32) : Fin 3 → Nat :=
  let v1629 : Index := Scalar.indexCast v5
  let c20_901 : Index := 20#32
  let c3_902 : Index := 3#32
  ![v1629.toNat, 20, 3]
def k0_off89 (v5 : BitVec 32) : Fin 3 → Nat :=
  let v1638 : Index := Scalar.indexCast v5
  let c21_906 : Index := 21#32
  let c2_907 : Index := 2#32
  ![v1638.toNat, 21, 2]
def k0_off90 (v5 : BitVec 32) : Fin 3 → Nat :=
  let v1646 : Index := Scalar.indexCast v5
  let c21_911 : Index := 21#32
  let c3_912 : Index := 3#32
  ![v1646.toNat, 21, 3]
def k0_off91 (v5 : BitVec 32) : Fin 3 → Nat :=
  let v1713 : Index := Scalar.indexCast v5
  let c0_949 : Index := 0#32
  let c4_950 : Index := 4#32
  ![v1713.toNat, 0, 4]
def k0_off92 (v5 : BitVec 32) : Fin 3 → Nat :=
  let v1721 : Index := Scalar.indexCast v5
  let c0_954 : Index := 0#32
  let c5_955 : Index := 5#32
  ![v1721.toNat, 0, 5]
def k0_off93 (v5 : BitVec 32) : Fin 3 → Nat :=
  let v1730 : Index := Scalar.indexCast v5
  let c1_959 : Index := 1#32
  let c4_960 : Index := 4#32
  ![v1730.toNat, 1, 4]
def k0_off94 (v5 : BitVec 32) : Fin 3 → Nat :=
  let v1738 : Index := Scalar.indexCast v5
  let c1_964 : Index := 1#32
  let c5_965 : Index := 5#32
  ![v1738.toNat, 1, 5]
def k0_off95 (v5 : BitVec 32) : Fin 3 → Nat :=
  let v1788 : Index := Scalar.indexCast v5
  let c2_993 : Index := 2#32
  let c4_994 : Index := 4#32
  ![v1788.toNat, 2, 4]
def k0_off96 (v5 : BitVec 32) : Fin 3 → Nat :=
  let v1796 : Index := Scalar.indexCast v5
  let c2_998 : Index := 2#32
  let c5_999 : Index := 5#32
  ![v1796.toNat, 2, 5]
def k0_off97 (v5 : BitVec 32) : Fin 3 → Nat :=
  let v1805 : Index := Scalar.indexCast v5
  let c3_1003 : Index := 3#32
  let c4_1004 : Index := 4#32
  ![v1805.toNat, 3, 4]
def k0_off98 (v5 : BitVec 32) : Fin 3 → Nat :=
  let v1813 : Index := Scalar.indexCast v5
  let c3_1008 : Index := 3#32
  let c5_1009 : Index := 5#32
  ![v1813.toNat, 3, 5]
def k0_off99 (v5 : BitVec 32) : Fin 3 → Nat :=
  let v1863 : Index := Scalar.indexCast v5
  let c4_1037 : Index := 4#32
  let c4_1038 : Index := 4#32
  ![v1863.toNat, 4, 4]
def k0_off100 (v5 : BitVec 32) : Fin 3 → Nat :=
  let v1871 : Index := Scalar.indexCast v5
  let c4_1042 : Index := 4#32
  let c5_1043 : Index := 5#32
  ![v1871.toNat, 4, 5]
def k0_off101 (v5 : BitVec 32) : Fin 3 → Nat :=
  let v1880 : Index := Scalar.indexCast v5
  let c5_1047 : Index := 5#32
  let c4_1048 : Index := 4#32
  ![v1880.toNat, 5, 4]
def k0_off102 (v5 : BitVec 32) : Fin 3 → Nat :=
  let v1888 : Index := Scalar.indexCast v5
  let c5_1052 : Index := 5#32
  let c5_1053 : Index := 5#32
  ![v1888.toNat, 5, 5]
def k0_off103 (v5 : BitVec 32) : Fin 3 → Nat :=
  let v1938 : Index := Scalar.indexCast v5
  let c6_1081 : Index := 6#32
  let c4_1082 : Index := 4#32
  ![v1938.toNat, 6, 4]
def k0_off104 (v5 : BitVec 32) : Fin 3 → Nat :=
  let v1946 : Index := Scalar.indexCast v5
  let c6_1086 : Index := 6#32
  let c5_1087 : Index := 5#32
  ![v1946.toNat, 6, 5]
def k0_off105 (v5 : BitVec 32) : Fin 3 → Nat :=
  let v1955 : Index := Scalar.indexCast v5
  let c7_1091 : Index := 7#32
  let c4_1092 : Index := 4#32
  ![v1955.toNat, 7, 4]
def k0_off106 (v5 : BitVec 32) : Fin 3 → Nat :=
  let v1963 : Index := Scalar.indexCast v5
  let c7_1096 : Index := 7#32
  let c5_1097 : Index := 5#32
  ![v1963.toNat, 7, 5]
def k0_off107 (v5 : BitVec 32) : Fin 3 → Nat :=
  let v2013 : Index := Scalar.indexCast v5
  let c8_1125 : Index := 8#32
  let c4_1126 : Index := 4#32
  ![v2013.toNat, 8, 4]
def k0_off108 (v5 : BitVec 32) : Fin 3 → Nat :=
  let v2021 : Index := Scalar.indexCast v5
  let c8_1130 : Index := 8#32
  let c5_1131 : Index := 5#32
  ![v2021.toNat, 8, 5]
def k0_off109 (v5 : BitVec 32) : Fin 3 → Nat :=
  let v2030 : Index := Scalar.indexCast v5
  let c9_1135 : Index := 9#32
  let c4_1136 : Index := 4#32
  ![v2030.toNat, 9, 4]
def k0_off110 (v5 : BitVec 32) : Fin 3 → Nat :=
  let v2038 : Index := Scalar.indexCast v5
  let c9_1140 : Index := 9#32
  let c5_1141 : Index := 5#32
  ![v2038.toNat, 9, 5]
def k0_off111 (v5 : BitVec 32) : Fin 3 → Nat :=
  let v2088 : Index := Scalar.indexCast v5
  let c10_1169 : Index := 10#32
  let c4_1170 : Index := 4#32
  ![v2088.toNat, 10, 4]
def k0_off112 (v5 : BitVec 32) : Fin 3 → Nat :=
  let v2096 : Index := Scalar.indexCast v5
  let c10_1174 : Index := 10#32
  let c5_1175 : Index := 5#32
  ![v2096.toNat, 10, 5]
def k0_off113 (v5 : BitVec 32) : Fin 3 → Nat :=
  let v2105 : Index := Scalar.indexCast v5
  let c11_1179 : Index := 11#32
  let c4_1180 : Index := 4#32
  ![v2105.toNat, 11, 4]
def k0_off114 (v5 : BitVec 32) : Fin 3 → Nat :=
  let v2113 : Index := Scalar.indexCast v5
  let c11_1184 : Index := 11#32
  let c5_1185 : Index := 5#32
  ![v2113.toNat, 11, 5]
def k0_off115 (v5 : BitVec 32) : Fin 3 → Nat :=
  let v2163 : Index := Scalar.indexCast v5
  let c12_1213 : Index := 12#32
  let c4_1214 : Index := 4#32
  ![v2163.toNat, 12, 4]
def k0_off116 (v5 : BitVec 32) : Fin 3 → Nat :=
  let v2171 : Index := Scalar.indexCast v5
  let c12_1218 : Index := 12#32
  let c5_1219 : Index := 5#32
  ![v2171.toNat, 12, 5]
def k0_off117 (v5 : BitVec 32) : Fin 3 → Nat :=
  let v2180 : Index := Scalar.indexCast v5
  let c13_1223 : Index := 13#32
  let c4_1224 : Index := 4#32
  ![v2180.toNat, 13, 4]
def k0_off118 (v5 : BitVec 32) : Fin 3 → Nat :=
  let v2188 : Index := Scalar.indexCast v5
  let c13_1228 : Index := 13#32
  let c5_1229 : Index := 5#32
  ![v2188.toNat, 13, 5]
def k0_off119 (v5 : BitVec 32) : Fin 3 → Nat :=
  let v2238 : Index := Scalar.indexCast v5
  let c14_1257 : Index := 14#32
  let c4_1258 : Index := 4#32
  ![v2238.toNat, 14, 4]
def k0_off120 (v5 : BitVec 32) : Fin 3 → Nat :=
  let v2246 : Index := Scalar.indexCast v5
  let c14_1262 : Index := 14#32
  let c5_1263 : Index := 5#32
  ![v2246.toNat, 14, 5]
def k0_off121 (v5 : BitVec 32) : Fin 3 → Nat :=
  let v2255 : Index := Scalar.indexCast v5
  let c15_1267 : Index := 15#32
  let c4_1268 : Index := 4#32
  ![v2255.toNat, 15, 4]
def k0_off122 (v5 : BitVec 32) : Fin 3 → Nat :=
  let v2263 : Index := Scalar.indexCast v5
  let c15_1272 : Index := 15#32
  let c5_1273 : Index := 5#32
  ![v2263.toNat, 15, 5]
def k0_off123 (v5 : BitVec 32) : Fin 3 → Nat :=
  let v2313 : Index := Scalar.indexCast v5
  let c16_1301 : Index := 16#32
  let c4_1302 : Index := 4#32
  ![v2313.toNat, 16, 4]
def k0_off124 (v5 : BitVec 32) : Fin 3 → Nat :=
  let v2321 : Index := Scalar.indexCast v5
  let c16_1306 : Index := 16#32
  let c5_1307 : Index := 5#32
  ![v2321.toNat, 16, 5]
def k0_off125 (v5 : BitVec 32) : Fin 3 → Nat :=
  let v2330 : Index := Scalar.indexCast v5
  let c17_1311 : Index := 17#32
  let c4_1312 : Index := 4#32
  ![v2330.toNat, 17, 4]
def k0_off126 (v5 : BitVec 32) : Fin 3 → Nat :=
  let v2338 : Index := Scalar.indexCast v5
  let c17_1316 : Index := 17#32
  let c5_1317 : Index := 5#32
  ![v2338.toNat, 17, 5]
def k0_off127 (v5 : BitVec 32) : Fin 3 → Nat :=
  let v2388 : Index := Scalar.indexCast v5
  let c18_1345 : Index := 18#32
  let c4_1346 : Index := 4#32
  ![v2388.toNat, 18, 4]
def k0_off128 (v5 : BitVec 32) : Fin 3 → Nat :=
  let v2396 : Index := Scalar.indexCast v5
  let c18_1350 : Index := 18#32
  let c5_1351 : Index := 5#32
  ![v2396.toNat, 18, 5]
def k0_off129 (v5 : BitVec 32) : Fin 3 → Nat :=
  let v2405 : Index := Scalar.indexCast v5
  let c19_1355 : Index := 19#32
  let c4_1356 : Index := 4#32
  ![v2405.toNat, 19, 4]
def k0_off130 (v5 : BitVec 32) : Fin 3 → Nat :=
  let v2413 : Index := Scalar.indexCast v5
  let c19_1360 : Index := 19#32
  let c5_1361 : Index := 5#32
  ![v2413.toNat, 19, 5]
def k0_off131 (v5 : BitVec 32) : Fin 3 → Nat :=
  let v2463 : Index := Scalar.indexCast v5
  let c20_1389 : Index := 20#32
  let c4_1390 : Index := 4#32
  ![v2463.toNat, 20, 4]
def k0_off132 (v5 : BitVec 32) : Fin 3 → Nat :=
  let v2471 : Index := Scalar.indexCast v5
  let c20_1394 : Index := 20#32
  let c5_1395 : Index := 5#32
  ![v2471.toNat, 20, 5]
def k0_off133 (v5 : BitVec 32) : Fin 3 → Nat :=
  let v2480 : Index := Scalar.indexCast v5
  let c21_1399 : Index := 21#32
  let c4_1400 : Index := 4#32
  ![v2480.toNat, 21, 4]
def k0_off134 (v5 : BitVec 32) : Fin 3 → Nat :=
  let v2488 : Index := Scalar.indexCast v5
  let c21_1404 : Index := 21#32
  let c5_1405 : Index := 5#32
  ![v2488.toNat, 21, 5]
def k0_off135 (v5 : BitVec 32) : Fin 3 → Nat :=
  let v2555 : Index := Scalar.indexCast v5
  let c0_1442 : Index := 0#32
  let c6_1443 : Index := 6#32
  ![v2555.toNat, 0, 6]
def k0_off136 (v5 : BitVec 32) : Fin 3 → Nat :=
  let v2563 : Index := Scalar.indexCast v5
  let c0_1447 : Index := 0#32
  let c7_1448 : Index := 7#32
  ![v2563.toNat, 0, 7]
def k0_off137 (v5 : BitVec 32) : Fin 3 → Nat :=
  let v2572 : Index := Scalar.indexCast v5
  let c1_1452 : Index := 1#32
  let c6_1453 : Index := 6#32
  ![v2572.toNat, 1, 6]
def k0_off138 (v5 : BitVec 32) : Fin 3 → Nat :=
  let v2580 : Index := Scalar.indexCast v5
  let c1_1457 : Index := 1#32
  let c7_1458 : Index := 7#32
  ![v2580.toNat, 1, 7]
def k0_off139 (v5 : BitVec 32) : Fin 3 → Nat :=
  let v2630 : Index := Scalar.indexCast v5
  let c2_1486 : Index := 2#32
  let c6_1487 : Index := 6#32
  ![v2630.toNat, 2, 6]
def k0_off140 (v5 : BitVec 32) : Fin 3 → Nat :=
  let v2638 : Index := Scalar.indexCast v5
  let c2_1491 : Index := 2#32
  let c7_1492 : Index := 7#32
  ![v2638.toNat, 2, 7]
def k0_off141 (v5 : BitVec 32) : Fin 3 → Nat :=
  let v2647 : Index := Scalar.indexCast v5
  let c3_1496 : Index := 3#32
  let c6_1497 : Index := 6#32
  ![v2647.toNat, 3, 6]
def k0_off142 (v5 : BitVec 32) : Fin 3 → Nat :=
  let v2655 : Index := Scalar.indexCast v5
  let c3_1501 : Index := 3#32
  let c7_1502 : Index := 7#32
  ![v2655.toNat, 3, 7]
def k0_off143 (v5 : BitVec 32) : Fin 3 → Nat :=
  let v2705 : Index := Scalar.indexCast v5
  let c4_1530 : Index := 4#32
  let c6_1531 : Index := 6#32
  ![v2705.toNat, 4, 6]
def k0_off144 (v5 : BitVec 32) : Fin 3 → Nat :=
  let v2713 : Index := Scalar.indexCast v5
  let c4_1535 : Index := 4#32
  let c7_1536 : Index := 7#32
  ![v2713.toNat, 4, 7]
def k0_off145 (v5 : BitVec 32) : Fin 3 → Nat :=
  let v2722 : Index := Scalar.indexCast v5
  let c5_1540 : Index := 5#32
  let c6_1541 : Index := 6#32
  ![v2722.toNat, 5, 6]
def k0_off146 (v5 : BitVec 32) : Fin 3 → Nat :=
  let v2730 : Index := Scalar.indexCast v5
  let c5_1545 : Index := 5#32
  let c7_1546 : Index := 7#32
  ![v2730.toNat, 5, 7]
def k0_off147 (v5 : BitVec 32) : Fin 3 → Nat :=
  let v2780 : Index := Scalar.indexCast v5
  let c6_1574 : Index := 6#32
  let c6_1575 : Index := 6#32
  ![v2780.toNat, 6, 6]
def k0_off148 (v5 : BitVec 32) : Fin 3 → Nat :=
  let v2788 : Index := Scalar.indexCast v5
  let c6_1579 : Index := 6#32
  let c7_1580 : Index := 7#32
  ![v2788.toNat, 6, 7]
def k0_off149 (v5 : BitVec 32) : Fin 3 → Nat :=
  let v2797 : Index := Scalar.indexCast v5
  let c7_1584 : Index := 7#32
  let c6_1585 : Index := 6#32
  ![v2797.toNat, 7, 6]
def k0_off150 (v5 : BitVec 32) : Fin 3 → Nat :=
  let v2805 : Index := Scalar.indexCast v5
  let c7_1589 : Index := 7#32
  let c7_1590 : Index := 7#32
  ![v2805.toNat, 7, 7]
def k0_off151 (v5 : BitVec 32) : Fin 3 → Nat :=
  let v2855 : Index := Scalar.indexCast v5
  let c8_1618 : Index := 8#32
  let c6_1619 : Index := 6#32
  ![v2855.toNat, 8, 6]
def k0_off152 (v5 : BitVec 32) : Fin 3 → Nat :=
  let v2863 : Index := Scalar.indexCast v5
  let c8_1623 : Index := 8#32
  let c7_1624 : Index := 7#32
  ![v2863.toNat, 8, 7]
def k0_off153 (v5 : BitVec 32) : Fin 3 → Nat :=
  let v2872 : Index := Scalar.indexCast v5
  let c9_1628 : Index := 9#32
  let c6_1629 : Index := 6#32
  ![v2872.toNat, 9, 6]
def k0_off154 (v5 : BitVec 32) : Fin 3 → Nat :=
  let v2880 : Index := Scalar.indexCast v5
  let c9_1633 : Index := 9#32
  let c7_1634 : Index := 7#32
  ![v2880.toNat, 9, 7]
def k0_off155 (v5 : BitVec 32) : Fin 3 → Nat :=
  let v2930 : Index := Scalar.indexCast v5
  let c10_1662 : Index := 10#32
  let c6_1663 : Index := 6#32
  ![v2930.toNat, 10, 6]
def k0_off156 (v5 : BitVec 32) : Fin 3 → Nat :=
  let v2938 : Index := Scalar.indexCast v5
  let c10_1667 : Index := 10#32
  let c7_1668 : Index := 7#32
  ![v2938.toNat, 10, 7]
def k0_off157 (v5 : BitVec 32) : Fin 3 → Nat :=
  let v2947 : Index := Scalar.indexCast v5
  let c11_1672 : Index := 11#32
  let c6_1673 : Index := 6#32
  ![v2947.toNat, 11, 6]
def k0_off158 (v5 : BitVec 32) : Fin 3 → Nat :=
  let v2955 : Index := Scalar.indexCast v5
  let c11_1677 : Index := 11#32
  let c7_1678 : Index := 7#32
  ![v2955.toNat, 11, 7]
def k0_off159 (v5 : BitVec 32) : Fin 3 → Nat :=
  let v3005 : Index := Scalar.indexCast v5
  let c12_1706 : Index := 12#32
  let c6_1707 : Index := 6#32
  ![v3005.toNat, 12, 6]
def k0_off160 (v5 : BitVec 32) : Fin 3 → Nat :=
  let v3013 : Index := Scalar.indexCast v5
  let c12_1711 : Index := 12#32
  let c7_1712 : Index := 7#32
  ![v3013.toNat, 12, 7]
def k0_off161 (v5 : BitVec 32) : Fin 3 → Nat :=
  let v3022 : Index := Scalar.indexCast v5
  let c13_1716 : Index := 13#32
  let c6_1717 : Index := 6#32
  ![v3022.toNat, 13, 6]
def k0_off162 (v5 : BitVec 32) : Fin 3 → Nat :=
  let v3030 : Index := Scalar.indexCast v5
  let c13_1721 : Index := 13#32
  let c7_1722 : Index := 7#32
  ![v3030.toNat, 13, 7]
def k0_off163 (v5 : BitVec 32) : Fin 3 → Nat :=
  let v3080 : Index := Scalar.indexCast v5
  let c14_1750 : Index := 14#32
  let c6_1751 : Index := 6#32
  ![v3080.toNat, 14, 6]
def k0_off164 (v5 : BitVec 32) : Fin 3 → Nat :=
  let v3088 : Index := Scalar.indexCast v5
  let c14_1755 : Index := 14#32
  let c7_1756 : Index := 7#32
  ![v3088.toNat, 14, 7]
def k0_off165 (v5 : BitVec 32) : Fin 3 → Nat :=
  let v3097 : Index := Scalar.indexCast v5
  let c15_1760 : Index := 15#32
  let c6_1761 : Index := 6#32
  ![v3097.toNat, 15, 6]
def k0_off166 (v5 : BitVec 32) : Fin 3 → Nat :=
  let v3105 : Index := Scalar.indexCast v5
  let c15_1765 : Index := 15#32
  let c7_1766 : Index := 7#32
  ![v3105.toNat, 15, 7]
def k0_off167 (v5 : BitVec 32) : Fin 3 → Nat :=
  let v3155 : Index := Scalar.indexCast v5
  let c16_1794 : Index := 16#32
  let c6_1795 : Index := 6#32
  ![v3155.toNat, 16, 6]
def k0_off168 (v5 : BitVec 32) : Fin 3 → Nat :=
  let v3163 : Index := Scalar.indexCast v5
  let c16_1799 : Index := 16#32
  let c7_1800 : Index := 7#32
  ![v3163.toNat, 16, 7]
def k0_off169 (v5 : BitVec 32) : Fin 3 → Nat :=
  let v3172 : Index := Scalar.indexCast v5
  let c17_1804 : Index := 17#32
  let c6_1805 : Index := 6#32
  ![v3172.toNat, 17, 6]
def k0_off170 (v5 : BitVec 32) : Fin 3 → Nat :=
  let v3180 : Index := Scalar.indexCast v5
  let c17_1809 : Index := 17#32
  let c7_1810 : Index := 7#32
  ![v3180.toNat, 17, 7]
def k0_off171 (v5 : BitVec 32) : Fin 3 → Nat :=
  let v3230 : Index := Scalar.indexCast v5
  let c18_1838 : Index := 18#32
  let c6_1839 : Index := 6#32
  ![v3230.toNat, 18, 6]
def k0_off172 (v5 : BitVec 32) : Fin 3 → Nat :=
  let v3238 : Index := Scalar.indexCast v5
  let c18_1843 : Index := 18#32
  let c7_1844 : Index := 7#32
  ![v3238.toNat, 18, 7]
def k0_off173 (v5 : BitVec 32) : Fin 3 → Nat :=
  let v3247 : Index := Scalar.indexCast v5
  let c19_1848 : Index := 19#32
  let c6_1849 : Index := 6#32
  ![v3247.toNat, 19, 6]
def k0_off174 (v5 : BitVec 32) : Fin 3 → Nat :=
  let v3255 : Index := Scalar.indexCast v5
  let c19_1853 : Index := 19#32
  let c7_1854 : Index := 7#32
  ![v3255.toNat, 19, 7]
def k0_off175 (v5 : BitVec 32) : Fin 3 → Nat :=
  let v3305 : Index := Scalar.indexCast v5
  let c20_1882 : Index := 20#32
  let c6_1883 : Index := 6#32
  ![v3305.toNat, 20, 6]
def k0_off176 (v5 : BitVec 32) : Fin 3 → Nat :=
  let v3313 : Index := Scalar.indexCast v5
  let c20_1887 : Index := 20#32
  let c7_1888 : Index := 7#32
  ![v3313.toNat, 20, 7]
def k0_off177 (v5 : BitVec 32) : Fin 3 → Nat :=
  let v3322 : Index := Scalar.indexCast v5
  let c21_1892 : Index := 21#32
  let c6_1893 : Index := 6#32
  ![v3322.toNat, 21, 6]
def k0_off178 (v5 : BitVec 32) : Fin 3 → Nat :=
  let v3330 : Index := Scalar.indexCast v5
  let c21_1897 : Index := 21#32
  let c7_1898 : Index := 7#32
  ![v3330.toNat, 21, 7]
def k0_off179 (v5 : BitVec 32) : Fin 3 → Nat :=
  let v3397 : Index := Scalar.indexCast v5
  let c0_1935 : Index := 0#32
  let c8_1936 : Index := 8#32
  ![v3397.toNat, 0, 8]
def k0_off180 (v5 : BitVec 32) : Fin 3 → Nat :=
  let v3405 : Index := Scalar.indexCast v5
  let c0_1940 : Index := 0#32
  let c9_1941 : Index := 9#32
  ![v3405.toNat, 0, 9]
def k0_off181 (v5 : BitVec 32) : Fin 3 → Nat :=
  let v3414 : Index := Scalar.indexCast v5
  let c1_1945 : Index := 1#32
  let c8_1946 : Index := 8#32
  ![v3414.toNat, 1, 8]
def k0_off182 (v5 : BitVec 32) : Fin 3 → Nat :=
  let v3422 : Index := Scalar.indexCast v5
  let c1_1950 : Index := 1#32
  let c9_1951 : Index := 9#32
  ![v3422.toNat, 1, 9]
def k0_off183 (v5 : BitVec 32) : Fin 3 → Nat :=
  let v3472 : Index := Scalar.indexCast v5
  let c2_1979 : Index := 2#32
  let c8_1980 : Index := 8#32
  ![v3472.toNat, 2, 8]
def k0_off184 (v5 : BitVec 32) : Fin 3 → Nat :=
  let v3480 : Index := Scalar.indexCast v5
  let c2_1984 : Index := 2#32
  let c9_1985 : Index := 9#32
  ![v3480.toNat, 2, 9]
def k0_off185 (v5 : BitVec 32) : Fin 3 → Nat :=
  let v3489 : Index := Scalar.indexCast v5
  let c3_1989 : Index := 3#32
  let c8_1990 : Index := 8#32
  ![v3489.toNat, 3, 8]
def k0_off186 (v5 : BitVec 32) : Fin 3 → Nat :=
  let v3497 : Index := Scalar.indexCast v5
  let c3_1994 : Index := 3#32
  let c9_1995 : Index := 9#32
  ![v3497.toNat, 3, 9]
def k0_off187 (v5 : BitVec 32) : Fin 3 → Nat :=
  let v3547 : Index := Scalar.indexCast v5
  let c4_2023 : Index := 4#32
  let c8_2024 : Index := 8#32
  ![v3547.toNat, 4, 8]
def k0_off188 (v5 : BitVec 32) : Fin 3 → Nat :=
  let v3555 : Index := Scalar.indexCast v5
  let c4_2028 : Index := 4#32
  let c9_2029 : Index := 9#32
  ![v3555.toNat, 4, 9]
def k0_off189 (v5 : BitVec 32) : Fin 3 → Nat :=
  let v3564 : Index := Scalar.indexCast v5
  let c5_2033 : Index := 5#32
  let c8_2034 : Index := 8#32
  ![v3564.toNat, 5, 8]
def k0_off190 (v5 : BitVec 32) : Fin 3 → Nat :=
  let v3572 : Index := Scalar.indexCast v5
  let c5_2038 : Index := 5#32
  let c9_2039 : Index := 9#32
  ![v3572.toNat, 5, 9]
def k0_off191 (v5 : BitVec 32) : Fin 3 → Nat :=
  let v3622 : Index := Scalar.indexCast v5
  let c6_2067 : Index := 6#32
  let c8_2068 : Index := 8#32
  ![v3622.toNat, 6, 8]
def k0_off192 (v5 : BitVec 32) : Fin 3 → Nat :=
  let v3630 : Index := Scalar.indexCast v5
  let c6_2072 : Index := 6#32
  let c9_2073 : Index := 9#32
  ![v3630.toNat, 6, 9]
def k0_off193 (v5 : BitVec 32) : Fin 3 → Nat :=
  let v3639 : Index := Scalar.indexCast v5
  let c7_2077 : Index := 7#32
  let c8_2078 : Index := 8#32
  ![v3639.toNat, 7, 8]
def k0_off194 (v5 : BitVec 32) : Fin 3 → Nat :=
  let v3647 : Index := Scalar.indexCast v5
  let c7_2082 : Index := 7#32
  let c9_2083 : Index := 9#32
  ![v3647.toNat, 7, 9]
def k0_off195 (v5 : BitVec 32) : Fin 3 → Nat :=
  let v3697 : Index := Scalar.indexCast v5
  let c8_2111 : Index := 8#32
  let c8_2112 : Index := 8#32
  ![v3697.toNat, 8, 8]
def k0_off196 (v5 : BitVec 32) : Fin 3 → Nat :=
  let v3705 : Index := Scalar.indexCast v5
  let c8_2116 : Index := 8#32
  let c9_2117 : Index := 9#32
  ![v3705.toNat, 8, 9]
def k0_off197 (v5 : BitVec 32) : Fin 3 → Nat :=
  let v3714 : Index := Scalar.indexCast v5
  let c9_2121 : Index := 9#32
  let c8_2122 : Index := 8#32
  ![v3714.toNat, 9, 8]
def k0_off198 (v5 : BitVec 32) : Fin 3 → Nat :=
  let v3722 : Index := Scalar.indexCast v5
  let c9_2126 : Index := 9#32
  let c9_2127 : Index := 9#32
  ![v3722.toNat, 9, 9]
def k0_off199 (v5 : BitVec 32) : Fin 3 → Nat :=
  let v3772 : Index := Scalar.indexCast v5
  let c10_2155 : Index := 10#32
  let c8_2156 : Index := 8#32
  ![v3772.toNat, 10, 8]
def k0_off200 (v5 : BitVec 32) : Fin 3 → Nat :=
  let v3780 : Index := Scalar.indexCast v5
  let c10_2160 : Index := 10#32
  let c9_2161 : Index := 9#32
  ![v3780.toNat, 10, 9]
def k0_off201 (v5 : BitVec 32) : Fin 3 → Nat :=
  let v3789 : Index := Scalar.indexCast v5
  let c11_2165 : Index := 11#32
  let c8_2166 : Index := 8#32
  ![v3789.toNat, 11, 8]
def k0_off202 (v5 : BitVec 32) : Fin 3 → Nat :=
  let v3797 : Index := Scalar.indexCast v5
  let c11_2170 : Index := 11#32
  let c9_2171 : Index := 9#32
  ![v3797.toNat, 11, 9]
def k0_off203 (v5 : BitVec 32) : Fin 3 → Nat :=
  let v3847 : Index := Scalar.indexCast v5
  let c12_2199 : Index := 12#32
  let c8_2200 : Index := 8#32
  ![v3847.toNat, 12, 8]
def k0_off204 (v5 : BitVec 32) : Fin 3 → Nat :=
  let v3855 : Index := Scalar.indexCast v5
  let c12_2204 : Index := 12#32
  let c9_2205 : Index := 9#32
  ![v3855.toNat, 12, 9]
def k0_off205 (v5 : BitVec 32) : Fin 3 → Nat :=
  let v3864 : Index := Scalar.indexCast v5
  let c13_2209 : Index := 13#32
  let c8_2210 : Index := 8#32
  ![v3864.toNat, 13, 8]
def k0_off206 (v5 : BitVec 32) : Fin 3 → Nat :=
  let v3872 : Index := Scalar.indexCast v5
  let c13_2214 : Index := 13#32
  let c9_2215 : Index := 9#32
  ![v3872.toNat, 13, 9]
def k0_off207 (v5 : BitVec 32) : Fin 3 → Nat :=
  let v3922 : Index := Scalar.indexCast v5
  let c14_2243 : Index := 14#32
  let c8_2244 : Index := 8#32
  ![v3922.toNat, 14, 8]
def k0_off208 (v5 : BitVec 32) : Fin 3 → Nat :=
  let v3930 : Index := Scalar.indexCast v5
  let c14_2248 : Index := 14#32
  let c9_2249 : Index := 9#32
  ![v3930.toNat, 14, 9]
def k0_off209 (v5 : BitVec 32) : Fin 3 → Nat :=
  let v3939 : Index := Scalar.indexCast v5
  let c15_2253 : Index := 15#32
  let c8_2254 : Index := 8#32
  ![v3939.toNat, 15, 8]
def k0_off210 (v5 : BitVec 32) : Fin 3 → Nat :=
  let v3947 : Index := Scalar.indexCast v5
  let c15_2258 : Index := 15#32
  let c9_2259 : Index := 9#32
  ![v3947.toNat, 15, 9]
def k0_off211 (v5 : BitVec 32) : Fin 3 → Nat :=
  let v3997 : Index := Scalar.indexCast v5
  let c16_2287 : Index := 16#32
  let c8_2288 : Index := 8#32
  ![v3997.toNat, 16, 8]
def k0_off212 (v5 : BitVec 32) : Fin 3 → Nat :=
  let v4005 : Index := Scalar.indexCast v5
  let c16_2292 : Index := 16#32
  let c9_2293 : Index := 9#32
  ![v4005.toNat, 16, 9]
def k0_off213 (v5 : BitVec 32) : Fin 3 → Nat :=
  let v4014 : Index := Scalar.indexCast v5
  let c17_2297 : Index := 17#32
  let c8_2298 : Index := 8#32
  ![v4014.toNat, 17, 8]
def k0_off214 (v5 : BitVec 32) : Fin 3 → Nat :=
  let v4022 : Index := Scalar.indexCast v5
  let c17_2302 : Index := 17#32
  let c9_2303 : Index := 9#32
  ![v4022.toNat, 17, 9]
def k0_off215 (v5 : BitVec 32) : Fin 3 → Nat :=
  let v4072 : Index := Scalar.indexCast v5
  let c18_2331 : Index := 18#32
  let c8_2332 : Index := 8#32
  ![v4072.toNat, 18, 8]
def k0_off216 (v5 : BitVec 32) : Fin 3 → Nat :=
  let v4080 : Index := Scalar.indexCast v5
  let c18_2336 : Index := 18#32
  let c9_2337 : Index := 9#32
  ![v4080.toNat, 18, 9]
def k0_off217 (v5 : BitVec 32) : Fin 3 → Nat :=
  let v4089 : Index := Scalar.indexCast v5
  let c19_2341 : Index := 19#32
  let c8_2342 : Index := 8#32
  ![v4089.toNat, 19, 8]
def k0_off218 (v5 : BitVec 32) : Fin 3 → Nat :=
  let v4097 : Index := Scalar.indexCast v5
  let c19_2346 : Index := 19#32
  let c9_2347 : Index := 9#32
  ![v4097.toNat, 19, 9]
def k0_off219 (v5 : BitVec 32) : Fin 3 → Nat :=
  let v4147 : Index := Scalar.indexCast v5
  let c20_2375 : Index := 20#32
  let c8_2376 : Index := 8#32
  ![v4147.toNat, 20, 8]
def k0_off220 (v5 : BitVec 32) : Fin 3 → Nat :=
  let v4155 : Index := Scalar.indexCast v5
  let c20_2380 : Index := 20#32
  let c9_2381 : Index := 9#32
  ![v4155.toNat, 20, 9]
def k0_off221 (v5 : BitVec 32) : Fin 3 → Nat :=
  let v4164 : Index := Scalar.indexCast v5
  let c21_2385 : Index := 21#32
  let c8_2386 : Index := 8#32
  ![v4164.toNat, 21, 8]
def k0_off222 (v5 : BitVec 32) : Fin 3 → Nat :=
  let v4172 : Index := Scalar.indexCast v5
  let c21_2390 : Index := 21#32
  let c9_2391 : Index := 9#32
  ![v4172.toNat, 21, 9]
def k0_off223 (v5 : BitVec 32) : Fin 3 → Nat :=
  let v4239 : Index := Scalar.indexCast v5
  let c0_2428 : Index := 0#32
  let c10_2429 : Index := 10#32
  ![v4239.toNat, 0, 10]
def k0_off224 (v5 : BitVec 32) : Fin 3 → Nat :=
  let v4247 : Index := Scalar.indexCast v5
  let c0_2433 : Index := 0#32
  let c11_2434 : Index := 11#32
  ![v4247.toNat, 0, 11]
def k0_off225 (v5 : BitVec 32) : Fin 3 → Nat :=
  let v4256 : Index := Scalar.indexCast v5
  let c1_2438 : Index := 1#32
  let c10_2439 : Index := 10#32
  ![v4256.toNat, 1, 10]
def k0_off226 (v5 : BitVec 32) : Fin 3 → Nat :=
  let v4264 : Index := Scalar.indexCast v5
  let c1_2443 : Index := 1#32
  let c11_2444 : Index := 11#32
  ![v4264.toNat, 1, 11]
def k0_off227 (v5 : BitVec 32) : Fin 3 → Nat :=
  let v4314 : Index := Scalar.indexCast v5
  let c2_2472 : Index := 2#32
  let c10_2473 : Index := 10#32
  ![v4314.toNat, 2, 10]
def k0_off228 (v5 : BitVec 32) : Fin 3 → Nat :=
  let v4322 : Index := Scalar.indexCast v5
  let c2_2477 : Index := 2#32
  let c11_2478 : Index := 11#32
  ![v4322.toNat, 2, 11]
def k0_off229 (v5 : BitVec 32) : Fin 3 → Nat :=
  let v4331 : Index := Scalar.indexCast v5
  let c3_2482 : Index := 3#32
  let c10_2483 : Index := 10#32
  ![v4331.toNat, 3, 10]
def k0_off230 (v5 : BitVec 32) : Fin 3 → Nat :=
  let v4339 : Index := Scalar.indexCast v5
  let c3_2487 : Index := 3#32
  let c11_2488 : Index := 11#32
  ![v4339.toNat, 3, 11]
def k0_off231 (v5 : BitVec 32) : Fin 3 → Nat :=
  let v4389 : Index := Scalar.indexCast v5
  let c4_2516 : Index := 4#32
  let c10_2517 : Index := 10#32
  ![v4389.toNat, 4, 10]
def k0_off232 (v5 : BitVec 32) : Fin 3 → Nat :=
  let v4397 : Index := Scalar.indexCast v5
  let c4_2521 : Index := 4#32
  let c11_2522 : Index := 11#32
  ![v4397.toNat, 4, 11]
def k0_off233 (v5 : BitVec 32) : Fin 3 → Nat :=
  let v4406 : Index := Scalar.indexCast v5
  let c5_2526 : Index := 5#32
  let c10_2527 : Index := 10#32
  ![v4406.toNat, 5, 10]
def k0_off234 (v5 : BitVec 32) : Fin 3 → Nat :=
  let v4414 : Index := Scalar.indexCast v5
  let c5_2531 : Index := 5#32
  let c11_2532 : Index := 11#32
  ![v4414.toNat, 5, 11]
def k0_off235 (v5 : BitVec 32) : Fin 3 → Nat :=
  let v4464 : Index := Scalar.indexCast v5
  let c6_2560 : Index := 6#32
  let c10_2561 : Index := 10#32
  ![v4464.toNat, 6, 10]
def k0_off236 (v5 : BitVec 32) : Fin 3 → Nat :=
  let v4472 : Index := Scalar.indexCast v5
  let c6_2565 : Index := 6#32
  let c11_2566 : Index := 11#32
  ![v4472.toNat, 6, 11]
def k0_off237 (v5 : BitVec 32) : Fin 3 → Nat :=
  let v4481 : Index := Scalar.indexCast v5
  let c7_2570 : Index := 7#32
  let c10_2571 : Index := 10#32
  ![v4481.toNat, 7, 10]
def k0_off238 (v5 : BitVec 32) : Fin 3 → Nat :=
  let v4489 : Index := Scalar.indexCast v5
  let c7_2575 : Index := 7#32
  let c11_2576 : Index := 11#32
  ![v4489.toNat, 7, 11]
def k0_off239 (v5 : BitVec 32) : Fin 3 → Nat :=
  let v4539 : Index := Scalar.indexCast v5
  let c8_2604 : Index := 8#32
  let c10_2605 : Index := 10#32
  ![v4539.toNat, 8, 10]
def k0_off240 (v5 : BitVec 32) : Fin 3 → Nat :=
  let v4547 : Index := Scalar.indexCast v5
  let c8_2609 : Index := 8#32
  let c11_2610 : Index := 11#32
  ![v4547.toNat, 8, 11]
def k0_off241 (v5 : BitVec 32) : Fin 3 → Nat :=
  let v4556 : Index := Scalar.indexCast v5
  let c9_2614 : Index := 9#32
  let c10_2615 : Index := 10#32
  ![v4556.toNat, 9, 10]
def k0_off242 (v5 : BitVec 32) : Fin 3 → Nat :=
  let v4564 : Index := Scalar.indexCast v5
  let c9_2619 : Index := 9#32
  let c11_2620 : Index := 11#32
  ![v4564.toNat, 9, 11]
def k0_off243 (v5 : BitVec 32) : Fin 3 → Nat :=
  let v4614 : Index := Scalar.indexCast v5
  let c10_2648 : Index := 10#32
  let c10_2649 : Index := 10#32
  ![v4614.toNat, 10, 10]
def k0_off244 (v5 : BitVec 32) : Fin 3 → Nat :=
  let v4622 : Index := Scalar.indexCast v5
  let c10_2653 : Index := 10#32
  let c11_2654 : Index := 11#32
  ![v4622.toNat, 10, 11]
def k0_off245 (v5 : BitVec 32) : Fin 3 → Nat :=
  let v4631 : Index := Scalar.indexCast v5
  let c11_2658 : Index := 11#32
  let c10_2659 : Index := 10#32
  ![v4631.toNat, 11, 10]
def k0_off246 (v5 : BitVec 32) : Fin 3 → Nat :=
  let v4639 : Index := Scalar.indexCast v5
  let c11_2663 : Index := 11#32
  let c11_2664 : Index := 11#32
  ![v4639.toNat, 11, 11]
def k0_off247 (v5 : BitVec 32) : Fin 3 → Nat :=
  let v4689 : Index := Scalar.indexCast v5
  let c12_2692 : Index := 12#32
  let c10_2693 : Index := 10#32
  ![v4689.toNat, 12, 10]
def k0_off248 (v5 : BitVec 32) : Fin 3 → Nat :=
  let v4697 : Index := Scalar.indexCast v5
  let c12_2697 : Index := 12#32
  let c11_2698 : Index := 11#32
  ![v4697.toNat, 12, 11]
def k0_off249 (v5 : BitVec 32) : Fin 3 → Nat :=
  let v4706 : Index := Scalar.indexCast v5
  let c13_2702 : Index := 13#32
  let c10_2703 : Index := 10#32
  ![v4706.toNat, 13, 10]
def k0_off250 (v5 : BitVec 32) : Fin 3 → Nat :=
  let v4714 : Index := Scalar.indexCast v5
  let c13_2707 : Index := 13#32
  let c11_2708 : Index := 11#32
  ![v4714.toNat, 13, 11]
def k0_off251 (v5 : BitVec 32) : Fin 3 → Nat :=
  let v4764 : Index := Scalar.indexCast v5
  let c14_2736 : Index := 14#32
  let c10_2737 : Index := 10#32
  ![v4764.toNat, 14, 10]
def k0_off252 (v5 : BitVec 32) : Fin 3 → Nat :=
  let v4772 : Index := Scalar.indexCast v5
  let c14_2741 : Index := 14#32
  let c11_2742 : Index := 11#32
  ![v4772.toNat, 14, 11]
def k0_off253 (v5 : BitVec 32) : Fin 3 → Nat :=
  let v4781 : Index := Scalar.indexCast v5
  let c15_2746 : Index := 15#32
  let c10_2747 : Index := 10#32
  ![v4781.toNat, 15, 10]
def k0_off254 (v5 : BitVec 32) : Fin 3 → Nat :=
  let v4789 : Index := Scalar.indexCast v5
  let c15_2751 : Index := 15#32
  let c11_2752 : Index := 11#32
  ![v4789.toNat, 15, 11]
def k0_off255 (v5 : BitVec 32) : Fin 3 → Nat :=
  let v4839 : Index := Scalar.indexCast v5
  let c16_2780 : Index := 16#32
  let c10_2781 : Index := 10#32
  ![v4839.toNat, 16, 10]
def k0_off256 (v5 : BitVec 32) : Fin 3 → Nat :=
  let v4847 : Index := Scalar.indexCast v5
  let c16_2785 : Index := 16#32
  let c11_2786 : Index := 11#32
  ![v4847.toNat, 16, 11]
def k0_off257 (v5 : BitVec 32) : Fin 3 → Nat :=
  let v4856 : Index := Scalar.indexCast v5
  let c17_2790 : Index := 17#32
  let c10_2791 : Index := 10#32
  ![v4856.toNat, 17, 10]
def k0_off258 (v5 : BitVec 32) : Fin 3 → Nat :=
  let v4864 : Index := Scalar.indexCast v5
  let c17_2795 : Index := 17#32
  let c11_2796 : Index := 11#32
  ![v4864.toNat, 17, 11]
def k0_off259 (v5 : BitVec 32) : Fin 3 → Nat :=
  let v4914 : Index := Scalar.indexCast v5
  let c18_2824 : Index := 18#32
  let c10_2825 : Index := 10#32
  ![v4914.toNat, 18, 10]
def k0_off260 (v5 : BitVec 32) : Fin 3 → Nat :=
  let v4922 : Index := Scalar.indexCast v5
  let c18_2829 : Index := 18#32
  let c11_2830 : Index := 11#32
  ![v4922.toNat, 18, 11]
def k0_off261 (v5 : BitVec 32) : Fin 3 → Nat :=
  let v4931 : Index := Scalar.indexCast v5
  let c19_2834 : Index := 19#32
  let c10_2835 : Index := 10#32
  ![v4931.toNat, 19, 10]
def k0_off262 (v5 : BitVec 32) : Fin 3 → Nat :=
  let v4939 : Index := Scalar.indexCast v5
  let c19_2839 : Index := 19#32
  let c11_2840 : Index := 11#32
  ![v4939.toNat, 19, 11]
def k0_off263 (v5 : BitVec 32) : Fin 3 → Nat :=
  let v4989 : Index := Scalar.indexCast v5
  let c20_2868 : Index := 20#32
  let c10_2869 : Index := 10#32
  ![v4989.toNat, 20, 10]
def k0_off264 (v5 : BitVec 32) : Fin 3 → Nat :=
  let v4997 : Index := Scalar.indexCast v5
  let c20_2873 : Index := 20#32
  let c11_2874 : Index := 11#32
  ![v4997.toNat, 20, 11]
def k0_off265 (v5 : BitVec 32) : Fin 3 → Nat :=
  let v5006 : Index := Scalar.indexCast v5
  let c21_2878 : Index := 21#32
  let c10_2879 : Index := 10#32
  ![v5006.toNat, 21, 10]
def k0_off266 (v5 : BitVec 32) : Fin 3 → Nat :=
  let v5014 : Index := Scalar.indexCast v5
  let c21_2883 : Index := 21#32
  let c11_2884 : Index := 11#32
  ![v5014.toNat, 21, 11]
def k0_off267 (v5 : BitVec 32) : Fin 3 → Nat :=
  let v5081 : Index := Scalar.indexCast v5
  let c0_2921 : Index := 0#32
  let c12_2922 : Index := 12#32
  ![v5081.toNat, 0, 12]
def k0_off268 (v5 : BitVec 32) : Fin 3 → Nat :=
  let v5089 : Index := Scalar.indexCast v5
  let c0_2926 : Index := 0#32
  let c13_2927 : Index := 13#32
  ![v5089.toNat, 0, 13]
def k0_off269 (v5 : BitVec 32) : Fin 3 → Nat :=
  let v5098 : Index := Scalar.indexCast v5
  let c1_2931 : Index := 1#32
  let c12_2932 : Index := 12#32
  ![v5098.toNat, 1, 12]
def k0_off270 (v5 : BitVec 32) : Fin 3 → Nat :=
  let v5106 : Index := Scalar.indexCast v5
  let c1_2936 : Index := 1#32
  let c13_2937 : Index := 13#32
  ![v5106.toNat, 1, 13]
def k0_off271 (v5 : BitVec 32) : Fin 3 → Nat :=
  let v5156 : Index := Scalar.indexCast v5
  let c2_2965 : Index := 2#32
  let c12_2966 : Index := 12#32
  ![v5156.toNat, 2, 12]
def k0_off272 (v5 : BitVec 32) : Fin 3 → Nat :=
  let v5164 : Index := Scalar.indexCast v5
  let c2_2970 : Index := 2#32
  let c13_2971 : Index := 13#32
  ![v5164.toNat, 2, 13]
def k0_off273 (v5 : BitVec 32) : Fin 3 → Nat :=
  let v5173 : Index := Scalar.indexCast v5
  let c3_2975 : Index := 3#32
  let c12_2976 : Index := 12#32
  ![v5173.toNat, 3, 12]
def k0_off274 (v5 : BitVec 32) : Fin 3 → Nat :=
  let v5181 : Index := Scalar.indexCast v5
  let c3_2980 : Index := 3#32
  let c13_2981 : Index := 13#32
  ![v5181.toNat, 3, 13]
def k0_off275 (v5 : BitVec 32) : Fin 3 → Nat :=
  let v5231 : Index := Scalar.indexCast v5
  let c4_3009 : Index := 4#32
  let c12_3010 : Index := 12#32
  ![v5231.toNat, 4, 12]
def k0_off276 (v5 : BitVec 32) : Fin 3 → Nat :=
  let v5239 : Index := Scalar.indexCast v5
  let c4_3014 : Index := 4#32
  let c13_3015 : Index := 13#32
  ![v5239.toNat, 4, 13]
def k0_off277 (v5 : BitVec 32) : Fin 3 → Nat :=
  let v5248 : Index := Scalar.indexCast v5
  let c5_3019 : Index := 5#32
  let c12_3020 : Index := 12#32
  ![v5248.toNat, 5, 12]
def k0_off278 (v5 : BitVec 32) : Fin 3 → Nat :=
  let v5256 : Index := Scalar.indexCast v5
  let c5_3024 : Index := 5#32
  let c13_3025 : Index := 13#32
  ![v5256.toNat, 5, 13]
def k0_off279 (v5 : BitVec 32) : Fin 3 → Nat :=
  let v5306 : Index := Scalar.indexCast v5
  let c6_3053 : Index := 6#32
  let c12_3054 : Index := 12#32
  ![v5306.toNat, 6, 12]
def k0_off280 (v5 : BitVec 32) : Fin 3 → Nat :=
  let v5314 : Index := Scalar.indexCast v5
  let c6_3058 : Index := 6#32
  let c13_3059 : Index := 13#32
  ![v5314.toNat, 6, 13]
def k0_off281 (v5 : BitVec 32) : Fin 3 → Nat :=
  let v5323 : Index := Scalar.indexCast v5
  let c7_3063 : Index := 7#32
  let c12_3064 : Index := 12#32
  ![v5323.toNat, 7, 12]
def k0_off282 (v5 : BitVec 32) : Fin 3 → Nat :=
  let v5331 : Index := Scalar.indexCast v5
  let c7_3068 : Index := 7#32
  let c13_3069 : Index := 13#32
  ![v5331.toNat, 7, 13]
def k0_off283 (v5 : BitVec 32) : Fin 3 → Nat :=
  let v5381 : Index := Scalar.indexCast v5
  let c8_3097 : Index := 8#32
  let c12_3098 : Index := 12#32
  ![v5381.toNat, 8, 12]
def k0_off284 (v5 : BitVec 32) : Fin 3 → Nat :=
  let v5389 : Index := Scalar.indexCast v5
  let c8_3102 : Index := 8#32
  let c13_3103 : Index := 13#32
  ![v5389.toNat, 8, 13]
def k0_off285 (v5 : BitVec 32) : Fin 3 → Nat :=
  let v5398 : Index := Scalar.indexCast v5
  let c9_3107 : Index := 9#32
  let c12_3108 : Index := 12#32
  ![v5398.toNat, 9, 12]
def k0_off286 (v5 : BitVec 32) : Fin 3 → Nat :=
  let v5406 : Index := Scalar.indexCast v5
  let c9_3112 : Index := 9#32
  let c13_3113 : Index := 13#32
  ![v5406.toNat, 9, 13]
def k0_off287 (v5 : BitVec 32) : Fin 3 → Nat :=
  let v5456 : Index := Scalar.indexCast v5
  let c10_3141 : Index := 10#32
  let c12_3142 : Index := 12#32
  ![v5456.toNat, 10, 12]
def k0_off288 (v5 : BitVec 32) : Fin 3 → Nat :=
  let v5464 : Index := Scalar.indexCast v5
  let c10_3146 : Index := 10#32
  let c13_3147 : Index := 13#32
  ![v5464.toNat, 10, 13]
def k0_off289 (v5 : BitVec 32) : Fin 3 → Nat :=
  let v5473 : Index := Scalar.indexCast v5
  let c11_3151 : Index := 11#32
  let c12_3152 : Index := 12#32
  ![v5473.toNat, 11, 12]
def k0_off290 (v5 : BitVec 32) : Fin 3 → Nat :=
  let v5481 : Index := Scalar.indexCast v5
  let c11_3156 : Index := 11#32
  let c13_3157 : Index := 13#32
  ![v5481.toNat, 11, 13]
def k0_off291 (v5 : BitVec 32) : Fin 3 → Nat :=
  let v5531 : Index := Scalar.indexCast v5
  let c12_3185 : Index := 12#32
  let c12_3186 : Index := 12#32
  ![v5531.toNat, 12, 12]
def k0_off292 (v5 : BitVec 32) : Fin 3 → Nat :=
  let v5539 : Index := Scalar.indexCast v5
  let c12_3190 : Index := 12#32
  let c13_3191 : Index := 13#32
  ![v5539.toNat, 12, 13]
def k0_off293 (v5 : BitVec 32) : Fin 3 → Nat :=
  let v5548 : Index := Scalar.indexCast v5
  let c13_3195 : Index := 13#32
  let c12_3196 : Index := 12#32
  ![v5548.toNat, 13, 12]
def k0_off294 (v5 : BitVec 32) : Fin 3 → Nat :=
  let v5556 : Index := Scalar.indexCast v5
  let c13_3200 : Index := 13#32
  let c13_3201 : Index := 13#32
  ![v5556.toNat, 13, 13]
def k0_off295 (v5 : BitVec 32) : Fin 3 → Nat :=
  let v5606 : Index := Scalar.indexCast v5
  let c14_3229 : Index := 14#32
  let c12_3230 : Index := 12#32
  ![v5606.toNat, 14, 12]
def k0_off296 (v5 : BitVec 32) : Fin 3 → Nat :=
  let v5614 : Index := Scalar.indexCast v5
  let c14_3234 : Index := 14#32
  let c13_3235 : Index := 13#32
  ![v5614.toNat, 14, 13]
def k0_off297 (v5 : BitVec 32) : Fin 3 → Nat :=
  let v5623 : Index := Scalar.indexCast v5
  let c15_3239 : Index := 15#32
  let c12_3240 : Index := 12#32
  ![v5623.toNat, 15, 12]
def k0_off298 (v5 : BitVec 32) : Fin 3 → Nat :=
  let v5631 : Index := Scalar.indexCast v5
  let c15_3244 : Index := 15#32
  let c13_3245 : Index := 13#32
  ![v5631.toNat, 15, 13]
def k0_off299 (v5 : BitVec 32) : Fin 3 → Nat :=
  let v5681 : Index := Scalar.indexCast v5
  let c16_3273 : Index := 16#32
  let c12_3274 : Index := 12#32
  ![v5681.toNat, 16, 12]
def k0_off300 (v5 : BitVec 32) : Fin 3 → Nat :=
  let v5689 : Index := Scalar.indexCast v5
  let c16_3278 : Index := 16#32
  let c13_3279 : Index := 13#32
  ![v5689.toNat, 16, 13]
def k0_off301 (v5 : BitVec 32) : Fin 3 → Nat :=
  let v5698 : Index := Scalar.indexCast v5
  let c17_3283 : Index := 17#32
  let c12_3284 : Index := 12#32
  ![v5698.toNat, 17, 12]
def k0_off302 (v5 : BitVec 32) : Fin 3 → Nat :=
  let v5706 : Index := Scalar.indexCast v5
  let c17_3288 : Index := 17#32
  let c13_3289 : Index := 13#32
  ![v5706.toNat, 17, 13]
def k0_off303 (v5 : BitVec 32) : Fin 3 → Nat :=
  let v5756 : Index := Scalar.indexCast v5
  let c18_3317 : Index := 18#32
  let c12_3318 : Index := 12#32
  ![v5756.toNat, 18, 12]
def k0_off304 (v5 : BitVec 32) : Fin 3 → Nat :=
  let v5764 : Index := Scalar.indexCast v5
  let c18_3322 : Index := 18#32
  let c13_3323 : Index := 13#32
  ![v5764.toNat, 18, 13]
def k0_off305 (v5 : BitVec 32) : Fin 3 → Nat :=
  let v5773 : Index := Scalar.indexCast v5
  let c19_3327 : Index := 19#32
  let c12_3328 : Index := 12#32
  ![v5773.toNat, 19, 12]
def k0_off306 (v5 : BitVec 32) : Fin 3 → Nat :=
  let v5781 : Index := Scalar.indexCast v5
  let c19_3332 : Index := 19#32
  let c13_3333 : Index := 13#32
  ![v5781.toNat, 19, 13]
def k0_off307 (v5 : BitVec 32) : Fin 3 → Nat :=
  let v5831 : Index := Scalar.indexCast v5
  let c20_3361 : Index := 20#32
  let c12_3362 : Index := 12#32
  ![v5831.toNat, 20, 12]
def k0_off308 (v5 : BitVec 32) : Fin 3 → Nat :=
  let v5839 : Index := Scalar.indexCast v5
  let c20_3366 : Index := 20#32
  let c13_3367 : Index := 13#32
  ![v5839.toNat, 20, 13]
def k0_off309 (v5 : BitVec 32) : Fin 3 → Nat :=
  let v5848 : Index := Scalar.indexCast v5
  let c21_3371 : Index := 21#32
  let c12_3372 : Index := 12#32
  ![v5848.toNat, 21, 12]
def k0_off310 (v5 : BitVec 32) : Fin 3 → Nat :=
  let v5856 : Index := Scalar.indexCast v5
  let c21_3376 : Index := 21#32
  let c13_3377 : Index := 13#32
  ![v5856.toNat, 21, 13]
def k0_off311 (v5 : BitVec 32) : Fin 3 → Nat :=
  let v5923 : Index := Scalar.indexCast v5
  let c0_3414 : Index := 0#32
  let c14_3415 : Index := 14#32
  ![v5923.toNat, 0, 14]
def k0_off312 (v5 : BitVec 32) : Fin 3 → Nat :=
  let v5931 : Index := Scalar.indexCast v5
  let c0_3419 : Index := 0#32
  let c15_3420 : Index := 15#32
  ![v5931.toNat, 0, 15]
def k0_off313 (v5 : BitVec 32) : Fin 3 → Nat :=
  let v5940 : Index := Scalar.indexCast v5
  let c1_3424 : Index := 1#32
  let c14_3425 : Index := 14#32
  ![v5940.toNat, 1, 14]
def k0_off314 (v5 : BitVec 32) : Fin 3 → Nat :=
  let v5948 : Index := Scalar.indexCast v5
  let c1_3429 : Index := 1#32
  let c15_3430 : Index := 15#32
  ![v5948.toNat, 1, 15]
def k0_off315 (v5 : BitVec 32) : Fin 3 → Nat :=
  let v5998 : Index := Scalar.indexCast v5
  let c2_3458 : Index := 2#32
  let c14_3459 : Index := 14#32
  ![v5998.toNat, 2, 14]
def k0_off316 (v5 : BitVec 32) : Fin 3 → Nat :=
  let v6006 : Index := Scalar.indexCast v5
  let c2_3463 : Index := 2#32
  let c15_3464 : Index := 15#32
  ![v6006.toNat, 2, 15]
def k0_off317 (v5 : BitVec 32) : Fin 3 → Nat :=
  let v6015 : Index := Scalar.indexCast v5
  let c3_3468 : Index := 3#32
  let c14_3469 : Index := 14#32
  ![v6015.toNat, 3, 14]
def k0_off318 (v5 : BitVec 32) : Fin 3 → Nat :=
  let v6023 : Index := Scalar.indexCast v5
  let c3_3473 : Index := 3#32
  let c15_3474 : Index := 15#32
  ![v6023.toNat, 3, 15]
def k0_off319 (v5 : BitVec 32) : Fin 3 → Nat :=
  let v6073 : Index := Scalar.indexCast v5
  let c4_3502 : Index := 4#32
  let c14_3503 : Index := 14#32
  ![v6073.toNat, 4, 14]
def k0_off320 (v5 : BitVec 32) : Fin 3 → Nat :=
  let v6081 : Index := Scalar.indexCast v5
  let c4_3507 : Index := 4#32
  let c15_3508 : Index := 15#32
  ![v6081.toNat, 4, 15]
def k0_off321 (v5 : BitVec 32) : Fin 3 → Nat :=
  let v6090 : Index := Scalar.indexCast v5
  let c5_3512 : Index := 5#32
  let c14_3513 : Index := 14#32
  ![v6090.toNat, 5, 14]
def k0_off322 (v5 : BitVec 32) : Fin 3 → Nat :=
  let v6098 : Index := Scalar.indexCast v5
  let c5_3517 : Index := 5#32
  let c15_3518 : Index := 15#32
  ![v6098.toNat, 5, 15]
def k0_off323 (v5 : BitVec 32) : Fin 3 → Nat :=
  let v6148 : Index := Scalar.indexCast v5
  let c6_3546 : Index := 6#32
  let c14_3547 : Index := 14#32
  ![v6148.toNat, 6, 14]
def k0_off324 (v5 : BitVec 32) : Fin 3 → Nat :=
  let v6156 : Index := Scalar.indexCast v5
  let c6_3551 : Index := 6#32
  let c15_3552 : Index := 15#32
  ![v6156.toNat, 6, 15]
def k0_off325 (v5 : BitVec 32) : Fin 3 → Nat :=
  let v6165 : Index := Scalar.indexCast v5
  let c7_3556 : Index := 7#32
  let c14_3557 : Index := 14#32
  ![v6165.toNat, 7, 14]
def k0_off326 (v5 : BitVec 32) : Fin 3 → Nat :=
  let v6173 : Index := Scalar.indexCast v5
  let c7_3561 : Index := 7#32
  let c15_3562 : Index := 15#32
  ![v6173.toNat, 7, 15]
def k0_off327 (v5 : BitVec 32) : Fin 3 → Nat :=
  let v6223 : Index := Scalar.indexCast v5
  let c8_3590 : Index := 8#32
  let c14_3591 : Index := 14#32
  ![v6223.toNat, 8, 14]
def k0_off328 (v5 : BitVec 32) : Fin 3 → Nat :=
  let v6231 : Index := Scalar.indexCast v5
  let c8_3595 : Index := 8#32
  let c15_3596 : Index := 15#32
  ![v6231.toNat, 8, 15]
def k0_off329 (v5 : BitVec 32) : Fin 3 → Nat :=
  let v6240 : Index := Scalar.indexCast v5
  let c9_3600 : Index := 9#32
  let c14_3601 : Index := 14#32
  ![v6240.toNat, 9, 14]
def k0_off330 (v5 : BitVec 32) : Fin 3 → Nat :=
  let v6248 : Index := Scalar.indexCast v5
  let c9_3605 : Index := 9#32
  let c15_3606 : Index := 15#32
  ![v6248.toNat, 9, 15]
def k0_off331 (v5 : BitVec 32) : Fin 3 → Nat :=
  let v6298 : Index := Scalar.indexCast v5
  let c10_3634 : Index := 10#32
  let c14_3635 : Index := 14#32
  ![v6298.toNat, 10, 14]
def k0_off332 (v5 : BitVec 32) : Fin 3 → Nat :=
  let v6306 : Index := Scalar.indexCast v5
  let c10_3639 : Index := 10#32
  let c15_3640 : Index := 15#32
  ![v6306.toNat, 10, 15]
def k0_off333 (v5 : BitVec 32) : Fin 3 → Nat :=
  let v6315 : Index := Scalar.indexCast v5
  let c11_3644 : Index := 11#32
  let c14_3645 : Index := 14#32
  ![v6315.toNat, 11, 14]
def k0_off334 (v5 : BitVec 32) : Fin 3 → Nat :=
  let v6323 : Index := Scalar.indexCast v5
  let c11_3649 : Index := 11#32
  let c15_3650 : Index := 15#32
  ![v6323.toNat, 11, 15]
def k0_off335 (v5 : BitVec 32) : Fin 3 → Nat :=
  let v6373 : Index := Scalar.indexCast v5
  let c12_3678 : Index := 12#32
  let c14_3679 : Index := 14#32
  ![v6373.toNat, 12, 14]
def k0_off336 (v5 : BitVec 32) : Fin 3 → Nat :=
  let v6381 : Index := Scalar.indexCast v5
  let c12_3683 : Index := 12#32
  let c15_3684 : Index := 15#32
  ![v6381.toNat, 12, 15]
def k0_off337 (v5 : BitVec 32) : Fin 3 → Nat :=
  let v6390 : Index := Scalar.indexCast v5
  let c13_3688 : Index := 13#32
  let c14_3689 : Index := 14#32
  ![v6390.toNat, 13, 14]
def k0_off338 (v5 : BitVec 32) : Fin 3 → Nat :=
  let v6398 : Index := Scalar.indexCast v5
  let c13_3693 : Index := 13#32
  let c15_3694 : Index := 15#32
  ![v6398.toNat, 13, 15]
def k0_off339 (v5 : BitVec 32) : Fin 3 → Nat :=
  let v6448 : Index := Scalar.indexCast v5
  let c14_3722 : Index := 14#32
  let c14_3723 : Index := 14#32
  ![v6448.toNat, 14, 14]
def k0_off340 (v5 : BitVec 32) : Fin 3 → Nat :=
  let v6456 : Index := Scalar.indexCast v5
  let c14_3727 : Index := 14#32
  let c15_3728 : Index := 15#32
  ![v6456.toNat, 14, 15]
def k0_off341 (v5 : BitVec 32) : Fin 3 → Nat :=
  let v6465 : Index := Scalar.indexCast v5
  let c15_3732 : Index := 15#32
  let c14_3733 : Index := 14#32
  ![v6465.toNat, 15, 14]
def k0_off342 (v5 : BitVec 32) : Fin 3 → Nat :=
  let v6473 : Index := Scalar.indexCast v5
  let c15_3737 : Index := 15#32
  let c15_3738 : Index := 15#32
  ![v6473.toNat, 15, 15]
def k0_off343 (v5 : BitVec 32) : Fin 3 → Nat :=
  let v6523 : Index := Scalar.indexCast v5
  let c16_3766 : Index := 16#32
  let c14_3767 : Index := 14#32
  ![v6523.toNat, 16, 14]
def k0_off344 (v5 : BitVec 32) : Fin 3 → Nat :=
  let v6531 : Index := Scalar.indexCast v5
  let c16_3771 : Index := 16#32
  let c15_3772 : Index := 15#32
  ![v6531.toNat, 16, 15]
def k0_off345 (v5 : BitVec 32) : Fin 3 → Nat :=
  let v6540 : Index := Scalar.indexCast v5
  let c17_3776 : Index := 17#32
  let c14_3777 : Index := 14#32
  ![v6540.toNat, 17, 14]
def k0_off346 (v5 : BitVec 32) : Fin 3 → Nat :=
  let v6548 : Index := Scalar.indexCast v5
  let c17_3781 : Index := 17#32
  let c15_3782 : Index := 15#32
  ![v6548.toNat, 17, 15]
def k0_off347 (v5 : BitVec 32) : Fin 3 → Nat :=
  let v6598 : Index := Scalar.indexCast v5
  let c18_3810 : Index := 18#32
  let c14_3811 : Index := 14#32
  ![v6598.toNat, 18, 14]
def k0_off348 (v5 : BitVec 32) : Fin 3 → Nat :=
  let v6606 : Index := Scalar.indexCast v5
  let c18_3815 : Index := 18#32
  let c15_3816 : Index := 15#32
  ![v6606.toNat, 18, 15]
def k0_off349 (v5 : BitVec 32) : Fin 3 → Nat :=
  let v6615 : Index := Scalar.indexCast v5
  let c19_3820 : Index := 19#32
  let c14_3821 : Index := 14#32
  ![v6615.toNat, 19, 14]
def k0_off350 (v5 : BitVec 32) : Fin 3 → Nat :=
  let v6623 : Index := Scalar.indexCast v5
  let c19_3825 : Index := 19#32
  let c15_3826 : Index := 15#32
  ![v6623.toNat, 19, 15]
def k0_off351 (v5 : BitVec 32) : Fin 3 → Nat :=
  let v6673 : Index := Scalar.indexCast v5
  let c20_3854 : Index := 20#32
  let c14_3855 : Index := 14#32
  ![v6673.toNat, 20, 14]
def k0_off352 (v5 : BitVec 32) : Fin 3 → Nat :=
  let v6681 : Index := Scalar.indexCast v5
  let c20_3859 : Index := 20#32
  let c15_3860 : Index := 15#32
  ![v6681.toNat, 20, 15]
def k0_off353 (v5 : BitVec 32) : Fin 3 → Nat :=
  let v6690 : Index := Scalar.indexCast v5
  let c21_3864 : Index := 21#32
  let c14_3865 : Index := 14#32
  ![v6690.toNat, 21, 14]
def k0_off354 (v5 : BitVec 32) : Fin 3 → Nat :=
  let v6698 : Index := Scalar.indexCast v5
  let c21_3869 : Index := 21#32
  let c15_3870 : Index := 15#32
  ![v6698.toNat, 21, 15]

def k0_chk1_0 (v1 : BitVec 32) (v3 : BitVec 32) (v5 : BitVec 32) : Prop :=
  (∀ (k0_h2 : k0_cond2 v1 v3 = 1#1), ∀ a, (k0_off3 v5) a + S1x1x1.size a ≤ S8x22x16.size a) ∧
  (∀ (k0_h2 : k0_cond2 v1 v3 = 1#1), ∀ a, (k0_off4 v5) a + S1x1x1.size a ≤ S8x22x16.size a) ∧
  (∀ (k0_h2 : k0_cond2 v1 v3 = 1#1), ∀ a, (k0_off5 v5) a + S1x1x1.size a ≤ S8x22x16.size a) ∧
  (∀ (k0_h2 : k0_cond2 v1 v3 = 1#1), ∀ a, (k0_off6 v5) a + S1x1x1.size a ≤ S8x22x16.size a) ∧
  (∀ (k0_h2 : k0_cond2 v1 v3 = 1#1), ∀ a, (k0_off7 v5) a + S1x1x1.size a ≤ S8x22x16.size a) ∧
  (∀ (k0_h2 : k0_cond2 v1 v3 = 1#1), ∀ a, (k0_off8 v5) a + S1x1x1.size a ≤ S8x22x16.size a) ∧
  (∀ (k0_h2 : k0_cond2 v1 v3 = 1#1), ∀ a, (k0_off9 v5) a + S1x1x1.size a ≤ S8x22x16.size a) ∧
  (∀ (k0_h2 : k0_cond2 v1 v3 = 1#1), ∀ a, (k0_off10 v5) a + S1x1x1.size a ≤ S8x22x16.size a) ∧
  (∀ (k0_h2 : k0_cond2 v1 v3 = 1#1), ∀ a, (k0_off11 v5) a + S1x1x1.size a ≤ S8x22x16.size a) ∧
  (∀ (k0_h2 : k0_cond2 v1 v3 = 1#1), ∀ a, (k0_off12 v5) a + S1x1x1.size a ≤ S8x22x16.size a) ∧
  (∀ (k0_h2 : k0_cond2 v1 v3 = 1#1), ∀ a, (k0_off13 v5) a + S1x1x1.size a ≤ S8x22x16.size a) ∧
  (∀ (k0_h2 : k0_cond2 v1 v3 = 1#1), ∀ a, (k0_off14 v5) a + S1x1x1.size a ≤ S8x22x16.size a) ∧
  (∀ (k0_h2 : k0_cond2 v1 v3 = 1#1), ∀ a, (k0_off15 v5) a + S1x1x1.size a ≤ S8x22x16.size a) ∧
  (∀ (k0_h2 : k0_cond2 v1 v3 = 1#1), ∀ a, (k0_off16 v5) a + S1x1x1.size a ≤ S8x22x16.size a) ∧
  (∀ (k0_h2 : k0_cond2 v1 v3 = 1#1), ∀ a, (k0_off17 v5) a + S1x1x1.size a ≤ S8x22x16.size a) ∧
  (∀ (k0_h2 : k0_cond2 v1 v3 = 1#1), ∀ a, (k0_off18 v5) a + S1x1x1.size a ≤ S8x22x16.size a) ∧
  (∀ (k0_h2 : k0_cond2 v1 v3 = 1#1), ∀ a, (k0_off19 v5) a + S1x1x1.size a ≤ S8x22x16.size a) ∧
  (∀ (k0_h2 : k0_cond2 v1 v3 = 1#1), ∀ a, (k0_off20 v5) a + S1x1x1.size a ≤ S8x22x16.size a) ∧
  (∀ (k0_h2 : k0_cond2 v1 v3 = 1#1), ∀ a, (k0_off21 v5) a + S1x1x1.size a ≤ S8x22x16.size a) ∧
  (∀ (k0_h2 : k0_cond2 v1 v3 = 1#1), ∀ a, (k0_off22 v5) a + S1x1x1.size a ≤ S8x22x16.size a) ∧
  (∀ (k0_h2 : k0_cond2 v1 v3 = 1#1), ∀ a, (k0_off23 v5) a + S1x1x1.size a ≤ S8x22x16.size a) ∧
  (∀ (k0_h2 : k0_cond2 v1 v3 = 1#1), ∀ a, (k0_off24 v5) a + S1x1x1.size a ≤ S8x22x16.size a) ∧
  (∀ (k0_h2 : k0_cond2 v1 v3 = 1#1), ∀ a, (k0_off25 v5) a + S1x1x1.size a ≤ S8x22x16.size a) ∧
  (∀ (k0_h2 : k0_cond2 v1 v3 = 1#1), ∀ a, (k0_off26 v5) a + S1x1x1.size a ≤ S8x22x16.size a) ∧
  (∀ (k0_h2 : k0_cond2 v1 v3 = 1#1), ∀ a, (k0_off27 v5) a + S1x1x1.size a ≤ S8x22x16.size a) ∧
  (∀ (k0_h2 : k0_cond2 v1 v3 = 1#1), ∀ a, (k0_off28 v5) a + S1x1x1.size a ≤ S8x22x16.size a) ∧
  (∀ (k0_h2 : k0_cond2 v1 v3 = 1#1), ∀ a, (k0_off29 v5) a + S1x1x1.size a ≤ S8x22x16.size a) ∧
  (∀ (k0_h2 : k0_cond2 v1 v3 = 1#1), ∀ a, (k0_off30 v5) a + S1x1x1.size a ≤ S8x22x16.size a) ∧
  (∀ (k0_h2 : k0_cond2 v1 v3 = 1#1), ∀ a, (k0_off31 v5) a + S1x1x1.size a ≤ S8x22x16.size a) ∧
  (∀ (k0_h2 : k0_cond2 v1 v3 = 1#1), ∀ a, (k0_off32 v5) a + S1x1x1.size a ≤ S8x22x16.size a) ∧
  (∀ (k0_h2 : k0_cond2 v1 v3 = 1#1), ∀ a, (k0_off33 v5) a + S1x1x1.size a ≤ S8x22x16.size a) ∧
  (∀ (k0_h2 : k0_cond2 v1 v3 = 1#1), ∀ a, (k0_off34 v5) a + S1x1x1.size a ≤ S8x22x16.size a)
def k0_chk1_1 (v1 : BitVec 32) (v3 : BitVec 32) (v5 : BitVec 32) : Prop :=
  (∀ (k0_h2 : k0_cond2 v1 v3 = 1#1), ∀ a, (k0_off35 v5) a + S1x1x1.size a ≤ S8x22x16.size a) ∧
  (∀ (k0_h2 : k0_cond2 v1 v3 = 1#1), ∀ a, (k0_off36 v5) a + S1x1x1.size a ≤ S8x22x16.size a) ∧
  (∀ (k0_h2 : k0_cond2 v1 v3 = 1#1), ∀ a, (k0_off37 v5) a + S1x1x1.size a ≤ S8x22x16.size a) ∧
  (∀ (k0_h2 : k0_cond2 v1 v3 = 1#1), ∀ a, (k0_off38 v5) a + S1x1x1.size a ≤ S8x22x16.size a) ∧
  (∀ (k0_h2 : k0_cond2 v1 v3 = 1#1), ∀ a, (k0_off39 v5) a + S1x1x1.size a ≤ S8x22x16.size a) ∧
  (∀ (k0_h2 : k0_cond2 v1 v3 = 1#1), ∀ a, (k0_off40 v5) a + S1x1x1.size a ≤ S8x22x16.size a) ∧
  (∀ (k0_h2 : k0_cond2 v1 v3 = 1#1), ∀ a, (k0_off41 v5) a + S1x1x1.size a ≤ S8x22x16.size a) ∧
  (∀ (k0_h2 : k0_cond2 v1 v3 = 1#1), ∀ a, (k0_off42 v5) a + S1x1x1.size a ≤ S8x22x16.size a) ∧
  (∀ (k0_h2 : k0_cond2 v1 v3 = 1#1), ∀ a, (k0_off43 v5) a + S1x1x1.size a ≤ S8x22x16.size a) ∧
  (∀ (k0_h2 : k0_cond2 v1 v3 = 1#1), ∀ a, (k0_off44 v5) a + S1x1x1.size a ≤ S8x22x16.size a) ∧
  (∀ (k0_h2 : k0_cond2 v1 v3 = 1#1), ∀ a, (k0_off45 v5) a + S1x1x1.size a ≤ S8x22x16.size a) ∧
  (∀ (k0_h2 : k0_cond2 v1 v3 = 1#1), ∀ a, (k0_off46 v5) a + S1x1x1.size a ≤ S8x22x16.size a) ∧
  (∀ (k0_h2 : k0_cond2 v1 v3 = 1#1), ∀ a, (k0_off47 v5) a + S1x1x1.size a ≤ S8x22x16.size a) ∧
  (∀ (k0_h2 : k0_cond2 v1 v3 = 1#1), ∀ a, (k0_off48 v5) a + S1x1x1.size a ≤ S8x22x16.size a) ∧
  (∀ (k0_h2 : k0_cond2 v1 v3 = 1#1), ∀ a, (k0_off49 v5) a + S1x1x1.size a ≤ S8x22x16.size a) ∧
  (∀ (k0_h2 : k0_cond2 v1 v3 = 1#1), ∀ a, (k0_off50 v5) a + S1x1x1.size a ≤ S8x22x16.size a) ∧
  (∀ (k0_h2 : k0_cond2 v1 v3 = 1#1), ∀ a, (k0_off51 v5) a + S1x1x1.size a ≤ S8x22x16.size a) ∧
  (∀ (k0_h2 : k0_cond2 v1 v3 = 1#1), ∀ a, (k0_off52 v5) a + S1x1x1.size a ≤ S8x22x16.size a) ∧
  (∀ (k0_h2 : k0_cond2 v1 v3 = 1#1), ∀ a, (k0_off53 v5) a + S1x1x1.size a ≤ S8x22x16.size a) ∧
  (∀ (k0_h2 : k0_cond2 v1 v3 = 1#1), ∀ a, (k0_off54 v5) a + S1x1x1.size a ≤ S8x22x16.size a) ∧
  (∀ (k0_h2 : k0_cond2 v1 v3 = 1#1), ∀ a, (k0_off55 v5) a + S1x1x1.size a ≤ S8x22x16.size a) ∧
  (∀ (k0_h2 : k0_cond2 v1 v3 = 1#1), ∀ a, (k0_off56 v5) a + S1x1x1.size a ≤ S8x22x16.size a) ∧
  (∀ (k0_h2 : k0_cond2 v1 v3 = 1#1), ∀ a, (k0_off57 v5) a + S1x1x1.size a ≤ S8x22x16.size a) ∧
  (∀ (k0_h2 : k0_cond2 v1 v3 = 1#1), ∀ a, (k0_off58 v5) a + S1x1x1.size a ≤ S8x22x16.size a) ∧
  (∀ (k0_h2 : k0_cond2 v1 v3 = 1#1), ∀ a, (k0_off59 v5) a + S1x1x1.size a ≤ S8x22x16.size a) ∧
  (∀ (k0_h2 : k0_cond2 v1 v3 = 1#1), ∀ a, (k0_off60 v5) a + S1x1x1.size a ≤ S8x22x16.size a) ∧
  (∀ (k0_h2 : k0_cond2 v1 v3 = 1#1), ∀ a, (k0_off61 v5) a + S1x1x1.size a ≤ S8x22x16.size a) ∧
  (∀ (k0_h2 : k0_cond2 v1 v3 = 1#1), ∀ a, (k0_off62 v5) a + S1x1x1.size a ≤ S8x22x16.size a) ∧
  (∀ (k0_h2 : k0_cond2 v1 v3 = 1#1), ∀ a, (k0_off63 v5) a + S1x1x1.size a ≤ S8x22x16.size a) ∧
  (∀ (k0_h2 : k0_cond2 v1 v3 = 1#1), ∀ a, (k0_off64 v5) a + S1x1x1.size a ≤ S8x22x16.size a) ∧
  (∀ (k0_h2 : k0_cond2 v1 v3 = 1#1), ∀ a, (k0_off65 v5) a + S1x1x1.size a ≤ S8x22x16.size a) ∧
  (∀ (k0_h2 : k0_cond2 v1 v3 = 1#1), ∀ a, (k0_off66 v5) a + S1x1x1.size a ≤ S8x22x16.size a)
def k0_chk1_2 (v1 : BitVec 32) (v3 : BitVec 32) (v5 : BitVec 32) : Prop :=
  (∀ (k0_h2 : k0_cond2 v1 v3 = 1#1), ∀ a, (k0_off67 v5) a + S1x1x1.size a ≤ S8x22x16.size a) ∧
  (∀ (k0_h2 : k0_cond2 v1 v3 = 1#1), ∀ a, (k0_off68 v5) a + S1x1x1.size a ≤ S8x22x16.size a) ∧
  (∀ (k0_h2 : k0_cond2 v1 v3 = 1#1), ∀ a, (k0_off69 v5) a + S1x1x1.size a ≤ S8x22x16.size a) ∧
  (∀ (k0_h2 : k0_cond2 v1 v3 = 1#1), ∀ a, (k0_off70 v5) a + S1x1x1.size a ≤ S8x22x16.size a) ∧
  (∀ (k0_h2 : k0_cond2 v1 v3 = 1#1), ∀ a, (k0_off71 v5) a + S1x1x1.size a ≤ S8x22x16.size a) ∧
  (∀ (k0_h2 : k0_cond2 v1 v3 = 1#1), ∀ a, (k0_off72 v5) a + S1x1x1.size a ≤ S8x22x16.size a) ∧
  (∀ (k0_h2 : k0_cond2 v1 v3 = 1#1), ∀ a, (k0_off73 v5) a + S1x1x1.size a ≤ S8x22x16.size a) ∧
  (∀ (k0_h2 : k0_cond2 v1 v3 = 1#1), ∀ a, (k0_off74 v5) a + S1x1x1.size a ≤ S8x22x16.size a) ∧
  (∀ (k0_h2 : k0_cond2 v1 v3 = 1#1), ∀ a, (k0_off75 v5) a + S1x1x1.size a ≤ S8x22x16.size a) ∧
  (∀ (k0_h2 : k0_cond2 v1 v3 = 1#1), ∀ a, (k0_off76 v5) a + S1x1x1.size a ≤ S8x22x16.size a) ∧
  (∀ (k0_h2 : k0_cond2 v1 v3 = 1#1), ∀ a, (k0_off77 v5) a + S1x1x1.size a ≤ S8x22x16.size a) ∧
  (∀ (k0_h2 : k0_cond2 v1 v3 = 1#1), ∀ a, (k0_off78 v5) a + S1x1x1.size a ≤ S8x22x16.size a) ∧
  (∀ (k0_h2 : k0_cond2 v1 v3 = 1#1), ∀ a, (k0_off79 v5) a + S1x1x1.size a ≤ S8x22x16.size a) ∧
  (∀ (k0_h2 : k0_cond2 v1 v3 = 1#1), ∀ a, (k0_off80 v5) a + S1x1x1.size a ≤ S8x22x16.size a) ∧
  (∀ (k0_h2 : k0_cond2 v1 v3 = 1#1), ∀ a, (k0_off81 v5) a + S1x1x1.size a ≤ S8x22x16.size a) ∧
  (∀ (k0_h2 : k0_cond2 v1 v3 = 1#1), ∀ a, (k0_off82 v5) a + S1x1x1.size a ≤ S8x22x16.size a) ∧
  (∀ (k0_h2 : k0_cond2 v1 v3 = 1#1), ∀ a, (k0_off83 v5) a + S1x1x1.size a ≤ S8x22x16.size a) ∧
  (∀ (k0_h2 : k0_cond2 v1 v3 = 1#1), ∀ a, (k0_off84 v5) a + S1x1x1.size a ≤ S8x22x16.size a) ∧
  (∀ (k0_h2 : k0_cond2 v1 v3 = 1#1), ∀ a, (k0_off85 v5) a + S1x1x1.size a ≤ S8x22x16.size a) ∧
  (∀ (k0_h2 : k0_cond2 v1 v3 = 1#1), ∀ a, (k0_off86 v5) a + S1x1x1.size a ≤ S8x22x16.size a) ∧
  (∀ (k0_h2 : k0_cond2 v1 v3 = 1#1), ∀ a, (k0_off87 v5) a + S1x1x1.size a ≤ S8x22x16.size a) ∧
  (∀ (k0_h2 : k0_cond2 v1 v3 = 1#1), ∀ a, (k0_off88 v5) a + S1x1x1.size a ≤ S8x22x16.size a) ∧
  (∀ (k0_h2 : k0_cond2 v1 v3 = 1#1), ∀ a, (k0_off89 v5) a + S1x1x1.size a ≤ S8x22x16.size a) ∧
  (∀ (k0_h2 : k0_cond2 v1 v3 = 1#1), ∀ a, (k0_off90 v5) a + S1x1x1.size a ≤ S8x22x16.size a) ∧
  (∀ (k0_h2 : k0_cond2 v1 v3 = 1#1), ∀ a, (k0_off91 v5) a + S1x1x1.size a ≤ S8x22x16.size a) ∧
  (∀ (k0_h2 : k0_cond2 v1 v3 = 1#1), ∀ a, (k0_off92 v5) a + S1x1x1.size a ≤ S8x22x16.size a) ∧
  (∀ (k0_h2 : k0_cond2 v1 v3 = 1#1), ∀ a, (k0_off93 v5) a + S1x1x1.size a ≤ S8x22x16.size a) ∧
  (∀ (k0_h2 : k0_cond2 v1 v3 = 1#1), ∀ a, (k0_off94 v5) a + S1x1x1.size a ≤ S8x22x16.size a) ∧
  (∀ (k0_h2 : k0_cond2 v1 v3 = 1#1), ∀ a, (k0_off95 v5) a + S1x1x1.size a ≤ S8x22x16.size a) ∧
  (∀ (k0_h2 : k0_cond2 v1 v3 = 1#1), ∀ a, (k0_off96 v5) a + S1x1x1.size a ≤ S8x22x16.size a) ∧
  (∀ (k0_h2 : k0_cond2 v1 v3 = 1#1), ∀ a, (k0_off97 v5) a + S1x1x1.size a ≤ S8x22x16.size a) ∧
  (∀ (k0_h2 : k0_cond2 v1 v3 = 1#1), ∀ a, (k0_off98 v5) a + S1x1x1.size a ≤ S8x22x16.size a)
def k0_chk1_3 (v1 : BitVec 32) (v3 : BitVec 32) (v5 : BitVec 32) : Prop :=
  (∀ (k0_h2 : k0_cond2 v1 v3 = 1#1), ∀ a, (k0_off99 v5) a + S1x1x1.size a ≤ S8x22x16.size a) ∧
  (∀ (k0_h2 : k0_cond2 v1 v3 = 1#1), ∀ a, (k0_off100 v5) a + S1x1x1.size a ≤ S8x22x16.size a) ∧
  (∀ (k0_h2 : k0_cond2 v1 v3 = 1#1), ∀ a, (k0_off101 v5) a + S1x1x1.size a ≤ S8x22x16.size a) ∧
  (∀ (k0_h2 : k0_cond2 v1 v3 = 1#1), ∀ a, (k0_off102 v5) a + S1x1x1.size a ≤ S8x22x16.size a) ∧
  (∀ (k0_h2 : k0_cond2 v1 v3 = 1#1), ∀ a, (k0_off103 v5) a + S1x1x1.size a ≤ S8x22x16.size a) ∧
  (∀ (k0_h2 : k0_cond2 v1 v3 = 1#1), ∀ a, (k0_off104 v5) a + S1x1x1.size a ≤ S8x22x16.size a) ∧
  (∀ (k0_h2 : k0_cond2 v1 v3 = 1#1), ∀ a, (k0_off105 v5) a + S1x1x1.size a ≤ S8x22x16.size a) ∧
  (∀ (k0_h2 : k0_cond2 v1 v3 = 1#1), ∀ a, (k0_off106 v5) a + S1x1x1.size a ≤ S8x22x16.size a) ∧
  (∀ (k0_h2 : k0_cond2 v1 v3 = 1#1), ∀ a, (k0_off107 v5) a + S1x1x1.size a ≤ S8x22x16.size a) ∧
  (∀ (k0_h2 : k0_cond2 v1 v3 = 1#1), ∀ a, (k0_off108 v5) a + S1x1x1.size a ≤ S8x22x16.size a) ∧
  (∀ (k0_h2 : k0_cond2 v1 v3 = 1#1), ∀ a, (k0_off109 v5) a + S1x1x1.size a ≤ S8x22x16.size a) ∧
  (∀ (k0_h2 : k0_cond2 v1 v3 = 1#1), ∀ a, (k0_off110 v5) a + S1x1x1.size a ≤ S8x22x16.size a) ∧
  (∀ (k0_h2 : k0_cond2 v1 v3 = 1#1), ∀ a, (k0_off111 v5) a + S1x1x1.size a ≤ S8x22x16.size a) ∧
  (∀ (k0_h2 : k0_cond2 v1 v3 = 1#1), ∀ a, (k0_off112 v5) a + S1x1x1.size a ≤ S8x22x16.size a) ∧
  (∀ (k0_h2 : k0_cond2 v1 v3 = 1#1), ∀ a, (k0_off113 v5) a + S1x1x1.size a ≤ S8x22x16.size a) ∧
  (∀ (k0_h2 : k0_cond2 v1 v3 = 1#1), ∀ a, (k0_off114 v5) a + S1x1x1.size a ≤ S8x22x16.size a) ∧
  (∀ (k0_h2 : k0_cond2 v1 v3 = 1#1), ∀ a, (k0_off115 v5) a + S1x1x1.size a ≤ S8x22x16.size a) ∧
  (∀ (k0_h2 : k0_cond2 v1 v3 = 1#1), ∀ a, (k0_off116 v5) a + S1x1x1.size a ≤ S8x22x16.size a) ∧
  (∀ (k0_h2 : k0_cond2 v1 v3 = 1#1), ∀ a, (k0_off117 v5) a + S1x1x1.size a ≤ S8x22x16.size a) ∧
  (∀ (k0_h2 : k0_cond2 v1 v3 = 1#1), ∀ a, (k0_off118 v5) a + S1x1x1.size a ≤ S8x22x16.size a) ∧
  (∀ (k0_h2 : k0_cond2 v1 v3 = 1#1), ∀ a, (k0_off119 v5) a + S1x1x1.size a ≤ S8x22x16.size a) ∧
  (∀ (k0_h2 : k0_cond2 v1 v3 = 1#1), ∀ a, (k0_off120 v5) a + S1x1x1.size a ≤ S8x22x16.size a) ∧
  (∀ (k0_h2 : k0_cond2 v1 v3 = 1#1), ∀ a, (k0_off121 v5) a + S1x1x1.size a ≤ S8x22x16.size a) ∧
  (∀ (k0_h2 : k0_cond2 v1 v3 = 1#1), ∀ a, (k0_off122 v5) a + S1x1x1.size a ≤ S8x22x16.size a) ∧
  (∀ (k0_h2 : k0_cond2 v1 v3 = 1#1), ∀ a, (k0_off123 v5) a + S1x1x1.size a ≤ S8x22x16.size a) ∧
  (∀ (k0_h2 : k0_cond2 v1 v3 = 1#1), ∀ a, (k0_off124 v5) a + S1x1x1.size a ≤ S8x22x16.size a) ∧
  (∀ (k0_h2 : k0_cond2 v1 v3 = 1#1), ∀ a, (k0_off125 v5) a + S1x1x1.size a ≤ S8x22x16.size a) ∧
  (∀ (k0_h2 : k0_cond2 v1 v3 = 1#1), ∀ a, (k0_off126 v5) a + S1x1x1.size a ≤ S8x22x16.size a) ∧
  (∀ (k0_h2 : k0_cond2 v1 v3 = 1#1), ∀ a, (k0_off127 v5) a + S1x1x1.size a ≤ S8x22x16.size a) ∧
  (∀ (k0_h2 : k0_cond2 v1 v3 = 1#1), ∀ a, (k0_off128 v5) a + S1x1x1.size a ≤ S8x22x16.size a) ∧
  (∀ (k0_h2 : k0_cond2 v1 v3 = 1#1), ∀ a, (k0_off129 v5) a + S1x1x1.size a ≤ S8x22x16.size a) ∧
  (∀ (k0_h2 : k0_cond2 v1 v3 = 1#1), ∀ a, (k0_off130 v5) a + S1x1x1.size a ≤ S8x22x16.size a)
def k0_chk1_4 (v1 : BitVec 32) (v3 : BitVec 32) (v5 : BitVec 32) : Prop :=
  (∀ (k0_h2 : k0_cond2 v1 v3 = 1#1), ∀ a, (k0_off131 v5) a + S1x1x1.size a ≤ S8x22x16.size a) ∧
  (∀ (k0_h2 : k0_cond2 v1 v3 = 1#1), ∀ a, (k0_off132 v5) a + S1x1x1.size a ≤ S8x22x16.size a) ∧
  (∀ (k0_h2 : k0_cond2 v1 v3 = 1#1), ∀ a, (k0_off133 v5) a + S1x1x1.size a ≤ S8x22x16.size a) ∧
  (∀ (k0_h2 : k0_cond2 v1 v3 = 1#1), ∀ a, (k0_off134 v5) a + S1x1x1.size a ≤ S8x22x16.size a) ∧
  (∀ (k0_h2 : k0_cond2 v1 v3 = 1#1), ∀ a, (k0_off135 v5) a + S1x1x1.size a ≤ S8x22x16.size a) ∧
  (∀ (k0_h2 : k0_cond2 v1 v3 = 1#1), ∀ a, (k0_off136 v5) a + S1x1x1.size a ≤ S8x22x16.size a) ∧
  (∀ (k0_h2 : k0_cond2 v1 v3 = 1#1), ∀ a, (k0_off137 v5) a + S1x1x1.size a ≤ S8x22x16.size a) ∧
  (∀ (k0_h2 : k0_cond2 v1 v3 = 1#1), ∀ a, (k0_off138 v5) a + S1x1x1.size a ≤ S8x22x16.size a) ∧
  (∀ (k0_h2 : k0_cond2 v1 v3 = 1#1), ∀ a, (k0_off139 v5) a + S1x1x1.size a ≤ S8x22x16.size a) ∧
  (∀ (k0_h2 : k0_cond2 v1 v3 = 1#1), ∀ a, (k0_off140 v5) a + S1x1x1.size a ≤ S8x22x16.size a) ∧
  (∀ (k0_h2 : k0_cond2 v1 v3 = 1#1), ∀ a, (k0_off141 v5) a + S1x1x1.size a ≤ S8x22x16.size a) ∧
  (∀ (k0_h2 : k0_cond2 v1 v3 = 1#1), ∀ a, (k0_off142 v5) a + S1x1x1.size a ≤ S8x22x16.size a) ∧
  (∀ (k0_h2 : k0_cond2 v1 v3 = 1#1), ∀ a, (k0_off143 v5) a + S1x1x1.size a ≤ S8x22x16.size a) ∧
  (∀ (k0_h2 : k0_cond2 v1 v3 = 1#1), ∀ a, (k0_off144 v5) a + S1x1x1.size a ≤ S8x22x16.size a) ∧
  (∀ (k0_h2 : k0_cond2 v1 v3 = 1#1), ∀ a, (k0_off145 v5) a + S1x1x1.size a ≤ S8x22x16.size a) ∧
  (∀ (k0_h2 : k0_cond2 v1 v3 = 1#1), ∀ a, (k0_off146 v5) a + S1x1x1.size a ≤ S8x22x16.size a) ∧
  (∀ (k0_h2 : k0_cond2 v1 v3 = 1#1), ∀ a, (k0_off147 v5) a + S1x1x1.size a ≤ S8x22x16.size a) ∧
  (∀ (k0_h2 : k0_cond2 v1 v3 = 1#1), ∀ a, (k0_off148 v5) a + S1x1x1.size a ≤ S8x22x16.size a) ∧
  (∀ (k0_h2 : k0_cond2 v1 v3 = 1#1), ∀ a, (k0_off149 v5) a + S1x1x1.size a ≤ S8x22x16.size a) ∧
  (∀ (k0_h2 : k0_cond2 v1 v3 = 1#1), ∀ a, (k0_off150 v5) a + S1x1x1.size a ≤ S8x22x16.size a) ∧
  (∀ (k0_h2 : k0_cond2 v1 v3 = 1#1), ∀ a, (k0_off151 v5) a + S1x1x1.size a ≤ S8x22x16.size a) ∧
  (∀ (k0_h2 : k0_cond2 v1 v3 = 1#1), ∀ a, (k0_off152 v5) a + S1x1x1.size a ≤ S8x22x16.size a) ∧
  (∀ (k0_h2 : k0_cond2 v1 v3 = 1#1), ∀ a, (k0_off153 v5) a + S1x1x1.size a ≤ S8x22x16.size a) ∧
  (∀ (k0_h2 : k0_cond2 v1 v3 = 1#1), ∀ a, (k0_off154 v5) a + S1x1x1.size a ≤ S8x22x16.size a) ∧
  (∀ (k0_h2 : k0_cond2 v1 v3 = 1#1), ∀ a, (k0_off155 v5) a + S1x1x1.size a ≤ S8x22x16.size a) ∧
  (∀ (k0_h2 : k0_cond2 v1 v3 = 1#1), ∀ a, (k0_off156 v5) a + S1x1x1.size a ≤ S8x22x16.size a) ∧
  (∀ (k0_h2 : k0_cond2 v1 v3 = 1#1), ∀ a, (k0_off157 v5) a + S1x1x1.size a ≤ S8x22x16.size a) ∧
  (∀ (k0_h2 : k0_cond2 v1 v3 = 1#1), ∀ a, (k0_off158 v5) a + S1x1x1.size a ≤ S8x22x16.size a) ∧
  (∀ (k0_h2 : k0_cond2 v1 v3 = 1#1), ∀ a, (k0_off159 v5) a + S1x1x1.size a ≤ S8x22x16.size a) ∧
  (∀ (k0_h2 : k0_cond2 v1 v3 = 1#1), ∀ a, (k0_off160 v5) a + S1x1x1.size a ≤ S8x22x16.size a) ∧
  (∀ (k0_h2 : k0_cond2 v1 v3 = 1#1), ∀ a, (k0_off161 v5) a + S1x1x1.size a ≤ S8x22x16.size a) ∧
  (∀ (k0_h2 : k0_cond2 v1 v3 = 1#1), ∀ a, (k0_off162 v5) a + S1x1x1.size a ≤ S8x22x16.size a)
def k0_chk1_5 (v1 : BitVec 32) (v3 : BitVec 32) (v5 : BitVec 32) : Prop :=
  (∀ (k0_h2 : k0_cond2 v1 v3 = 1#1), ∀ a, (k0_off163 v5) a + S1x1x1.size a ≤ S8x22x16.size a) ∧
  (∀ (k0_h2 : k0_cond2 v1 v3 = 1#1), ∀ a, (k0_off164 v5) a + S1x1x1.size a ≤ S8x22x16.size a) ∧
  (∀ (k0_h2 : k0_cond2 v1 v3 = 1#1), ∀ a, (k0_off165 v5) a + S1x1x1.size a ≤ S8x22x16.size a) ∧
  (∀ (k0_h2 : k0_cond2 v1 v3 = 1#1), ∀ a, (k0_off166 v5) a + S1x1x1.size a ≤ S8x22x16.size a) ∧
  (∀ (k0_h2 : k0_cond2 v1 v3 = 1#1), ∀ a, (k0_off167 v5) a + S1x1x1.size a ≤ S8x22x16.size a) ∧
  (∀ (k0_h2 : k0_cond2 v1 v3 = 1#1), ∀ a, (k0_off168 v5) a + S1x1x1.size a ≤ S8x22x16.size a) ∧
  (∀ (k0_h2 : k0_cond2 v1 v3 = 1#1), ∀ a, (k0_off169 v5) a + S1x1x1.size a ≤ S8x22x16.size a) ∧
  (∀ (k0_h2 : k0_cond2 v1 v3 = 1#1), ∀ a, (k0_off170 v5) a + S1x1x1.size a ≤ S8x22x16.size a) ∧
  (∀ (k0_h2 : k0_cond2 v1 v3 = 1#1), ∀ a, (k0_off171 v5) a + S1x1x1.size a ≤ S8x22x16.size a) ∧
  (∀ (k0_h2 : k0_cond2 v1 v3 = 1#1), ∀ a, (k0_off172 v5) a + S1x1x1.size a ≤ S8x22x16.size a) ∧
  (∀ (k0_h2 : k0_cond2 v1 v3 = 1#1), ∀ a, (k0_off173 v5) a + S1x1x1.size a ≤ S8x22x16.size a) ∧
  (∀ (k0_h2 : k0_cond2 v1 v3 = 1#1), ∀ a, (k0_off174 v5) a + S1x1x1.size a ≤ S8x22x16.size a) ∧
  (∀ (k0_h2 : k0_cond2 v1 v3 = 1#1), ∀ a, (k0_off175 v5) a + S1x1x1.size a ≤ S8x22x16.size a) ∧
  (∀ (k0_h2 : k0_cond2 v1 v3 = 1#1), ∀ a, (k0_off176 v5) a + S1x1x1.size a ≤ S8x22x16.size a) ∧
  (∀ (k0_h2 : k0_cond2 v1 v3 = 1#1), ∀ a, (k0_off177 v5) a + S1x1x1.size a ≤ S8x22x16.size a) ∧
  (∀ (k0_h2 : k0_cond2 v1 v3 = 1#1), ∀ a, (k0_off178 v5) a + S1x1x1.size a ≤ S8x22x16.size a) ∧
  (∀ (k0_h2 : k0_cond2 v1 v3 = 1#1), ∀ a, (k0_off179 v5) a + S1x1x1.size a ≤ S8x22x16.size a) ∧
  (∀ (k0_h2 : k0_cond2 v1 v3 = 1#1), ∀ a, (k0_off180 v5) a + S1x1x1.size a ≤ S8x22x16.size a) ∧
  (∀ (k0_h2 : k0_cond2 v1 v3 = 1#1), ∀ a, (k0_off181 v5) a + S1x1x1.size a ≤ S8x22x16.size a) ∧
  (∀ (k0_h2 : k0_cond2 v1 v3 = 1#1), ∀ a, (k0_off182 v5) a + S1x1x1.size a ≤ S8x22x16.size a) ∧
  (∀ (k0_h2 : k0_cond2 v1 v3 = 1#1), ∀ a, (k0_off183 v5) a + S1x1x1.size a ≤ S8x22x16.size a) ∧
  (∀ (k0_h2 : k0_cond2 v1 v3 = 1#1), ∀ a, (k0_off184 v5) a + S1x1x1.size a ≤ S8x22x16.size a) ∧
  (∀ (k0_h2 : k0_cond2 v1 v3 = 1#1), ∀ a, (k0_off185 v5) a + S1x1x1.size a ≤ S8x22x16.size a) ∧
  (∀ (k0_h2 : k0_cond2 v1 v3 = 1#1), ∀ a, (k0_off186 v5) a + S1x1x1.size a ≤ S8x22x16.size a) ∧
  (∀ (k0_h2 : k0_cond2 v1 v3 = 1#1), ∀ a, (k0_off187 v5) a + S1x1x1.size a ≤ S8x22x16.size a) ∧
  (∀ (k0_h2 : k0_cond2 v1 v3 = 1#1), ∀ a, (k0_off188 v5) a + S1x1x1.size a ≤ S8x22x16.size a) ∧
  (∀ (k0_h2 : k0_cond2 v1 v3 = 1#1), ∀ a, (k0_off189 v5) a + S1x1x1.size a ≤ S8x22x16.size a) ∧
  (∀ (k0_h2 : k0_cond2 v1 v3 = 1#1), ∀ a, (k0_off190 v5) a + S1x1x1.size a ≤ S8x22x16.size a) ∧
  (∀ (k0_h2 : k0_cond2 v1 v3 = 1#1), ∀ a, (k0_off191 v5) a + S1x1x1.size a ≤ S8x22x16.size a) ∧
  (∀ (k0_h2 : k0_cond2 v1 v3 = 1#1), ∀ a, (k0_off192 v5) a + S1x1x1.size a ≤ S8x22x16.size a) ∧
  (∀ (k0_h2 : k0_cond2 v1 v3 = 1#1), ∀ a, (k0_off193 v5) a + S1x1x1.size a ≤ S8x22x16.size a) ∧
  (∀ (k0_h2 : k0_cond2 v1 v3 = 1#1), ∀ a, (k0_off194 v5) a + S1x1x1.size a ≤ S8x22x16.size a)
def k0_chk1_6 (v1 : BitVec 32) (v3 : BitVec 32) (v5 : BitVec 32) : Prop :=
  (∀ (k0_h2 : k0_cond2 v1 v3 = 1#1), ∀ a, (k0_off195 v5) a + S1x1x1.size a ≤ S8x22x16.size a) ∧
  (∀ (k0_h2 : k0_cond2 v1 v3 = 1#1), ∀ a, (k0_off196 v5) a + S1x1x1.size a ≤ S8x22x16.size a) ∧
  (∀ (k0_h2 : k0_cond2 v1 v3 = 1#1), ∀ a, (k0_off197 v5) a + S1x1x1.size a ≤ S8x22x16.size a) ∧
  (∀ (k0_h2 : k0_cond2 v1 v3 = 1#1), ∀ a, (k0_off198 v5) a + S1x1x1.size a ≤ S8x22x16.size a) ∧
  (∀ (k0_h2 : k0_cond2 v1 v3 = 1#1), ∀ a, (k0_off199 v5) a + S1x1x1.size a ≤ S8x22x16.size a) ∧
  (∀ (k0_h2 : k0_cond2 v1 v3 = 1#1), ∀ a, (k0_off200 v5) a + S1x1x1.size a ≤ S8x22x16.size a) ∧
  (∀ (k0_h2 : k0_cond2 v1 v3 = 1#1), ∀ a, (k0_off201 v5) a + S1x1x1.size a ≤ S8x22x16.size a) ∧
  (∀ (k0_h2 : k0_cond2 v1 v3 = 1#1), ∀ a, (k0_off202 v5) a + S1x1x1.size a ≤ S8x22x16.size a) ∧
  (∀ (k0_h2 : k0_cond2 v1 v3 = 1#1), ∀ a, (k0_off203 v5) a + S1x1x1.size a ≤ S8x22x16.size a) ∧
  (∀ (k0_h2 : k0_cond2 v1 v3 = 1#1), ∀ a, (k0_off204 v5) a + S1x1x1.size a ≤ S8x22x16.size a) ∧
  (∀ (k0_h2 : k0_cond2 v1 v3 = 1#1), ∀ a, (k0_off205 v5) a + S1x1x1.size a ≤ S8x22x16.size a) ∧
  (∀ (k0_h2 : k0_cond2 v1 v3 = 1#1), ∀ a, (k0_off206 v5) a + S1x1x1.size a ≤ S8x22x16.size a) ∧
  (∀ (k0_h2 : k0_cond2 v1 v3 = 1#1), ∀ a, (k0_off207 v5) a + S1x1x1.size a ≤ S8x22x16.size a) ∧
  (∀ (k0_h2 : k0_cond2 v1 v3 = 1#1), ∀ a, (k0_off208 v5) a + S1x1x1.size a ≤ S8x22x16.size a) ∧
  (∀ (k0_h2 : k0_cond2 v1 v3 = 1#1), ∀ a, (k0_off209 v5) a + S1x1x1.size a ≤ S8x22x16.size a) ∧
  (∀ (k0_h2 : k0_cond2 v1 v3 = 1#1), ∀ a, (k0_off210 v5) a + S1x1x1.size a ≤ S8x22x16.size a) ∧
  (∀ (k0_h2 : k0_cond2 v1 v3 = 1#1), ∀ a, (k0_off211 v5) a + S1x1x1.size a ≤ S8x22x16.size a) ∧
  (∀ (k0_h2 : k0_cond2 v1 v3 = 1#1), ∀ a, (k0_off212 v5) a + S1x1x1.size a ≤ S8x22x16.size a) ∧
  (∀ (k0_h2 : k0_cond2 v1 v3 = 1#1), ∀ a, (k0_off213 v5) a + S1x1x1.size a ≤ S8x22x16.size a) ∧
  (∀ (k0_h2 : k0_cond2 v1 v3 = 1#1), ∀ a, (k0_off214 v5) a + S1x1x1.size a ≤ S8x22x16.size a) ∧
  (∀ (k0_h2 : k0_cond2 v1 v3 = 1#1), ∀ a, (k0_off215 v5) a + S1x1x1.size a ≤ S8x22x16.size a) ∧
  (∀ (k0_h2 : k0_cond2 v1 v3 = 1#1), ∀ a, (k0_off216 v5) a + S1x1x1.size a ≤ S8x22x16.size a) ∧
  (∀ (k0_h2 : k0_cond2 v1 v3 = 1#1), ∀ a, (k0_off217 v5) a + S1x1x1.size a ≤ S8x22x16.size a) ∧
  (∀ (k0_h2 : k0_cond2 v1 v3 = 1#1), ∀ a, (k0_off218 v5) a + S1x1x1.size a ≤ S8x22x16.size a) ∧
  (∀ (k0_h2 : k0_cond2 v1 v3 = 1#1), ∀ a, (k0_off219 v5) a + S1x1x1.size a ≤ S8x22x16.size a) ∧
  (∀ (k0_h2 : k0_cond2 v1 v3 = 1#1), ∀ a, (k0_off220 v5) a + S1x1x1.size a ≤ S8x22x16.size a) ∧
  (∀ (k0_h2 : k0_cond2 v1 v3 = 1#1), ∀ a, (k0_off221 v5) a + S1x1x1.size a ≤ S8x22x16.size a) ∧
  (∀ (k0_h2 : k0_cond2 v1 v3 = 1#1), ∀ a, (k0_off222 v5) a + S1x1x1.size a ≤ S8x22x16.size a) ∧
  (∀ (k0_h2 : k0_cond2 v1 v3 = 1#1), ∀ a, (k0_off223 v5) a + S1x1x1.size a ≤ S8x22x16.size a) ∧
  (∀ (k0_h2 : k0_cond2 v1 v3 = 1#1), ∀ a, (k0_off224 v5) a + S1x1x1.size a ≤ S8x22x16.size a) ∧
  (∀ (k0_h2 : k0_cond2 v1 v3 = 1#1), ∀ a, (k0_off225 v5) a + S1x1x1.size a ≤ S8x22x16.size a) ∧
  (∀ (k0_h2 : k0_cond2 v1 v3 = 1#1), ∀ a, (k0_off226 v5) a + S1x1x1.size a ≤ S8x22x16.size a)
def k0_chk1_7 (v1 : BitVec 32) (v3 : BitVec 32) (v5 : BitVec 32) : Prop :=
  (∀ (k0_h2 : k0_cond2 v1 v3 = 1#1), ∀ a, (k0_off227 v5) a + S1x1x1.size a ≤ S8x22x16.size a) ∧
  (∀ (k0_h2 : k0_cond2 v1 v3 = 1#1), ∀ a, (k0_off228 v5) a + S1x1x1.size a ≤ S8x22x16.size a) ∧
  (∀ (k0_h2 : k0_cond2 v1 v3 = 1#1), ∀ a, (k0_off229 v5) a + S1x1x1.size a ≤ S8x22x16.size a) ∧
  (∀ (k0_h2 : k0_cond2 v1 v3 = 1#1), ∀ a, (k0_off230 v5) a + S1x1x1.size a ≤ S8x22x16.size a) ∧
  (∀ (k0_h2 : k0_cond2 v1 v3 = 1#1), ∀ a, (k0_off231 v5) a + S1x1x1.size a ≤ S8x22x16.size a) ∧
  (∀ (k0_h2 : k0_cond2 v1 v3 = 1#1), ∀ a, (k0_off232 v5) a + S1x1x1.size a ≤ S8x22x16.size a) ∧
  (∀ (k0_h2 : k0_cond2 v1 v3 = 1#1), ∀ a, (k0_off233 v5) a + S1x1x1.size a ≤ S8x22x16.size a) ∧
  (∀ (k0_h2 : k0_cond2 v1 v3 = 1#1), ∀ a, (k0_off234 v5) a + S1x1x1.size a ≤ S8x22x16.size a) ∧
  (∀ (k0_h2 : k0_cond2 v1 v3 = 1#1), ∀ a, (k0_off235 v5) a + S1x1x1.size a ≤ S8x22x16.size a) ∧
  (∀ (k0_h2 : k0_cond2 v1 v3 = 1#1), ∀ a, (k0_off236 v5) a + S1x1x1.size a ≤ S8x22x16.size a) ∧
  (∀ (k0_h2 : k0_cond2 v1 v3 = 1#1), ∀ a, (k0_off237 v5) a + S1x1x1.size a ≤ S8x22x16.size a) ∧
  (∀ (k0_h2 : k0_cond2 v1 v3 = 1#1), ∀ a, (k0_off238 v5) a + S1x1x1.size a ≤ S8x22x16.size a) ∧
  (∀ (k0_h2 : k0_cond2 v1 v3 = 1#1), ∀ a, (k0_off239 v5) a + S1x1x1.size a ≤ S8x22x16.size a) ∧
  (∀ (k0_h2 : k0_cond2 v1 v3 = 1#1), ∀ a, (k0_off240 v5) a + S1x1x1.size a ≤ S8x22x16.size a) ∧
  (∀ (k0_h2 : k0_cond2 v1 v3 = 1#1), ∀ a, (k0_off241 v5) a + S1x1x1.size a ≤ S8x22x16.size a) ∧
  (∀ (k0_h2 : k0_cond2 v1 v3 = 1#1), ∀ a, (k0_off242 v5) a + S1x1x1.size a ≤ S8x22x16.size a) ∧
  (∀ (k0_h2 : k0_cond2 v1 v3 = 1#1), ∀ a, (k0_off243 v5) a + S1x1x1.size a ≤ S8x22x16.size a) ∧
  (∀ (k0_h2 : k0_cond2 v1 v3 = 1#1), ∀ a, (k0_off244 v5) a + S1x1x1.size a ≤ S8x22x16.size a) ∧
  (∀ (k0_h2 : k0_cond2 v1 v3 = 1#1), ∀ a, (k0_off245 v5) a + S1x1x1.size a ≤ S8x22x16.size a) ∧
  (∀ (k0_h2 : k0_cond2 v1 v3 = 1#1), ∀ a, (k0_off246 v5) a + S1x1x1.size a ≤ S8x22x16.size a) ∧
  (∀ (k0_h2 : k0_cond2 v1 v3 = 1#1), ∀ a, (k0_off247 v5) a + S1x1x1.size a ≤ S8x22x16.size a) ∧
  (∀ (k0_h2 : k0_cond2 v1 v3 = 1#1), ∀ a, (k0_off248 v5) a + S1x1x1.size a ≤ S8x22x16.size a) ∧
  (∀ (k0_h2 : k0_cond2 v1 v3 = 1#1), ∀ a, (k0_off249 v5) a + S1x1x1.size a ≤ S8x22x16.size a) ∧
  (∀ (k0_h2 : k0_cond2 v1 v3 = 1#1), ∀ a, (k0_off250 v5) a + S1x1x1.size a ≤ S8x22x16.size a) ∧
  (∀ (k0_h2 : k0_cond2 v1 v3 = 1#1), ∀ a, (k0_off251 v5) a + S1x1x1.size a ≤ S8x22x16.size a) ∧
  (∀ (k0_h2 : k0_cond2 v1 v3 = 1#1), ∀ a, (k0_off252 v5) a + S1x1x1.size a ≤ S8x22x16.size a) ∧
  (∀ (k0_h2 : k0_cond2 v1 v3 = 1#1), ∀ a, (k0_off253 v5) a + S1x1x1.size a ≤ S8x22x16.size a) ∧
  (∀ (k0_h2 : k0_cond2 v1 v3 = 1#1), ∀ a, (k0_off254 v5) a + S1x1x1.size a ≤ S8x22x16.size a) ∧
  (∀ (k0_h2 : k0_cond2 v1 v3 = 1#1), ∀ a, (k0_off255 v5) a + S1x1x1.size a ≤ S8x22x16.size a) ∧
  (∀ (k0_h2 : k0_cond2 v1 v3 = 1#1), ∀ a, (k0_off256 v5) a + S1x1x1.size a ≤ S8x22x16.size a) ∧
  (∀ (k0_h2 : k0_cond2 v1 v3 = 1#1), ∀ a, (k0_off257 v5) a + S1x1x1.size a ≤ S8x22x16.size a) ∧
  (∀ (k0_h2 : k0_cond2 v1 v3 = 1#1), ∀ a, (k0_off258 v5) a + S1x1x1.size a ≤ S8x22x16.size a)
def k0_chk1_8 (v1 : BitVec 32) (v3 : BitVec 32) (v5 : BitVec 32) : Prop :=
  (∀ (k0_h2 : k0_cond2 v1 v3 = 1#1), ∀ a, (k0_off259 v5) a + S1x1x1.size a ≤ S8x22x16.size a) ∧
  (∀ (k0_h2 : k0_cond2 v1 v3 = 1#1), ∀ a, (k0_off260 v5) a + S1x1x1.size a ≤ S8x22x16.size a) ∧
  (∀ (k0_h2 : k0_cond2 v1 v3 = 1#1), ∀ a, (k0_off261 v5) a + S1x1x1.size a ≤ S8x22x16.size a) ∧
  (∀ (k0_h2 : k0_cond2 v1 v3 = 1#1), ∀ a, (k0_off262 v5) a + S1x1x1.size a ≤ S8x22x16.size a) ∧
  (∀ (k0_h2 : k0_cond2 v1 v3 = 1#1), ∀ a, (k0_off263 v5) a + S1x1x1.size a ≤ S8x22x16.size a) ∧
  (∀ (k0_h2 : k0_cond2 v1 v3 = 1#1), ∀ a, (k0_off264 v5) a + S1x1x1.size a ≤ S8x22x16.size a) ∧
  (∀ (k0_h2 : k0_cond2 v1 v3 = 1#1), ∀ a, (k0_off265 v5) a + S1x1x1.size a ≤ S8x22x16.size a) ∧
  (∀ (k0_h2 : k0_cond2 v1 v3 = 1#1), ∀ a, (k0_off266 v5) a + S1x1x1.size a ≤ S8x22x16.size a) ∧
  (∀ (k0_h2 : k0_cond2 v1 v3 = 1#1), ∀ a, (k0_off267 v5) a + S1x1x1.size a ≤ S8x22x16.size a) ∧
  (∀ (k0_h2 : k0_cond2 v1 v3 = 1#1), ∀ a, (k0_off268 v5) a + S1x1x1.size a ≤ S8x22x16.size a) ∧
  (∀ (k0_h2 : k0_cond2 v1 v3 = 1#1), ∀ a, (k0_off269 v5) a + S1x1x1.size a ≤ S8x22x16.size a) ∧
  (∀ (k0_h2 : k0_cond2 v1 v3 = 1#1), ∀ a, (k0_off270 v5) a + S1x1x1.size a ≤ S8x22x16.size a) ∧
  (∀ (k0_h2 : k0_cond2 v1 v3 = 1#1), ∀ a, (k0_off271 v5) a + S1x1x1.size a ≤ S8x22x16.size a) ∧
  (∀ (k0_h2 : k0_cond2 v1 v3 = 1#1), ∀ a, (k0_off272 v5) a + S1x1x1.size a ≤ S8x22x16.size a) ∧
  (∀ (k0_h2 : k0_cond2 v1 v3 = 1#1), ∀ a, (k0_off273 v5) a + S1x1x1.size a ≤ S8x22x16.size a) ∧
  (∀ (k0_h2 : k0_cond2 v1 v3 = 1#1), ∀ a, (k0_off274 v5) a + S1x1x1.size a ≤ S8x22x16.size a) ∧
  (∀ (k0_h2 : k0_cond2 v1 v3 = 1#1), ∀ a, (k0_off275 v5) a + S1x1x1.size a ≤ S8x22x16.size a) ∧
  (∀ (k0_h2 : k0_cond2 v1 v3 = 1#1), ∀ a, (k0_off276 v5) a + S1x1x1.size a ≤ S8x22x16.size a) ∧
  (∀ (k0_h2 : k0_cond2 v1 v3 = 1#1), ∀ a, (k0_off277 v5) a + S1x1x1.size a ≤ S8x22x16.size a) ∧
  (∀ (k0_h2 : k0_cond2 v1 v3 = 1#1), ∀ a, (k0_off278 v5) a + S1x1x1.size a ≤ S8x22x16.size a) ∧
  (∀ (k0_h2 : k0_cond2 v1 v3 = 1#1), ∀ a, (k0_off279 v5) a + S1x1x1.size a ≤ S8x22x16.size a) ∧
  (∀ (k0_h2 : k0_cond2 v1 v3 = 1#1), ∀ a, (k0_off280 v5) a + S1x1x1.size a ≤ S8x22x16.size a) ∧
  (∀ (k0_h2 : k0_cond2 v1 v3 = 1#1), ∀ a, (k0_off281 v5) a + S1x1x1.size a ≤ S8x22x16.size a) ∧
  (∀ (k0_h2 : k0_cond2 v1 v3 = 1#1), ∀ a, (k0_off282 v5) a + S1x1x1.size a ≤ S8x22x16.size a) ∧
  (∀ (k0_h2 : k0_cond2 v1 v3 = 1#1), ∀ a, (k0_off283 v5) a + S1x1x1.size a ≤ S8x22x16.size a) ∧
  (∀ (k0_h2 : k0_cond2 v1 v3 = 1#1), ∀ a, (k0_off284 v5) a + S1x1x1.size a ≤ S8x22x16.size a) ∧
  (∀ (k0_h2 : k0_cond2 v1 v3 = 1#1), ∀ a, (k0_off285 v5) a + S1x1x1.size a ≤ S8x22x16.size a) ∧
  (∀ (k0_h2 : k0_cond2 v1 v3 = 1#1), ∀ a, (k0_off286 v5) a + S1x1x1.size a ≤ S8x22x16.size a) ∧
  (∀ (k0_h2 : k0_cond2 v1 v3 = 1#1), ∀ a, (k0_off287 v5) a + S1x1x1.size a ≤ S8x22x16.size a) ∧
  (∀ (k0_h2 : k0_cond2 v1 v3 = 1#1), ∀ a, (k0_off288 v5) a + S1x1x1.size a ≤ S8x22x16.size a) ∧
  (∀ (k0_h2 : k0_cond2 v1 v3 = 1#1), ∀ a, (k0_off289 v5) a + S1x1x1.size a ≤ S8x22x16.size a) ∧
  (∀ (k0_h2 : k0_cond2 v1 v3 = 1#1), ∀ a, (k0_off290 v5) a + S1x1x1.size a ≤ S8x22x16.size a)
def k0_chk1_9 (v1 : BitVec 32) (v3 : BitVec 32) (v5 : BitVec 32) : Prop :=
  (∀ (k0_h2 : k0_cond2 v1 v3 = 1#1), ∀ a, (k0_off291 v5) a + S1x1x1.size a ≤ S8x22x16.size a) ∧
  (∀ (k0_h2 : k0_cond2 v1 v3 = 1#1), ∀ a, (k0_off292 v5) a + S1x1x1.size a ≤ S8x22x16.size a) ∧
  (∀ (k0_h2 : k0_cond2 v1 v3 = 1#1), ∀ a, (k0_off293 v5) a + S1x1x1.size a ≤ S8x22x16.size a) ∧
  (∀ (k0_h2 : k0_cond2 v1 v3 = 1#1), ∀ a, (k0_off294 v5) a + S1x1x1.size a ≤ S8x22x16.size a) ∧
  (∀ (k0_h2 : k0_cond2 v1 v3 = 1#1), ∀ a, (k0_off295 v5) a + S1x1x1.size a ≤ S8x22x16.size a) ∧
  (∀ (k0_h2 : k0_cond2 v1 v3 = 1#1), ∀ a, (k0_off296 v5) a + S1x1x1.size a ≤ S8x22x16.size a) ∧
  (∀ (k0_h2 : k0_cond2 v1 v3 = 1#1), ∀ a, (k0_off297 v5) a + S1x1x1.size a ≤ S8x22x16.size a) ∧
  (∀ (k0_h2 : k0_cond2 v1 v3 = 1#1), ∀ a, (k0_off298 v5) a + S1x1x1.size a ≤ S8x22x16.size a) ∧
  (∀ (k0_h2 : k0_cond2 v1 v3 = 1#1), ∀ a, (k0_off299 v5) a + S1x1x1.size a ≤ S8x22x16.size a) ∧
  (∀ (k0_h2 : k0_cond2 v1 v3 = 1#1), ∀ a, (k0_off300 v5) a + S1x1x1.size a ≤ S8x22x16.size a) ∧
  (∀ (k0_h2 : k0_cond2 v1 v3 = 1#1), ∀ a, (k0_off301 v5) a + S1x1x1.size a ≤ S8x22x16.size a) ∧
  (∀ (k0_h2 : k0_cond2 v1 v3 = 1#1), ∀ a, (k0_off302 v5) a + S1x1x1.size a ≤ S8x22x16.size a) ∧
  (∀ (k0_h2 : k0_cond2 v1 v3 = 1#1), ∀ a, (k0_off303 v5) a + S1x1x1.size a ≤ S8x22x16.size a) ∧
  (∀ (k0_h2 : k0_cond2 v1 v3 = 1#1), ∀ a, (k0_off304 v5) a + S1x1x1.size a ≤ S8x22x16.size a) ∧
  (∀ (k0_h2 : k0_cond2 v1 v3 = 1#1), ∀ a, (k0_off305 v5) a + S1x1x1.size a ≤ S8x22x16.size a) ∧
  (∀ (k0_h2 : k0_cond2 v1 v3 = 1#1), ∀ a, (k0_off306 v5) a + S1x1x1.size a ≤ S8x22x16.size a) ∧
  (∀ (k0_h2 : k0_cond2 v1 v3 = 1#1), ∀ a, (k0_off307 v5) a + S1x1x1.size a ≤ S8x22x16.size a) ∧
  (∀ (k0_h2 : k0_cond2 v1 v3 = 1#1), ∀ a, (k0_off308 v5) a + S1x1x1.size a ≤ S8x22x16.size a) ∧
  (∀ (k0_h2 : k0_cond2 v1 v3 = 1#1), ∀ a, (k0_off309 v5) a + S1x1x1.size a ≤ S8x22x16.size a) ∧
  (∀ (k0_h2 : k0_cond2 v1 v3 = 1#1), ∀ a, (k0_off310 v5) a + S1x1x1.size a ≤ S8x22x16.size a) ∧
  (∀ (k0_h2 : k0_cond2 v1 v3 = 1#1), ∀ a, (k0_off311 v5) a + S1x1x1.size a ≤ S8x22x16.size a) ∧
  (∀ (k0_h2 : k0_cond2 v1 v3 = 1#1), ∀ a, (k0_off312 v5) a + S1x1x1.size a ≤ S8x22x16.size a) ∧
  (∀ (k0_h2 : k0_cond2 v1 v3 = 1#1), ∀ a, (k0_off313 v5) a + S1x1x1.size a ≤ S8x22x16.size a) ∧
  (∀ (k0_h2 : k0_cond2 v1 v3 = 1#1), ∀ a, (k0_off314 v5) a + S1x1x1.size a ≤ S8x22x16.size a) ∧
  (∀ (k0_h2 : k0_cond2 v1 v3 = 1#1), ∀ a, (k0_off315 v5) a + S1x1x1.size a ≤ S8x22x16.size a) ∧
  (∀ (k0_h2 : k0_cond2 v1 v3 = 1#1), ∀ a, (k0_off316 v5) a + S1x1x1.size a ≤ S8x22x16.size a) ∧
  (∀ (k0_h2 : k0_cond2 v1 v3 = 1#1), ∀ a, (k0_off317 v5) a + S1x1x1.size a ≤ S8x22x16.size a) ∧
  (∀ (k0_h2 : k0_cond2 v1 v3 = 1#1), ∀ a, (k0_off318 v5) a + S1x1x1.size a ≤ S8x22x16.size a) ∧
  (∀ (k0_h2 : k0_cond2 v1 v3 = 1#1), ∀ a, (k0_off319 v5) a + S1x1x1.size a ≤ S8x22x16.size a) ∧
  (∀ (k0_h2 : k0_cond2 v1 v3 = 1#1), ∀ a, (k0_off320 v5) a + S1x1x1.size a ≤ S8x22x16.size a) ∧
  (∀ (k0_h2 : k0_cond2 v1 v3 = 1#1), ∀ a, (k0_off321 v5) a + S1x1x1.size a ≤ S8x22x16.size a) ∧
  (∀ (k0_h2 : k0_cond2 v1 v3 = 1#1), ∀ a, (k0_off322 v5) a + S1x1x1.size a ≤ S8x22x16.size a)
def k0_chk1_10 (v1 : BitVec 32) (v3 : BitVec 32) (v5 : BitVec 32) : Prop :=
  (∀ (k0_h2 : k0_cond2 v1 v3 = 1#1), ∀ a, (k0_off323 v5) a + S1x1x1.size a ≤ S8x22x16.size a) ∧
  (∀ (k0_h2 : k0_cond2 v1 v3 = 1#1), ∀ a, (k0_off324 v5) a + S1x1x1.size a ≤ S8x22x16.size a) ∧
  (∀ (k0_h2 : k0_cond2 v1 v3 = 1#1), ∀ a, (k0_off325 v5) a + S1x1x1.size a ≤ S8x22x16.size a) ∧
  (∀ (k0_h2 : k0_cond2 v1 v3 = 1#1), ∀ a, (k0_off326 v5) a + S1x1x1.size a ≤ S8x22x16.size a) ∧
  (∀ (k0_h2 : k0_cond2 v1 v3 = 1#1), ∀ a, (k0_off327 v5) a + S1x1x1.size a ≤ S8x22x16.size a) ∧
  (∀ (k0_h2 : k0_cond2 v1 v3 = 1#1), ∀ a, (k0_off328 v5) a + S1x1x1.size a ≤ S8x22x16.size a) ∧
  (∀ (k0_h2 : k0_cond2 v1 v3 = 1#1), ∀ a, (k0_off329 v5) a + S1x1x1.size a ≤ S8x22x16.size a) ∧
  (∀ (k0_h2 : k0_cond2 v1 v3 = 1#1), ∀ a, (k0_off330 v5) a + S1x1x1.size a ≤ S8x22x16.size a) ∧
  (∀ (k0_h2 : k0_cond2 v1 v3 = 1#1), ∀ a, (k0_off331 v5) a + S1x1x1.size a ≤ S8x22x16.size a) ∧
  (∀ (k0_h2 : k0_cond2 v1 v3 = 1#1), ∀ a, (k0_off332 v5) a + S1x1x1.size a ≤ S8x22x16.size a) ∧
  (∀ (k0_h2 : k0_cond2 v1 v3 = 1#1), ∀ a, (k0_off333 v5) a + S1x1x1.size a ≤ S8x22x16.size a) ∧
  (∀ (k0_h2 : k0_cond2 v1 v3 = 1#1), ∀ a, (k0_off334 v5) a + S1x1x1.size a ≤ S8x22x16.size a) ∧
  (∀ (k0_h2 : k0_cond2 v1 v3 = 1#1), ∀ a, (k0_off335 v5) a + S1x1x1.size a ≤ S8x22x16.size a) ∧
  (∀ (k0_h2 : k0_cond2 v1 v3 = 1#1), ∀ a, (k0_off336 v5) a + S1x1x1.size a ≤ S8x22x16.size a) ∧
  (∀ (k0_h2 : k0_cond2 v1 v3 = 1#1), ∀ a, (k0_off337 v5) a + S1x1x1.size a ≤ S8x22x16.size a) ∧
  (∀ (k0_h2 : k0_cond2 v1 v3 = 1#1), ∀ a, (k0_off338 v5) a + S1x1x1.size a ≤ S8x22x16.size a) ∧
  (∀ (k0_h2 : k0_cond2 v1 v3 = 1#1), ∀ a, (k0_off339 v5) a + S1x1x1.size a ≤ S8x22x16.size a) ∧
  (∀ (k0_h2 : k0_cond2 v1 v3 = 1#1), ∀ a, (k0_off340 v5) a + S1x1x1.size a ≤ S8x22x16.size a) ∧
  (∀ (k0_h2 : k0_cond2 v1 v3 = 1#1), ∀ a, (k0_off341 v5) a + S1x1x1.size a ≤ S8x22x16.size a) ∧
  (∀ (k0_h2 : k0_cond2 v1 v3 = 1#1), ∀ a, (k0_off342 v5) a + S1x1x1.size a ≤ S8x22x16.size a) ∧
  (∀ (k0_h2 : k0_cond2 v1 v3 = 1#1), ∀ a, (k0_off343 v5) a + S1x1x1.size a ≤ S8x22x16.size a) ∧
  (∀ (k0_h2 : k0_cond2 v1 v3 = 1#1), ∀ a, (k0_off344 v5) a + S1x1x1.size a ≤ S8x22x16.size a) ∧
  (∀ (k0_h2 : k0_cond2 v1 v3 = 1#1), ∀ a, (k0_off345 v5) a + S1x1x1.size a ≤ S8x22x16.size a) ∧
  (∀ (k0_h2 : k0_cond2 v1 v3 = 1#1), ∀ a, (k0_off346 v5) a + S1x1x1.size a ≤ S8x22x16.size a) ∧
  (∀ (k0_h2 : k0_cond2 v1 v3 = 1#1), ∀ a, (k0_off347 v5) a + S1x1x1.size a ≤ S8x22x16.size a) ∧
  (∀ (k0_h2 : k0_cond2 v1 v3 = 1#1), ∀ a, (k0_off348 v5) a + S1x1x1.size a ≤ S8x22x16.size a) ∧
  (∀ (k0_h2 : k0_cond2 v1 v3 = 1#1), ∀ a, (k0_off349 v5) a + S1x1x1.size a ≤ S8x22x16.size a) ∧
  (∀ (k0_h2 : k0_cond2 v1 v3 = 1#1), ∀ a, (k0_off350 v5) a + S1x1x1.size a ≤ S8x22x16.size a) ∧
  (∀ (k0_h2 : k0_cond2 v1 v3 = 1#1), ∀ a, (k0_off351 v5) a + S1x1x1.size a ≤ S8x22x16.size a) ∧
  (∀ (k0_h2 : k0_cond2 v1 v3 = 1#1), ∀ a, (k0_off352 v5) a + S1x1x1.size a ≤ S8x22x16.size a) ∧
  (∀ (k0_h2 : k0_cond2 v1 v3 = 1#1), ∀ a, (k0_off353 v5) a + S1x1x1.size a ≤ S8x22x16.size a) ∧
  (∀ (k0_h2 : k0_cond2 v1 v3 = 1#1), ∀ a, (k0_off354 v5) a + S1x1x1.size a ≤ S8x22x16.size a)
def k0_chk1 (v1 : BitVec 32) (v3 : BitVec 32) (v5 : BitVec 32) : Prop :=
  k0_chk1_0 v1 v3 v5 ∧
  k0_chk1_1 v1 v3 v5 ∧
  k0_chk1_2 v1 v3 v5 ∧
  k0_chk1_3 v1 v3 v5 ∧
  k0_chk1_4 v1 v3 v5 ∧
  k0_chk1_5 v1 v3 v5 ∧
  k0_chk1_6 v1 v3 v5 ∧
  k0_chk1_7 v1 v3 v5 ∧
  k0_chk1_8 v1 v3 v5 ∧
  k0_chk1_9 v1 v3 v5 ∧
  k0_chk1_10 v1 v3 v5
theorem k0_off3_inb : ∀ (v1 : BitVec 32) (v3 : BitVec 32) (v5 : BitVec 32) (k0_hw1 : k0_chk1 v1 v3 v5), ∀ (k0_h2 : k0_cond2 v1 v3 = 1#1), ∀ a, (k0_off3 v5) a + S1x1x1.size a ≤ S8x22x16.size a := fun v1 v3 v5 k0_hw1 k0_h2 => k0_hw1.1.1 k0_h2
theorem k0_off4_inb : ∀ (v1 : BitVec 32) (v3 : BitVec 32) (v5 : BitVec 32) (k0_hw1 : k0_chk1 v1 v3 v5), ∀ (k0_h2 : k0_cond2 v1 v3 = 1#1), ∀ a, (k0_off4 v5) a + S1x1x1.size a ≤ S8x22x16.size a := fun v1 v3 v5 k0_hw1 k0_h2 => k0_hw1.1.2.1 k0_h2
theorem k0_off5_inb : ∀ (v1 : BitVec 32) (v3 : BitVec 32) (v5 : BitVec 32) (k0_hw1 : k0_chk1 v1 v3 v5), ∀ (k0_h2 : k0_cond2 v1 v3 = 1#1), ∀ a, (k0_off5 v5) a + S1x1x1.size a ≤ S8x22x16.size a := fun v1 v3 v5 k0_hw1 k0_h2 => k0_hw1.1.2.2.1 k0_h2
theorem k0_off6_inb : ∀ (v1 : BitVec 32) (v3 : BitVec 32) (v5 : BitVec 32) (k0_hw1 : k0_chk1 v1 v3 v5), ∀ (k0_h2 : k0_cond2 v1 v3 = 1#1), ∀ a, (k0_off6 v5) a + S1x1x1.size a ≤ S8x22x16.size a := fun v1 v3 v5 k0_hw1 k0_h2 => k0_hw1.1.2.2.2.1 k0_h2
theorem k0_off7_inb : ∀ (v1 : BitVec 32) (v3 : BitVec 32) (v5 : BitVec 32) (k0_hw1 : k0_chk1 v1 v3 v5), ∀ (k0_h2 : k0_cond2 v1 v3 = 1#1), ∀ a, (k0_off7 v5) a + S1x1x1.size a ≤ S8x22x16.size a := fun v1 v3 v5 k0_hw1 k0_h2 => k0_hw1.1.2.2.2.2.1 k0_h2
theorem k0_off8_inb : ∀ (v1 : BitVec 32) (v3 : BitVec 32) (v5 : BitVec 32) (k0_hw1 : k0_chk1 v1 v3 v5), ∀ (k0_h2 : k0_cond2 v1 v3 = 1#1), ∀ a, (k0_off8 v5) a + S1x1x1.size a ≤ S8x22x16.size a := fun v1 v3 v5 k0_hw1 k0_h2 => k0_hw1.1.2.2.2.2.2.1 k0_h2
theorem k0_off9_inb : ∀ (v1 : BitVec 32) (v3 : BitVec 32) (v5 : BitVec 32) (k0_hw1 : k0_chk1 v1 v3 v5), ∀ (k0_h2 : k0_cond2 v1 v3 = 1#1), ∀ a, (k0_off9 v5) a + S1x1x1.size a ≤ S8x22x16.size a := fun v1 v3 v5 k0_hw1 k0_h2 => k0_hw1.1.2.2.2.2.2.2.1 k0_h2
theorem k0_off10_inb : ∀ (v1 : BitVec 32) (v3 : BitVec 32) (v5 : BitVec 32) (k0_hw1 : k0_chk1 v1 v3 v5), ∀ (k0_h2 : k0_cond2 v1 v3 = 1#1), ∀ a, (k0_off10 v5) a + S1x1x1.size a ≤ S8x22x16.size a := fun v1 v3 v5 k0_hw1 k0_h2 => k0_hw1.1.2.2.2.2.2.2.2.1 k0_h2
theorem k0_off11_inb : ∀ (v1 : BitVec 32) (v3 : BitVec 32) (v5 : BitVec 32) (k0_hw1 : k0_chk1 v1 v3 v5), ∀ (k0_h2 : k0_cond2 v1 v3 = 1#1), ∀ a, (k0_off11 v5) a + S1x1x1.size a ≤ S8x22x16.size a := fun v1 v3 v5 k0_hw1 k0_h2 => k0_hw1.1.2.2.2.2.2.2.2.2.1 k0_h2
theorem k0_off12_inb : ∀ (v1 : BitVec 32) (v3 : BitVec 32) (v5 : BitVec 32) (k0_hw1 : k0_chk1 v1 v3 v5), ∀ (k0_h2 : k0_cond2 v1 v3 = 1#1), ∀ a, (k0_off12 v5) a + S1x1x1.size a ≤ S8x22x16.size a := fun v1 v3 v5 k0_hw1 k0_h2 => k0_hw1.1.2.2.2.2.2.2.2.2.2.1 k0_h2
theorem k0_off13_inb : ∀ (v1 : BitVec 32) (v3 : BitVec 32) (v5 : BitVec 32) (k0_hw1 : k0_chk1 v1 v3 v5), ∀ (k0_h2 : k0_cond2 v1 v3 = 1#1), ∀ a, (k0_off13 v5) a + S1x1x1.size a ≤ S8x22x16.size a := fun v1 v3 v5 k0_hw1 k0_h2 => k0_hw1.1.2.2.2.2.2.2.2.2.2.2.1 k0_h2
theorem k0_off14_inb : ∀ (v1 : BitVec 32) (v3 : BitVec 32) (v5 : BitVec 32) (k0_hw1 : k0_chk1 v1 v3 v5), ∀ (k0_h2 : k0_cond2 v1 v3 = 1#1), ∀ a, (k0_off14 v5) a + S1x1x1.size a ≤ S8x22x16.size a := fun v1 v3 v5 k0_hw1 k0_h2 => k0_hw1.1.2.2.2.2.2.2.2.2.2.2.2.1 k0_h2
theorem k0_off15_inb : ∀ (v1 : BitVec 32) (v3 : BitVec 32) (v5 : BitVec 32) (k0_hw1 : k0_chk1 v1 v3 v5), ∀ (k0_h2 : k0_cond2 v1 v3 = 1#1), ∀ a, (k0_off15 v5) a + S1x1x1.size a ≤ S8x22x16.size a := fun v1 v3 v5 k0_hw1 k0_h2 => k0_hw1.1.2.2.2.2.2.2.2.2.2.2.2.2.1 k0_h2
theorem k0_off16_inb : ∀ (v1 : BitVec 32) (v3 : BitVec 32) (v5 : BitVec 32) (k0_hw1 : k0_chk1 v1 v3 v5), ∀ (k0_h2 : k0_cond2 v1 v3 = 1#1), ∀ a, (k0_off16 v5) a + S1x1x1.size a ≤ S8x22x16.size a := fun v1 v3 v5 k0_hw1 k0_h2 => k0_hw1.1.2.2.2.2.2.2.2.2.2.2.2.2.2.1 k0_h2
theorem k0_off17_inb : ∀ (v1 : BitVec 32) (v3 : BitVec 32) (v5 : BitVec 32) (k0_hw1 : k0_chk1 v1 v3 v5), ∀ (k0_h2 : k0_cond2 v1 v3 = 1#1), ∀ a, (k0_off17 v5) a + S1x1x1.size a ≤ S8x22x16.size a := fun v1 v3 v5 k0_hw1 k0_h2 => k0_hw1.1.2.2.2.2.2.2.2.2.2.2.2.2.2.2.1 k0_h2
theorem k0_off18_inb : ∀ (v1 : BitVec 32) (v3 : BitVec 32) (v5 : BitVec 32) (k0_hw1 : k0_chk1 v1 v3 v5), ∀ (k0_h2 : k0_cond2 v1 v3 = 1#1), ∀ a, (k0_off18 v5) a + S1x1x1.size a ≤ S8x22x16.size a := fun v1 v3 v5 k0_hw1 k0_h2 => k0_hw1.1.2.2.2.2.2.2.2.2.2.2.2.2.2.2.2.1 k0_h2
theorem k0_off19_inb : ∀ (v1 : BitVec 32) (v3 : BitVec 32) (v5 : BitVec 32) (k0_hw1 : k0_chk1 v1 v3 v5), ∀ (k0_h2 : k0_cond2 v1 v3 = 1#1), ∀ a, (k0_off19 v5) a + S1x1x1.size a ≤ S8x22x16.size a := fun v1 v3 v5 k0_hw1 k0_h2 => k0_hw1.1.2.2.2.2.2.2.2.2.2.2.2.2.2.2.2.2.1 k0_h2
theorem k0_off20_inb : ∀ (v1 : BitVec 32) (v3 : BitVec 32) (v5 : BitVec 32) (k0_hw1 : k0_chk1 v1 v3 v5), ∀ (k0_h2 : k0_cond2 v1 v3 = 1#1), ∀ a, (k0_off20 v5) a + S1x1x1.size a ≤ S8x22x16.size a := fun v1 v3 v5 k0_hw1 k0_h2 => k0_hw1.1.2.2.2.2.2.2.2.2.2.2.2.2.2.2.2.2.2.1 k0_h2
theorem k0_off21_inb : ∀ (v1 : BitVec 32) (v3 : BitVec 32) (v5 : BitVec 32) (k0_hw1 : k0_chk1 v1 v3 v5), ∀ (k0_h2 : k0_cond2 v1 v3 = 1#1), ∀ a, (k0_off21 v5) a + S1x1x1.size a ≤ S8x22x16.size a := fun v1 v3 v5 k0_hw1 k0_h2 => k0_hw1.1.2.2.2.2.2.2.2.2.2.2.2.2.2.2.2.2.2.2.1 k0_h2
theorem k0_off22_inb : ∀ (v1 : BitVec 32) (v3 : BitVec 32) (v5 : BitVec 32) (k0_hw1 : k0_chk1 v1 v3 v5), ∀ (k0_h2 : k0_cond2 v1 v3 = 1#1), ∀ a, (k0_off22 v5) a + S1x1x1.size a ≤ S8x22x16.size a := fun v1 v3 v5 k0_hw1 k0_h2 => k0_hw1.1.2.2.2.2.2.2.2.2.2.2.2.2.2.2.2.2.2.2.2.1 k0_h2
theorem k0_off23_inb : ∀ (v1 : BitVec 32) (v3 : BitVec 32) (v5 : BitVec 32) (k0_hw1 : k0_chk1 v1 v3 v5), ∀ (k0_h2 : k0_cond2 v1 v3 = 1#1), ∀ a, (k0_off23 v5) a + S1x1x1.size a ≤ S8x22x16.size a := fun v1 v3 v5 k0_hw1 k0_h2 => k0_hw1.1.2.2.2.2.2.2.2.2.2.2.2.2.2.2.2.2.2.2.2.2.1 k0_h2
theorem k0_off24_inb : ∀ (v1 : BitVec 32) (v3 : BitVec 32) (v5 : BitVec 32) (k0_hw1 : k0_chk1 v1 v3 v5), ∀ (k0_h2 : k0_cond2 v1 v3 = 1#1), ∀ a, (k0_off24 v5) a + S1x1x1.size a ≤ S8x22x16.size a := fun v1 v3 v5 k0_hw1 k0_h2 => k0_hw1.1.2.2.2.2.2.2.2.2.2.2.2.2.2.2.2.2.2.2.2.2.2.1 k0_h2
theorem k0_off25_inb : ∀ (v1 : BitVec 32) (v3 : BitVec 32) (v5 : BitVec 32) (k0_hw1 : k0_chk1 v1 v3 v5), ∀ (k0_h2 : k0_cond2 v1 v3 = 1#1), ∀ a, (k0_off25 v5) a + S1x1x1.size a ≤ S8x22x16.size a := fun v1 v3 v5 k0_hw1 k0_h2 => k0_hw1.1.2.2.2.2.2.2.2.2.2.2.2.2.2.2.2.2.2.2.2.2.2.2.1 k0_h2
theorem k0_off26_inb : ∀ (v1 : BitVec 32) (v3 : BitVec 32) (v5 : BitVec 32) (k0_hw1 : k0_chk1 v1 v3 v5), ∀ (k0_h2 : k0_cond2 v1 v3 = 1#1), ∀ a, (k0_off26 v5) a + S1x1x1.size a ≤ S8x22x16.size a := fun v1 v3 v5 k0_hw1 k0_h2 => k0_hw1.1.2.2.2.2.2.2.2.2.2.2.2.2.2.2.2.2.2.2.2.2.2.2.2.1 k0_h2
theorem k0_off27_inb : ∀ (v1 : BitVec 32) (v3 : BitVec 32) (v5 : BitVec 32) (k0_hw1 : k0_chk1 v1 v3 v5), ∀ (k0_h2 : k0_cond2 v1 v3 = 1#1), ∀ a, (k0_off27 v5) a + S1x1x1.size a ≤ S8x22x16.size a := fun v1 v3 v5 k0_hw1 k0_h2 => k0_hw1.1.2.2.2.2.2.2.2.2.2.2.2.2.2.2.2.2.2.2.2.2.2.2.2.2.1 k0_h2
theorem k0_off28_inb : ∀ (v1 : BitVec 32) (v3 : BitVec 32) (v5 : BitVec 32) (k0_hw1 : k0_chk1 v1 v3 v5), ∀ (k0_h2 : k0_cond2 v1 v3 = 1#1), ∀ a, (k0_off28 v5) a + S1x1x1.size a ≤ S8x22x16.size a := fun v1 v3 v5 k0_hw1 k0_h2 => k0_hw1.1.2.2.2.2.2.2.2.2.2.2.2.2.2.2.2.2.2.2.2.2.2.2.2.2.2.1 k0_h2
theorem k0_off29_inb : ∀ (v1 : BitVec 32) (v3 : BitVec 32) (v5 : BitVec 32) (k0_hw1 : k0_chk1 v1 v3 v5), ∀ (k0_h2 : k0_cond2 v1 v3 = 1#1), ∀ a, (k0_off29 v5) a + S1x1x1.size a ≤ S8x22x16.size a := fun v1 v3 v5 k0_hw1 k0_h2 => k0_hw1.1.2.2.2.2.2.2.2.2.2.2.2.2.2.2.2.2.2.2.2.2.2.2.2.2.2.2.1 k0_h2
theorem k0_off30_inb : ∀ (v1 : BitVec 32) (v3 : BitVec 32) (v5 : BitVec 32) (k0_hw1 : k0_chk1 v1 v3 v5), ∀ (k0_h2 : k0_cond2 v1 v3 = 1#1), ∀ a, (k0_off30 v5) a + S1x1x1.size a ≤ S8x22x16.size a := fun v1 v3 v5 k0_hw1 k0_h2 => k0_hw1.1.2.2.2.2.2.2.2.2.2.2.2.2.2.2.2.2.2.2.2.2.2.2.2.2.2.2.2.1 k0_h2
theorem k0_off31_inb : ∀ (v1 : BitVec 32) (v3 : BitVec 32) (v5 : BitVec 32) (k0_hw1 : k0_chk1 v1 v3 v5), ∀ (k0_h2 : k0_cond2 v1 v3 = 1#1), ∀ a, (k0_off31 v5) a + S1x1x1.size a ≤ S8x22x16.size a := fun v1 v3 v5 k0_hw1 k0_h2 => k0_hw1.1.2.2.2.2.2.2.2.2.2.2.2.2.2.2.2.2.2.2.2.2.2.2.2.2.2.2.2.2.1 k0_h2
theorem k0_off32_inb : ∀ (v1 : BitVec 32) (v3 : BitVec 32) (v5 : BitVec 32) (k0_hw1 : k0_chk1 v1 v3 v5), ∀ (k0_h2 : k0_cond2 v1 v3 = 1#1), ∀ a, (k0_off32 v5) a + S1x1x1.size a ≤ S8x22x16.size a := fun v1 v3 v5 k0_hw1 k0_h2 => k0_hw1.1.2.2.2.2.2.2.2.2.2.2.2.2.2.2.2.2.2.2.2.2.2.2.2.2.2.2.2.2.2.1 k0_h2
theorem k0_off33_inb : ∀ (v1 : BitVec 32) (v3 : BitVec 32) (v5 : BitVec 32) (k0_hw1 : k0_chk1 v1 v3 v5), ∀ (k0_h2 : k0_cond2 v1 v3 = 1#1), ∀ a, (k0_off33 v5) a + S1x1x1.size a ≤ S8x22x16.size a := fun v1 v3 v5 k0_hw1 k0_h2 => k0_hw1.1.2.2.2.2.2.2.2.2.2.2.2.2.2.2.2.2.2.2.2.2.2.2.2.2.2.2.2.2.2.2.1 k0_h2
theorem k0_off34_inb : ∀ (v1 : BitVec 32) (v3 : BitVec 32) (v5 : BitVec 32) (k0_hw1 : k0_chk1 v1 v3 v5), ∀ (k0_h2 : k0_cond2 v1 v3 = 1#1), ∀ a, (k0_off34 v5) a + S1x1x1.size a ≤ S8x22x16.size a := fun v1 v3 v5 k0_hw1 k0_h2 => k0_hw1.1.2.2.2.2.2.2.2.2.2.2.2.2.2.2.2.2.2.2.2.2.2.2.2.2.2.2.2.2.2.2.2 k0_h2
theorem k0_off35_inb : ∀ (v1 : BitVec 32) (v3 : BitVec 32) (v5 : BitVec 32) (k0_hw1 : k0_chk1 v1 v3 v5), ∀ (k0_h2 : k0_cond2 v1 v3 = 1#1), ∀ a, (k0_off35 v5) a + S1x1x1.size a ≤ S8x22x16.size a := fun v1 v3 v5 k0_hw1 k0_h2 => k0_hw1.2.1.1 k0_h2
theorem k0_off36_inb : ∀ (v1 : BitVec 32) (v3 : BitVec 32) (v5 : BitVec 32) (k0_hw1 : k0_chk1 v1 v3 v5), ∀ (k0_h2 : k0_cond2 v1 v3 = 1#1), ∀ a, (k0_off36 v5) a + S1x1x1.size a ≤ S8x22x16.size a := fun v1 v3 v5 k0_hw1 k0_h2 => k0_hw1.2.1.2.1 k0_h2
theorem k0_off37_inb : ∀ (v1 : BitVec 32) (v3 : BitVec 32) (v5 : BitVec 32) (k0_hw1 : k0_chk1 v1 v3 v5), ∀ (k0_h2 : k0_cond2 v1 v3 = 1#1), ∀ a, (k0_off37 v5) a + S1x1x1.size a ≤ S8x22x16.size a := fun v1 v3 v5 k0_hw1 k0_h2 => k0_hw1.2.1.2.2.1 k0_h2
theorem k0_off38_inb : ∀ (v1 : BitVec 32) (v3 : BitVec 32) (v5 : BitVec 32) (k0_hw1 : k0_chk1 v1 v3 v5), ∀ (k0_h2 : k0_cond2 v1 v3 = 1#1), ∀ a, (k0_off38 v5) a + S1x1x1.size a ≤ S8x22x16.size a := fun v1 v3 v5 k0_hw1 k0_h2 => k0_hw1.2.1.2.2.2.1 k0_h2
theorem k0_off39_inb : ∀ (v1 : BitVec 32) (v3 : BitVec 32) (v5 : BitVec 32) (k0_hw1 : k0_chk1 v1 v3 v5), ∀ (k0_h2 : k0_cond2 v1 v3 = 1#1), ∀ a, (k0_off39 v5) a + S1x1x1.size a ≤ S8x22x16.size a := fun v1 v3 v5 k0_hw1 k0_h2 => k0_hw1.2.1.2.2.2.2.1 k0_h2
theorem k0_off40_inb : ∀ (v1 : BitVec 32) (v3 : BitVec 32) (v5 : BitVec 32) (k0_hw1 : k0_chk1 v1 v3 v5), ∀ (k0_h2 : k0_cond2 v1 v3 = 1#1), ∀ a, (k0_off40 v5) a + S1x1x1.size a ≤ S8x22x16.size a := fun v1 v3 v5 k0_hw1 k0_h2 => k0_hw1.2.1.2.2.2.2.2.1 k0_h2
theorem k0_off41_inb : ∀ (v1 : BitVec 32) (v3 : BitVec 32) (v5 : BitVec 32) (k0_hw1 : k0_chk1 v1 v3 v5), ∀ (k0_h2 : k0_cond2 v1 v3 = 1#1), ∀ a, (k0_off41 v5) a + S1x1x1.size a ≤ S8x22x16.size a := fun v1 v3 v5 k0_hw1 k0_h2 => k0_hw1.2.1.2.2.2.2.2.2.1 k0_h2
theorem k0_off42_inb : ∀ (v1 : BitVec 32) (v3 : BitVec 32) (v5 : BitVec 32) (k0_hw1 : k0_chk1 v1 v3 v5), ∀ (k0_h2 : k0_cond2 v1 v3 = 1#1), ∀ a, (k0_off42 v5) a + S1x1x1.size a ≤ S8x22x16.size a := fun v1 v3 v5 k0_hw1 k0_h2 => k0_hw1.2.1.2.2.2.2.2.2.2.1 k0_h2
theorem k0_off43_inb : ∀ (v1 : BitVec 32) (v3 : BitVec 32) (v5 : BitVec 32) (k0_hw1 : k0_chk1 v1 v3 v5), ∀ (k0_h2 : k0_cond2 v1 v3 = 1#1), ∀ a, (k0_off43 v5) a + S1x1x1.size a ≤ S8x22x16.size a := fun v1 v3 v5 k0_hw1 k0_h2 => k0_hw1.2.1.2.2.2.2.2.2.2.2.1 k0_h2
theorem k0_off44_inb : ∀ (v1 : BitVec 32) (v3 : BitVec 32) (v5 : BitVec 32) (k0_hw1 : k0_chk1 v1 v3 v5), ∀ (k0_h2 : k0_cond2 v1 v3 = 1#1), ∀ a, (k0_off44 v5) a + S1x1x1.size a ≤ S8x22x16.size a := fun v1 v3 v5 k0_hw1 k0_h2 => k0_hw1.2.1.2.2.2.2.2.2.2.2.2.1 k0_h2
theorem k0_off45_inb : ∀ (v1 : BitVec 32) (v3 : BitVec 32) (v5 : BitVec 32) (k0_hw1 : k0_chk1 v1 v3 v5), ∀ (k0_h2 : k0_cond2 v1 v3 = 1#1), ∀ a, (k0_off45 v5) a + S1x1x1.size a ≤ S8x22x16.size a := fun v1 v3 v5 k0_hw1 k0_h2 => k0_hw1.2.1.2.2.2.2.2.2.2.2.2.2.1 k0_h2
theorem k0_off46_inb : ∀ (v1 : BitVec 32) (v3 : BitVec 32) (v5 : BitVec 32) (k0_hw1 : k0_chk1 v1 v3 v5), ∀ (k0_h2 : k0_cond2 v1 v3 = 1#1), ∀ a, (k0_off46 v5) a + S1x1x1.size a ≤ S8x22x16.size a := fun v1 v3 v5 k0_hw1 k0_h2 => k0_hw1.2.1.2.2.2.2.2.2.2.2.2.2.2.1 k0_h2
theorem k0_off47_inb : ∀ (v1 : BitVec 32) (v3 : BitVec 32) (v5 : BitVec 32) (k0_hw1 : k0_chk1 v1 v3 v5), ∀ (k0_h2 : k0_cond2 v1 v3 = 1#1), ∀ a, (k0_off47 v5) a + S1x1x1.size a ≤ S8x22x16.size a := fun v1 v3 v5 k0_hw1 k0_h2 => k0_hw1.2.1.2.2.2.2.2.2.2.2.2.2.2.2.1 k0_h2
theorem k0_off48_inb : ∀ (v1 : BitVec 32) (v3 : BitVec 32) (v5 : BitVec 32) (k0_hw1 : k0_chk1 v1 v3 v5), ∀ (k0_h2 : k0_cond2 v1 v3 = 1#1), ∀ a, (k0_off48 v5) a + S1x1x1.size a ≤ S8x22x16.size a := fun v1 v3 v5 k0_hw1 k0_h2 => k0_hw1.2.1.2.2.2.2.2.2.2.2.2.2.2.2.2.1 k0_h2
theorem k0_off49_inb : ∀ (v1 : BitVec 32) (v3 : BitVec 32) (v5 : BitVec 32) (k0_hw1 : k0_chk1 v1 v3 v5), ∀ (k0_h2 : k0_cond2 v1 v3 = 1#1), ∀ a, (k0_off49 v5) a + S1x1x1.size a ≤ S8x22x16.size a := fun v1 v3 v5 k0_hw1 k0_h2 => k0_hw1.2.1.2.2.2.2.2.2.2.2.2.2.2.2.2.2.1 k0_h2
theorem k0_off50_inb : ∀ (v1 : BitVec 32) (v3 : BitVec 32) (v5 : BitVec 32) (k0_hw1 : k0_chk1 v1 v3 v5), ∀ (k0_h2 : k0_cond2 v1 v3 = 1#1), ∀ a, (k0_off50 v5) a + S1x1x1.size a ≤ S8x22x16.size a := fun v1 v3 v5 k0_hw1 k0_h2 => k0_hw1.2.1.2.2.2.2.2.2.2.2.2.2.2.2.2.2.2.1 k0_h2
theorem k0_off51_inb : ∀ (v1 : BitVec 32) (v3 : BitVec 32) (v5 : BitVec 32) (k0_hw1 : k0_chk1 v1 v3 v5), ∀ (k0_h2 : k0_cond2 v1 v3 = 1#1), ∀ a, (k0_off51 v5) a + S1x1x1.size a ≤ S8x22x16.size a := fun v1 v3 v5 k0_hw1 k0_h2 => k0_hw1.2.1.2.2.2.2.2.2.2.2.2.2.2.2.2.2.2.2.1 k0_h2
theorem k0_off52_inb : ∀ (v1 : BitVec 32) (v3 : BitVec 32) (v5 : BitVec 32) (k0_hw1 : k0_chk1 v1 v3 v5), ∀ (k0_h2 : k0_cond2 v1 v3 = 1#1), ∀ a, (k0_off52 v5) a + S1x1x1.size a ≤ S8x22x16.size a := fun v1 v3 v5 k0_hw1 k0_h2 => k0_hw1.2.1.2.2.2.2.2.2.2.2.2.2.2.2.2.2.2.2.2.1 k0_h2
theorem k0_off53_inb : ∀ (v1 : BitVec 32) (v3 : BitVec 32) (v5 : BitVec 32) (k0_hw1 : k0_chk1 v1 v3 v5), ∀ (k0_h2 : k0_cond2 v1 v3 = 1#1), ∀ a, (k0_off53 v5) a + S1x1x1.size a ≤ S8x22x16.size a := fun v1 v3 v5 k0_hw1 k0_h2 => k0_hw1.2.1.2.2.2.2.2.2.2.2.2.2.2.2.2.2.2.2.2.2.1 k0_h2
theorem k0_off54_inb : ∀ (v1 : BitVec 32) (v3 : BitVec 32) (v5 : BitVec 32) (k0_hw1 : k0_chk1 v1 v3 v5), ∀ (k0_h2 : k0_cond2 v1 v3 = 1#1), ∀ a, (k0_off54 v5) a + S1x1x1.size a ≤ S8x22x16.size a := fun v1 v3 v5 k0_hw1 k0_h2 => k0_hw1.2.1.2.2.2.2.2.2.2.2.2.2.2.2.2.2.2.2.2.2.2.1 k0_h2
theorem k0_off55_inb : ∀ (v1 : BitVec 32) (v3 : BitVec 32) (v5 : BitVec 32) (k0_hw1 : k0_chk1 v1 v3 v5), ∀ (k0_h2 : k0_cond2 v1 v3 = 1#1), ∀ a, (k0_off55 v5) a + S1x1x1.size a ≤ S8x22x16.size a := fun v1 v3 v5 k0_hw1 k0_h2 => k0_hw1.2.1.2.2.2.2.2.2.2.2.2.2.2.2.2.2.2.2.2.2.2.2.1 k0_h2
theorem k0_off56_inb : ∀ (v1 : BitVec 32) (v3 : BitVec 32) (v5 : BitVec 32) (k0_hw1 : k0_chk1 v1 v3 v5), ∀ (k0_h2 : k0_cond2 v1 v3 = 1#1), ∀ a, (k0_off56 v5) a + S1x1x1.size a ≤ S8x22x16.size a := fun v1 v3 v5 k0_hw1 k0_h2 => k0_hw1.2.1.2.2.2.2.2.2.2.2.2.2.2.2.2.2.2.2.2.2.2.2.2.1 k0_h2
theorem k0_off57_inb : ∀ (v1 : BitVec 32) (v3 : BitVec 32) (v5 : BitVec 32) (k0_hw1 : k0_chk1 v1 v3 v5), ∀ (k0_h2 : k0_cond2 v1 v3 = 1#1), ∀ a, (k0_off57 v5) a + S1x1x1.size a ≤ S8x22x16.size a := fun v1 v3 v5 k0_hw1 k0_h2 => k0_hw1.2.1.2.2.2.2.2.2.2.2.2.2.2.2.2.2.2.2.2.2.2.2.2.2.1 k0_h2
theorem k0_off58_inb : ∀ (v1 : BitVec 32) (v3 : BitVec 32) (v5 : BitVec 32) (k0_hw1 : k0_chk1 v1 v3 v5), ∀ (k0_h2 : k0_cond2 v1 v3 = 1#1), ∀ a, (k0_off58 v5) a + S1x1x1.size a ≤ S8x22x16.size a := fun v1 v3 v5 k0_hw1 k0_h2 => k0_hw1.2.1.2.2.2.2.2.2.2.2.2.2.2.2.2.2.2.2.2.2.2.2.2.2.2.1 k0_h2
theorem k0_off59_inb : ∀ (v1 : BitVec 32) (v3 : BitVec 32) (v5 : BitVec 32) (k0_hw1 : k0_chk1 v1 v3 v5), ∀ (k0_h2 : k0_cond2 v1 v3 = 1#1), ∀ a, (k0_off59 v5) a + S1x1x1.size a ≤ S8x22x16.size a := fun v1 v3 v5 k0_hw1 k0_h2 => k0_hw1.2.1.2.2.2.2.2.2.2.2.2.2.2.2.2.2.2.2.2.2.2.2.2.2.2.2.1 k0_h2
theorem k0_off60_inb : ∀ (v1 : BitVec 32) (v3 : BitVec 32) (v5 : BitVec 32) (k0_hw1 : k0_chk1 v1 v3 v5), ∀ (k0_h2 : k0_cond2 v1 v3 = 1#1), ∀ a, (k0_off60 v5) a + S1x1x1.size a ≤ S8x22x16.size a := fun v1 v3 v5 k0_hw1 k0_h2 => k0_hw1.2.1.2.2.2.2.2.2.2.2.2.2.2.2.2.2.2.2.2.2.2.2.2.2.2.2.2.1 k0_h2
theorem k0_off61_inb : ∀ (v1 : BitVec 32) (v3 : BitVec 32) (v5 : BitVec 32) (k0_hw1 : k0_chk1 v1 v3 v5), ∀ (k0_h2 : k0_cond2 v1 v3 = 1#1), ∀ a, (k0_off61 v5) a + S1x1x1.size a ≤ S8x22x16.size a := fun v1 v3 v5 k0_hw1 k0_h2 => k0_hw1.2.1.2.2.2.2.2.2.2.2.2.2.2.2.2.2.2.2.2.2.2.2.2.2.2.2.2.2.1 k0_h2
theorem k0_off62_inb : ∀ (v1 : BitVec 32) (v3 : BitVec 32) (v5 : BitVec 32) (k0_hw1 : k0_chk1 v1 v3 v5), ∀ (k0_h2 : k0_cond2 v1 v3 = 1#1), ∀ a, (k0_off62 v5) a + S1x1x1.size a ≤ S8x22x16.size a := fun v1 v3 v5 k0_hw1 k0_h2 => k0_hw1.2.1.2.2.2.2.2.2.2.2.2.2.2.2.2.2.2.2.2.2.2.2.2.2.2.2.2.2.2.1 k0_h2
theorem k0_off63_inb : ∀ (v1 : BitVec 32) (v3 : BitVec 32) (v5 : BitVec 32) (k0_hw1 : k0_chk1 v1 v3 v5), ∀ (k0_h2 : k0_cond2 v1 v3 = 1#1), ∀ a, (k0_off63 v5) a + S1x1x1.size a ≤ S8x22x16.size a := fun v1 v3 v5 k0_hw1 k0_h2 => k0_hw1.2.1.2.2.2.2.2.2.2.2.2.2.2.2.2.2.2.2.2.2.2.2.2.2.2.2.2.2.2.2.1 k0_h2
theorem k0_off64_inb : ∀ (v1 : BitVec 32) (v3 : BitVec 32) (v5 : BitVec 32) (k0_hw1 : k0_chk1 v1 v3 v5), ∀ (k0_h2 : k0_cond2 v1 v3 = 1#1), ∀ a, (k0_off64 v5) a + S1x1x1.size a ≤ S8x22x16.size a := fun v1 v3 v5 k0_hw1 k0_h2 => k0_hw1.2.1.2.2.2.2.2.2.2.2.2.2.2.2.2.2.2.2.2.2.2.2.2.2.2.2.2.2.2.2.2.1 k0_h2
theorem k0_off65_inb : ∀ (v1 : BitVec 32) (v3 : BitVec 32) (v5 : BitVec 32) (k0_hw1 : k0_chk1 v1 v3 v5), ∀ (k0_h2 : k0_cond2 v1 v3 = 1#1), ∀ a, (k0_off65 v5) a + S1x1x1.size a ≤ S8x22x16.size a := fun v1 v3 v5 k0_hw1 k0_h2 => k0_hw1.2.1.2.2.2.2.2.2.2.2.2.2.2.2.2.2.2.2.2.2.2.2.2.2.2.2.2.2.2.2.2.2.1 k0_h2
theorem k0_off66_inb : ∀ (v1 : BitVec 32) (v3 : BitVec 32) (v5 : BitVec 32) (k0_hw1 : k0_chk1 v1 v3 v5), ∀ (k0_h2 : k0_cond2 v1 v3 = 1#1), ∀ a, (k0_off66 v5) a + S1x1x1.size a ≤ S8x22x16.size a := fun v1 v3 v5 k0_hw1 k0_h2 => k0_hw1.2.1.2.2.2.2.2.2.2.2.2.2.2.2.2.2.2.2.2.2.2.2.2.2.2.2.2.2.2.2.2.2.2 k0_h2
theorem k0_off67_inb : ∀ (v1 : BitVec 32) (v3 : BitVec 32) (v5 : BitVec 32) (k0_hw1 : k0_chk1 v1 v3 v5), ∀ (k0_h2 : k0_cond2 v1 v3 = 1#1), ∀ a, (k0_off67 v5) a + S1x1x1.size a ≤ S8x22x16.size a := fun v1 v3 v5 k0_hw1 k0_h2 => k0_hw1.2.2.1.1 k0_h2
theorem k0_off68_inb : ∀ (v1 : BitVec 32) (v3 : BitVec 32) (v5 : BitVec 32) (k0_hw1 : k0_chk1 v1 v3 v5), ∀ (k0_h2 : k0_cond2 v1 v3 = 1#1), ∀ a, (k0_off68 v5) a + S1x1x1.size a ≤ S8x22x16.size a := fun v1 v3 v5 k0_hw1 k0_h2 => k0_hw1.2.2.1.2.1 k0_h2
theorem k0_off69_inb : ∀ (v1 : BitVec 32) (v3 : BitVec 32) (v5 : BitVec 32) (k0_hw1 : k0_chk1 v1 v3 v5), ∀ (k0_h2 : k0_cond2 v1 v3 = 1#1), ∀ a, (k0_off69 v5) a + S1x1x1.size a ≤ S8x22x16.size a := fun v1 v3 v5 k0_hw1 k0_h2 => k0_hw1.2.2.1.2.2.1 k0_h2
theorem k0_off70_inb : ∀ (v1 : BitVec 32) (v3 : BitVec 32) (v5 : BitVec 32) (k0_hw1 : k0_chk1 v1 v3 v5), ∀ (k0_h2 : k0_cond2 v1 v3 = 1#1), ∀ a, (k0_off70 v5) a + S1x1x1.size a ≤ S8x22x16.size a := fun v1 v3 v5 k0_hw1 k0_h2 => k0_hw1.2.2.1.2.2.2.1 k0_h2
theorem k0_off71_inb : ∀ (v1 : BitVec 32) (v3 : BitVec 32) (v5 : BitVec 32) (k0_hw1 : k0_chk1 v1 v3 v5), ∀ (k0_h2 : k0_cond2 v1 v3 = 1#1), ∀ a, (k0_off71 v5) a + S1x1x1.size a ≤ S8x22x16.size a := fun v1 v3 v5 k0_hw1 k0_h2 => k0_hw1.2.2.1.2.2.2.2.1 k0_h2
theorem k0_off72_inb : ∀ (v1 : BitVec 32) (v3 : BitVec 32) (v5 : BitVec 32) (k0_hw1 : k0_chk1 v1 v3 v5), ∀ (k0_h2 : k0_cond2 v1 v3 = 1#1), ∀ a, (k0_off72 v5) a + S1x1x1.size a ≤ S8x22x16.size a := fun v1 v3 v5 k0_hw1 k0_h2 => k0_hw1.2.2.1.2.2.2.2.2.1 k0_h2
theorem k0_off73_inb : ∀ (v1 : BitVec 32) (v3 : BitVec 32) (v5 : BitVec 32) (k0_hw1 : k0_chk1 v1 v3 v5), ∀ (k0_h2 : k0_cond2 v1 v3 = 1#1), ∀ a, (k0_off73 v5) a + S1x1x1.size a ≤ S8x22x16.size a := fun v1 v3 v5 k0_hw1 k0_h2 => k0_hw1.2.2.1.2.2.2.2.2.2.1 k0_h2
theorem k0_off74_inb : ∀ (v1 : BitVec 32) (v3 : BitVec 32) (v5 : BitVec 32) (k0_hw1 : k0_chk1 v1 v3 v5), ∀ (k0_h2 : k0_cond2 v1 v3 = 1#1), ∀ a, (k0_off74 v5) a + S1x1x1.size a ≤ S8x22x16.size a := fun v1 v3 v5 k0_hw1 k0_h2 => k0_hw1.2.2.1.2.2.2.2.2.2.2.1 k0_h2
theorem k0_off75_inb : ∀ (v1 : BitVec 32) (v3 : BitVec 32) (v5 : BitVec 32) (k0_hw1 : k0_chk1 v1 v3 v5), ∀ (k0_h2 : k0_cond2 v1 v3 = 1#1), ∀ a, (k0_off75 v5) a + S1x1x1.size a ≤ S8x22x16.size a := fun v1 v3 v5 k0_hw1 k0_h2 => k0_hw1.2.2.1.2.2.2.2.2.2.2.2.1 k0_h2
theorem k0_off76_inb : ∀ (v1 : BitVec 32) (v3 : BitVec 32) (v5 : BitVec 32) (k0_hw1 : k0_chk1 v1 v3 v5), ∀ (k0_h2 : k0_cond2 v1 v3 = 1#1), ∀ a, (k0_off76 v5) a + S1x1x1.size a ≤ S8x22x16.size a := fun v1 v3 v5 k0_hw1 k0_h2 => k0_hw1.2.2.1.2.2.2.2.2.2.2.2.2.1 k0_h2
theorem k0_off77_inb : ∀ (v1 : BitVec 32) (v3 : BitVec 32) (v5 : BitVec 32) (k0_hw1 : k0_chk1 v1 v3 v5), ∀ (k0_h2 : k0_cond2 v1 v3 = 1#1), ∀ a, (k0_off77 v5) a + S1x1x1.size a ≤ S8x22x16.size a := fun v1 v3 v5 k0_hw1 k0_h2 => k0_hw1.2.2.1.2.2.2.2.2.2.2.2.2.2.1 k0_h2
theorem k0_off78_inb : ∀ (v1 : BitVec 32) (v3 : BitVec 32) (v5 : BitVec 32) (k0_hw1 : k0_chk1 v1 v3 v5), ∀ (k0_h2 : k0_cond2 v1 v3 = 1#1), ∀ a, (k0_off78 v5) a + S1x1x1.size a ≤ S8x22x16.size a := fun v1 v3 v5 k0_hw1 k0_h2 => k0_hw1.2.2.1.2.2.2.2.2.2.2.2.2.2.2.1 k0_h2
theorem k0_off79_inb : ∀ (v1 : BitVec 32) (v3 : BitVec 32) (v5 : BitVec 32) (k0_hw1 : k0_chk1 v1 v3 v5), ∀ (k0_h2 : k0_cond2 v1 v3 = 1#1), ∀ a, (k0_off79 v5) a + S1x1x1.size a ≤ S8x22x16.size a := fun v1 v3 v5 k0_hw1 k0_h2 => k0_hw1.2.2.1.2.2.2.2.2.2.2.2.2.2.2.2.1 k0_h2
theorem k0_off80_inb : ∀ (v1 : BitVec 32) (v3 : BitVec 32) (v5 : BitVec 32) (k0_hw1 : k0_chk1 v1 v3 v5), ∀ (k0_h2 : k0_cond2 v1 v3 = 1#1), ∀ a, (k0_off80 v5) a + S1x1x1.size a ≤ S8x22x16.size a := fun v1 v3 v5 k0_hw1 k0_h2 => k0_hw1.2.2.1.2.2.2.2.2.2.2.2.2.2.2.2.2.1 k0_h2
theorem k0_off81_inb : ∀ (v1 : BitVec 32) (v3 : BitVec 32) (v5 : BitVec 32) (k0_hw1 : k0_chk1 v1 v3 v5), ∀ (k0_h2 : k0_cond2 v1 v3 = 1#1), ∀ a, (k0_off81 v5) a + S1x1x1.size a ≤ S8x22x16.size a := fun v1 v3 v5 k0_hw1 k0_h2 => k0_hw1.2.2.1.2.2.2.2.2.2.2.2.2.2.2.2.2.2.1 k0_h2
theorem k0_off82_inb : ∀ (v1 : BitVec 32) (v3 : BitVec 32) (v5 : BitVec 32) (k0_hw1 : k0_chk1 v1 v3 v5), ∀ (k0_h2 : k0_cond2 v1 v3 = 1#1), ∀ a, (k0_off82 v5) a + S1x1x1.size a ≤ S8x22x16.size a := fun v1 v3 v5 k0_hw1 k0_h2 => k0_hw1.2.2.1.2.2.2.2.2.2.2.2.2.2.2.2.2.2.2.1 k0_h2
theorem k0_off83_inb : ∀ (v1 : BitVec 32) (v3 : BitVec 32) (v5 : BitVec 32) (k0_hw1 : k0_chk1 v1 v3 v5), ∀ (k0_h2 : k0_cond2 v1 v3 = 1#1), ∀ a, (k0_off83 v5) a + S1x1x1.size a ≤ S8x22x16.size a := fun v1 v3 v5 k0_hw1 k0_h2 => k0_hw1.2.2.1.2.2.2.2.2.2.2.2.2.2.2.2.2.2.2.2.1 k0_h2
theorem k0_off84_inb : ∀ (v1 : BitVec 32) (v3 : BitVec 32) (v5 : BitVec 32) (k0_hw1 : k0_chk1 v1 v3 v5), ∀ (k0_h2 : k0_cond2 v1 v3 = 1#1), ∀ a, (k0_off84 v5) a + S1x1x1.size a ≤ S8x22x16.size a := fun v1 v3 v5 k0_hw1 k0_h2 => k0_hw1.2.2.1.2.2.2.2.2.2.2.2.2.2.2.2.2.2.2.2.2.1 k0_h2
theorem k0_off85_inb : ∀ (v1 : BitVec 32) (v3 : BitVec 32) (v5 : BitVec 32) (k0_hw1 : k0_chk1 v1 v3 v5), ∀ (k0_h2 : k0_cond2 v1 v3 = 1#1), ∀ a, (k0_off85 v5) a + S1x1x1.size a ≤ S8x22x16.size a := fun v1 v3 v5 k0_hw1 k0_h2 => k0_hw1.2.2.1.2.2.2.2.2.2.2.2.2.2.2.2.2.2.2.2.2.2.1 k0_h2
theorem k0_off86_inb : ∀ (v1 : BitVec 32) (v3 : BitVec 32) (v5 : BitVec 32) (k0_hw1 : k0_chk1 v1 v3 v5), ∀ (k0_h2 : k0_cond2 v1 v3 = 1#1), ∀ a, (k0_off86 v5) a + S1x1x1.size a ≤ S8x22x16.size a := fun v1 v3 v5 k0_hw1 k0_h2 => k0_hw1.2.2.1.2.2.2.2.2.2.2.2.2.2.2.2.2.2.2.2.2.2.2.1 k0_h2
theorem k0_off87_inb : ∀ (v1 : BitVec 32) (v3 : BitVec 32) (v5 : BitVec 32) (k0_hw1 : k0_chk1 v1 v3 v5), ∀ (k0_h2 : k0_cond2 v1 v3 = 1#1), ∀ a, (k0_off87 v5) a + S1x1x1.size a ≤ S8x22x16.size a := fun v1 v3 v5 k0_hw1 k0_h2 => k0_hw1.2.2.1.2.2.2.2.2.2.2.2.2.2.2.2.2.2.2.2.2.2.2.2.1 k0_h2
theorem k0_off88_inb : ∀ (v1 : BitVec 32) (v3 : BitVec 32) (v5 : BitVec 32) (k0_hw1 : k0_chk1 v1 v3 v5), ∀ (k0_h2 : k0_cond2 v1 v3 = 1#1), ∀ a, (k0_off88 v5) a + S1x1x1.size a ≤ S8x22x16.size a := fun v1 v3 v5 k0_hw1 k0_h2 => k0_hw1.2.2.1.2.2.2.2.2.2.2.2.2.2.2.2.2.2.2.2.2.2.2.2.2.1 k0_h2
theorem k0_off89_inb : ∀ (v1 : BitVec 32) (v3 : BitVec 32) (v5 : BitVec 32) (k0_hw1 : k0_chk1 v1 v3 v5), ∀ (k0_h2 : k0_cond2 v1 v3 = 1#1), ∀ a, (k0_off89 v5) a + S1x1x1.size a ≤ S8x22x16.size a := fun v1 v3 v5 k0_hw1 k0_h2 => k0_hw1.2.2.1.2.2.2.2.2.2.2.2.2.2.2.2.2.2.2.2.2.2.2.2.2.2.1 k0_h2
theorem k0_off90_inb : ∀ (v1 : BitVec 32) (v3 : BitVec 32) (v5 : BitVec 32) (k0_hw1 : k0_chk1 v1 v3 v5), ∀ (k0_h2 : k0_cond2 v1 v3 = 1#1), ∀ a, (k0_off90 v5) a + S1x1x1.size a ≤ S8x22x16.size a := fun v1 v3 v5 k0_hw1 k0_h2 => k0_hw1.2.2.1.2.2.2.2.2.2.2.2.2.2.2.2.2.2.2.2.2.2.2.2.2.2.2.1 k0_h2
theorem k0_off91_inb : ∀ (v1 : BitVec 32) (v3 : BitVec 32) (v5 : BitVec 32) (k0_hw1 : k0_chk1 v1 v3 v5), ∀ (k0_h2 : k0_cond2 v1 v3 = 1#1), ∀ a, (k0_off91 v5) a + S1x1x1.size a ≤ S8x22x16.size a := fun v1 v3 v5 k0_hw1 k0_h2 => k0_hw1.2.2.1.2.2.2.2.2.2.2.2.2.2.2.2.2.2.2.2.2.2.2.2.2.2.2.2.1 k0_h2
theorem k0_off92_inb : ∀ (v1 : BitVec 32) (v3 : BitVec 32) (v5 : BitVec 32) (k0_hw1 : k0_chk1 v1 v3 v5), ∀ (k0_h2 : k0_cond2 v1 v3 = 1#1), ∀ a, (k0_off92 v5) a + S1x1x1.size a ≤ S8x22x16.size a := fun v1 v3 v5 k0_hw1 k0_h2 => k0_hw1.2.2.1.2.2.2.2.2.2.2.2.2.2.2.2.2.2.2.2.2.2.2.2.2.2.2.2.2.1 k0_h2
theorem k0_off93_inb : ∀ (v1 : BitVec 32) (v3 : BitVec 32) (v5 : BitVec 32) (k0_hw1 : k0_chk1 v1 v3 v5), ∀ (k0_h2 : k0_cond2 v1 v3 = 1#1), ∀ a, (k0_off93 v5) a + S1x1x1.size a ≤ S8x22x16.size a := fun v1 v3 v5 k0_hw1 k0_h2 => k0_hw1.2.2.1.2.2.2.2.2.2.2.2.2.2.2.2.2.2.2.2.2.2.2.2.2.2.2.2.2.2.1 k0_h2
theorem k0_off94_inb : ∀ (v1 : BitVec 32) (v3 : BitVec 32) (v5 : BitVec 32) (k0_hw1 : k0_chk1 v1 v3 v5), ∀ (k0_h2 : k0_cond2 v1 v3 = 1#1), ∀ a, (k0_off94 v5) a + S1x1x1.size a ≤ S8x22x16.size a := fun v1 v3 v5 k0_hw1 k0_h2 => k0_hw1.2.2.1.2.2.2.2.2.2.2.2.2.2.2.2.2.2.2.2.2.2.2.2.2.2.2.2.2.2.2.1 k0_h2
theorem k0_off95_inb : ∀ (v1 : BitVec 32) (v3 : BitVec 32) (v5 : BitVec 32) (k0_hw1 : k0_chk1 v1 v3 v5), ∀ (k0_h2 : k0_cond2 v1 v3 = 1#1), ∀ a, (k0_off95 v5) a + S1x1x1.size a ≤ S8x22x16.size a := fun v1 v3 v5 k0_hw1 k0_h2 => k0_hw1.2.2.1.2.2.2.2.2.2.2.2.2.2.2.2.2.2.2.2.2.2.2.2.2.2.2.2.2.2.2.2.1 k0_h2
theorem k0_off96_inb : ∀ (v1 : BitVec 32) (v3 : BitVec 32) (v5 : BitVec 32) (k0_hw1 : k0_chk1 v1 v3 v5), ∀ (k0_h2 : k0_cond2 v1 v3 = 1#1), ∀ a, (k0_off96 v5) a + S1x1x1.size a ≤ S8x22x16.size a := fun v1 v3 v5 k0_hw1 k0_h2 => k0_hw1.2.2.1.2.2.2.2.2.2.2.2.2.2.2.2.2.2.2.2.2.2.2.2.2.2.2.2.2.2.2.2.2.1 k0_h2
theorem k0_off97_inb : ∀ (v1 : BitVec 32) (v3 : BitVec 32) (v5 : BitVec 32) (k0_hw1 : k0_chk1 v1 v3 v5), ∀ (k0_h2 : k0_cond2 v1 v3 = 1#1), ∀ a, (k0_off97 v5) a + S1x1x1.size a ≤ S8x22x16.size a := fun v1 v3 v5 k0_hw1 k0_h2 => k0_hw1.2.2.1.2.2.2.2.2.2.2.2.2.2.2.2.2.2.2.2.2.2.2.2.2.2.2.2.2.2.2.2.2.2.1 k0_h2
theorem k0_off98_inb : ∀ (v1 : BitVec 32) (v3 : BitVec 32) (v5 : BitVec 32) (k0_hw1 : k0_chk1 v1 v3 v5), ∀ (k0_h2 : k0_cond2 v1 v3 = 1#1), ∀ a, (k0_off98 v5) a + S1x1x1.size a ≤ S8x22x16.size a := fun v1 v3 v5 k0_hw1 k0_h2 => k0_hw1.2.2.1.2.2.2.2.2.2.2.2.2.2.2.2.2.2.2.2.2.2.2.2.2.2.2.2.2.2.2.2.2.2.2 k0_h2
theorem k0_off99_inb : ∀ (v1 : BitVec 32) (v3 : BitVec 32) (v5 : BitVec 32) (k0_hw1 : k0_chk1 v1 v3 v5), ∀ (k0_h2 : k0_cond2 v1 v3 = 1#1), ∀ a, (k0_off99 v5) a + S1x1x1.size a ≤ S8x22x16.size a := fun v1 v3 v5 k0_hw1 k0_h2 => k0_hw1.2.2.2.1.1 k0_h2
theorem k0_off100_inb : ∀ (v1 : BitVec 32) (v3 : BitVec 32) (v5 : BitVec 32) (k0_hw1 : k0_chk1 v1 v3 v5), ∀ (k0_h2 : k0_cond2 v1 v3 = 1#1), ∀ a, (k0_off100 v5) a + S1x1x1.size a ≤ S8x22x16.size a := fun v1 v3 v5 k0_hw1 k0_h2 => k0_hw1.2.2.2.1.2.1 k0_h2
theorem k0_off101_inb : ∀ (v1 : BitVec 32) (v3 : BitVec 32) (v5 : BitVec 32) (k0_hw1 : k0_chk1 v1 v3 v5), ∀ (k0_h2 : k0_cond2 v1 v3 = 1#1), ∀ a, (k0_off101 v5) a + S1x1x1.size a ≤ S8x22x16.size a := fun v1 v3 v5 k0_hw1 k0_h2 => k0_hw1.2.2.2.1.2.2.1 k0_h2
theorem k0_off102_inb : ∀ (v1 : BitVec 32) (v3 : BitVec 32) (v5 : BitVec 32) (k0_hw1 : k0_chk1 v1 v3 v5), ∀ (k0_h2 : k0_cond2 v1 v3 = 1#1), ∀ a, (k0_off102 v5) a + S1x1x1.size a ≤ S8x22x16.size a := fun v1 v3 v5 k0_hw1 k0_h2 => k0_hw1.2.2.2.1.2.2.2.1 k0_h2
theorem k0_off103_inb : ∀ (v1 : BitVec 32) (v3 : BitVec 32) (v5 : BitVec 32) (k0_hw1 : k0_chk1 v1 v3 v5), ∀ (k0_h2 : k0_cond2 v1 v3 = 1#1), ∀ a, (k0_off103 v5) a + S1x1x1.size a ≤ S8x22x16.size a := fun v1 v3 v5 k0_hw1 k0_h2 => k0_hw1.2.2.2.1.2.2.2.2.1 k0_h2
theorem k0_off104_inb : ∀ (v1 : BitVec 32) (v3 : BitVec 32) (v5 : BitVec 32) (k0_hw1 : k0_chk1 v1 v3 v5), ∀ (k0_h2 : k0_cond2 v1 v3 = 1#1), ∀ a, (k0_off104 v5) a + S1x1x1.size a ≤ S8x22x16.size a := fun v1 v3 v5 k0_hw1 k0_h2 => k0_hw1.2.2.2.1.2.2.2.2.2.1 k0_h2
theorem k0_off105_inb : ∀ (v1 : BitVec 32) (v3 : BitVec 32) (v5 : BitVec 32) (k0_hw1 : k0_chk1 v1 v3 v5), ∀ (k0_h2 : k0_cond2 v1 v3 = 1#1), ∀ a, (k0_off105 v5) a + S1x1x1.size a ≤ S8x22x16.size a := fun v1 v3 v5 k0_hw1 k0_h2 => k0_hw1.2.2.2.1.2.2.2.2.2.2.1 k0_h2
theorem k0_off106_inb : ∀ (v1 : BitVec 32) (v3 : BitVec 32) (v5 : BitVec 32) (k0_hw1 : k0_chk1 v1 v3 v5), ∀ (k0_h2 : k0_cond2 v1 v3 = 1#1), ∀ a, (k0_off106 v5) a + S1x1x1.size a ≤ S8x22x16.size a := fun v1 v3 v5 k0_hw1 k0_h2 => k0_hw1.2.2.2.1.2.2.2.2.2.2.2.1 k0_h2
theorem k0_off107_inb : ∀ (v1 : BitVec 32) (v3 : BitVec 32) (v5 : BitVec 32) (k0_hw1 : k0_chk1 v1 v3 v5), ∀ (k0_h2 : k0_cond2 v1 v3 = 1#1), ∀ a, (k0_off107 v5) a + S1x1x1.size a ≤ S8x22x16.size a := fun v1 v3 v5 k0_hw1 k0_h2 => k0_hw1.2.2.2.1.2.2.2.2.2.2.2.2.1 k0_h2
theorem k0_off108_inb : ∀ (v1 : BitVec 32) (v3 : BitVec 32) (v5 : BitVec 32) (k0_hw1 : k0_chk1 v1 v3 v5), ∀ (k0_h2 : k0_cond2 v1 v3 = 1#1), ∀ a, (k0_off108 v5) a + S1x1x1.size a ≤ S8x22x16.size a := fun v1 v3 v5 k0_hw1 k0_h2 => k0_hw1.2.2.2.1.2.2.2.2.2.2.2.2.2.1 k0_h2
theorem k0_off109_inb : ∀ (v1 : BitVec 32) (v3 : BitVec 32) (v5 : BitVec 32) (k0_hw1 : k0_chk1 v1 v3 v5), ∀ (k0_h2 : k0_cond2 v1 v3 = 1#1), ∀ a, (k0_off109 v5) a + S1x1x1.size a ≤ S8x22x16.size a := fun v1 v3 v5 k0_hw1 k0_h2 => k0_hw1.2.2.2.1.2.2.2.2.2.2.2.2.2.2.1 k0_h2
theorem k0_off110_inb : ∀ (v1 : BitVec 32) (v3 : BitVec 32) (v5 : BitVec 32) (k0_hw1 : k0_chk1 v1 v3 v5), ∀ (k0_h2 : k0_cond2 v1 v3 = 1#1), ∀ a, (k0_off110 v5) a + S1x1x1.size a ≤ S8x22x16.size a := fun v1 v3 v5 k0_hw1 k0_h2 => k0_hw1.2.2.2.1.2.2.2.2.2.2.2.2.2.2.2.1 k0_h2
theorem k0_off111_inb : ∀ (v1 : BitVec 32) (v3 : BitVec 32) (v5 : BitVec 32) (k0_hw1 : k0_chk1 v1 v3 v5), ∀ (k0_h2 : k0_cond2 v1 v3 = 1#1), ∀ a, (k0_off111 v5) a + S1x1x1.size a ≤ S8x22x16.size a := fun v1 v3 v5 k0_hw1 k0_h2 => k0_hw1.2.2.2.1.2.2.2.2.2.2.2.2.2.2.2.2.1 k0_h2
theorem k0_off112_inb : ∀ (v1 : BitVec 32) (v3 : BitVec 32) (v5 : BitVec 32) (k0_hw1 : k0_chk1 v1 v3 v5), ∀ (k0_h2 : k0_cond2 v1 v3 = 1#1), ∀ a, (k0_off112 v5) a + S1x1x1.size a ≤ S8x22x16.size a := fun v1 v3 v5 k0_hw1 k0_h2 => k0_hw1.2.2.2.1.2.2.2.2.2.2.2.2.2.2.2.2.2.1 k0_h2
theorem k0_off113_inb : ∀ (v1 : BitVec 32) (v3 : BitVec 32) (v5 : BitVec 32) (k0_hw1 : k0_chk1 v1 v3 v5), ∀ (k0_h2 : k0_cond2 v1 v3 = 1#1), ∀ a, (k0_off113 v5) a + S1x1x1.size a ≤ S8x22x16.size a := fun v1 v3 v5 k0_hw1 k0_h2 => k0_hw1.2.2.2.1.2.2.2.2.2.2.2.2.2.2.2.2.2.2.1 k0_h2
theorem k0_off114_inb : ∀ (v1 : BitVec 32) (v3 : BitVec 32) (v5 : BitVec 32) (k0_hw1 : k0_chk1 v1 v3 v5), ∀ (k0_h2 : k0_cond2 v1 v3 = 1#1), ∀ a, (k0_off114 v5) a + S1x1x1.size a ≤ S8x22x16.size a := fun v1 v3 v5 k0_hw1 k0_h2 => k0_hw1.2.2.2.1.2.2.2.2.2.2.2.2.2.2.2.2.2.2.2.1 k0_h2
theorem k0_off115_inb : ∀ (v1 : BitVec 32) (v3 : BitVec 32) (v5 : BitVec 32) (k0_hw1 : k0_chk1 v1 v3 v5), ∀ (k0_h2 : k0_cond2 v1 v3 = 1#1), ∀ a, (k0_off115 v5) a + S1x1x1.size a ≤ S8x22x16.size a := fun v1 v3 v5 k0_hw1 k0_h2 => k0_hw1.2.2.2.1.2.2.2.2.2.2.2.2.2.2.2.2.2.2.2.2.1 k0_h2
theorem k0_off116_inb : ∀ (v1 : BitVec 32) (v3 : BitVec 32) (v5 : BitVec 32) (k0_hw1 : k0_chk1 v1 v3 v5), ∀ (k0_h2 : k0_cond2 v1 v3 = 1#1), ∀ a, (k0_off116 v5) a + S1x1x1.size a ≤ S8x22x16.size a := fun v1 v3 v5 k0_hw1 k0_h2 => k0_hw1.2.2.2.1.2.2.2.2.2.2.2.2.2.2.2.2.2.2.2.2.2.1 k0_h2
theorem k0_off117_inb : ∀ (v1 : BitVec 32) (v3 : BitVec 32) (v5 : BitVec 32) (k0_hw1 : k0_chk1 v1 v3 v5), ∀ (k0_h2 : k0_cond2 v1 v3 = 1#1), ∀ a, (k0_off117 v5) a + S1x1x1.size a ≤ S8x22x16.size a := fun v1 v3 v5 k0_hw1 k0_h2 => k0_hw1.2.2.2.1.2.2.2.2.2.2.2.2.2.2.2.2.2.2.2.2.2.2.1 k0_h2
theorem k0_off118_inb : ∀ (v1 : BitVec 32) (v3 : BitVec 32) (v5 : BitVec 32) (k0_hw1 : k0_chk1 v1 v3 v5), ∀ (k0_h2 : k0_cond2 v1 v3 = 1#1), ∀ a, (k0_off118 v5) a + S1x1x1.size a ≤ S8x22x16.size a := fun v1 v3 v5 k0_hw1 k0_h2 => k0_hw1.2.2.2.1.2.2.2.2.2.2.2.2.2.2.2.2.2.2.2.2.2.2.2.1 k0_h2
theorem k0_off119_inb : ∀ (v1 : BitVec 32) (v3 : BitVec 32) (v5 : BitVec 32) (k0_hw1 : k0_chk1 v1 v3 v5), ∀ (k0_h2 : k0_cond2 v1 v3 = 1#1), ∀ a, (k0_off119 v5) a + S1x1x1.size a ≤ S8x22x16.size a := fun v1 v3 v5 k0_hw1 k0_h2 => k0_hw1.2.2.2.1.2.2.2.2.2.2.2.2.2.2.2.2.2.2.2.2.2.2.2.2.1 k0_h2
theorem k0_off120_inb : ∀ (v1 : BitVec 32) (v3 : BitVec 32) (v5 : BitVec 32) (k0_hw1 : k0_chk1 v1 v3 v5), ∀ (k0_h2 : k0_cond2 v1 v3 = 1#1), ∀ a, (k0_off120 v5) a + S1x1x1.size a ≤ S8x22x16.size a := fun v1 v3 v5 k0_hw1 k0_h2 => k0_hw1.2.2.2.1.2.2.2.2.2.2.2.2.2.2.2.2.2.2.2.2.2.2.2.2.2.1 k0_h2
theorem k0_off121_inb : ∀ (v1 : BitVec 32) (v3 : BitVec 32) (v5 : BitVec 32) (k0_hw1 : k0_chk1 v1 v3 v5), ∀ (k0_h2 : k0_cond2 v1 v3 = 1#1), ∀ a, (k0_off121 v5) a + S1x1x1.size a ≤ S8x22x16.size a := fun v1 v3 v5 k0_hw1 k0_h2 => k0_hw1.2.2.2.1.2.2.2.2.2.2.2.2.2.2.2.2.2.2.2.2.2.2.2.2.2.2.1 k0_h2
theorem k0_off122_inb : ∀ (v1 : BitVec 32) (v3 : BitVec 32) (v5 : BitVec 32) (k0_hw1 : k0_chk1 v1 v3 v5), ∀ (k0_h2 : k0_cond2 v1 v3 = 1#1), ∀ a, (k0_off122 v5) a + S1x1x1.size a ≤ S8x22x16.size a := fun v1 v3 v5 k0_hw1 k0_h2 => k0_hw1.2.2.2.1.2.2.2.2.2.2.2.2.2.2.2.2.2.2.2.2.2.2.2.2.2.2.2.1 k0_h2
theorem k0_off123_inb : ∀ (v1 : BitVec 32) (v3 : BitVec 32) (v5 : BitVec 32) (k0_hw1 : k0_chk1 v1 v3 v5), ∀ (k0_h2 : k0_cond2 v1 v3 = 1#1), ∀ a, (k0_off123 v5) a + S1x1x1.size a ≤ S8x22x16.size a := fun v1 v3 v5 k0_hw1 k0_h2 => k0_hw1.2.2.2.1.2.2.2.2.2.2.2.2.2.2.2.2.2.2.2.2.2.2.2.2.2.2.2.2.1 k0_h2
theorem k0_off124_inb : ∀ (v1 : BitVec 32) (v3 : BitVec 32) (v5 : BitVec 32) (k0_hw1 : k0_chk1 v1 v3 v5), ∀ (k0_h2 : k0_cond2 v1 v3 = 1#1), ∀ a, (k0_off124 v5) a + S1x1x1.size a ≤ S8x22x16.size a := fun v1 v3 v5 k0_hw1 k0_h2 => k0_hw1.2.2.2.1.2.2.2.2.2.2.2.2.2.2.2.2.2.2.2.2.2.2.2.2.2.2.2.2.2.1 k0_h2
theorem k0_off125_inb : ∀ (v1 : BitVec 32) (v3 : BitVec 32) (v5 : BitVec 32) (k0_hw1 : k0_chk1 v1 v3 v5), ∀ (k0_h2 : k0_cond2 v1 v3 = 1#1), ∀ a, (k0_off125 v5) a + S1x1x1.size a ≤ S8x22x16.size a := fun v1 v3 v5 k0_hw1 k0_h2 => k0_hw1.2.2.2.1.2.2.2.2.2.2.2.2.2.2.2.2.2.2.2.2.2.2.2.2.2.2.2.2.2.2.1 k0_h2
theorem k0_off126_inb : ∀ (v1 : BitVec 32) (v3 : BitVec 32) (v5 : BitVec 32) (k0_hw1 : k0_chk1 v1 v3 v5), ∀ (k0_h2 : k0_cond2 v1 v3 = 1#1), ∀ a, (k0_off126 v5) a + S1x1x1.size a ≤ S8x22x16.size a := fun v1 v3 v5 k0_hw1 k0_h2 => k0_hw1.2.2.2.1.2.2.2.2.2.2.2.2.2.2.2.2.2.2.2.2.2.2.2.2.2.2.2.2.2.2.2.1 k0_h2
theorem k0_off127_inb : ∀ (v1 : BitVec 32) (v3 : BitVec 32) (v5 : BitVec 32) (k0_hw1 : k0_chk1 v1 v3 v5), ∀ (k0_h2 : k0_cond2 v1 v3 = 1#1), ∀ a, (k0_off127 v5) a + S1x1x1.size a ≤ S8x22x16.size a := fun v1 v3 v5 k0_hw1 k0_h2 => k0_hw1.2.2.2.1.2.2.2.2.2.2.2.2.2.2.2.2.2.2.2.2.2.2.2.2.2.2.2.2.2.2.2.2.1 k0_h2
theorem k0_off128_inb : ∀ (v1 : BitVec 32) (v3 : BitVec 32) (v5 : BitVec 32) (k0_hw1 : k0_chk1 v1 v3 v5), ∀ (k0_h2 : k0_cond2 v1 v3 = 1#1), ∀ a, (k0_off128 v5) a + S1x1x1.size a ≤ S8x22x16.size a := fun v1 v3 v5 k0_hw1 k0_h2 => k0_hw1.2.2.2.1.2.2.2.2.2.2.2.2.2.2.2.2.2.2.2.2.2.2.2.2.2.2.2.2.2.2.2.2.2.1 k0_h2
theorem k0_off129_inb : ∀ (v1 : BitVec 32) (v3 : BitVec 32) (v5 : BitVec 32) (k0_hw1 : k0_chk1 v1 v3 v5), ∀ (k0_h2 : k0_cond2 v1 v3 = 1#1), ∀ a, (k0_off129 v5) a + S1x1x1.size a ≤ S8x22x16.size a := fun v1 v3 v5 k0_hw1 k0_h2 => k0_hw1.2.2.2.1.2.2.2.2.2.2.2.2.2.2.2.2.2.2.2.2.2.2.2.2.2.2.2.2.2.2.2.2.2.2.1 k0_h2
theorem k0_off130_inb : ∀ (v1 : BitVec 32) (v3 : BitVec 32) (v5 : BitVec 32) (k0_hw1 : k0_chk1 v1 v3 v5), ∀ (k0_h2 : k0_cond2 v1 v3 = 1#1), ∀ a, (k0_off130 v5) a + S1x1x1.size a ≤ S8x22x16.size a := fun v1 v3 v5 k0_hw1 k0_h2 => k0_hw1.2.2.2.1.2.2.2.2.2.2.2.2.2.2.2.2.2.2.2.2.2.2.2.2.2.2.2.2.2.2.2.2.2.2.2 k0_h2
theorem k0_off131_inb : ∀ (v1 : BitVec 32) (v3 : BitVec 32) (v5 : BitVec 32) (k0_hw1 : k0_chk1 v1 v3 v5), ∀ (k0_h2 : k0_cond2 v1 v3 = 1#1), ∀ a, (k0_off131 v5) a + S1x1x1.size a ≤ S8x22x16.size a := fun v1 v3 v5 k0_hw1 k0_h2 => k0_hw1.2.2.2.2.1.1 k0_h2
theorem k0_off132_inb : ∀ (v1 : BitVec 32) (v3 : BitVec 32) (v5 : BitVec 32) (k0_hw1 : k0_chk1 v1 v3 v5), ∀ (k0_h2 : k0_cond2 v1 v3 = 1#1), ∀ a, (k0_off132 v5) a + S1x1x1.size a ≤ S8x22x16.size a := fun v1 v3 v5 k0_hw1 k0_h2 => k0_hw1.2.2.2.2.1.2.1 k0_h2
theorem k0_off133_inb : ∀ (v1 : BitVec 32) (v3 : BitVec 32) (v5 : BitVec 32) (k0_hw1 : k0_chk1 v1 v3 v5), ∀ (k0_h2 : k0_cond2 v1 v3 = 1#1), ∀ a, (k0_off133 v5) a + S1x1x1.size a ≤ S8x22x16.size a := fun v1 v3 v5 k0_hw1 k0_h2 => k0_hw1.2.2.2.2.1.2.2.1 k0_h2
theorem k0_off134_inb : ∀ (v1 : BitVec 32) (v3 : BitVec 32) (v5 : BitVec 32) (k0_hw1 : k0_chk1 v1 v3 v5), ∀ (k0_h2 : k0_cond2 v1 v3 = 1#1), ∀ a, (k0_off134 v5) a + S1x1x1.size a ≤ S8x22x16.size a := fun v1 v3 v5 k0_hw1 k0_h2 => k0_hw1.2.2.2.2.1.2.2.2.1 k0_h2
theorem k0_off135_inb : ∀ (v1 : BitVec 32) (v3 : BitVec 32) (v5 : BitVec 32) (k0_hw1 : k0_chk1 v1 v3 v5), ∀ (k0_h2 : k0_cond2 v1 v3 = 1#1), ∀ a, (k0_off135 v5) a + S1x1x1.size a ≤ S8x22x16.size a := fun v1 v3 v5 k0_hw1 k0_h2 => k0_hw1.2.2.2.2.1.2.2.2.2.1 k0_h2
theorem k0_off136_inb : ∀ (v1 : BitVec 32) (v3 : BitVec 32) (v5 : BitVec 32) (k0_hw1 : k0_chk1 v1 v3 v5), ∀ (k0_h2 : k0_cond2 v1 v3 = 1#1), ∀ a, (k0_off136 v5) a + S1x1x1.size a ≤ S8x22x16.size a := fun v1 v3 v5 k0_hw1 k0_h2 => k0_hw1.2.2.2.2.1.2.2.2.2.2.1 k0_h2
theorem k0_off137_inb : ∀ (v1 : BitVec 32) (v3 : BitVec 32) (v5 : BitVec 32) (k0_hw1 : k0_chk1 v1 v3 v5), ∀ (k0_h2 : k0_cond2 v1 v3 = 1#1), ∀ a, (k0_off137 v5) a + S1x1x1.size a ≤ S8x22x16.size a := fun v1 v3 v5 k0_hw1 k0_h2 => k0_hw1.2.2.2.2.1.2.2.2.2.2.2.1 k0_h2
theorem k0_off138_inb : ∀ (v1 : BitVec 32) (v3 : BitVec 32) (v5 : BitVec 32) (k0_hw1 : k0_chk1 v1 v3 v5), ∀ (k0_h2 : k0_cond2 v1 v3 = 1#1), ∀ a, (k0_off138 v5) a + S1x1x1.size a ≤ S8x22x16.size a := fun v1 v3 v5 k0_hw1 k0_h2 => k0_hw1.2.2.2.2.1.2.2.2.2.2.2.2.1 k0_h2
theorem k0_off139_inb : ∀ (v1 : BitVec 32) (v3 : BitVec 32) (v5 : BitVec 32) (k0_hw1 : k0_chk1 v1 v3 v5), ∀ (k0_h2 : k0_cond2 v1 v3 = 1#1), ∀ a, (k0_off139 v5) a + S1x1x1.size a ≤ S8x22x16.size a := fun v1 v3 v5 k0_hw1 k0_h2 => k0_hw1.2.2.2.2.1.2.2.2.2.2.2.2.2.1 k0_h2
theorem k0_off140_inb : ∀ (v1 : BitVec 32) (v3 : BitVec 32) (v5 : BitVec 32) (k0_hw1 : k0_chk1 v1 v3 v5), ∀ (k0_h2 : k0_cond2 v1 v3 = 1#1), ∀ a, (k0_off140 v5) a + S1x1x1.size a ≤ S8x22x16.size a := fun v1 v3 v5 k0_hw1 k0_h2 => k0_hw1.2.2.2.2.1.2.2.2.2.2.2.2.2.2.1 k0_h2
theorem k0_off141_inb : ∀ (v1 : BitVec 32) (v3 : BitVec 32) (v5 : BitVec 32) (k0_hw1 : k0_chk1 v1 v3 v5), ∀ (k0_h2 : k0_cond2 v1 v3 = 1#1), ∀ a, (k0_off141 v5) a + S1x1x1.size a ≤ S8x22x16.size a := fun v1 v3 v5 k0_hw1 k0_h2 => k0_hw1.2.2.2.2.1.2.2.2.2.2.2.2.2.2.2.1 k0_h2
theorem k0_off142_inb : ∀ (v1 : BitVec 32) (v3 : BitVec 32) (v5 : BitVec 32) (k0_hw1 : k0_chk1 v1 v3 v5), ∀ (k0_h2 : k0_cond2 v1 v3 = 1#1), ∀ a, (k0_off142 v5) a + S1x1x1.size a ≤ S8x22x16.size a := fun v1 v3 v5 k0_hw1 k0_h2 => k0_hw1.2.2.2.2.1.2.2.2.2.2.2.2.2.2.2.2.1 k0_h2
theorem k0_off143_inb : ∀ (v1 : BitVec 32) (v3 : BitVec 32) (v5 : BitVec 32) (k0_hw1 : k0_chk1 v1 v3 v5), ∀ (k0_h2 : k0_cond2 v1 v3 = 1#1), ∀ a, (k0_off143 v5) a + S1x1x1.size a ≤ S8x22x16.size a := fun v1 v3 v5 k0_hw1 k0_h2 => k0_hw1.2.2.2.2.1.2.2.2.2.2.2.2.2.2.2.2.2.1 k0_h2
theorem k0_off144_inb : ∀ (v1 : BitVec 32) (v3 : BitVec 32) (v5 : BitVec 32) (k0_hw1 : k0_chk1 v1 v3 v5), ∀ (k0_h2 : k0_cond2 v1 v3 = 1#1), ∀ a, (k0_off144 v5) a + S1x1x1.size a ≤ S8x22x16.size a := fun v1 v3 v5 k0_hw1 k0_h2 => k0_hw1.2.2.2.2.1.2.2.2.2.2.2.2.2.2.2.2.2.2.1 k0_h2
theorem k0_off145_inb : ∀ (v1 : BitVec 32) (v3 : BitVec 32) (v5 : BitVec 32) (k0_hw1 : k0_chk1 v1 v3 v5), ∀ (k0_h2 : k0_cond2 v1 v3 = 1#1), ∀ a, (k0_off145 v5) a + S1x1x1.size a ≤ S8x22x16.size a := fun v1 v3 v5 k0_hw1 k0_h2 => k0_hw1.2.2.2.2.1.2.2.2.2.2.2.2.2.2.2.2.2.2.2.1 k0_h2
theorem k0_off146_inb : ∀ (v1 : BitVec 32) (v3 : BitVec 32) (v5 : BitVec 32) (k0_hw1 : k0_chk1 v1 v3 v5), ∀ (k0_h2 : k0_cond2 v1 v3 = 1#1), ∀ a, (k0_off146 v5) a + S1x1x1.size a ≤ S8x22x16.size a := fun v1 v3 v5 k0_hw1 k0_h2 => k0_hw1.2.2.2.2.1.2.2.2.2.2.2.2.2.2.2.2.2.2.2.2.1 k0_h2
theorem k0_off147_inb : ∀ (v1 : BitVec 32) (v3 : BitVec 32) (v5 : BitVec 32) (k0_hw1 : k0_chk1 v1 v3 v5), ∀ (k0_h2 : k0_cond2 v1 v3 = 1#1), ∀ a, (k0_off147 v5) a + S1x1x1.size a ≤ S8x22x16.size a := fun v1 v3 v5 k0_hw1 k0_h2 => k0_hw1.2.2.2.2.1.2.2.2.2.2.2.2.2.2.2.2.2.2.2.2.2.1 k0_h2
theorem k0_off148_inb : ∀ (v1 : BitVec 32) (v3 : BitVec 32) (v5 : BitVec 32) (k0_hw1 : k0_chk1 v1 v3 v5), ∀ (k0_h2 : k0_cond2 v1 v3 = 1#1), ∀ a, (k0_off148 v5) a + S1x1x1.size a ≤ S8x22x16.size a := fun v1 v3 v5 k0_hw1 k0_h2 => k0_hw1.2.2.2.2.1.2.2.2.2.2.2.2.2.2.2.2.2.2.2.2.2.2.1 k0_h2
theorem k0_off149_inb : ∀ (v1 : BitVec 32) (v3 : BitVec 32) (v5 : BitVec 32) (k0_hw1 : k0_chk1 v1 v3 v5), ∀ (k0_h2 : k0_cond2 v1 v3 = 1#1), ∀ a, (k0_off149 v5) a + S1x1x1.size a ≤ S8x22x16.size a := fun v1 v3 v5 k0_hw1 k0_h2 => k0_hw1.2.2.2.2.1.2.2.2.2.2.2.2.2.2.2.2.2.2.2.2.2.2.2.1 k0_h2
theorem k0_off150_inb : ∀ (v1 : BitVec 32) (v3 : BitVec 32) (v5 : BitVec 32) (k0_hw1 : k0_chk1 v1 v3 v5), ∀ (k0_h2 : k0_cond2 v1 v3 = 1#1), ∀ a, (k0_off150 v5) a + S1x1x1.size a ≤ S8x22x16.size a := fun v1 v3 v5 k0_hw1 k0_h2 => k0_hw1.2.2.2.2.1.2.2.2.2.2.2.2.2.2.2.2.2.2.2.2.2.2.2.2.1 k0_h2
theorem k0_off151_inb : ∀ (v1 : BitVec 32) (v3 : BitVec 32) (v5 : BitVec 32) (k0_hw1 : k0_chk1 v1 v3 v5), ∀ (k0_h2 : k0_cond2 v1 v3 = 1#1), ∀ a, (k0_off151 v5) a + S1x1x1.size a ≤ S8x22x16.size a := fun v1 v3 v5 k0_hw1 k0_h2 => k0_hw1.2.2.2.2.1.2.2.2.2.2.2.2.2.2.2.2.2.2.2.2.2.2.2.2.2.1 k0_h2
theorem k0_off152_inb : ∀ (v1 : BitVec 32) (v3 : BitVec 32) (v5 : BitVec 32) (k0_hw1 : k0_chk1 v1 v3 v5), ∀ (k0_h2 : k0_cond2 v1 v3 = 1#1), ∀ a, (k0_off152 v5) a + S1x1x1.size a ≤ S8x22x16.size a := fun v1 v3 v5 k0_hw1 k0_h2 => k0_hw1.2.2.2.2.1.2.2.2.2.2.2.2.2.2.2.2.2.2.2.2.2.2.2.2.2.2.1 k0_h2
theorem k0_off153_inb : ∀ (v1 : BitVec 32) (v3 : BitVec 32) (v5 : BitVec 32) (k0_hw1 : k0_chk1 v1 v3 v5), ∀ (k0_h2 : k0_cond2 v1 v3 = 1#1), ∀ a, (k0_off153 v5) a + S1x1x1.size a ≤ S8x22x16.size a := fun v1 v3 v5 k0_hw1 k0_h2 => k0_hw1.2.2.2.2.1.2.2.2.2.2.2.2.2.2.2.2.2.2.2.2.2.2.2.2.2.2.2.1 k0_h2
theorem k0_off154_inb : ∀ (v1 : BitVec 32) (v3 : BitVec 32) (v5 : BitVec 32) (k0_hw1 : k0_chk1 v1 v3 v5), ∀ (k0_h2 : k0_cond2 v1 v3 = 1#1), ∀ a, (k0_off154 v5) a + S1x1x1.size a ≤ S8x22x16.size a := fun v1 v3 v5 k0_hw1 k0_h2 => k0_hw1.2.2.2.2.1.2.2.2.2.2.2.2.2.2.2.2.2.2.2.2.2.2.2.2.2.2.2.2.1 k0_h2
theorem k0_off155_inb : ∀ (v1 : BitVec 32) (v3 : BitVec 32) (v5 : BitVec 32) (k0_hw1 : k0_chk1 v1 v3 v5), ∀ (k0_h2 : k0_cond2 v1 v3 = 1#1), ∀ a, (k0_off155 v5) a + S1x1x1.size a ≤ S8x22x16.size a := fun v1 v3 v5 k0_hw1 k0_h2 => k0_hw1.2.2.2.2.1.2.2.2.2.2.2.2.2.2.2.2.2.2.2.2.2.2.2.2.2.2.2.2.2.1 k0_h2
theorem k0_off156_inb : ∀ (v1 : BitVec 32) (v3 : BitVec 32) (v5 : BitVec 32) (k0_hw1 : k0_chk1 v1 v3 v5), ∀ (k0_h2 : k0_cond2 v1 v3 = 1#1), ∀ a, (k0_off156 v5) a + S1x1x1.size a ≤ S8x22x16.size a := fun v1 v3 v5 k0_hw1 k0_h2 => k0_hw1.2.2.2.2.1.2.2.2.2.2.2.2.2.2.2.2.2.2.2.2.2.2.2.2.2.2.2.2.2.2.1 k0_h2
theorem k0_off157_inb : ∀ (v1 : BitVec 32) (v3 : BitVec 32) (v5 : BitVec 32) (k0_hw1 : k0_chk1 v1 v3 v5), ∀ (k0_h2 : k0_cond2 v1 v3 = 1#1), ∀ a, (k0_off157 v5) a + S1x1x1.size a ≤ S8x22x16.size a := fun v1 v3 v5 k0_hw1 k0_h2 => k0_hw1.2.2.2.2.1.2.2.2.2.2.2.2.2.2.2.2.2.2.2.2.2.2.2.2.2.2.2.2.2.2.2.1 k0_h2
theorem k0_off158_inb : ∀ (v1 : BitVec 32) (v3 : BitVec 32) (v5 : BitVec 32) (k0_hw1 : k0_chk1 v1 v3 v5), ∀ (k0_h2 : k0_cond2 v1 v3 = 1#1), ∀ a, (k0_off158 v5) a + S1x1x1.size a ≤ S8x22x16.size a := fun v1 v3 v5 k0_hw1 k0_h2 => k0_hw1.2.2.2.2.1.2.2.2.2.2.2.2.2.2.2.2.2.2.2.2.2.2.2.2.2.2.2.2.2.2.2.2.1 k0_h2
theorem k0_off159_inb : ∀ (v1 : BitVec 32) (v3 : BitVec 32) (v5 : BitVec 32) (k0_hw1 : k0_chk1 v1 v3 v5), ∀ (k0_h2 : k0_cond2 v1 v3 = 1#1), ∀ a, (k0_off159 v5) a + S1x1x1.size a ≤ S8x22x16.size a := fun v1 v3 v5 k0_hw1 k0_h2 => k0_hw1.2.2.2.2.1.2.2.2.2.2.2.2.2.2.2.2.2.2.2.2.2.2.2.2.2.2.2.2.2.2.2.2.2.1 k0_h2
theorem k0_off160_inb : ∀ (v1 : BitVec 32) (v3 : BitVec 32) (v5 : BitVec 32) (k0_hw1 : k0_chk1 v1 v3 v5), ∀ (k0_h2 : k0_cond2 v1 v3 = 1#1), ∀ a, (k0_off160 v5) a + S1x1x1.size a ≤ S8x22x16.size a := fun v1 v3 v5 k0_hw1 k0_h2 => k0_hw1.2.2.2.2.1.2.2.2.2.2.2.2.2.2.2.2.2.2.2.2.2.2.2.2.2.2.2.2.2.2.2.2.2.2.1 k0_h2
theorem k0_off161_inb : ∀ (v1 : BitVec 32) (v3 : BitVec 32) (v5 : BitVec 32) (k0_hw1 : k0_chk1 v1 v3 v5), ∀ (k0_h2 : k0_cond2 v1 v3 = 1#1), ∀ a, (k0_off161 v5) a + S1x1x1.size a ≤ S8x22x16.size a := fun v1 v3 v5 k0_hw1 k0_h2 => k0_hw1.2.2.2.2.1.2.2.2.2.2.2.2.2.2.2.2.2.2.2.2.2.2.2.2.2.2.2.2.2.2.2.2.2.2.2.1 k0_h2
theorem k0_off162_inb : ∀ (v1 : BitVec 32) (v3 : BitVec 32) (v5 : BitVec 32) (k0_hw1 : k0_chk1 v1 v3 v5), ∀ (k0_h2 : k0_cond2 v1 v3 = 1#1), ∀ a, (k0_off162 v5) a + S1x1x1.size a ≤ S8x22x16.size a := fun v1 v3 v5 k0_hw1 k0_h2 => k0_hw1.2.2.2.2.1.2.2.2.2.2.2.2.2.2.2.2.2.2.2.2.2.2.2.2.2.2.2.2.2.2.2.2.2.2.2.2 k0_h2
theorem k0_off163_inb : ∀ (v1 : BitVec 32) (v3 : BitVec 32) (v5 : BitVec 32) (k0_hw1 : k0_chk1 v1 v3 v5), ∀ (k0_h2 : k0_cond2 v1 v3 = 1#1), ∀ a, (k0_off163 v5) a + S1x1x1.size a ≤ S8x22x16.size a := fun v1 v3 v5 k0_hw1 k0_h2 => k0_hw1.2.2.2.2.2.1.1 k0_h2
theorem k0_off164_inb : ∀ (v1 : BitVec 32) (v3 : BitVec 32) (v5 : BitVec 32) (k0_hw1 : k0_chk1 v1 v3 v5), ∀ (k0_h2 : k0_cond2 v1 v3 = 1#1), ∀ a, (k0_off164 v5) a + S1x1x1.size a ≤ S8x22x16.size a := fun v1 v3 v5 k0_hw1 k0_h2 => k0_hw1.2.2.2.2.2.1.2.1 k0_h2
theorem k0_off165_inb : ∀ (v1 : BitVec 32) (v3 : BitVec 32) (v5 : BitVec 32) (k0_hw1 : k0_chk1 v1 v3 v5), ∀ (k0_h2 : k0_cond2 v1 v3 = 1#1), ∀ a, (k0_off165 v5) a + S1x1x1.size a ≤ S8x22x16.size a := fun v1 v3 v5 k0_hw1 k0_h2 => k0_hw1.2.2.2.2.2.1.2.2.1 k0_h2
theorem k0_off166_inb : ∀ (v1 : BitVec 32) (v3 : BitVec 32) (v5 : BitVec 32) (k0_hw1 : k0_chk1 v1 v3 v5), ∀ (k0_h2 : k0_cond2 v1 v3 = 1#1), ∀ a, (k0_off166 v5) a + S1x1x1.size a ≤ S8x22x16.size a := fun v1 v3 v5 k0_hw1 k0_h2 => k0_hw1.2.2.2.2.2.1.2.2.2.1 k0_h2
theorem k0_off167_inb : ∀ (v1 : BitVec 32) (v3 : BitVec 32) (v5 : BitVec 32) (k0_hw1 : k0_chk1 v1 v3 v5), ∀ (k0_h2 : k0_cond2 v1 v3 = 1#1), ∀ a, (k0_off167 v5) a + S1x1x1.size a ≤ S8x22x16.size a := fun v1 v3 v5 k0_hw1 k0_h2 => k0_hw1.2.2.2.2.2.1.2.2.2.2.1 k0_h2
theorem k0_off168_inb : ∀ (v1 : BitVec 32) (v3 : BitVec 32) (v5 : BitVec 32) (k0_hw1 : k0_chk1 v1 v3 v5), ∀ (k0_h2 : k0_cond2 v1 v3 = 1#1), ∀ a, (k0_off168 v5) a + S1x1x1.size a ≤ S8x22x16.size a := fun v1 v3 v5 k0_hw1 k0_h2 => k0_hw1.2.2.2.2.2.1.2.2.2.2.2.1 k0_h2
theorem k0_off169_inb : ∀ (v1 : BitVec 32) (v3 : BitVec 32) (v5 : BitVec 32) (k0_hw1 : k0_chk1 v1 v3 v5), ∀ (k0_h2 : k0_cond2 v1 v3 = 1#1), ∀ a, (k0_off169 v5) a + S1x1x1.size a ≤ S8x22x16.size a := fun v1 v3 v5 k0_hw1 k0_h2 => k0_hw1.2.2.2.2.2.1.2.2.2.2.2.2.1 k0_h2
theorem k0_off170_inb : ∀ (v1 : BitVec 32) (v3 : BitVec 32) (v5 : BitVec 32) (k0_hw1 : k0_chk1 v1 v3 v5), ∀ (k0_h2 : k0_cond2 v1 v3 = 1#1), ∀ a, (k0_off170 v5) a + S1x1x1.size a ≤ S8x22x16.size a := fun v1 v3 v5 k0_hw1 k0_h2 => k0_hw1.2.2.2.2.2.1.2.2.2.2.2.2.2.1 k0_h2
theorem k0_off171_inb : ∀ (v1 : BitVec 32) (v3 : BitVec 32) (v5 : BitVec 32) (k0_hw1 : k0_chk1 v1 v3 v5), ∀ (k0_h2 : k0_cond2 v1 v3 = 1#1), ∀ a, (k0_off171 v5) a + S1x1x1.size a ≤ S8x22x16.size a := fun v1 v3 v5 k0_hw1 k0_h2 => k0_hw1.2.2.2.2.2.1.2.2.2.2.2.2.2.2.1 k0_h2
theorem k0_off172_inb : ∀ (v1 : BitVec 32) (v3 : BitVec 32) (v5 : BitVec 32) (k0_hw1 : k0_chk1 v1 v3 v5), ∀ (k0_h2 : k0_cond2 v1 v3 = 1#1), ∀ a, (k0_off172 v5) a + S1x1x1.size a ≤ S8x22x16.size a := fun v1 v3 v5 k0_hw1 k0_h2 => k0_hw1.2.2.2.2.2.1.2.2.2.2.2.2.2.2.2.1 k0_h2
theorem k0_off173_inb : ∀ (v1 : BitVec 32) (v3 : BitVec 32) (v5 : BitVec 32) (k0_hw1 : k0_chk1 v1 v3 v5), ∀ (k0_h2 : k0_cond2 v1 v3 = 1#1), ∀ a, (k0_off173 v5) a + S1x1x1.size a ≤ S8x22x16.size a := fun v1 v3 v5 k0_hw1 k0_h2 => k0_hw1.2.2.2.2.2.1.2.2.2.2.2.2.2.2.2.2.1 k0_h2
theorem k0_off174_inb : ∀ (v1 : BitVec 32) (v3 : BitVec 32) (v5 : BitVec 32) (k0_hw1 : k0_chk1 v1 v3 v5), ∀ (k0_h2 : k0_cond2 v1 v3 = 1#1), ∀ a, (k0_off174 v5) a + S1x1x1.size a ≤ S8x22x16.size a := fun v1 v3 v5 k0_hw1 k0_h2 => k0_hw1.2.2.2.2.2.1.2.2.2.2.2.2.2.2.2.2.2.1 k0_h2
theorem k0_off175_inb : ∀ (v1 : BitVec 32) (v3 : BitVec 32) (v5 : BitVec 32) (k0_hw1 : k0_chk1 v1 v3 v5), ∀ (k0_h2 : k0_cond2 v1 v3 = 1#1), ∀ a, (k0_off175 v5) a + S1x1x1.size a ≤ S8x22x16.size a := fun v1 v3 v5 k0_hw1 k0_h2 => k0_hw1.2.2.2.2.2.1.2.2.2.2.2.2.2.2.2.2.2.2.1 k0_h2
theorem k0_off176_inb : ∀ (v1 : BitVec 32) (v3 : BitVec 32) (v5 : BitVec 32) (k0_hw1 : k0_chk1 v1 v3 v5), ∀ (k0_h2 : k0_cond2 v1 v3 = 1#1), ∀ a, (k0_off176 v5) a + S1x1x1.size a ≤ S8x22x16.size a := fun v1 v3 v5 k0_hw1 k0_h2 => k0_hw1.2.2.2.2.2.1.2.2.2.2.2.2.2.2.2.2.2.2.2.1 k0_h2
theorem k0_off177_inb : ∀ (v1 : BitVec 32) (v3 : BitVec 32) (v5 : BitVec 32) (k0_hw1 : k0_chk1 v1 v3 v5), ∀ (k0_h2 : k0_cond2 v1 v3 = 1#1), ∀ a, (k0_off177 v5) a + S1x1x1.size a ≤ S8x22x16.size a := fun v1 v3 v5 k0_hw1 k0_h2 => k0_hw1.2.2.2.2.2.1.2.2.2.2.2.2.2.2.2.2.2.2.2.2.1 k0_h2
theorem k0_off178_inb : ∀ (v1 : BitVec 32) (v3 : BitVec 32) (v5 : BitVec 32) (k0_hw1 : k0_chk1 v1 v3 v5), ∀ (k0_h2 : k0_cond2 v1 v3 = 1#1), ∀ a, (k0_off178 v5) a + S1x1x1.size a ≤ S8x22x16.size a := fun v1 v3 v5 k0_hw1 k0_h2 => k0_hw1.2.2.2.2.2.1.2.2.2.2.2.2.2.2.2.2.2.2.2.2.2.1 k0_h2
theorem k0_off179_inb : ∀ (v1 : BitVec 32) (v3 : BitVec 32) (v5 : BitVec 32) (k0_hw1 : k0_chk1 v1 v3 v5), ∀ (k0_h2 : k0_cond2 v1 v3 = 1#1), ∀ a, (k0_off179 v5) a + S1x1x1.size a ≤ S8x22x16.size a := fun v1 v3 v5 k0_hw1 k0_h2 => k0_hw1.2.2.2.2.2.1.2.2.2.2.2.2.2.2.2.2.2.2.2.2.2.2.1 k0_h2
theorem k0_off180_inb : ∀ (v1 : BitVec 32) (v3 : BitVec 32) (v5 : BitVec 32) (k0_hw1 : k0_chk1 v1 v3 v5), ∀ (k0_h2 : k0_cond2 v1 v3 = 1#1), ∀ a, (k0_off180 v5) a + S1x1x1.size a ≤ S8x22x16.size a := fun v1 v3 v5 k0_hw1 k0_h2 => k0_hw1.2.2.2.2.2.1.2.2.2.2.2.2.2.2.2.2.2.2.2.2.2.2.2.1 k0_h2
theorem k0_off181_inb : ∀ (v1 : BitVec 32) (v3 : BitVec 32) (v5 : BitVec 32) (k0_hw1 : k0_chk1 v1 v3 v5), ∀ (k0_h2 : k0_cond2 v1 v3 = 1#1), ∀ a, (k0_off181 v5) a + S1x1x1.size a ≤ S8x22x16.size a := fun v1 v3 v5 k0_hw1 k0_h2 => k0_hw1.2.2.2.2.2.1.2.2.2.2.2.2.2.2.2.2.2.2.2.2.2.2.2.2.1 k0_h2
theorem k0_off182_inb : ∀ (v1 : BitVec 32) (v3 : BitVec 32) (v5 : BitVec 32) (k0_hw1 : k0_chk1 v1 v3 v5), ∀ (k0_h2 : k0_cond2 v1 v3 = 1#1), ∀ a, (k0_off182 v5) a + S1x1x1.size a ≤ S8x22x16.size a := fun v1 v3 v5 k0_hw1 k0_h2 => k0_hw1.2.2.2.2.2.1.2.2.2.2.2.2.2.2.2.2.2.2.2.2.2.2.2.2.2.1 k0_h2
theorem k0_off183_inb : ∀ (v1 : BitVec 32) (v3 : BitVec 32) (v5 : BitVec 32) (k0_hw1 : k0_chk1 v1 v3 v5), ∀ (k0_h2 : k0_cond2 v1 v3 = 1#1), ∀ a, (k0_off183 v5) a + S1x1x1.size a ≤ S8x22x16.size a := fun v1 v3 v5 k0_hw1 k0_h2 => k0_hw1.2.2.2.2.2.1.2.2.2.2.2.2.2.2.2.2.2.2.2.2.2.2.2.2.2.2.1 k0_h2
theorem k0_off184_inb : ∀ (v1 : BitVec 32) (v3 : BitVec 32) (v5 : BitVec 32) (k0_hw1 : k0_chk1 v1 v3 v5), ∀ (k0_h2 : k0_cond2 v1 v3 = 1#1), ∀ a, (k0_off184 v5) a + S1x1x1.size a ≤ S8x22x16.size a := fun v1 v3 v5 k0_hw1 k0_h2 => k0_hw1.2.2.2.2.2.1.2.2.2.2.2.2.2.2.2.2.2.2.2.2.2.2.2.2.2.2.2.1 k0_h2
theorem k0_off185_inb : ∀ (v1 : BitVec 32) (v3 : BitVec 32) (v5 : BitVec 32) (k0_hw1 : k0_chk1 v1 v3 v5), ∀ (k0_h2 : k0_cond2 v1 v3 = 1#1), ∀ a, (k0_off185 v5) a + S1x1x1.size a ≤ S8x22x16.size a := fun v1 v3 v5 k0_hw1 k0_h2 => k0_hw1.2.2.2.2.2.1.2.2.2.2.2.2.2.2.2.2.2.2.2.2.2.2.2.2.2.2.2.2.1 k0_h2
theorem k0_off186_inb : ∀ (v1 : BitVec 32) (v3 : BitVec 32) (v5 : BitVec 32) (k0_hw1 : k0_chk1 v1 v3 v5), ∀ (k0_h2 : k0_cond2 v1 v3 = 1#1), ∀ a, (k0_off186 v5) a + S1x1x1.size a ≤ S8x22x16.size a := fun v1 v3 v5 k0_hw1 k0_h2 => k0_hw1.2.2.2.2.2.1.2.2.2.2.2.2.2.2.2.2.2.2.2.2.2.2.2.2.2.2.2.2.2.1 k0_h2
theorem k0_off187_inb : ∀ (v1 : BitVec 32) (v3 : BitVec 32) (v5 : BitVec 32) (k0_hw1 : k0_chk1 v1 v3 v5), ∀ (k0_h2 : k0_cond2 v1 v3 = 1#1), ∀ a, (k0_off187 v5) a + S1x1x1.size a ≤ S8x22x16.size a := fun v1 v3 v5 k0_hw1 k0_h2 => k0_hw1.2.2.2.2.2.1.2.2.2.2.2.2.2.2.2.2.2.2.2.2.2.2.2.2.2.2.2.2.2.2.1 k0_h2
theorem k0_off188_inb : ∀ (v1 : BitVec 32) (v3 : BitVec 32) (v5 : BitVec 32) (k0_hw1 : k0_chk1 v1 v3 v5), ∀ (k0_h2 : k0_cond2 v1 v3 = 1#1), ∀ a, (k0_off188 v5) a + S1x1x1.size a ≤ S8x22x16.size a := fun v1 v3 v5 k0_hw1 k0_h2 => k0_hw1.2.2.2.2.2.1.2.2.2.2.2.2.2.2.2.2.2.2.2.2.2.2.2.2.2.2.2.2.2.2.2.1 k0_h2
theorem k0_off189_inb : ∀ (v1 : BitVec 32) (v3 : BitVec 32) (v5 : BitVec 32) (k0_hw1 : k0_chk1 v1 v3 v5), ∀ (k0_h2 : k0_cond2 v1 v3 = 1#1), ∀ a, (k0_off189 v5) a + S1x1x1.size a ≤ S8x22x16.size a := fun v1 v3 v5 k0_hw1 k0_h2 => k0_hw1.2.2.2.2.2.1.2.2.2.2.2.2.2.2.2.2.2.2.2.2.2.2.2.2.2.2.2.2.2.2.2.2.1 k0_h2
theorem k0_off190_inb : ∀ (v1 : BitVec 32) (v3 : BitVec 32) (v5 : BitVec 32) (k0_hw1 : k0_chk1 v1 v3 v5), ∀ (k0_h2 : k0_cond2 v1 v3 = 1#1), ∀ a, (k0_off190 v5) a + S1x1x1.size a ≤ S8x22x16.size a := fun v1 v3 v5 k0_hw1 k0_h2 => k0_hw1.2.2.2.2.2.1.2.2.2.2.2.2.2.2.2.2.2.2.2.2.2.2.2.2.2.2.2.2.2.2.2.2.2.1 k0_h2
theorem k0_off191_inb : ∀ (v1 : BitVec 32) (v3 : BitVec 32) (v5 : BitVec 32) (k0_hw1 : k0_chk1 v1 v3 v5), ∀ (k0_h2 : k0_cond2 v1 v3 = 1#1), ∀ a, (k0_off191 v5) a + S1x1x1.size a ≤ S8x22x16.size a := fun v1 v3 v5 k0_hw1 k0_h2 => k0_hw1.2.2.2.2.2.1.2.2.2.2.2.2.2.2.2.2.2.2.2.2.2.2.2.2.2.2.2.2.2.2.2.2.2.2.1 k0_h2
theorem k0_off192_inb : ∀ (v1 : BitVec 32) (v3 : BitVec 32) (v5 : BitVec 32) (k0_hw1 : k0_chk1 v1 v3 v5), ∀ (k0_h2 : k0_cond2 v1 v3 = 1#1), ∀ a, (k0_off192 v5) a + S1x1x1.size a ≤ S8x22x16.size a := fun v1 v3 v5 k0_hw1 k0_h2 => k0_hw1.2.2.2.2.2.1.2.2.2.2.2.2.2.2.2.2.2.2.2.2.2.2.2.2.2.2.2.2.2.2.2.2.2.2.2.1 k0_h2
theorem k0_off193_inb : ∀ (v1 : BitVec 32) (v3 : BitVec 32) (v5 : BitVec 32) (k0_hw1 : k0_chk1 v1 v3 v5), ∀ (k0_h2 : k0_cond2 v1 v3 = 1#1), ∀ a, (k0_off193 v5) a + S1x1x1.size a ≤ S8x22x16.size a := fun v1 v3 v5 k0_hw1 k0_h2 => k0_hw1.2.2.2.2.2.1.2.2.2.2.2.2.2.2.2.2.2.2.2.2.2.2.2.2.2.2.2.2.2.2.2.2.2.2.2.2.1 k0_h2
theorem k0_off194_inb : ∀ (v1 : BitVec 32) (v3 : BitVec 32) (v5 : BitVec 32) (k0_hw1 : k0_chk1 v1 v3 v5), ∀ (k0_h2 : k0_cond2 v1 v3 = 1#1), ∀ a, (k0_off194 v5) a + S1x1x1.size a ≤ S8x22x16.size a := fun v1 v3 v5 k0_hw1 k0_h2 => k0_hw1.2.2.2.2.2.1.2.2.2.2.2.2.2.2.2.2.2.2.2.2.2.2.2.2.2.2.2.2.2.2.2.2.2.2.2.2.2 k0_h2
theorem k0_off195_inb : ∀ (v1 : BitVec 32) (v3 : BitVec 32) (v5 : BitVec 32) (k0_hw1 : k0_chk1 v1 v3 v5), ∀ (k0_h2 : k0_cond2 v1 v3 = 1#1), ∀ a, (k0_off195 v5) a + S1x1x1.size a ≤ S8x22x16.size a := fun v1 v3 v5 k0_hw1 k0_h2 => k0_hw1.2.2.2.2.2.2.1.1 k0_h2
theorem k0_off196_inb : ∀ (v1 : BitVec 32) (v3 : BitVec 32) (v5 : BitVec 32) (k0_hw1 : k0_chk1 v1 v3 v5), ∀ (k0_h2 : k0_cond2 v1 v3 = 1#1), ∀ a, (k0_off196 v5) a + S1x1x1.size a ≤ S8x22x16.size a := fun v1 v3 v5 k0_hw1 k0_h2 => k0_hw1.2.2.2.2.2.2.1.2.1 k0_h2
theorem k0_off197_inb : ∀ (v1 : BitVec 32) (v3 : BitVec 32) (v5 : BitVec 32) (k0_hw1 : k0_chk1 v1 v3 v5), ∀ (k0_h2 : k0_cond2 v1 v3 = 1#1), ∀ a, (k0_off197 v5) a + S1x1x1.size a ≤ S8x22x16.size a := fun v1 v3 v5 k0_hw1 k0_h2 => k0_hw1.2.2.2.2.2.2.1.2.2.1 k0_h2
theorem k0_off198_inb : ∀ (v1 : BitVec 32) (v3 : BitVec 32) (v5 : BitVec 32) (k0_hw1 : k0_chk1 v1 v3 v5), ∀ (k0_h2 : k0_cond2 v1 v3 = 1#1), ∀ a, (k0_off198 v5) a + S1x1x1.size a ≤ S8x22x16.size a := fun v1 v3 v5 k0_hw1 k0_h2 => k0_hw1.2.2.2.2.2.2.1.2.2.2.1 k0_h2
theorem k0_off199_inb : ∀ (v1 : BitVec 32) (v3 : BitVec 32) (v5 : BitVec 32) (k0_hw1 : k0_chk1 v1 v3 v5), ∀ (k0_h2 : k0_cond2 v1 v3 = 1#1), ∀ a, (k0_off199 v5) a + S1x1x1.size a ≤ S8x22x16.size a := fun v1 v3 v5 k0_hw1 k0_h2 => k0_hw1.2.2.2.2.2.2.1.2.2.2.2.1 k0_h2
theorem k0_off200_inb : ∀ (v1 : BitVec 32) (v3 : BitVec 32) (v5 : BitVec 32) (k0_hw1 : k0_chk1 v1 v3 v5), ∀ (k0_h2 : k0_cond2 v1 v3 = 1#1), ∀ a, (k0_off200 v5) a + S1x1x1.size a ≤ S8x22x16.size a := fun v1 v3 v5 k0_hw1 k0_h2 => k0_hw1.2.2.2.2.2.2.1.2.2.2.2.2.1 k0_h2
theorem k0_off201_inb : ∀ (v1 : BitVec 32) (v3 : BitVec 32) (v5 : BitVec 32) (k0_hw1 : k0_chk1 v1 v3 v5), ∀ (k0_h2 : k0_cond2 v1 v3 = 1#1), ∀ a, (k0_off201 v5) a + S1x1x1.size a ≤ S8x22x16.size a := fun v1 v3 v5 k0_hw1 k0_h2 => k0_hw1.2.2.2.2.2.2.1.2.2.2.2.2.2.1 k0_h2
theorem k0_off202_inb : ∀ (v1 : BitVec 32) (v3 : BitVec 32) (v5 : BitVec 32) (k0_hw1 : k0_chk1 v1 v3 v5), ∀ (k0_h2 : k0_cond2 v1 v3 = 1#1), ∀ a, (k0_off202 v5) a + S1x1x1.size a ≤ S8x22x16.size a := fun v1 v3 v5 k0_hw1 k0_h2 => k0_hw1.2.2.2.2.2.2.1.2.2.2.2.2.2.2.1 k0_h2
theorem k0_off203_inb : ∀ (v1 : BitVec 32) (v3 : BitVec 32) (v5 : BitVec 32) (k0_hw1 : k0_chk1 v1 v3 v5), ∀ (k0_h2 : k0_cond2 v1 v3 = 1#1), ∀ a, (k0_off203 v5) a + S1x1x1.size a ≤ S8x22x16.size a := fun v1 v3 v5 k0_hw1 k0_h2 => k0_hw1.2.2.2.2.2.2.1.2.2.2.2.2.2.2.2.1 k0_h2
theorem k0_off204_inb : ∀ (v1 : BitVec 32) (v3 : BitVec 32) (v5 : BitVec 32) (k0_hw1 : k0_chk1 v1 v3 v5), ∀ (k0_h2 : k0_cond2 v1 v3 = 1#1), ∀ a, (k0_off204 v5) a + S1x1x1.size a ≤ S8x22x16.size a := fun v1 v3 v5 k0_hw1 k0_h2 => k0_hw1.2.2.2.2.2.2.1.2.2.2.2.2.2.2.2.2.1 k0_h2
theorem k0_off205_inb : ∀ (v1 : BitVec 32) (v3 : BitVec 32) (v5 : BitVec 32) (k0_hw1 : k0_chk1 v1 v3 v5), ∀ (k0_h2 : k0_cond2 v1 v3 = 1#1), ∀ a, (k0_off205 v5) a + S1x1x1.size a ≤ S8x22x16.size a := fun v1 v3 v5 k0_hw1 k0_h2 => k0_hw1.2.2.2.2.2.2.1.2.2.2.2.2.2.2.2.2.2.1 k0_h2
theorem k0_off206_inb : ∀ (v1 : BitVec 32) (v3 : BitVec 32) (v5 : BitVec 32) (k0_hw1 : k0_chk1 v1 v3 v5), ∀ (k0_h2 : k0_cond2 v1 v3 = 1#1), ∀ a, (k0_off206 v5) a + S1x1x1.size a ≤ S8x22x16.size a := fun v1 v3 v5 k0_hw1 k0_h2 => k0_hw1.2.2.2.2.2.2.1.2.2.2.2.2.2.2.2.2.2.2.1 k0_h2
theorem k0_off207_inb : ∀ (v1 : BitVec 32) (v3 : BitVec 32) (v5 : BitVec 32) (k0_hw1 : k0_chk1 v1 v3 v5), ∀ (k0_h2 : k0_cond2 v1 v3 = 1#1), ∀ a, (k0_off207 v5) a + S1x1x1.size a ≤ S8x22x16.size a := fun v1 v3 v5 k0_hw1 k0_h2 => k0_hw1.2.2.2.2.2.2.1.2.2.2.2.2.2.2.2.2.2.2.2.1 k0_h2
theorem k0_off208_inb : ∀ (v1 : BitVec 32) (v3 : BitVec 32) (v5 : BitVec 32) (k0_hw1 : k0_chk1 v1 v3 v5), ∀ (k0_h2 : k0_cond2 v1 v3 = 1#1), ∀ a, (k0_off208 v5) a + S1x1x1.size a ≤ S8x22x16.size a := fun v1 v3 v5 k0_hw1 k0_h2 => k0_hw1.2.2.2.2.2.2.1.2.2.2.2.2.2.2.2.2.2.2.2.2.1 k0_h2
theorem k0_off209_inb : ∀ (v1 : BitVec 32) (v3 : BitVec 32) (v5 : BitVec 32) (k0_hw1 : k0_chk1 v1 v3 v5), ∀ (k0_h2 : k0_cond2 v1 v3 = 1#1), ∀ a, (k0_off209 v5) a + S1x1x1.size a ≤ S8x22x16.size a := fun v1 v3 v5 k0_hw1 k0_h2 => k0_hw1.2.2.2.2.2.2.1.2.2.2.2.2.2.2.2.2.2.2.2.2.2.1 k0_h2
theorem k0_off210_inb : ∀ (v1 : BitVec 32) (v3 : BitVec 32) (v5 : BitVec 32) (k0_hw1 : k0_chk1 v1 v3 v5), ∀ (k0_h2 : k0_cond2 v1 v3 = 1#1), ∀ a, (k0_off210 v5) a + S1x1x1.size a ≤ S8x22x16.size a := fun v1 v3 v5 k0_hw1 k0_h2 => k0_hw1.2.2.2.2.2.2.1.2.2.2.2.2.2.2.2.2.2.2.2.2.2.2.1 k0_h2
theorem k0_off211_inb : ∀ (v1 : BitVec 32) (v3 : BitVec 32) (v5 : BitVec 32) (k0_hw1 : k0_chk1 v1 v3 v5), ∀ (k0_h2 : k0_cond2 v1 v3 = 1#1), ∀ a, (k0_off211 v5) a + S1x1x1.size a ≤ S8x22x16.size a := fun v1 v3 v5 k0_hw1 k0_h2 => k0_hw1.2.2.2.2.2.2.1.2.2.2.2.2.2.2.2.2.2.2.2.2.2.2.2.1 k0_h2
theorem k0_off212_inb : ∀ (v1 : BitVec 32) (v3 : BitVec 32) (v5 : BitVec 32) (k0_hw1 : k0_chk1 v1 v3 v5), ∀ (k0_h2 : k0_cond2 v1 v3 = 1#1), ∀ a, (k0_off212 v5) a + S1x1x1.size a ≤ S8x22x16.size a := fun v1 v3 v5 k0_hw1 k0_h2 => k0_hw1.2.2.2.2.2.2.1.2.2.2.2.2.2.2.2.2.2.2.2.2.2.2.2.2.1 k0_h2
theorem k0_off213_inb : ∀ (v1 : BitVec 32) (v3 : BitVec 32) (v5 : BitVec 32) (k0_hw1 : k0_chk1 v1 v3 v5), ∀ (k0_h2 : k0_cond2 v1 v3 = 1#1), ∀ a, (k0_off213 v5) a + S1x1x1.size a ≤ S8x22x16.size a := fun v1 v3 v5 k0_hw1 k0_h2 => k0_hw1.2.2.2.2.2.2.1.2.2.2.2.2.2.2.2.2.2.2.2.2.2.2.2.2.2.1 k0_h2
theorem k0_off214_inb : ∀ (v1 : BitVec 32) (v3 : BitVec 32) (v5 : BitVec 32) (k0_hw1 : k0_chk1 v1 v3 v5), ∀ (k0_h2 : k0_cond2 v1 v3 = 1#1), ∀ a, (k0_off214 v5) a + S1x1x1.size a ≤ S8x22x16.size a := fun v1 v3 v5 k0_hw1 k0_h2 => k0_hw1.2.2.2.2.2.2.1.2.2.2.2.2.2.2.2.2.2.2.2.2.2.2.2.2.2.2.1 k0_h2
theorem k0_off215_inb : ∀ (v1 : BitVec 32) (v3 : BitVec 32) (v5 : BitVec 32) (k0_hw1 : k0_chk1 v1 v3 v5), ∀ (k0_h2 : k0_cond2 v1 v3 = 1#1), ∀ a, (k0_off215 v5) a + S1x1x1.size a ≤ S8x22x16.size a := fun v1 v3 v5 k0_hw1 k0_h2 => k0_hw1.2.2.2.2.2.2.1.2.2.2.2.2.2.2.2.2.2.2.2.2.2.2.2.2.2.2.2.1 k0_h2
theorem k0_off216_inb : ∀ (v1 : BitVec 32) (v3 : BitVec 32) (v5 : BitVec 32) (k0_hw1 : k0_chk1 v1 v3 v5), ∀ (k0_h2 : k0_cond2 v1 v3 = 1#1), ∀ a, (k0_off216 v5) a + S1x1x1.size a ≤ S8x22x16.size a := fun v1 v3 v5 k0_hw1 k0_h2 => k0_hw1.2.2.2.2.2.2.1.2.2.2.2.2.2.2.2.2.2.2.2.2.2.2.2.2.2.2.2.2.1 k0_h2
theorem k0_off217_inb : ∀ (v1 : BitVec 32) (v3 : BitVec 32) (v5 : BitVec 32) (k0_hw1 : k0_chk1 v1 v3 v5), ∀ (k0_h2 : k0_cond2 v1 v3 = 1#1), ∀ a, (k0_off217 v5) a + S1x1x1.size a ≤ S8x22x16.size a := fun v1 v3 v5 k0_hw1 k0_h2 => k0_hw1.2.2.2.2.2.2.1.2.2.2.2.2.2.2.2.2.2.2.2.2.2.2.2.2.2.2.2.2.2.1 k0_h2
theorem k0_off218_inb : ∀ (v1 : BitVec 32) (v3 : BitVec 32) (v5 : BitVec 32) (k0_hw1 : k0_chk1 v1 v3 v5), ∀ (k0_h2 : k0_cond2 v1 v3 = 1#1), ∀ a, (k0_off218 v5) a + S1x1x1.size a ≤ S8x22x16.size a := fun v1 v3 v5 k0_hw1 k0_h2 => k0_hw1.2.2.2.2.2.2.1.2.2.2.2.2.2.2.2.2.2.2.2.2.2.2.2.2.2.2.2.2.2.2.1 k0_h2
theorem k0_off219_inb : ∀ (v1 : BitVec 32) (v3 : BitVec 32) (v5 : BitVec 32) (k0_hw1 : k0_chk1 v1 v3 v5), ∀ (k0_h2 : k0_cond2 v1 v3 = 1#1), ∀ a, (k0_off219 v5) a + S1x1x1.size a ≤ S8x22x16.size a := fun v1 v3 v5 k0_hw1 k0_h2 => k0_hw1.2.2.2.2.2.2.1.2.2.2.2.2.2.2.2.2.2.2.2.2.2.2.2.2.2.2.2.2.2.2.2.1 k0_h2
theorem k0_off220_inb : ∀ (v1 : BitVec 32) (v3 : BitVec 32) (v5 : BitVec 32) (k0_hw1 : k0_chk1 v1 v3 v5), ∀ (k0_h2 : k0_cond2 v1 v3 = 1#1), ∀ a, (k0_off220 v5) a + S1x1x1.size a ≤ S8x22x16.size a := fun v1 v3 v5 k0_hw1 k0_h2 => k0_hw1.2.2.2.2.2.2.1.2.2.2.2.2.2.2.2.2.2.2.2.2.2.2.2.2.2.2.2.2.2.2.2.2.1 k0_h2
theorem k0_off221_inb : ∀ (v1 : BitVec 32) (v3 : BitVec 32) (v5 : BitVec 32) (k0_hw1 : k0_chk1 v1 v3 v5), ∀ (k0_h2 : k0_cond2 v1 v3 = 1#1), ∀ a, (k0_off221 v5) a + S1x1x1.size a ≤ S8x22x16.size a := fun v1 v3 v5 k0_hw1 k0_h2 => k0_hw1.2.2.2.2.2.2.1.2.2.2.2.2.2.2.2.2.2.2.2.2.2.2.2.2.2.2.2.2.2.2.2.2.2.1 k0_h2
theorem k0_off222_inb : ∀ (v1 : BitVec 32) (v3 : BitVec 32) (v5 : BitVec 32) (k0_hw1 : k0_chk1 v1 v3 v5), ∀ (k0_h2 : k0_cond2 v1 v3 = 1#1), ∀ a, (k0_off222 v5) a + S1x1x1.size a ≤ S8x22x16.size a := fun v1 v3 v5 k0_hw1 k0_h2 => k0_hw1.2.2.2.2.2.2.1.2.2.2.2.2.2.2.2.2.2.2.2.2.2.2.2.2.2.2.2.2.2.2.2.2.2.2.1 k0_h2
theorem k0_off223_inb : ∀ (v1 : BitVec 32) (v3 : BitVec 32) (v5 : BitVec 32) (k0_hw1 : k0_chk1 v1 v3 v5), ∀ (k0_h2 : k0_cond2 v1 v3 = 1#1), ∀ a, (k0_off223 v5) a + S1x1x1.size a ≤ S8x22x16.size a := fun v1 v3 v5 k0_hw1 k0_h2 => k0_hw1.2.2.2.2.2.2.1.2.2.2.2.2.2.2.2.2.2.2.2.2.2.2.2.2.2.2.2.2.2.2.2.2.2.2.2.1 k0_h2
theorem k0_off224_inb : ∀ (v1 : BitVec 32) (v3 : BitVec 32) (v5 : BitVec 32) (k0_hw1 : k0_chk1 v1 v3 v5), ∀ (k0_h2 : k0_cond2 v1 v3 = 1#1), ∀ a, (k0_off224 v5) a + S1x1x1.size a ≤ S8x22x16.size a := fun v1 v3 v5 k0_hw1 k0_h2 => k0_hw1.2.2.2.2.2.2.1.2.2.2.2.2.2.2.2.2.2.2.2.2.2.2.2.2.2.2.2.2.2.2.2.2.2.2.2.2.1 k0_h2
theorem k0_off225_inb : ∀ (v1 : BitVec 32) (v3 : BitVec 32) (v5 : BitVec 32) (k0_hw1 : k0_chk1 v1 v3 v5), ∀ (k0_h2 : k0_cond2 v1 v3 = 1#1), ∀ a, (k0_off225 v5) a + S1x1x1.size a ≤ S8x22x16.size a := fun v1 v3 v5 k0_hw1 k0_h2 => k0_hw1.2.2.2.2.2.2.1.2.2.2.2.2.2.2.2.2.2.2.2.2.2.2.2.2.2.2.2.2.2.2.2.2.2.2.2.2.2.1 k0_h2
theorem k0_off226_inb : ∀ (v1 : BitVec 32) (v3 : BitVec 32) (v5 : BitVec 32) (k0_hw1 : k0_chk1 v1 v3 v5), ∀ (k0_h2 : k0_cond2 v1 v3 = 1#1), ∀ a, (k0_off226 v5) a + S1x1x1.size a ≤ S8x22x16.size a := fun v1 v3 v5 k0_hw1 k0_h2 => k0_hw1.2.2.2.2.2.2.1.2.2.2.2.2.2.2.2.2.2.2.2.2.2.2.2.2.2.2.2.2.2.2.2.2.2.2.2.2.2.2 k0_h2
theorem k0_off227_inb : ∀ (v1 : BitVec 32) (v3 : BitVec 32) (v5 : BitVec 32) (k0_hw1 : k0_chk1 v1 v3 v5), ∀ (k0_h2 : k0_cond2 v1 v3 = 1#1), ∀ a, (k0_off227 v5) a + S1x1x1.size a ≤ S8x22x16.size a := fun v1 v3 v5 k0_hw1 k0_h2 => k0_hw1.2.2.2.2.2.2.2.1.1 k0_h2
theorem k0_off228_inb : ∀ (v1 : BitVec 32) (v3 : BitVec 32) (v5 : BitVec 32) (k0_hw1 : k0_chk1 v1 v3 v5), ∀ (k0_h2 : k0_cond2 v1 v3 = 1#1), ∀ a, (k0_off228 v5) a + S1x1x1.size a ≤ S8x22x16.size a := fun v1 v3 v5 k0_hw1 k0_h2 => k0_hw1.2.2.2.2.2.2.2.1.2.1 k0_h2
theorem k0_off229_inb : ∀ (v1 : BitVec 32) (v3 : BitVec 32) (v5 : BitVec 32) (k0_hw1 : k0_chk1 v1 v3 v5), ∀ (k0_h2 : k0_cond2 v1 v3 = 1#1), ∀ a, (k0_off229 v5) a + S1x1x1.size a ≤ S8x22x16.size a := fun v1 v3 v5 k0_hw1 k0_h2 => k0_hw1.2.2.2.2.2.2.2.1.2.2.1 k0_h2
theorem k0_off230_inb : ∀ (v1 : BitVec 32) (v3 : BitVec 32) (v5 : BitVec 32) (k0_hw1 : k0_chk1 v1 v3 v5), ∀ (k0_h2 : k0_cond2 v1 v3 = 1#1), ∀ a, (k0_off230 v5) a + S1x1x1.size a ≤ S8x22x16.size a := fun v1 v3 v5 k0_hw1 k0_h2 => k0_hw1.2.2.2.2.2.2.2.1.2.2.2.1 k0_h2
theorem k0_off231_inb : ∀ (v1 : BitVec 32) (v3 : BitVec 32) (v5 : BitVec 32) (k0_hw1 : k0_chk1 v1 v3 v5), ∀ (k0_h2 : k0_cond2 v1 v3 = 1#1), ∀ a, (k0_off231 v5) a + S1x1x1.size a ≤ S8x22x16.size a := fun v1 v3 v5 k0_hw1 k0_h2 => k0_hw1.2.2.2.2.2.2.2.1.2.2.2.2.1 k0_h2
theorem k0_off232_inb : ∀ (v1 : BitVec 32) (v3 : BitVec 32) (v5 : BitVec 32) (k0_hw1 : k0_chk1 v1 v3 v5), ∀ (k0_h2 : k0_cond2 v1 v3 = 1#1), ∀ a, (k0_off232 v5) a + S1x1x1.size a ≤ S8x22x16.size a := fun v1 v3 v5 k0_hw1 k0_h2 => k0_hw1.2.2.2.2.2.2.2.1.2.2.2.2.2.1 k0_h2
theorem k0_off233_inb : ∀ (v1 : BitVec 32) (v3 : BitVec 32) (v5 : BitVec 32) (k0_hw1 : k0_chk1 v1 v3 v5), ∀ (k0_h2 : k0_cond2 v1 v3 = 1#1), ∀ a, (k0_off233 v5) a + S1x1x1.size a ≤ S8x22x16.size a := fun v1 v3 v5 k0_hw1 k0_h2 => k0_hw1.2.2.2.2.2.2.2.1.2.2.2.2.2.2.1 k0_h2
theorem k0_off234_inb : ∀ (v1 : BitVec 32) (v3 : BitVec 32) (v5 : BitVec 32) (k0_hw1 : k0_chk1 v1 v3 v5), ∀ (k0_h2 : k0_cond2 v1 v3 = 1#1), ∀ a, (k0_off234 v5) a + S1x1x1.size a ≤ S8x22x16.size a := fun v1 v3 v5 k0_hw1 k0_h2 => k0_hw1.2.2.2.2.2.2.2.1.2.2.2.2.2.2.2.1 k0_h2
theorem k0_off235_inb : ∀ (v1 : BitVec 32) (v3 : BitVec 32) (v5 : BitVec 32) (k0_hw1 : k0_chk1 v1 v3 v5), ∀ (k0_h2 : k0_cond2 v1 v3 = 1#1), ∀ a, (k0_off235 v5) a + S1x1x1.size a ≤ S8x22x16.size a := fun v1 v3 v5 k0_hw1 k0_h2 => k0_hw1.2.2.2.2.2.2.2.1.2.2.2.2.2.2.2.2.1 k0_h2
theorem k0_off236_inb : ∀ (v1 : BitVec 32) (v3 : BitVec 32) (v5 : BitVec 32) (k0_hw1 : k0_chk1 v1 v3 v5), ∀ (k0_h2 : k0_cond2 v1 v3 = 1#1), ∀ a, (k0_off236 v5) a + S1x1x1.size a ≤ S8x22x16.size a := fun v1 v3 v5 k0_hw1 k0_h2 => k0_hw1.2.2.2.2.2.2.2.1.2.2.2.2.2.2.2.2.2.1 k0_h2
theorem k0_off237_inb : ∀ (v1 : BitVec 32) (v3 : BitVec 32) (v5 : BitVec 32) (k0_hw1 : k0_chk1 v1 v3 v5), ∀ (k0_h2 : k0_cond2 v1 v3 = 1#1), ∀ a, (k0_off237 v5) a + S1x1x1.size a ≤ S8x22x16.size a := fun v1 v3 v5 k0_hw1 k0_h2 => k0_hw1.2.2.2.2.2.2.2.1.2.2.2.2.2.2.2.2.2.2.1 k0_h2
theorem k0_off238_inb : ∀ (v1 : BitVec 32) (v3 : BitVec 32) (v5 : BitVec 32) (k0_hw1 : k0_chk1 v1 v3 v5), ∀ (k0_h2 : k0_cond2 v1 v3 = 1#1), ∀ a, (k0_off238 v5) a + S1x1x1.size a ≤ S8x22x16.size a := fun v1 v3 v5 k0_hw1 k0_h2 => k0_hw1.2.2.2.2.2.2.2.1.2.2.2.2.2.2.2.2.2.2.2.1 k0_h2
theorem k0_off239_inb : ∀ (v1 : BitVec 32) (v3 : BitVec 32) (v5 : BitVec 32) (k0_hw1 : k0_chk1 v1 v3 v5), ∀ (k0_h2 : k0_cond2 v1 v3 = 1#1), ∀ a, (k0_off239 v5) a + S1x1x1.size a ≤ S8x22x16.size a := fun v1 v3 v5 k0_hw1 k0_h2 => k0_hw1.2.2.2.2.2.2.2.1.2.2.2.2.2.2.2.2.2.2.2.2.1 k0_h2
theorem k0_off240_inb : ∀ (v1 : BitVec 32) (v3 : BitVec 32) (v5 : BitVec 32) (k0_hw1 : k0_chk1 v1 v3 v5), ∀ (k0_h2 : k0_cond2 v1 v3 = 1#1), ∀ a, (k0_off240 v5) a + S1x1x1.size a ≤ S8x22x16.size a := fun v1 v3 v5 k0_hw1 k0_h2 => k0_hw1.2.2.2.2.2.2.2.1.2.2.2.2.2.2.2.2.2.2.2.2.2.1 k0_h2
theorem k0_off241_inb : ∀ (v1 : BitVec 32) (v3 : BitVec 32) (v5 : BitVec 32) (k0_hw1 : k0_chk1 v1 v3 v5), ∀ (k0_h2 : k0_cond2 v1 v3 = 1#1), ∀ a, (k0_off241 v5) a + S1x1x1.size a ≤ S8x22x16.size a := fun v1 v3 v5 k0_hw1 k0_h2 => k0_hw1.2.2.2.2.2.2.2.1.2.2.2.2.2.2.2.2.2.2.2.2.2.2.1 k0_h2
theorem k0_off242_inb : ∀ (v1 : BitVec 32) (v3 : BitVec 32) (v5 : BitVec 32) (k0_hw1 : k0_chk1 v1 v3 v5), ∀ (k0_h2 : k0_cond2 v1 v3 = 1#1), ∀ a, (k0_off242 v5) a + S1x1x1.size a ≤ S8x22x16.size a := fun v1 v3 v5 k0_hw1 k0_h2 => k0_hw1.2.2.2.2.2.2.2.1.2.2.2.2.2.2.2.2.2.2.2.2.2.2.2.1 k0_h2
theorem k0_off243_inb : ∀ (v1 : BitVec 32) (v3 : BitVec 32) (v5 : BitVec 32) (k0_hw1 : k0_chk1 v1 v3 v5), ∀ (k0_h2 : k0_cond2 v1 v3 = 1#1), ∀ a, (k0_off243 v5) a + S1x1x1.size a ≤ S8x22x16.size a := fun v1 v3 v5 k0_hw1 k0_h2 => k0_hw1.2.2.2.2.2.2.2.1.2.2.2.2.2.2.2.2.2.2.2.2.2.2.2.2.1 k0_h2
theorem k0_off244_inb : ∀ (v1 : BitVec 32) (v3 : BitVec 32) (v5 : BitVec 32) (k0_hw1 : k0_chk1 v1 v3 v5), ∀ (k0_h2 : k0_cond2 v1 v3 = 1#1), ∀ a, (k0_off244 v5) a + S1x1x1.size a ≤ S8x22x16.size a := fun v1 v3 v5 k0_hw1 k0_h2 => k0_hw1.2.2.2.2.2.2.2.1.2.2.2.2.2.2.2.2.2.2.2.2.2.2.2.2.2.1 k0_h2
theorem k0_off245_inb : ∀ (v1 : BitVec 32) (v3 : BitVec 32) (v5 : BitVec 32) (k0_hw1 : k0_chk1 v1 v3 v5), ∀ (k0_h2 : k0_cond2 v1 v3 = 1#1), ∀ a, (k0_off245 v5) a + S1x1x1.size a ≤ S8x22x16.size a := fun v1 v3 v5 k0_hw1 k0_h2 => k0_hw1.2.2.2.2.2.2.2.1.2.2.2.2.2.2.2.2.2.2.2.2.2.2.2.2.2.2.1 k0_h2
theorem k0_off246_inb : ∀ (v1 : BitVec 32) (v3 : BitVec 32) (v5 : BitVec 32) (k0_hw1 : k0_chk1 v1 v3 v5), ∀ (k0_h2 : k0_cond2 v1 v3 = 1#1), ∀ a, (k0_off246 v5) a + S1x1x1.size a ≤ S8x22x16.size a := fun v1 v3 v5 k0_hw1 k0_h2 => k0_hw1.2.2.2.2.2.2.2.1.2.2.2.2.2.2.2.2.2.2.2.2.2.2.2.2.2.2.2.1 k0_h2
theorem k0_off247_inb : ∀ (v1 : BitVec 32) (v3 : BitVec 32) (v5 : BitVec 32) (k0_hw1 : k0_chk1 v1 v3 v5), ∀ (k0_h2 : k0_cond2 v1 v3 = 1#1), ∀ a, (k0_off247 v5) a + S1x1x1.size a ≤ S8x22x16.size a := fun v1 v3 v5 k0_hw1 k0_h2 => k0_hw1.2.2.2.2.2.2.2.1.2.2.2.2.2.2.2.2.2.2.2.2.2.2.2.2.2.2.2.2.1 k0_h2
theorem k0_off248_inb : ∀ (v1 : BitVec 32) (v3 : BitVec 32) (v5 : BitVec 32) (k0_hw1 : k0_chk1 v1 v3 v5), ∀ (k0_h2 : k0_cond2 v1 v3 = 1#1), ∀ a, (k0_off248 v5) a + S1x1x1.size a ≤ S8x22x16.size a := fun v1 v3 v5 k0_hw1 k0_h2 => k0_hw1.2.2.2.2.2.2.2.1.2.2.2.2.2.2.2.2.2.2.2.2.2.2.2.2.2.2.2.2.2.1 k0_h2
theorem k0_off249_inb : ∀ (v1 : BitVec 32) (v3 : BitVec 32) (v5 : BitVec 32) (k0_hw1 : k0_chk1 v1 v3 v5), ∀ (k0_h2 : k0_cond2 v1 v3 = 1#1), ∀ a, (k0_off249 v5) a + S1x1x1.size a ≤ S8x22x16.size a := fun v1 v3 v5 k0_hw1 k0_h2 => k0_hw1.2.2.2.2.2.2.2.1.2.2.2.2.2.2.2.2.2.2.2.2.2.2.2.2.2.2.2.2.2.2.1 k0_h2
theorem k0_off250_inb : ∀ (v1 : BitVec 32) (v3 : BitVec 32) (v5 : BitVec 32) (k0_hw1 : k0_chk1 v1 v3 v5), ∀ (k0_h2 : k0_cond2 v1 v3 = 1#1), ∀ a, (k0_off250 v5) a + S1x1x1.size a ≤ S8x22x16.size a := fun v1 v3 v5 k0_hw1 k0_h2 => k0_hw1.2.2.2.2.2.2.2.1.2.2.2.2.2.2.2.2.2.2.2.2.2.2.2.2.2.2.2.2.2.2.2.1 k0_h2
theorem k0_off251_inb : ∀ (v1 : BitVec 32) (v3 : BitVec 32) (v5 : BitVec 32) (k0_hw1 : k0_chk1 v1 v3 v5), ∀ (k0_h2 : k0_cond2 v1 v3 = 1#1), ∀ a, (k0_off251 v5) a + S1x1x1.size a ≤ S8x22x16.size a := fun v1 v3 v5 k0_hw1 k0_h2 => k0_hw1.2.2.2.2.2.2.2.1.2.2.2.2.2.2.2.2.2.2.2.2.2.2.2.2.2.2.2.2.2.2.2.2.1 k0_h2
theorem k0_off252_inb : ∀ (v1 : BitVec 32) (v3 : BitVec 32) (v5 : BitVec 32) (k0_hw1 : k0_chk1 v1 v3 v5), ∀ (k0_h2 : k0_cond2 v1 v3 = 1#1), ∀ a, (k0_off252 v5) a + S1x1x1.size a ≤ S8x22x16.size a := fun v1 v3 v5 k0_hw1 k0_h2 => k0_hw1.2.2.2.2.2.2.2.1.2.2.2.2.2.2.2.2.2.2.2.2.2.2.2.2.2.2.2.2.2.2.2.2.2.1 k0_h2
theorem k0_off253_inb : ∀ (v1 : BitVec 32) (v3 : BitVec 32) (v5 : BitVec 32) (k0_hw1 : k0_chk1 v1 v3 v5), ∀ (k0_h2 : k0_cond2 v1 v3 = 1#1), ∀ a, (k0_off253 v5) a + S1x1x1.size a ≤ S8x22x16.size a := fun v1 v3 v5 k0_hw1 k0_h2 => k0_hw1.2.2.2.2.2.2.2.1.2.2.2.2.2.2.2.2.2.2.2.2.2.2.2.2.2.2.2.2.2.2.2.2.2.2.1 k0_h2
theorem k0_off254_inb : ∀ (v1 : BitVec 32) (v3 : BitVec 32) (v5 : BitVec 32) (k0_hw1 : k0_chk1 v1 v3 v5), ∀ (k0_h2 : k0_cond2 v1 v3 = 1#1), ∀ a, (k0_off254 v5) a + S1x1x1.size a ≤ S8x22x16.size a := fun v1 v3 v5 k0_hw1 k0_h2 => k0_hw1.2.2.2.2.2.2.2.1.2.2.2.2.2.2.2.2.2.2.2.2.2.2.2.2.2.2.2.2.2.2.2.2.2.2.2.1 k0_h2
theorem k0_off255_inb : ∀ (v1 : BitVec 32) (v3 : BitVec 32) (v5 : BitVec 32) (k0_hw1 : k0_chk1 v1 v3 v5), ∀ (k0_h2 : k0_cond2 v1 v3 = 1#1), ∀ a, (k0_off255 v5) a + S1x1x1.size a ≤ S8x22x16.size a := fun v1 v3 v5 k0_hw1 k0_h2 => k0_hw1.2.2.2.2.2.2.2.1.2.2.2.2.2.2.2.2.2.2.2.2.2.2.2.2.2.2.2.2.2.2.2.2.2.2.2.2.1 k0_h2
theorem k0_off256_inb : ∀ (v1 : BitVec 32) (v3 : BitVec 32) (v5 : BitVec 32) (k0_hw1 : k0_chk1 v1 v3 v5), ∀ (k0_h2 : k0_cond2 v1 v3 = 1#1), ∀ a, (k0_off256 v5) a + S1x1x1.size a ≤ S8x22x16.size a := fun v1 v3 v5 k0_hw1 k0_h2 => k0_hw1.2.2.2.2.2.2.2.1.2.2.2.2.2.2.2.2.2.2.2.2.2.2.2.2.2.2.2.2.2.2.2.2.2.2.2.2.2.1 k0_h2
theorem k0_off257_inb : ∀ (v1 : BitVec 32) (v3 : BitVec 32) (v5 : BitVec 32) (k0_hw1 : k0_chk1 v1 v3 v5), ∀ (k0_h2 : k0_cond2 v1 v3 = 1#1), ∀ a, (k0_off257 v5) a + S1x1x1.size a ≤ S8x22x16.size a := fun v1 v3 v5 k0_hw1 k0_h2 => k0_hw1.2.2.2.2.2.2.2.1.2.2.2.2.2.2.2.2.2.2.2.2.2.2.2.2.2.2.2.2.2.2.2.2.2.2.2.2.2.2.1 k0_h2
theorem k0_off258_inb : ∀ (v1 : BitVec 32) (v3 : BitVec 32) (v5 : BitVec 32) (k0_hw1 : k0_chk1 v1 v3 v5), ∀ (k0_h2 : k0_cond2 v1 v3 = 1#1), ∀ a, (k0_off258 v5) a + S1x1x1.size a ≤ S8x22x16.size a := fun v1 v3 v5 k0_hw1 k0_h2 => k0_hw1.2.2.2.2.2.2.2.1.2.2.2.2.2.2.2.2.2.2.2.2.2.2.2.2.2.2.2.2.2.2.2.2.2.2.2.2.2.2.2 k0_h2
theorem k0_off259_inb : ∀ (v1 : BitVec 32) (v3 : BitVec 32) (v5 : BitVec 32) (k0_hw1 : k0_chk1 v1 v3 v5), ∀ (k0_h2 : k0_cond2 v1 v3 = 1#1), ∀ a, (k0_off259 v5) a + S1x1x1.size a ≤ S8x22x16.size a := fun v1 v3 v5 k0_hw1 k0_h2 => k0_hw1.2.2.2.2.2.2.2.2.1.1 k0_h2
theorem k0_off260_inb : ∀ (v1 : BitVec 32) (v3 : BitVec 32) (v5 : BitVec 32) (k0_hw1 : k0_chk1 v1 v3 v5), ∀ (k0_h2 : k0_cond2 v1 v3 = 1#1), ∀ a, (k0_off260 v5) a + S1x1x1.size a ≤ S8x22x16.size a := fun v1 v3 v5 k0_hw1 k0_h2 => k0_hw1.2.2.2.2.2.2.2.2.1.2.1 k0_h2
theorem k0_off261_inb : ∀ (v1 : BitVec 32) (v3 : BitVec 32) (v5 : BitVec 32) (k0_hw1 : k0_chk1 v1 v3 v5), ∀ (k0_h2 : k0_cond2 v1 v3 = 1#1), ∀ a, (k0_off261 v5) a + S1x1x1.size a ≤ S8x22x16.size a := fun v1 v3 v5 k0_hw1 k0_h2 => k0_hw1.2.2.2.2.2.2.2.2.1.2.2.1 k0_h2
theorem k0_off262_inb : ∀ (v1 : BitVec 32) (v3 : BitVec 32) (v5 : BitVec 32) (k0_hw1 : k0_chk1 v1 v3 v5), ∀ (k0_h2 : k0_cond2 v1 v3 = 1#1), ∀ a, (k0_off262 v5) a + S1x1x1.size a ≤ S8x22x16.size a := fun v1 v3 v5 k0_hw1 k0_h2 => k0_hw1.2.2.2.2.2.2.2.2.1.2.2.2.1 k0_h2
theorem k0_off263_inb : ∀ (v1 : BitVec 32) (v3 : BitVec 32) (v5 : BitVec 32) (k0_hw1 : k0_chk1 v1 v3 v5), ∀ (k0_h2 : k0_cond2 v1 v3 = 1#1), ∀ a, (k0_off263 v5) a + S1x1x1.size a ≤ S8x22x16.size a := fun v1 v3 v5 k0_hw1 k0_h2 => k0_hw1.2.2.2.2.2.2.2.2.1.2.2.2.2.1 k0_h2
theorem k0_off264_inb : ∀ (v1 : BitVec 32) (v3 : BitVec 32) (v5 : BitVec 32) (k0_hw1 : k0_chk1 v1 v3 v5), ∀ (k0_h2 : k0_cond2 v1 v3 = 1#1), ∀ a, (k0_off264 v5) a + S1x1x1.size a ≤ S8x22x16.size a := fun v1 v3 v5 k0_hw1 k0_h2 => k0_hw1.2.2.2.2.2.2.2.2.1.2.2.2.2.2.1 k0_h2
theorem k0_off265_inb : ∀ (v1 : BitVec 32) (v3 : BitVec 32) (v5 : BitVec 32) (k0_hw1 : k0_chk1 v1 v3 v5), ∀ (k0_h2 : k0_cond2 v1 v3 = 1#1), ∀ a, (k0_off265 v5) a + S1x1x1.size a ≤ S8x22x16.size a := fun v1 v3 v5 k0_hw1 k0_h2 => k0_hw1.2.2.2.2.2.2.2.2.1.2.2.2.2.2.2.1 k0_h2
theorem k0_off266_inb : ∀ (v1 : BitVec 32) (v3 : BitVec 32) (v5 : BitVec 32) (k0_hw1 : k0_chk1 v1 v3 v5), ∀ (k0_h2 : k0_cond2 v1 v3 = 1#1), ∀ a, (k0_off266 v5) a + S1x1x1.size a ≤ S8x22x16.size a := fun v1 v3 v5 k0_hw1 k0_h2 => k0_hw1.2.2.2.2.2.2.2.2.1.2.2.2.2.2.2.2.1 k0_h2
theorem k0_off267_inb : ∀ (v1 : BitVec 32) (v3 : BitVec 32) (v5 : BitVec 32) (k0_hw1 : k0_chk1 v1 v3 v5), ∀ (k0_h2 : k0_cond2 v1 v3 = 1#1), ∀ a, (k0_off267 v5) a + S1x1x1.size a ≤ S8x22x16.size a := fun v1 v3 v5 k0_hw1 k0_h2 => k0_hw1.2.2.2.2.2.2.2.2.1.2.2.2.2.2.2.2.2.1 k0_h2
theorem k0_off268_inb : ∀ (v1 : BitVec 32) (v3 : BitVec 32) (v5 : BitVec 32) (k0_hw1 : k0_chk1 v1 v3 v5), ∀ (k0_h2 : k0_cond2 v1 v3 = 1#1), ∀ a, (k0_off268 v5) a + S1x1x1.size a ≤ S8x22x16.size a := fun v1 v3 v5 k0_hw1 k0_h2 => k0_hw1.2.2.2.2.2.2.2.2.1.2.2.2.2.2.2.2.2.2.1 k0_h2
theorem k0_off269_inb : ∀ (v1 : BitVec 32) (v3 : BitVec 32) (v5 : BitVec 32) (k0_hw1 : k0_chk1 v1 v3 v5), ∀ (k0_h2 : k0_cond2 v1 v3 = 1#1), ∀ a, (k0_off269 v5) a + S1x1x1.size a ≤ S8x22x16.size a := fun v1 v3 v5 k0_hw1 k0_h2 => k0_hw1.2.2.2.2.2.2.2.2.1.2.2.2.2.2.2.2.2.2.2.1 k0_h2
theorem k0_off270_inb : ∀ (v1 : BitVec 32) (v3 : BitVec 32) (v5 : BitVec 32) (k0_hw1 : k0_chk1 v1 v3 v5), ∀ (k0_h2 : k0_cond2 v1 v3 = 1#1), ∀ a, (k0_off270 v5) a + S1x1x1.size a ≤ S8x22x16.size a := fun v1 v3 v5 k0_hw1 k0_h2 => k0_hw1.2.2.2.2.2.2.2.2.1.2.2.2.2.2.2.2.2.2.2.2.1 k0_h2
theorem k0_off271_inb : ∀ (v1 : BitVec 32) (v3 : BitVec 32) (v5 : BitVec 32) (k0_hw1 : k0_chk1 v1 v3 v5), ∀ (k0_h2 : k0_cond2 v1 v3 = 1#1), ∀ a, (k0_off271 v5) a + S1x1x1.size a ≤ S8x22x16.size a := fun v1 v3 v5 k0_hw1 k0_h2 => k0_hw1.2.2.2.2.2.2.2.2.1.2.2.2.2.2.2.2.2.2.2.2.2.1 k0_h2
theorem k0_off272_inb : ∀ (v1 : BitVec 32) (v3 : BitVec 32) (v5 : BitVec 32) (k0_hw1 : k0_chk1 v1 v3 v5), ∀ (k0_h2 : k0_cond2 v1 v3 = 1#1), ∀ a, (k0_off272 v5) a + S1x1x1.size a ≤ S8x22x16.size a := fun v1 v3 v5 k0_hw1 k0_h2 => k0_hw1.2.2.2.2.2.2.2.2.1.2.2.2.2.2.2.2.2.2.2.2.2.2.1 k0_h2
theorem k0_off273_inb : ∀ (v1 : BitVec 32) (v3 : BitVec 32) (v5 : BitVec 32) (k0_hw1 : k0_chk1 v1 v3 v5), ∀ (k0_h2 : k0_cond2 v1 v3 = 1#1), ∀ a, (k0_off273 v5) a + S1x1x1.size a ≤ S8x22x16.size a := fun v1 v3 v5 k0_hw1 k0_h2 => k0_hw1.2.2.2.2.2.2.2.2.1.2.2.2.2.2.2.2.2.2.2.2.2.2.2.1 k0_h2
theorem k0_off274_inb : ∀ (v1 : BitVec 32) (v3 : BitVec 32) (v5 : BitVec 32) (k0_hw1 : k0_chk1 v1 v3 v5), ∀ (k0_h2 : k0_cond2 v1 v3 = 1#1), ∀ a, (k0_off274 v5) a + S1x1x1.size a ≤ S8x22x16.size a := fun v1 v3 v5 k0_hw1 k0_h2 => k0_hw1.2.2.2.2.2.2.2.2.1.2.2.2.2.2.2.2.2.2.2.2.2.2.2.2.1 k0_h2
theorem k0_off275_inb : ∀ (v1 : BitVec 32) (v3 : BitVec 32) (v5 : BitVec 32) (k0_hw1 : k0_chk1 v1 v3 v5), ∀ (k0_h2 : k0_cond2 v1 v3 = 1#1), ∀ a, (k0_off275 v5) a + S1x1x1.size a ≤ S8x22x16.size a := fun v1 v3 v5 k0_hw1 k0_h2 => k0_hw1.2.2.2.2.2.2.2.2.1.2.2.2.2.2.2.2.2.2.2.2.2.2.2.2.2.1 k0_h2
theorem k0_off276_inb : ∀ (v1 : BitVec 32) (v3 : BitVec 32) (v5 : BitVec 32) (k0_hw1 : k0_chk1 v1 v3 v5), ∀ (k0_h2 : k0_cond2 v1 v3 = 1#1), ∀ a, (k0_off276 v5) a + S1x1x1.size a ≤ S8x22x16.size a := fun v1 v3 v5 k0_hw1 k0_h2 => k0_hw1.2.2.2.2.2.2.2.2.1.2.2.2.2.2.2.2.2.2.2.2.2.2.2.2.2.2.1 k0_h2
theorem k0_off277_inb : ∀ (v1 : BitVec 32) (v3 : BitVec 32) (v5 : BitVec 32) (k0_hw1 : k0_chk1 v1 v3 v5), ∀ (k0_h2 : k0_cond2 v1 v3 = 1#1), ∀ a, (k0_off277 v5) a + S1x1x1.size a ≤ S8x22x16.size a := fun v1 v3 v5 k0_hw1 k0_h2 => k0_hw1.2.2.2.2.2.2.2.2.1.2.2.2.2.2.2.2.2.2.2.2.2.2.2.2.2.2.2.1 k0_h2
theorem k0_off278_inb : ∀ (v1 : BitVec 32) (v3 : BitVec 32) (v5 : BitVec 32) (k0_hw1 : k0_chk1 v1 v3 v5), ∀ (k0_h2 : k0_cond2 v1 v3 = 1#1), ∀ a, (k0_off278 v5) a + S1x1x1.size a ≤ S8x22x16.size a := fun v1 v3 v5 k0_hw1 k0_h2 => k0_hw1.2.2.2.2.2.2.2.2.1.2.2.2.2.2.2.2.2.2.2.2.2.2.2.2.2.2.2.2.1 k0_h2
theorem k0_off279_inb : ∀ (v1 : BitVec 32) (v3 : BitVec 32) (v5 : BitVec 32) (k0_hw1 : k0_chk1 v1 v3 v5), ∀ (k0_h2 : k0_cond2 v1 v3 = 1#1), ∀ a, (k0_off279 v5) a + S1x1x1.size a ≤ S8x22x16.size a := fun v1 v3 v5 k0_hw1 k0_h2 => k0_hw1.2.2.2.2.2.2.2.2.1.2.2.2.2.2.2.2.2.2.2.2.2.2.2.2.2.2.2.2.2.1 k0_h2
theorem k0_off280_inb : ∀ (v1 : BitVec 32) (v3 : BitVec 32) (v5 : BitVec 32) (k0_hw1 : k0_chk1 v1 v3 v5), ∀ (k0_h2 : k0_cond2 v1 v3 = 1#1), ∀ a, (k0_off280 v5) a + S1x1x1.size a ≤ S8x22x16.size a := fun v1 v3 v5 k0_hw1 k0_h2 => k0_hw1.2.2.2.2.2.2.2.2.1.2.2.2.2.2.2.2.2.2.2.2.2.2.2.2.2.2.2.2.2.2.1 k0_h2
theorem k0_off281_inb : ∀ (v1 : BitVec 32) (v3 : BitVec 32) (v5 : BitVec 32) (k0_hw1 : k0_chk1 v1 v3 v5), ∀ (k0_h2 : k0_cond2 v1 v3 = 1#1), ∀ a, (k0_off281 v5) a + S1x1x1.size a ≤ S8x22x16.size a := fun v1 v3 v5 k0_hw1 k0_h2 => k0_hw1.2.2.2.2.2.2.2.2.1.2.2.2.2.2.2.2.2.2.2.2.2.2.2.2.2.2.2.2.2.2.2.1 k0_h2
theorem k0_off282_inb : ∀ (v1 : BitVec 32) (v3 : BitVec 32) (v5 : BitVec 32) (k0_hw1 : k0_chk1 v1 v3 v5), ∀ (k0_h2 : k0_cond2 v1 v3 = 1#1), ∀ a, (k0_off282 v5) a + S1x1x1.size a ≤ S8x22x16.size a := fun v1 v3 v5 k0_hw1 k0_h2 => k0_hw1.2.2.2.2.2.2.2.2.1.2.2.2.2.2.2.2.2.2.2.2.2.2.2.2.2.2.2.2.2.2.2.2.1 k0_h2
theorem k0_off283_inb : ∀ (v1 : BitVec 32) (v3 : BitVec 32) (v5 : BitVec 32) (k0_hw1 : k0_chk1 v1 v3 v5), ∀ (k0_h2 : k0_cond2 v1 v3 = 1#1), ∀ a, (k0_off283 v5) a + S1x1x1.size a ≤ S8x22x16.size a := fun v1 v3 v5 k0_hw1 k0_h2 => k0_hw1.2.2.2.2.2.2.2.2.1.2.2.2.2.2.2.2.2.2.2.2.2.2.2.2.2.2.2.2.2.2.2.2.2.1 k0_h2
theorem k0_off284_inb : ∀ (v1 : BitVec 32) (v3 : BitVec 32) (v5 : BitVec 32) (k0_hw1 : k0_chk1 v1 v3 v5), ∀ (k0_h2 : k0_cond2 v1 v3 = 1#1), ∀ a, (k0_off284 v5) a + S1x1x1.size a ≤ S8x22x16.size a := fun v1 v3 v5 k0_hw1 k0_h2 => k0_hw1.2.2.2.2.2.2.2.2.1.2.2.2.2.2.2.2.2.2.2.2.2.2.2.2.2.2.2.2.2.2.2.2.2.2.1 k0_h2
theorem k0_off285_inb : ∀ (v1 : BitVec 32) (v3 : BitVec 32) (v5 : BitVec 32) (k0_hw1 : k0_chk1 v1 v3 v5), ∀ (k0_h2 : k0_cond2 v1 v3 = 1#1), ∀ a, (k0_off285 v5) a + S1x1x1.size a ≤ S8x22x16.size a := fun v1 v3 v5 k0_hw1 k0_h2 => k0_hw1.2.2.2.2.2.2.2.2.1.2.2.2.2.2.2.2.2.2.2.2.2.2.2.2.2.2.2.2.2.2.2.2.2.2.2.1 k0_h2
theorem k0_off286_inb : ∀ (v1 : BitVec 32) (v3 : BitVec 32) (v5 : BitVec 32) (k0_hw1 : k0_chk1 v1 v3 v5), ∀ (k0_h2 : k0_cond2 v1 v3 = 1#1), ∀ a, (k0_off286 v5) a + S1x1x1.size a ≤ S8x22x16.size a := fun v1 v3 v5 k0_hw1 k0_h2 => k0_hw1.2.2.2.2.2.2.2.2.1.2.2.2.2.2.2.2.2.2.2.2.2.2.2.2.2.2.2.2.2.2.2.2.2.2.2.2.1 k0_h2
theorem k0_off287_inb : ∀ (v1 : BitVec 32) (v3 : BitVec 32) (v5 : BitVec 32) (k0_hw1 : k0_chk1 v1 v3 v5), ∀ (k0_h2 : k0_cond2 v1 v3 = 1#1), ∀ a, (k0_off287 v5) a + S1x1x1.size a ≤ S8x22x16.size a := fun v1 v3 v5 k0_hw1 k0_h2 => k0_hw1.2.2.2.2.2.2.2.2.1.2.2.2.2.2.2.2.2.2.2.2.2.2.2.2.2.2.2.2.2.2.2.2.2.2.2.2.2.1 k0_h2
theorem k0_off288_inb : ∀ (v1 : BitVec 32) (v3 : BitVec 32) (v5 : BitVec 32) (k0_hw1 : k0_chk1 v1 v3 v5), ∀ (k0_h2 : k0_cond2 v1 v3 = 1#1), ∀ a, (k0_off288 v5) a + S1x1x1.size a ≤ S8x22x16.size a := fun v1 v3 v5 k0_hw1 k0_h2 => k0_hw1.2.2.2.2.2.2.2.2.1.2.2.2.2.2.2.2.2.2.2.2.2.2.2.2.2.2.2.2.2.2.2.2.2.2.2.2.2.2.1 k0_h2
theorem k0_off289_inb : ∀ (v1 : BitVec 32) (v3 : BitVec 32) (v5 : BitVec 32) (k0_hw1 : k0_chk1 v1 v3 v5), ∀ (k0_h2 : k0_cond2 v1 v3 = 1#1), ∀ a, (k0_off289 v5) a + S1x1x1.size a ≤ S8x22x16.size a := fun v1 v3 v5 k0_hw1 k0_h2 => k0_hw1.2.2.2.2.2.2.2.2.1.2.2.2.2.2.2.2.2.2.2.2.2.2.2.2.2.2.2.2.2.2.2.2.2.2.2.2.2.2.2.1 k0_h2
theorem k0_off290_inb : ∀ (v1 : BitVec 32) (v3 : BitVec 32) (v5 : BitVec 32) (k0_hw1 : k0_chk1 v1 v3 v5), ∀ (k0_h2 : k0_cond2 v1 v3 = 1#1), ∀ a, (k0_off290 v5) a + S1x1x1.size a ≤ S8x22x16.size a := fun v1 v3 v5 k0_hw1 k0_h2 => k0_hw1.2.2.2.2.2.2.2.2.1.2.2.2.2.2.2.2.2.2.2.2.2.2.2.2.2.2.2.2.2.2.2.2.2.2.2.2.2.2.2.2 k0_h2
theorem k0_off291_inb : ∀ (v1 : BitVec 32) (v3 : BitVec 32) (v5 : BitVec 32) (k0_hw1 : k0_chk1 v1 v3 v5), ∀ (k0_h2 : k0_cond2 v1 v3 = 1#1), ∀ a, (k0_off291 v5) a + S1x1x1.size a ≤ S8x22x16.size a := fun v1 v3 v5 k0_hw1 k0_h2 => k0_hw1.2.2.2.2.2.2.2.2.2.1.1 k0_h2
theorem k0_off292_inb : ∀ (v1 : BitVec 32) (v3 : BitVec 32) (v5 : BitVec 32) (k0_hw1 : k0_chk1 v1 v3 v5), ∀ (k0_h2 : k0_cond2 v1 v3 = 1#1), ∀ a, (k0_off292 v5) a + S1x1x1.size a ≤ S8x22x16.size a := fun v1 v3 v5 k0_hw1 k0_h2 => k0_hw1.2.2.2.2.2.2.2.2.2.1.2.1 k0_h2
theorem k0_off293_inb : ∀ (v1 : BitVec 32) (v3 : BitVec 32) (v5 : BitVec 32) (k0_hw1 : k0_chk1 v1 v3 v5), ∀ (k0_h2 : k0_cond2 v1 v3 = 1#1), ∀ a, (k0_off293 v5) a + S1x1x1.size a ≤ S8x22x16.size a := fun v1 v3 v5 k0_hw1 k0_h2 => k0_hw1.2.2.2.2.2.2.2.2.2.1.2.2.1 k0_h2
theorem k0_off294_inb : ∀ (v1 : BitVec 32) (v3 : BitVec 32) (v5 : BitVec 32) (k0_hw1 : k0_chk1 v1 v3 v5), ∀ (k0_h2 : k0_cond2 v1 v3 = 1#1), ∀ a, (k0_off294 v5) a + S1x1x1.size a ≤ S8x22x16.size a := fun v1 v3 v5 k0_hw1 k0_h2 => k0_hw1.2.2.2.2.2.2.2.2.2.1.2.2.2.1 k0_h2
theorem k0_off295_inb : ∀ (v1 : BitVec 32) (v3 : BitVec 32) (v5 : BitVec 32) (k0_hw1 : k0_chk1 v1 v3 v5), ∀ (k0_h2 : k0_cond2 v1 v3 = 1#1), ∀ a, (k0_off295 v5) a + S1x1x1.size a ≤ S8x22x16.size a := fun v1 v3 v5 k0_hw1 k0_h2 => k0_hw1.2.2.2.2.2.2.2.2.2.1.2.2.2.2.1 k0_h2
theorem k0_off296_inb : ∀ (v1 : BitVec 32) (v3 : BitVec 32) (v5 : BitVec 32) (k0_hw1 : k0_chk1 v1 v3 v5), ∀ (k0_h2 : k0_cond2 v1 v3 = 1#1), ∀ a, (k0_off296 v5) a + S1x1x1.size a ≤ S8x22x16.size a := fun v1 v3 v5 k0_hw1 k0_h2 => k0_hw1.2.2.2.2.2.2.2.2.2.1.2.2.2.2.2.1 k0_h2
theorem k0_off297_inb : ∀ (v1 : BitVec 32) (v3 : BitVec 32) (v5 : BitVec 32) (k0_hw1 : k0_chk1 v1 v3 v5), ∀ (k0_h2 : k0_cond2 v1 v3 = 1#1), ∀ a, (k0_off297 v5) a + S1x1x1.size a ≤ S8x22x16.size a := fun v1 v3 v5 k0_hw1 k0_h2 => k0_hw1.2.2.2.2.2.2.2.2.2.1.2.2.2.2.2.2.1 k0_h2
theorem k0_off298_inb : ∀ (v1 : BitVec 32) (v3 : BitVec 32) (v5 : BitVec 32) (k0_hw1 : k0_chk1 v1 v3 v5), ∀ (k0_h2 : k0_cond2 v1 v3 = 1#1), ∀ a, (k0_off298 v5) a + S1x1x1.size a ≤ S8x22x16.size a := fun v1 v3 v5 k0_hw1 k0_h2 => k0_hw1.2.2.2.2.2.2.2.2.2.1.2.2.2.2.2.2.2.1 k0_h2
theorem k0_off299_inb : ∀ (v1 : BitVec 32) (v3 : BitVec 32) (v5 : BitVec 32) (k0_hw1 : k0_chk1 v1 v3 v5), ∀ (k0_h2 : k0_cond2 v1 v3 = 1#1), ∀ a, (k0_off299 v5) a + S1x1x1.size a ≤ S8x22x16.size a := fun v1 v3 v5 k0_hw1 k0_h2 => k0_hw1.2.2.2.2.2.2.2.2.2.1.2.2.2.2.2.2.2.2.1 k0_h2
theorem k0_off300_inb : ∀ (v1 : BitVec 32) (v3 : BitVec 32) (v5 : BitVec 32) (k0_hw1 : k0_chk1 v1 v3 v5), ∀ (k0_h2 : k0_cond2 v1 v3 = 1#1), ∀ a, (k0_off300 v5) a + S1x1x1.size a ≤ S8x22x16.size a := fun v1 v3 v5 k0_hw1 k0_h2 => k0_hw1.2.2.2.2.2.2.2.2.2.1.2.2.2.2.2.2.2.2.2.1 k0_h2
theorem k0_off301_inb : ∀ (v1 : BitVec 32) (v3 : BitVec 32) (v5 : BitVec 32) (k0_hw1 : k0_chk1 v1 v3 v5), ∀ (k0_h2 : k0_cond2 v1 v3 = 1#1), ∀ a, (k0_off301 v5) a + S1x1x1.size a ≤ S8x22x16.size a := fun v1 v3 v5 k0_hw1 k0_h2 => k0_hw1.2.2.2.2.2.2.2.2.2.1.2.2.2.2.2.2.2.2.2.2.1 k0_h2
theorem k0_off302_inb : ∀ (v1 : BitVec 32) (v3 : BitVec 32) (v5 : BitVec 32) (k0_hw1 : k0_chk1 v1 v3 v5), ∀ (k0_h2 : k0_cond2 v1 v3 = 1#1), ∀ a, (k0_off302 v5) a + S1x1x1.size a ≤ S8x22x16.size a := fun v1 v3 v5 k0_hw1 k0_h2 => k0_hw1.2.2.2.2.2.2.2.2.2.1.2.2.2.2.2.2.2.2.2.2.2.1 k0_h2
theorem k0_off303_inb : ∀ (v1 : BitVec 32) (v3 : BitVec 32) (v5 : BitVec 32) (k0_hw1 : k0_chk1 v1 v3 v5), ∀ (k0_h2 : k0_cond2 v1 v3 = 1#1), ∀ a, (k0_off303 v5) a + S1x1x1.size a ≤ S8x22x16.size a := fun v1 v3 v5 k0_hw1 k0_h2 => k0_hw1.2.2.2.2.2.2.2.2.2.1.2.2.2.2.2.2.2.2.2.2.2.2.1 k0_h2
theorem k0_off304_inb : ∀ (v1 : BitVec 32) (v3 : BitVec 32) (v5 : BitVec 32) (k0_hw1 : k0_chk1 v1 v3 v5), ∀ (k0_h2 : k0_cond2 v1 v3 = 1#1), ∀ a, (k0_off304 v5) a + S1x1x1.size a ≤ S8x22x16.size a := fun v1 v3 v5 k0_hw1 k0_h2 => k0_hw1.2.2.2.2.2.2.2.2.2.1.2.2.2.2.2.2.2.2.2.2.2.2.2.1 k0_h2
theorem k0_off305_inb : ∀ (v1 : BitVec 32) (v3 : BitVec 32) (v5 : BitVec 32) (k0_hw1 : k0_chk1 v1 v3 v5), ∀ (k0_h2 : k0_cond2 v1 v3 = 1#1), ∀ a, (k0_off305 v5) a + S1x1x1.size a ≤ S8x22x16.size a := fun v1 v3 v5 k0_hw1 k0_h2 => k0_hw1.2.2.2.2.2.2.2.2.2.1.2.2.2.2.2.2.2.2.2.2.2.2.2.2.1 k0_h2
theorem k0_off306_inb : ∀ (v1 : BitVec 32) (v3 : BitVec 32) (v5 : BitVec 32) (k0_hw1 : k0_chk1 v1 v3 v5), ∀ (k0_h2 : k0_cond2 v1 v3 = 1#1), ∀ a, (k0_off306 v5) a + S1x1x1.size a ≤ S8x22x16.size a := fun v1 v3 v5 k0_hw1 k0_h2 => k0_hw1.2.2.2.2.2.2.2.2.2.1.2.2.2.2.2.2.2.2.2.2.2.2.2.2.2.1 k0_h2
theorem k0_off307_inb : ∀ (v1 : BitVec 32) (v3 : BitVec 32) (v5 : BitVec 32) (k0_hw1 : k0_chk1 v1 v3 v5), ∀ (k0_h2 : k0_cond2 v1 v3 = 1#1), ∀ a, (k0_off307 v5) a + S1x1x1.size a ≤ S8x22x16.size a := fun v1 v3 v5 k0_hw1 k0_h2 => k0_hw1.2.2.2.2.2.2.2.2.2.1.2.2.2.2.2.2.2.2.2.2.2.2.2.2.2.2.1 k0_h2
theorem k0_off308_inb : ∀ (v1 : BitVec 32) (v3 : BitVec 32) (v5 : BitVec 32) (k0_hw1 : k0_chk1 v1 v3 v5), ∀ (k0_h2 : k0_cond2 v1 v3 = 1#1), ∀ a, (k0_off308 v5) a + S1x1x1.size a ≤ S8x22x16.size a := fun v1 v3 v5 k0_hw1 k0_h2 => k0_hw1.2.2.2.2.2.2.2.2.2.1.2.2.2.2.2.2.2.2.2.2.2.2.2.2.2.2.2.1 k0_h2
theorem k0_off309_inb : ∀ (v1 : BitVec 32) (v3 : BitVec 32) (v5 : BitVec 32) (k0_hw1 : k0_chk1 v1 v3 v5), ∀ (k0_h2 : k0_cond2 v1 v3 = 1#1), ∀ a, (k0_off309 v5) a + S1x1x1.size a ≤ S8x22x16.size a := fun v1 v3 v5 k0_hw1 k0_h2 => k0_hw1.2.2.2.2.2.2.2.2.2.1.2.2.2.2.2.2.2.2.2.2.2.2.2.2.2.2.2.2.1 k0_h2
theorem k0_off310_inb : ∀ (v1 : BitVec 32) (v3 : BitVec 32) (v5 : BitVec 32) (k0_hw1 : k0_chk1 v1 v3 v5), ∀ (k0_h2 : k0_cond2 v1 v3 = 1#1), ∀ a, (k0_off310 v5) a + S1x1x1.size a ≤ S8x22x16.size a := fun v1 v3 v5 k0_hw1 k0_h2 => k0_hw1.2.2.2.2.2.2.2.2.2.1.2.2.2.2.2.2.2.2.2.2.2.2.2.2.2.2.2.2.2.1 k0_h2
theorem k0_off311_inb : ∀ (v1 : BitVec 32) (v3 : BitVec 32) (v5 : BitVec 32) (k0_hw1 : k0_chk1 v1 v3 v5), ∀ (k0_h2 : k0_cond2 v1 v3 = 1#1), ∀ a, (k0_off311 v5) a + S1x1x1.size a ≤ S8x22x16.size a := fun v1 v3 v5 k0_hw1 k0_h2 => k0_hw1.2.2.2.2.2.2.2.2.2.1.2.2.2.2.2.2.2.2.2.2.2.2.2.2.2.2.2.2.2.2.1 k0_h2
theorem k0_off312_inb : ∀ (v1 : BitVec 32) (v3 : BitVec 32) (v5 : BitVec 32) (k0_hw1 : k0_chk1 v1 v3 v5), ∀ (k0_h2 : k0_cond2 v1 v3 = 1#1), ∀ a, (k0_off312 v5) a + S1x1x1.size a ≤ S8x22x16.size a := fun v1 v3 v5 k0_hw1 k0_h2 => k0_hw1.2.2.2.2.2.2.2.2.2.1.2.2.2.2.2.2.2.2.2.2.2.2.2.2.2.2.2.2.2.2.2.1 k0_h2
theorem k0_off313_inb : ∀ (v1 : BitVec 32) (v3 : BitVec 32) (v5 : BitVec 32) (k0_hw1 : k0_chk1 v1 v3 v5), ∀ (k0_h2 : k0_cond2 v1 v3 = 1#1), ∀ a, (k0_off313 v5) a + S1x1x1.size a ≤ S8x22x16.size a := fun v1 v3 v5 k0_hw1 k0_h2 => k0_hw1.2.2.2.2.2.2.2.2.2.1.2.2.2.2.2.2.2.2.2.2.2.2.2.2.2.2.2.2.2.2.2.2.1 k0_h2
theorem k0_off314_inb : ∀ (v1 : BitVec 32) (v3 : BitVec 32) (v5 : BitVec 32) (k0_hw1 : k0_chk1 v1 v3 v5), ∀ (k0_h2 : k0_cond2 v1 v3 = 1#1), ∀ a, (k0_off314 v5) a + S1x1x1.size a ≤ S8x22x16.size a := fun v1 v3 v5 k0_hw1 k0_h2 => k0_hw1.2.2.2.2.2.2.2.2.2.1.2.2.2.2.2.2.2.2.2.2.2.2.2.2.2.2.2.2.2.2.2.2.2.1 k0_h2
theorem k0_off315_inb : ∀ (v1 : BitVec 32) (v3 : BitVec 32) (v5 : BitVec 32) (k0_hw1 : k0_chk1 v1 v3 v5), ∀ (k0_h2 : k0_cond2 v1 v3 = 1#1), ∀ a, (k0_off315 v5) a + S1x1x1.size a ≤ S8x22x16.size a := fun v1 v3 v5 k0_hw1 k0_h2 => k0_hw1.2.2.2.2.2.2.2.2.2.1.2.2.2.2.2.2.2.2.2.2.2.2.2.2.2.2.2.2.2.2.2.2.2.2.1 k0_h2
theorem k0_off316_inb : ∀ (v1 : BitVec 32) (v3 : BitVec 32) (v5 : BitVec 32) (k0_hw1 : k0_chk1 v1 v3 v5), ∀ (k0_h2 : k0_cond2 v1 v3 = 1#1), ∀ a, (k0_off316 v5) a + S1x1x1.size a ≤ S8x22x16.size a := fun v1 v3 v5 k0_hw1 k0_h2 => k0_hw1.2.2.2.2.2.2.2.2.2.1.2.2.2.2.2.2.2.2.2.2.2.2.2.2.2.2.2.2.2.2.2.2.2.2.2.1 k0_h2
theorem k0_off317_inb : ∀ (v1 : BitVec 32) (v3 : BitVec 32) (v5 : BitVec 32) (k0_hw1 : k0_chk1 v1 v3 v5), ∀ (k0_h2 : k0_cond2 v1 v3 = 1#1), ∀ a, (k0_off317 v5) a + S1x1x1.size a ≤ S8x22x16.size a := fun v1 v3 v5 k0_hw1 k0_h2 => k0_hw1.2.2.2.2.2.2.2.2.2.1.2.2.2.2.2.2.2.2.2.2.2.2.2.2.2.2.2.2.2.2.2.2.2.2.2.2.1 k0_h2
theorem k0_off318_inb : ∀ (v1 : BitVec 32) (v3 : BitVec 32) (v5 : BitVec 32) (k0_hw1 : k0_chk1 v1 v3 v5), ∀ (k0_h2 : k0_cond2 v1 v3 = 1#1), ∀ a, (k0_off318 v5) a + S1x1x1.size a ≤ S8x22x16.size a := fun v1 v3 v5 k0_hw1 k0_h2 => k0_hw1.2.2.2.2.2.2.2.2.2.1.2.2.2.2.2.2.2.2.2.2.2.2.2.2.2.2.2.2.2.2.2.2.2.2.2.2.2.1 k0_h2
theorem k0_off319_inb : ∀ (v1 : BitVec 32) (v3 : BitVec 32) (v5 : BitVec 32) (k0_hw1 : k0_chk1 v1 v3 v5), ∀ (k0_h2 : k0_cond2 v1 v3 = 1#1), ∀ a, (k0_off319 v5) a + S1x1x1.size a ≤ S8x22x16.size a := fun v1 v3 v5 k0_hw1 k0_h2 => k0_hw1.2.2.2.2.2.2.2.2.2.1.2.2.2.2.2.2.2.2.2.2.2.2.2.2.2.2.2.2.2.2.2.2.2.2.2.2.2.2.1 k0_h2
theorem k0_off320_inb : ∀ (v1 : BitVec 32) (v3 : BitVec 32) (v5 : BitVec 32) (k0_hw1 : k0_chk1 v1 v3 v5), ∀ (k0_h2 : k0_cond2 v1 v3 = 1#1), ∀ a, (k0_off320 v5) a + S1x1x1.size a ≤ S8x22x16.size a := fun v1 v3 v5 k0_hw1 k0_h2 => k0_hw1.2.2.2.2.2.2.2.2.2.1.2.2.2.2.2.2.2.2.2.2.2.2.2.2.2.2.2.2.2.2.2.2.2.2.2.2.2.2.2.1 k0_h2
theorem k0_off321_inb : ∀ (v1 : BitVec 32) (v3 : BitVec 32) (v5 : BitVec 32) (k0_hw1 : k0_chk1 v1 v3 v5), ∀ (k0_h2 : k0_cond2 v1 v3 = 1#1), ∀ a, (k0_off321 v5) a + S1x1x1.size a ≤ S8x22x16.size a := fun v1 v3 v5 k0_hw1 k0_h2 => k0_hw1.2.2.2.2.2.2.2.2.2.1.2.2.2.2.2.2.2.2.2.2.2.2.2.2.2.2.2.2.2.2.2.2.2.2.2.2.2.2.2.2.1 k0_h2
theorem k0_off322_inb : ∀ (v1 : BitVec 32) (v3 : BitVec 32) (v5 : BitVec 32) (k0_hw1 : k0_chk1 v1 v3 v5), ∀ (k0_h2 : k0_cond2 v1 v3 = 1#1), ∀ a, (k0_off322 v5) a + S1x1x1.size a ≤ S8x22x16.size a := fun v1 v3 v5 k0_hw1 k0_h2 => k0_hw1.2.2.2.2.2.2.2.2.2.1.2.2.2.2.2.2.2.2.2.2.2.2.2.2.2.2.2.2.2.2.2.2.2.2.2.2.2.2.2.2.2 k0_h2
theorem k0_off323_inb : ∀ (v1 : BitVec 32) (v3 : BitVec 32) (v5 : BitVec 32) (k0_hw1 : k0_chk1 v1 v3 v5), ∀ (k0_h2 : k0_cond2 v1 v3 = 1#1), ∀ a, (k0_off323 v5) a + S1x1x1.size a ≤ S8x22x16.size a := fun v1 v3 v5 k0_hw1 k0_h2 => k0_hw1.2.2.2.2.2.2.2.2.2.2.1 k0_h2
theorem k0_off324_inb : ∀ (v1 : BitVec 32) (v3 : BitVec 32) (v5 : BitVec 32) (k0_hw1 : k0_chk1 v1 v3 v5), ∀ (k0_h2 : k0_cond2 v1 v3 = 1#1), ∀ a, (k0_off324 v5) a + S1x1x1.size a ≤ S8x22x16.size a := fun v1 v3 v5 k0_hw1 k0_h2 => k0_hw1.2.2.2.2.2.2.2.2.2.2.2.1 k0_h2
theorem k0_off325_inb : ∀ (v1 : BitVec 32) (v3 : BitVec 32) (v5 : BitVec 32) (k0_hw1 : k0_chk1 v1 v3 v5), ∀ (k0_h2 : k0_cond2 v1 v3 = 1#1), ∀ a, (k0_off325 v5) a + S1x1x1.size a ≤ S8x22x16.size a := fun v1 v3 v5 k0_hw1 k0_h2 => k0_hw1.2.2.2.2.2.2.2.2.2.2.2.2.1 k0_h2
theorem k0_off326_inb : ∀ (v1 : BitVec 32) (v3 : BitVec 32) (v5 : BitVec 32) (k0_hw1 : k0_chk1 v1 v3 v5), ∀ (k0_h2 : k0_cond2 v1 v3 = 1#1), ∀ a, (k0_off326 v5) a + S1x1x1.size a ≤ S8x22x16.size a := fun v1 v3 v5 k0_hw1 k0_h2 => k0_hw1.2.2.2.2.2.2.2.2.2.2.2.2.2.1 k0_h2
theorem k0_off327_inb : ∀ (v1 : BitVec 32) (v3 : BitVec 32) (v5 : BitVec 32) (k0_hw1 : k0_chk1 v1 v3 v5), ∀ (k0_h2 : k0_cond2 v1 v3 = 1#1), ∀ a, (k0_off327 v5) a + S1x1x1.size a ≤ S8x22x16.size a := fun v1 v3 v5 k0_hw1 k0_h2 => k0_hw1.2.2.2.2.2.2.2.2.2.2.2.2.2.2.1 k0_h2
theorem k0_off328_inb : ∀ (v1 : BitVec 32) (v3 : BitVec 32) (v5 : BitVec 32) (k0_hw1 : k0_chk1 v1 v3 v5), ∀ (k0_h2 : k0_cond2 v1 v3 = 1#1), ∀ a, (k0_off328 v5) a + S1x1x1.size a ≤ S8x22x16.size a := fun v1 v3 v5 k0_hw1 k0_h2 => k0_hw1.2.2.2.2.2.2.2.2.2.2.2.2.2.2.2.1 k0_h2
theorem k0_off329_inb : ∀ (v1 : BitVec 32) (v3 : BitVec 32) (v5 : BitVec 32) (k0_hw1 : k0_chk1 v1 v3 v5), ∀ (k0_h2 : k0_cond2 v1 v3 = 1#1), ∀ a, (k0_off329 v5) a + S1x1x1.size a ≤ S8x22x16.size a := fun v1 v3 v5 k0_hw1 k0_h2 => k0_hw1.2.2.2.2.2.2.2.2.2.2.2.2.2.2.2.2.1 k0_h2
theorem k0_off330_inb : ∀ (v1 : BitVec 32) (v3 : BitVec 32) (v5 : BitVec 32) (k0_hw1 : k0_chk1 v1 v3 v5), ∀ (k0_h2 : k0_cond2 v1 v3 = 1#1), ∀ a, (k0_off330 v5) a + S1x1x1.size a ≤ S8x22x16.size a := fun v1 v3 v5 k0_hw1 k0_h2 => k0_hw1.2.2.2.2.2.2.2.2.2.2.2.2.2.2.2.2.2.1 k0_h2
theorem k0_off331_inb : ∀ (v1 : BitVec 32) (v3 : BitVec 32) (v5 : BitVec 32) (k0_hw1 : k0_chk1 v1 v3 v5), ∀ (k0_h2 : k0_cond2 v1 v3 = 1#1), ∀ a, (k0_off331 v5) a + S1x1x1.size a ≤ S8x22x16.size a := fun v1 v3 v5 k0_hw1 k0_h2 => k0_hw1.2.2.2.2.2.2.2.2.2.2.2.2.2.2.2.2.2.2.1 k0_h2
theorem k0_off332_inb : ∀ (v1 : BitVec 32) (v3 : BitVec 32) (v5 : BitVec 32) (k0_hw1 : k0_chk1 v1 v3 v5), ∀ (k0_h2 : k0_cond2 v1 v3 = 1#1), ∀ a, (k0_off332 v5) a + S1x1x1.size a ≤ S8x22x16.size a := fun v1 v3 v5 k0_hw1 k0_h2 => k0_hw1.2.2.2.2.2.2.2.2.2.2.2.2.2.2.2.2.2.2.2.1 k0_h2
theorem k0_off333_inb : ∀ (v1 : BitVec 32) (v3 : BitVec 32) (v5 : BitVec 32) (k0_hw1 : k0_chk1 v1 v3 v5), ∀ (k0_h2 : k0_cond2 v1 v3 = 1#1), ∀ a, (k0_off333 v5) a + S1x1x1.size a ≤ S8x22x16.size a := fun v1 v3 v5 k0_hw1 k0_h2 => k0_hw1.2.2.2.2.2.2.2.2.2.2.2.2.2.2.2.2.2.2.2.2.1 k0_h2
theorem k0_off334_inb : ∀ (v1 : BitVec 32) (v3 : BitVec 32) (v5 : BitVec 32) (k0_hw1 : k0_chk1 v1 v3 v5), ∀ (k0_h2 : k0_cond2 v1 v3 = 1#1), ∀ a, (k0_off334 v5) a + S1x1x1.size a ≤ S8x22x16.size a := fun v1 v3 v5 k0_hw1 k0_h2 => k0_hw1.2.2.2.2.2.2.2.2.2.2.2.2.2.2.2.2.2.2.2.2.2.1 k0_h2
theorem k0_off335_inb : ∀ (v1 : BitVec 32) (v3 : BitVec 32) (v5 : BitVec 32) (k0_hw1 : k0_chk1 v1 v3 v5), ∀ (k0_h2 : k0_cond2 v1 v3 = 1#1), ∀ a, (k0_off335 v5) a + S1x1x1.size a ≤ S8x22x16.size a := fun v1 v3 v5 k0_hw1 k0_h2 => k0_hw1.2.2.2.2.2.2.2.2.2.2.2.2.2.2.2.2.2.2.2.2.2.2.1 k0_h2
theorem k0_off336_inb : ∀ (v1 : BitVec 32) (v3 : BitVec 32) (v5 : BitVec 32) (k0_hw1 : k0_chk1 v1 v3 v5), ∀ (k0_h2 : k0_cond2 v1 v3 = 1#1), ∀ a, (k0_off336 v5) a + S1x1x1.size a ≤ S8x22x16.size a := fun v1 v3 v5 k0_hw1 k0_h2 => k0_hw1.2.2.2.2.2.2.2.2.2.2.2.2.2.2.2.2.2.2.2.2.2.2.2.1 k0_h2
theorem k0_off337_inb : ∀ (v1 : BitVec 32) (v3 : BitVec 32) (v5 : BitVec 32) (k0_hw1 : k0_chk1 v1 v3 v5), ∀ (k0_h2 : k0_cond2 v1 v3 = 1#1), ∀ a, (k0_off337 v5) a + S1x1x1.size a ≤ S8x22x16.size a := fun v1 v3 v5 k0_hw1 k0_h2 => k0_hw1.2.2.2.2.2.2.2.2.2.2.2.2.2.2.2.2.2.2.2.2.2.2.2.2.1 k0_h2
theorem k0_off338_inb : ∀ (v1 : BitVec 32) (v3 : BitVec 32) (v5 : BitVec 32) (k0_hw1 : k0_chk1 v1 v3 v5), ∀ (k0_h2 : k0_cond2 v1 v3 = 1#1), ∀ a, (k0_off338 v5) a + S1x1x1.size a ≤ S8x22x16.size a := fun v1 v3 v5 k0_hw1 k0_h2 => k0_hw1.2.2.2.2.2.2.2.2.2.2.2.2.2.2.2.2.2.2.2.2.2.2.2.2.2.1 k0_h2
theorem k0_off339_inb : ∀ (v1 : BitVec 32) (v3 : BitVec 32) (v5 : BitVec 32) (k0_hw1 : k0_chk1 v1 v3 v5), ∀ (k0_h2 : k0_cond2 v1 v3 = 1#1), ∀ a, (k0_off339 v5) a + S1x1x1.size a ≤ S8x22x16.size a := fun v1 v3 v5 k0_hw1 k0_h2 => k0_hw1.2.2.2.2.2.2.2.2.2.2.2.2.2.2.2.2.2.2.2.2.2.2.2.2.2.2.1 k0_h2
theorem k0_off340_inb : ∀ (v1 : BitVec 32) (v3 : BitVec 32) (v5 : BitVec 32) (k0_hw1 : k0_chk1 v1 v3 v5), ∀ (k0_h2 : k0_cond2 v1 v3 = 1#1), ∀ a, (k0_off340 v5) a + S1x1x1.size a ≤ S8x22x16.size a := fun v1 v3 v5 k0_hw1 k0_h2 => k0_hw1.2.2.2.2.2.2.2.2.2.2.2.2.2.2.2.2.2.2.2.2.2.2.2.2.2.2.2.1 k0_h2
theorem k0_off341_inb : ∀ (v1 : BitVec 32) (v3 : BitVec 32) (v5 : BitVec 32) (k0_hw1 : k0_chk1 v1 v3 v5), ∀ (k0_h2 : k0_cond2 v1 v3 = 1#1), ∀ a, (k0_off341 v5) a + S1x1x1.size a ≤ S8x22x16.size a := fun v1 v3 v5 k0_hw1 k0_h2 => k0_hw1.2.2.2.2.2.2.2.2.2.2.2.2.2.2.2.2.2.2.2.2.2.2.2.2.2.2.2.2.1 k0_h2
theorem k0_off342_inb : ∀ (v1 : BitVec 32) (v3 : BitVec 32) (v5 : BitVec 32) (k0_hw1 : k0_chk1 v1 v3 v5), ∀ (k0_h2 : k0_cond2 v1 v3 = 1#1), ∀ a, (k0_off342 v5) a + S1x1x1.size a ≤ S8x22x16.size a := fun v1 v3 v5 k0_hw1 k0_h2 => k0_hw1.2.2.2.2.2.2.2.2.2.2.2.2.2.2.2.2.2.2.2.2.2.2.2.2.2.2.2.2.2.1 k0_h2
theorem k0_off343_inb : ∀ (v1 : BitVec 32) (v3 : BitVec 32) (v5 : BitVec 32) (k0_hw1 : k0_chk1 v1 v3 v5), ∀ (k0_h2 : k0_cond2 v1 v3 = 1#1), ∀ a, (k0_off343 v5) a + S1x1x1.size a ≤ S8x22x16.size a := fun v1 v3 v5 k0_hw1 k0_h2 => k0_hw1.2.2.2.2.2.2.2.2.2.2.2.2.2.2.2.2.2.2.2.2.2.2.2.2.2.2.2.2.2.2.1 k0_h2
theorem k0_off344_inb : ∀ (v1 : BitVec 32) (v3 : BitVec 32) (v5 : BitVec 32) (k0_hw1 : k0_chk1 v1 v3 v5), ∀ (k0_h2 : k0_cond2 v1 v3 = 1#1), ∀ a, (k0_off344 v5) a + S1x1x1.size a ≤ S8x22x16.size a := fun v1 v3 v5 k0_hw1 k0_h2 => k0_hw1.2.2.2.2.2.2.2.2.2.2.2.2.2.2.2.2.2.2.2.2.2.2.2.2.2.2.2.2.2.2.2.1 k0_h2
theorem k0_off345_inb : ∀ (v1 : BitVec 32) (v3 : BitVec 32) (v5 : BitVec 32) (k0_hw1 : k0_chk1 v1 v3 v5), ∀ (k0_h2 : k0_cond2 v1 v3 = 1#1), ∀ a, (k0_off345 v5) a + S1x1x1.size a ≤ S8x22x16.size a := fun v1 v3 v5 k0_hw1 k0_h2 => k0_hw1.2.2.2.2.2.2.2.2.2.2.2.2.2.2.2.2.2.2.2.2.2.2.2.2.2.2.2.2.2.2.2.2.1 k0_h2
theorem k0_off346_inb : ∀ (v1 : BitVec 32) (v3 : BitVec 32) (v5 : BitVec 32) (k0_hw1 : k0_chk1 v1 v3 v5), ∀ (k0_h2 : k0_cond2 v1 v3 = 1#1), ∀ a, (k0_off346 v5) a + S1x1x1.size a ≤ S8x22x16.size a := fun v1 v3 v5 k0_hw1 k0_h2 => k0_hw1.2.2.2.2.2.2.2.2.2.2.2.2.2.2.2.2.2.2.2.2.2.2.2.2.2.2.2.2.2.2.2.2.2.1 k0_h2
theorem k0_off347_inb : ∀ (v1 : BitVec 32) (v3 : BitVec 32) (v5 : BitVec 32) (k0_hw1 : k0_chk1 v1 v3 v5), ∀ (k0_h2 : k0_cond2 v1 v3 = 1#1), ∀ a, (k0_off347 v5) a + S1x1x1.size a ≤ S8x22x16.size a := fun v1 v3 v5 k0_hw1 k0_h2 => k0_hw1.2.2.2.2.2.2.2.2.2.2.2.2.2.2.2.2.2.2.2.2.2.2.2.2.2.2.2.2.2.2.2.2.2.2.1 k0_h2
theorem k0_off348_inb : ∀ (v1 : BitVec 32) (v3 : BitVec 32) (v5 : BitVec 32) (k0_hw1 : k0_chk1 v1 v3 v5), ∀ (k0_h2 : k0_cond2 v1 v3 = 1#1), ∀ a, (k0_off348 v5) a + S1x1x1.size a ≤ S8x22x16.size a := fun v1 v3 v5 k0_hw1 k0_h2 => k0_hw1.2.2.2.2.2.2.2.2.2.2.2.2.2.2.2.2.2.2.2.2.2.2.2.2.2.2.2.2.2.2.2.2.2.2.2.1 k0_h2
theorem k0_off349_inb : ∀ (v1 : BitVec 32) (v3 : BitVec 32) (v5 : BitVec 32) (k0_hw1 : k0_chk1 v1 v3 v5), ∀ (k0_h2 : k0_cond2 v1 v3 = 1#1), ∀ a, (k0_off349 v5) a + S1x1x1.size a ≤ S8x22x16.size a := fun v1 v3 v5 k0_hw1 k0_h2 => k0_hw1.2.2.2.2.2.2.2.2.2.2.2.2.2.2.2.2.2.2.2.2.2.2.2.2.2.2.2.2.2.2.2.2.2.2.2.2.1 k0_h2
theorem k0_off350_inb : ∀ (v1 : BitVec 32) (v3 : BitVec 32) (v5 : BitVec 32) (k0_hw1 : k0_chk1 v1 v3 v5), ∀ (k0_h2 : k0_cond2 v1 v3 = 1#1), ∀ a, (k0_off350 v5) a + S1x1x1.size a ≤ S8x22x16.size a := fun v1 v3 v5 k0_hw1 k0_h2 => k0_hw1.2.2.2.2.2.2.2.2.2.2.2.2.2.2.2.2.2.2.2.2.2.2.2.2.2.2.2.2.2.2.2.2.2.2.2.2.2.1 k0_h2
theorem k0_off351_inb : ∀ (v1 : BitVec 32) (v3 : BitVec 32) (v5 : BitVec 32) (k0_hw1 : k0_chk1 v1 v3 v5), ∀ (k0_h2 : k0_cond2 v1 v3 = 1#1), ∀ a, (k0_off351 v5) a + S1x1x1.size a ≤ S8x22x16.size a := fun v1 v3 v5 k0_hw1 k0_h2 => k0_hw1.2.2.2.2.2.2.2.2.2.2.2.2.2.2.2.2.2.2.2.2.2.2.2.2.2.2.2.2.2.2.2.2.2.2.2.2.2.2.1 k0_h2
theorem k0_off352_inb : ∀ (v1 : BitVec 32) (v3 : BitVec 32) (v5 : BitVec 32) (k0_hw1 : k0_chk1 v1 v3 v5), ∀ (k0_h2 : k0_cond2 v1 v3 = 1#1), ∀ a, (k0_off352 v5) a + S1x1x1.size a ≤ S8x22x16.size a := fun v1 v3 v5 k0_hw1 k0_h2 => k0_hw1.2.2.2.2.2.2.2.2.2.2.2.2.2.2.2.2.2.2.2.2.2.2.2.2.2.2.2.2.2.2.2.2.2.2.2.2.2.2.2.1 k0_h2
theorem k0_off353_inb : ∀ (v1 : BitVec 32) (v3 : BitVec 32) (v5 : BitVec 32) (k0_hw1 : k0_chk1 v1 v3 v5), ∀ (k0_h2 : k0_cond2 v1 v3 = 1#1), ∀ a, (k0_off353 v5) a + S1x1x1.size a ≤ S8x22x16.size a := fun v1 v3 v5 k0_hw1 k0_h2 => k0_hw1.2.2.2.2.2.2.2.2.2.2.2.2.2.2.2.2.2.2.2.2.2.2.2.2.2.2.2.2.2.2.2.2.2.2.2.2.2.2.2.2.1 k0_h2
theorem k0_off354_inb : ∀ (v1 : BitVec 32) (v3 : BitVec 32) (v5 : BitVec 32) (k0_hw1 : k0_chk1 v1 v3 v5), ∀ (k0_h2 : k0_cond2 v1 v3 = 1#1), ∀ a, (k0_off354 v5) a + S1x1x1.size a ≤ S8x22x16.size a := fun v1 v3 v5 k0_hw1 k0_h2 => k0_hw1.2.2.2.2.2.2.2.2.2.2.2.2.2.2.2.2.2.2.2.2.2.2.2.2.2.2.2.2.2.2.2.2.2.2.2.2.2.2.2.2.2 k0_h2

def k0_cond1 (i : grid0.Coords) (v8 : BitVec 32) (v12 : BitVec 32) : BitVec 1 :=
  let arg0 : BitVec 32 := BitVec.ofNat 32 (i 0).val
  let c0_i32 : BitVec 32 := 0#32
  let v6 : BitVec 1 := Scalar.cmpi .eq arg0 c0_i32
  let v13 : BitVec 1 := Scalar.cmpi .ne v8 v12
  let v14 : BitVec 1 := Scalar.ori v6 v13
  let v15 : BitVec 32 := Scalar.extui v14
  let c0_i32_1 : BitVec 32 := 0#32
  let v16 : BitVec 1 := Scalar.cmpi .ne v15 c0_i32_1
  v16

def cc0_transform_0 (k0_off1_inb : ∀ i : grid0.Coords, ∀ a, (k0_off1 i) a + S1.size a ≤ S55.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S55) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S55.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S55) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S55.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S55) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (k0_off1_inb : ∀ i : grid0.Coords, ∀ a, (k0_off1 i) a + S1.size a ≤ S55.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S55) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2816x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2816x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S8x22x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S8x22x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S24576x2816 : Shape := ⟨2, ![24576, 2816]⟩
abbrev S8 : Shape := ⟨1, ![8]⟩
abbrev S8x2816x2048 : Shape := ⟨3, ![8, 2816, 2048]⟩
abbrev S8x22x16 : Shape := ⟨3, ![8, 22, 16]⟩
abbrev S24576x2048 : Shape := ⟨2, ![24576, 2048]⟩
abbrev S24576x22x128 : Shape := ⟨3, ![24576, 22, 128]⟩
abbrev S24576x22 : Shape := ⟨2, ![24576, 22]⟩
abbrev S24576x22x1 : Shape := ⟨3, ![24576, 22, 1]⟩
abbrev S1x2816x2048 : Shape := ⟨3, ![1, 2816, 2048]⟩
abbrev S2816x2048 : Shape := ⟨2, ![2816, 2048]⟩
abbrev S1x22x16 : Shape := ⟨3, ![1, 22, 16]⟩
abbrev S22x16 : Shape := ⟨2, ![22, 16]⟩
abbrev S22x128x16x128 : Shape := ⟨4, ![22, 128, 16, 128]⟩
abbrev S22x1x16x1 : Shape := ⟨4, ![22, 1, 16, 1]⟩
abbrev S1 : Shape := ⟨1, ![1]⟩

abbrev nBuf : Space → Nat
  | .hbm => 7
  | .vmem => 6
  | .smem => 1
  | _ => 0

abbrev bufTy : (tb : Table) → Fin (tcTables nBuf tb) → BufTy
  | .hbm, ⟨0, _⟩ => ⟨S24576x2816, .bf16⟩
  | .hbm, ⟨1, _⟩ => ⟨S8, .i32⟩
  | .hbm, ⟨2, _⟩ => ⟨S8x2816x2048, .fp8e4m3⟩
  | .hbm, ⟨3, _⟩ => ⟨S8x22x16, .f32⟩
  | .hbm, ⟨4, _⟩ => ⟨S8x2816x2048, .fp8e4m3⟩
  | .hbm, ⟨5, _⟩ => ⟨S8x22x16, .f32⟩
  | .hbm, ⟨6, _⟩ => ⟨S24576x2048, .bf16⟩
  | .local _ .vmem, ⟨0, _⟩ => ⟨S24576x2816, .bf16⟩
  | .local _ .vmem, ⟨1, _⟩ => ⟨S8x2816x2048, .fp8e4m3⟩
  | .local _ .vmem, ⟨2, _⟩ => ⟨S8x22x16, .f32⟩
  | .local _ .vmem, ⟨3, _⟩ => ⟨S8x2816x2048, .fp8e4m3⟩
  | .local _ .vmem, ⟨4, _⟩ => ⟨S8x22x16, .f32⟩
  | .local _ .vmem, ⟨5, _⟩ => ⟨S24576x2048, .bf16⟩
  | .local _ .smem, ⟨0, _⟩ => ⟨S8, .i32⟩
  | _, _ => ⟨S24576x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24576x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2816x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x22x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2816x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x22x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Body.lean ====
module

public import proofs.«01_k».proof.Proof.Gen.KernelIdeal

/-!
# The kernel body as loops

The printed body is 16 000 statements long: its loops are unrolled. Here it is written as the loops it comes
from: `quantAll` quantises the 4 × 22 blocks of the row tile, `mlpCols` computes the 8 column blocks of the
gated product, each over 11 chunks of the contraction. The two programs are the same term once the loops are
unrolled.
-/

@[expose] public section

set_option maxRecDepth 100000

noncomputable section

namespace Cert.KernelIdeal.Body

open Idealize.ShloMosaic Idealize.SL.Sem
open Cert.KernelIdeal Cert.KernelIdeal.Facts₀ Cert.KernelIdeal.Facts

variable {F : FTy → Type} [FloatOps F]

universe v

/-- Sequencing. -/
def pbind {E : Type → Type v} {α β : Type} : Prog E α → (α → Prog E β) → Prog E β
  | .ret a, k => k a
  | .op e c, k => .op e fun x => pbind (c x) k

theorem pbind_eq {E : Type → Type v} {α β : Type} (p : Prog E α) (k : α → Prog E β) : pbind p k = p >>= k := by
  induction p with
  | ret a => rfl
  | op e c ih => exact congrArg (Prog.op e) (funext fun x => ih x)

/-- A counted loop that carries a value. -/
def forN {E : Type → Type v} {α : Type} : (n : ℕ) → (Fin n → α → Prog E α) → α → Prog E α
  | 0, _, a => .ret a
  | n + 1, f, a => pbind (f 0 a) (forN n fun j => f j.succ)

/-- The quantised and rescaled form of one 128 × 128 block. -/
def qpay (v22 : Vec F S128x128 .bf16) : FVec F S128x128 .bf16 :=
  have v23 : FVec F S128x128 .f32 := extf .f32 v22 bitsLt_bf16_f32
  have v24 : FVec F S128x128 .f32 := absf v23
  have v25 : FVec F S128 .f32 := multiReduction .maximumf [1] S128 v24 0xFF800000#32 reduces_S128x128_S128 (.inl rfl) rfl
  have v26 : FVec F S128x1 .f32 := shapeCast S128x1 v25 shapeCasts_S128_S128x1
  have v27 : IVec S1x256 32 := iota .tc S1x256 32 [1] iota_S1x256_d1_w32
  have v28 : IVec S1x256 32 := broadcast S1x256 23#32
  have v29 : IVec S1x256 32 := shli v27 v28
  have v30 : FVec F S1x256 .f32 := bitcastToFloat .f32 v29
  have cst_7 : F .f32 := Scalar.ofBits .f32 0x3B124925#32
  have v31 : FVec F S128x1 .f32 := broadcast S128x1 cst_7
  have v32 : FVec F S128x1 .f32 := mulf v26 v31
  have v33 : FVec F S128x256 .f32 := broadcastTo S128x256 v32 broadcasts_S128x1_S128x256
  have v34 : FVec F S128x256 .f32 := broadcastTo S128x256 v30 broadcasts_S1x256_S128x256
  have v35 : IVec S128x256 1 := cmpf .oge v33 v34
  have v36 : IVec S128x256 32 := extui 32 v35 natLt_1_32
  have v37 : IVec S128 32 := multiReductionI .add [1] S128 v36 0#32 reduces_S128x256_S128 rfl
  have v38 : IVec S128x1 32 := shapeCast S128x1 v37 shapeCasts_S128_S128x1
  have v39 : IVec S128x1 32 := broadcast S128x1 1#32
  have v40 : IVec S128x1 32 := subi v38 v39
  have v41 : IVec S128x1 32 := broadcast S128x1 23#32
  have v42 : IVec S128x1 32 := shli v40 v41
  have v43 : IVec S128x1 32 := broadcast S128x1 0#32
  have v44 : IVec S128x1 1 := cmpi .eq v42 v43
  have v45 : IVec S128x1 32 := broadcast S128x1 1056964608#32
  have v46 : IVec S128x1 32 := select v44 v45 v42
  have v47 : IVec S128x1 32 := broadcast S128x1 8388608#32
  have v48 : IVec S128x1 32 := addi v46 v47
  have v49 : FVec F S128x1 .f32 := bitcastToFloat .f32 v48
  have v50 : IVec S128x1 32 := broadcast S128x1 2122317824#32
  have v51 : IVec S128x1 32 := subi v50 v46
  have v52 : FVec F S128x1 .f32 := bitcastToFloat .f32 v51
  have v53 : FVec F S128x128 .f32 := broadcastTo S128x128 v52 broadcasts_S128x1_S128x128
  have v54 : FVec F S128x128 .f32 := mulf v23 v53
  have cst_12 : F .f32 := Scalar.ofBits .f32 0xC3E00000#32
  have cst_13 : F .f32 := Scalar.ofBits .f32 0x43E00000#32
  have v55 : FVec F S128x128 .f32 := broadcast S128x128 cst_12
  have v56 : FVec F S128x128 .f32 := maximumf v55 v54
  have v57 : FVec F S128x128 .f32 := broadcast S128x128 cst_13
  have v58 : FVec F S128x128 .f32 := minimumf v57 v56
  have v59 : FVec F S128x128 .fp8e4m3 := truncf .fp8e4m3 v58 bitsLt_fp8e4m3_f32
  have v60 : FVec F S128x128 .bf16 := extf .bf16 v59 bitsLt_fp8e4m3_bf16
  have v61 : FVec F S128x1 .bf16 := truncf .bf16 v49 bitsLt_bf16_f32
  have v62 : FVec F S128x128 .bf16 := broadcastTo S128x128 v61 broadcasts_S128x1_S128x128
  have v63 : FVec F S128x128 .bf16 := mulf v60 v62
  shapeCast S128x128 v63 shapeCasts_S128x128_S128x128

theorem inb_x (r : Fin 4) (c : Fin 22) :
    ∀ a, (![128 * r.val, 128 * c.val] : Fin 2 → Nat) a + S128x128.size a ≤ S512x2816.size a := by
  intro a; fin_cases a <;> simp <;> omega

theorem packed_x (r : Fin 4) (c : Fin 22) :
    (Rect.unit (s := S512x2816) ![128 * r.val, 128 * c.val] S128x128.size (inb_x r c)).PackedRows (EltTy.packing .bf16) :=
  .inr ⟨Nat.le_refl 2, rfl, .inl ⟨⟨64 * r.val, by show 128 * r.val = 2 * (64 * r.val); omega⟩, ⟨64, rfl⟩⟩⟩

theorem inb_lhs (k : Fin 11) :
    ∀ a, (![0, 256 * k.val] : Fin 2 → Nat) a + S512x256.size a ≤ S512x2816.size a := by
  intro a; fin_cases a <;> simp <;> omega

theorem inb_w (k2 : Fin 22) (n2 : Fin 16) :
    ∀ a, (![0, 128 * k2.val, 128 * n2.val] : Fin 3 → Nat) a + S1x128x128.size a ≤ S1x2816x2048.size a := by
  intro a; fin_cases a <;> simp <;> omega

theorem inb_out (n : Fin 8) :
    ∀ a, (![0, 256 * n.val] : Fin 2 → Nat) a + S512x256.size a ≤ S512x2048.size a := by
  intro a; fin_cases a <;> simp <;> omega

theorem packed_out (n : Fin 8) :
    (Rect.unit (s := S512x2048) ![0, 256 * n.val] S512x256.size (inb_out n)).PackedRows (EltTy.packing .bf16) :=
  .inr ⟨Nat.le_refl 2, rfl, .inl ⟨⟨0, rfl⟩, ⟨256, rfl⟩⟩⟩

/-- Where the scale of the weight block (k2, n2) of expert v5 lies. -/
def offS (v5 : BitVec 32) (k2 : Fin 22) (n2 : Fin 16) : Fin 3 → Nat :=
  ![(Scalar.indexCast v5).toNat, k2.val, n2.val]

variable (i : grid0.Coords) (arg1 : Memref sig .tc .smem S55 .i32) (harg1 : arg1.IsWhole) (arg2 : Memref sig .tc .smem S55 .i32) (harg2 : arg2.IsWhole) (arg3 : Memref sig .tc .smem S55 .i32) (harg3 : arg3.IsWhole) (arg4 : Memref sig .tc .smem S55 .i32) (harg4 : arg4.IsWhole) (arg5 : Memref sig .tc .vmem S512x2816 .bf16) (harg5 : arg5.IsWhole) (arg6 : Memref sig .tc .vmem S1x2816x2048 .fp8e4m3) (harg6 : arg6.IsWhole) (arg7 : Memref sig .tc .vmem S1x2816x2048 .fp8e4m3) (harg7 : arg7.IsWhole) (arg8 : Memref sig .tc .smem S8x22x16 .f32) (harg8 : arg8.IsWhole) (arg9 : Memref sig .tc .smem S8x22x16 .f32) (harg9 : arg9.IsWhole) (arg10 : Memref sig .tc .vmem S512x2048 .bf16) (harg10 : arg10.IsWhole) (arg11 : Memref sig .tc .vmem S512x2816 .bf16) (harg11 : arg11.IsWhole)

abbrev Pg (F : FTy → Type) (α : Type) := Prog (TpuEff nD τ sig (Elt F) Λ₀ .tc) α

/-- Quantises one block of the row tile. -/
def quant1 (r : Fin 4) (c : Fin 22) : Pg F PUnit :=
  pbind (Prog.lift (.load arg5 (Rect.unit (s := S512x2816) ![128 * r.val, 128 * c.val] S128x128.size (inb_x r c)).toLoadRect (View.loadsAt_vmem h_S128x128))) fun (x : Vec F S128x128 .bf16) =>
  pbind (Prog.lift (.load arg11 (Rect.unit (s := S512x2816) ![128 * r.val, 128 * c.val] S128x128.size (inb_x r c)).toLoadRect (View.loadsAt_vmem h_S128x128))) fun (_y : Vec F S128x128 .bf16) =>
  Prog.lift (.store arg11 (Rect.unit (s := S512x2816) ![128 * r.val, 128 * c.val] S128x128.size (inb_x r c)) (qpay x) Finset.univ (View.stores_vmem h_S128x128 (harg11.storeExact_slice rfl _ (packed_x r c)) (fun _ => rfl)) (.inl rfl))

/-- Clears the output tile and quantises the row tile. -/
def quantAll : Pg F PUnit :=
  pbind (Prog.lift (.load arg10 (Rect.unit (s := S512x2048) ![0, 0] S512x2048.size inb_S512x2048_S512x2048_0_0).toLoadRect (View.loadsAt_vmem h_S512x2048))) fun (_y : Vec F S512x2048 .bf16) =>
  pbind (Prog.lift (.store arg10 (Rect.unit (s := S512x2048) ![0, 0] S512x2048.size inb_S512x2048_S512x2048_0_0) (broadcast S512x2048 (Scalar.ofBits .bf16 0x0000#16 : F .bf16)) Finset.univ (View.stores_vmem h_S512x2048 (harg10.storeExact_slice rfl _ packedbf16_S512x2048_S512x2048_0_0) (fun _ => rfl)) (.inl rfl))) fun _ =>
  forN 4 (fun r _ => forN 22 (fun c _ => quant1 arg5 arg11 harg11 r c) PUnit.unit) PUnit.unit

/-- One weight block times its scale. -/
def wide (w : Vec F S1x128x128 .fp8e4m3) (s : Elt F .f32) : FVec F S128x128 .bf16 :=
  mulf (extf .bf16 (shapeCast S128x128 w shapeCasts_S1x128x128_S128x128 : FVec F S128x128 .fp8e4m3) bitsLt_fp8e4m3_bf16)
    (truncf .bf16 (broadcast S128x128 s : FVec F S128x128 .f32) bitsLt_bf16_f32)

/-- The four widened blocks of one 256 × 256 chunk of the weights, put together. -/
def wide4 (a b c d : FVec F S128x128 .bf16) : FVec F S256x256 .bf16 :=
  concatenate S256x256 0 [⟨S128x256, concatenate S128x256 1 [⟨S128x128, a⟩, ⟨S128x128, b⟩] concatenates_S128x128_S128x128_S128x256_d1⟩,
    ⟨S128x256, concatenate S128x256 1 [⟨S128x128, c⟩, ⟨S128x128, d⟩] concatenates_S128x128_S128x128_S128x256_d1⟩] concatenates_S128x256_S128x256_S256x256_d0

/-- One chunk's product added to the sum so far. -/
def dotAdd (g : FVec F S512x256 .f32) (x : Vec F S512x256 .bf16) (w : FVec F S256x256 .bf16) : FVec F S512x256 .f32 :=
  addf g (matmul dot_S512x256_S256x256_S512x256_1_0_0_1_n_n none x w (constant S512x256 .f32 0x00000000#32))

section
variable (v5 : BitVec 32)
  (hs : ∀ (k2 : Fin 22) (n2 : Fin 16), ∀ a, (offS v5 k2 n2) a + S1x1x1.size a ≤ S8x22x16.size a)

/-- Loads one weight block and its scale. -/
def block1 (argw : Memref sig .tc .vmem S1x2816x2048 .fp8e4m3) (args : Memref sig .tc .smem S8x22x16 .f32)
    (k2 : Fin 22) (n2 : Fin 16) : Pg F (FVec F S128x128 .bf16) :=
  pbind (smemLoad args (Rect.unit (s := S8x22x16) (offS v5 k2 n2) S1x1x1.size (hs k2 n2)) numel1_S1x1x1 rfl) fun (s : Elt F .f32) =>
  pbind (Prog.lift (.load argw (Rect.unit (s := S1x2816x2048) ![0, 128 * k2.val, 128 * n2.val] S1x128x128.size (inb_w k2 n2)).toLoadRect (View.loadsAt_vmem h_S1x128x128))) fun (w : Vec F S1x128x128 .fp8e4m3) =>
  .ret (wide w s)

/-- Twice an index, and the one after it. -/
def ev {n : ℕ} (k : Fin n) : Fin (2 * n) := ⟨2 * k.val, by omega⟩
def od {n : ℕ} (k : Fin n) : Fin (2 * n) := ⟨2 * k.val + 1, by omega⟩

/-- One 256 × 256 chunk of the widened weights. -/
def chunk1 (argw : Memref sig .tc .vmem S1x2816x2048 .fp8e4m3) (args : Memref sig .tc .smem S8x22x16 .f32)
    (k : Fin 11) (n : Fin 8) : Pg F (FVec F S256x256 .bf16) :=
  pbind (block1 v5 hs argw args (ev k) (ev n)) fun (a : _) =>
  pbind (block1 v5 hs argw args (ev k) (od n)) fun (b : _) =>
  pbind (block1 v5 hs argw args (od k) (ev n)) fun (c : _) =>
  pbind (block1 v5 hs argw args (od k) (od n)) fun (d : _) =>
  .ret (wide4 a b c d)

/-- One step of both contractions. -/
def step1 (n : Fin 8) (k : Fin 11) (gu : FVec F S512x256 .f32 × FVec F S512x256 .f32) :
    Pg F (FVec F S512x256 .f32 × FVec F S512x256 .f32) :=
  pbind (Prog.lift (.load arg11 (Rect.unit (s := S512x2816) ![0, 256 * k.val] S512x256.size (inb_lhs k)).toLoadRect (View.loadsAt_vmem h_S512x256))) fun (x : Vec F S512x256 .bf16) =>
  pbind (chunk1 v5 hs arg6 arg8 k n) fun (wg : _) =>
  pbind (chunk1 v5 hs arg7 arg9 k n) fun (wu : _) =>
  .ret (dotAdd gu.1 x wg, dotAdd gu.2 x wu)

/-- The gate: g · 1/(1 + exp(−g)) · u. -/
def gate (g u : FVec F S512x256 .f32) : FVec F S512x256 .f32 :=
  mulf (mulf g (divf (broadcast S512x256 (Scalar.ofBits .f32 0x3F800000#32 : F .f32)) (addf (broadcast S512x256 (Scalar.ofBits .f32 0x3F800000#32 : F .f32)) (exp (subf (broadcast S512x256 (Scalar.ofBits .f32 0x00000000#32 : F .f32)) g))))) u

/-- The rows of the tile that belong to the expert. -/
def mask (v1 v3 : BitVec 32) : IVec S512x256 1 :=
  andi (cmpi .sge (iota .tc S512x256 32 [0] iota_S512x256_d0_w32) (broadcast S512x256 v1)) (cmpi .slt (iota .tc S512x256 32 [0] iota_S512x256_d0_w32) (broadcast S512x256 v3))

/-- The expert's rows of the new block, the other rows as they were. -/
def merge (v1 v3 : BitVec 32) (y : FVec F S512x256 .f32) (old : Vec F S512x256 .bf16) : FVec F S512x256 .bf16 :=
  truncf .bf16 (select (mask v1 v3) y (extf .f32 (shapeCast S512x256 old shapeCasts_S512x256_S512x256 : FVec F S512x256 .bf16) bitsLt_bf16_f32)) bitsLt_bf16_f32

/-- One column block of the output tile. -/
def mlpCol (v1 v3 : BitVec 32) (n : Fin 8) : Pg F PUnit :=
  pbind (forN 11 (step1 arg6 arg7 arg8 arg9 arg11 v5 hs n) (broadcast S512x256 (Scalar.ofBits .f32 0x00000000#32 : F .f32), broadcast S512x256 (Scalar.ofBits .f32 0x00000000#32 : F .f32))) fun (gu : _) =>
  pbind (Prog.lift (.load arg10 (Rect.unit (s := S512x2048) ![0, 256 * n.val] S512x256.size (inb_out n)).toLoadRect (View.loadsAt_vmem h_S512x256))) fun (old : Vec F S512x256 .bf16) =>
  pbind (Prog.lift (.load arg10 (Rect.unit (s := S512x2048) ![0, 256 * n.val] S512x256.size (inb_out n)).toLoadRect (View.loadsAt_vmem h_S512x256))) fun (_old : Vec F S512x256 .bf16) =>
  Prog.lift (.store arg10 (Rect.unit (s := S512x2048) ![0, 256 * n.val] S512x256.size (inb_out n)) (merge v1 v3 (gate gu.1 gu.2) old) Finset.univ (View.stores_vmem h_S512x256 (harg10.storeExact_slice rfl _ (packed_out n)) (fun _ => rfl)) (.inl rfl))

/-- The eight column blocks. -/
def mlpCols (v1 v3 : BitVec 32) : Pg F PUnit :=
  forN 8 (fun n _ => mlpCol arg6 arg7 arg8 arg9 arg10 harg10 arg11 v5 hs v1 v3 n) PUnit.unit
end

theorem hs_of (v1 v3 v5 : BitVec 32) (h : k0_chk1 v1 v3 v5) (h2 : k0_cond2 v1 v3 = 1#1) :
    ∀ (k2 : Fin 22) (n2 : Fin 16), ∀ a, (offS v5 k2 n2) a + S1x1x1.size a ≤ S8x22x16.size a := by
  have h0 := k0_off3_inb v1 v3 v5 h h2 0
  have h0' : (Scalar.indexCast v5).toNat + 1 ≤ 8 := h0
  intro k2 n2 a
  fin_cases a
  · exact h0'
  · show k2.val + 1 ≤ 22; omega
  · show n2.val + 1 ≤ 16; omega

/-- The second half of the body: the gated product, where the expert has rows of this tile. -/
def mlp (v1 v3 v5 : BitVec 32) (h : k0_chk1 v1 v3 v5) : Pg F PUnit :=
  if h2 : k0_cond2 v1 v3 = 1#1 then
    mlpCols arg6 arg7 arg8 arg9 arg10 harg10 arg11 v5 (hs_of v1 v3 v5 h h2) v1 v3
  else pure ⟨⟩

/-- The body, with its loops. -/
def body : Pg F PUnit := do
  let v1 : Elt F .i32 ← smemLoad arg3 (Rect.unit (s := S55) (k0_off1 i) S1.size (k0_off1_inb i)) numel1_S1 rfl
  let v3 : Elt F .i32 ← smemLoad arg4 (Rect.unit (s := S55) (k0_off1 i) S1.size (k0_off1_inb i)) numel1_S1 rfl
  let v5 : Elt F .i32 ← smemLoad arg1 (Rect.unit (s := S55) (k0_off1 i) S1.size (k0_off1_inb i)) numel1_S1 rfl
  have k0_hw1 : k0_chk1 v1 v3 v5 := (← Prog.lift (TpuEff.assume (k0_chk1 v1 v3 v5) (k0_chk1.dec v1 v3 v5))).down
  let v8 : Elt F .i32 ← smemLoad arg2 (Rect.unit (s := S55) (k0_off1 i) S1.size (k0_off1_inb i)) numel1_S1 rfl
  let v12 : Elt F .i32 ← smemLoad arg2 (Rect.unit (s := S55) (k0_off2 i) S1.size (k0_off2_inb i)) numel1_S1 rfl
  if _h1 : k0_cond1 i v8 v12 = 1#1 then
    pbind (quantAll arg5 arg10 harg10 arg11 harg11) fun _ =>
      mlp arg6 arg7 arg8 arg9 arg10 harg10 arg11 v1 v3 v5 k0_hw1
  else mlp arg6 arg7 arg8 arg9 arg10 harg10 arg11 v1 v3 v5 k0_hw1

end Cert.KernelIdeal.Body
-- ==== Proof.Run.lean ====
module

public import proofs.«01_k».proof.Proof.Body
public import proofs.«01_k».proof.Proof.Gen.KernelIdeal.Launch
public import Idealize.ShloMosaic.Lib.Pipeline.FrameBody
public import Idealize.ShloMosaic.Lib.VecWindow
public import Idealize.ShloMosaic.Lib.Tactic
public import Idealize.ShloMosaic.Lib.Pointwise.Index

/-!
# What the kernel body does

Each step of the body, from the contents of the buffers it holds to the contents it leaves: the scratch after the
quantiser (`quantLoop`), the output tile after the gated product (`mlpLoop`), and the whole body.
-/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts
open VecWindow

variable {F : FTy → Type} [FloatOps F]

local notation "𝕄" => MT nD τ sig Unit (Elt F) ℕ (UR sig nD τ) ℕ

variable (c : Dev nD) (E : Set ℕ)

/-- The weakest precondition of a program of core `c`. -/
abbrev WP {α : Type} (p : Pg F α) (K : α → sProp 𝕄) : sProp 𝕄 :=
  wp frame (wpE (defs₀ (F := F)) Variants.none (c : Thread nD τ) none) E p K

theorem wp_pbind {α β : Type} (p : Pg F α) (k : α → Pg F β) (K : β → sProp 𝕄) :
    WP c E (pbind p k) K = WP c E p (fun a => WP c E (k a) K) := by
  rw [pbind_eq]; exact wp_bind _ _ _ _ _ _

/-- A load of a box of a buffer whose contents read `x`. -/
theorem wp_ld {sp : CoreSpace} {s : Shape} {e : EltTy} (M : Memref sig .tc sp s e) (q : PosShare TreeShare) (x : s.Idx → Elt F e)
    {off size : Fin s.rank → ℕ} (inb : ∀ a, off a + size a ≤ s.size a) (hl : M.view.LoadsAt (Rect.unit off size inb).toLoadRect)
    (K : ((Rect.unit off size inb).shape.Idx → Elt F e) → sProp 𝕄) :
    iprop(owns (c : Thread nD τ) M q x ∗ (owns (c : Thread nD τ) M q x -∗ K (window x off size inb)))
      ⊢ WP c E (Prog.lift (.load M (Rect.unit off size inb).toLoadRect hl)) K := by
  unfold owns
  iintro ⟨⟨%f, %hf, H⟩, Hk⟩
  ihave Hw := wp_load (defs := defs₀ (F := F)) Variants.none (c : Thread nD τ) none E (m := M)
    (r := (Rect.unit off size inb).toLoadRect) (hl := hl) (k := .ret) (Q := K) (S := M.view.set) (q := q) (f := f)
    (View.setOn_subset_set _ _) $$ H
  iapply Hw
  iintro H
  rw [wp_ret]
  imodintro
  rw [← hf, View.readAt_unit M.view f inb rfl inb]
  iapply Hk
  iexists f
  isplitr; · ipureintro; rfl
  iexact H

/-- A store to a box of a buffer whose contents read `x`. -/
theorem wp_st {sp : CoreSpace} {s : Shape} {e : EltTy} (M : Memref sig .tc sp s e) (x : s.Idx → Elt F e)
    {off size : Fin s.rank → ℕ} (inb : ∀ a, off a + size a ≤ s.size a) (w : (Rect.unit off size inb).shape.Idx → Elt F e)
    (hx : (M.access (Rect.unit off size inb)).Stores Finset.univ)
    (hm : (Finset.univ : Finset (Rect.unit off size inb).shape.Idx) = Finset.univ ∨ ∀ a, (Rect.unit off size inb).stride a = 1)
    (K : PUnit → sProp 𝕄) :
    iprop(owns (c : Thread nD τ) M fullShare x ∗ (owns (c : Thread nD τ) M fullShare (put x off size w) -∗ K ⟨⟩))
      ⊢ WP c E (Prog.lift (.store M (Rect.unit off size inb) w Finset.univ hx hm)) K := by
  unfold owns
  iintro ⟨⟨%f, %hf, H⟩, Hk⟩
  ihave Hw := wp_store (defs := defs₀ (F := F)) Variants.none (c : Thread nD τ) none E (m := M)
    (r := Rect.unit off size inb) (w := w) (Mk := Finset.univ) (hx := hx) (hm := hm) (k := .ret) (Q := K) (S := M.view.set) (f := f)
    (Memref.setOn_access_subset M _ _) $$ H
  iapply Hw
  iintro H
  rw [wp_ret]
  imodintro
  iapply Hk
  iexists ((M.access (Rect.unit off size inb)).write (Elt F) f w Finset.univ)
  isplitr
  · ipureintro
    have h := View.read_writes_cons_put M.view f inb w [] rfl
    rw [View.writes_nil, hf] at h
    exact h
  iexact H

/-- A load of one word of a buffer of scalar memory. -/
theorem wp_word {s : Shape} {e : EltTy} (M : Memref sig .tc .smem s e) (q : PosShare TreeShare) (x : s.Idx → Elt F e)
    {off size : Fin s.rank → ℕ} (inb : ∀ a, off a + size a ≤ s.size a) (h1 : (Rect.unit off size inb).shape.numel = 1)
    (hp : e.packing = 1) (K : Elt F e → sProp 𝕄) :
    iprop(owns (c : Thread nD τ) M q x ∗ (owns (c : Thread nD τ) M q x -∗
        K (x ((Rect.unit off size inb).emb (Shape.Idx.first (by rw [h1]; exact Nat.one_pos))))))
      ⊢ WP c E (smemLoad M (Rect.unit off size inb) h1 hp) K := by
  unfold owns smemLoad smemLoadElt
  iintro ⟨⟨%f, %hf, H⟩, Hk⟩
  ihave Hw := wp_load (defs := defs₀ (F := F)) Variants.none (c : Thread nD τ) none E (m := M)
    (r := (Rect.unit off size inb).toLoadRect) (hl := View.loadsAt_rect (View.loads_smem_one hp h1))
    (k := fun g => .ret (g (Shape.Idx.first (h1.symm ▸ Nat.one_pos)))) (Q := K) (S := M.view.set) (q := q) (f := f)
    (View.setOn_subset_set _ _) $$ H
  iapply Hw
  iintro H
  rw [wp_ret]
  imodintro
  rw [← hf, View.readAt_unit M.view f inb rfl inb]
  unfold window
  iapply Hk
  iexists f
  isplitr; · ipureintro; rfl
  iexact H

/-- A checked side condition that holds. -/
theorem wp_asm {P : Prop} {d : Decidable P} (h : P) (K : PLift P → sProp 𝕄) :
    K ⟨h⟩ ⊢ WP c E (Prog.lift (TpuEff.assume P d)) K := by
  refine BIBase.Entails.trans ?_ (wp_assume (defs := defs₀ (F := F)) Variants.none (c : Thread nD τ) none E h)
  exact le_wp_ret _ _ _ _ _

/-- A counted loop, from an invariant: before trip `j` the loop carries `val j` and holds `I j`. -/
theorem wp_forN {α : Type} : ∀ (n : ℕ) (f : Fin n → α → Pg F α) (val : ℕ → α) (I : ℕ → sProp 𝕄)
    (_ : ∀ (j : Fin n) (K : α → sProp 𝕄), iprop(I j.val ∗ (I (j.val + 1) -∗ K (val (j.val + 1)))) ⊢ WP c E (f j (val j.val)) K)
    (K : α → sProp 𝕄), iprop(I 0 ∗ (I n -∗ K (val n))) ⊢ WP c E (forN n f (val 0)) K
  | 0, _, val, I, _, K => by
    unfold forN
    rw [WP, wp_ret]
    iintro ⟨H, Hk⟩
    imodintro
    iapply Hk
    iexact H
  | n + 1, f, val, I, h, K => by
    unfold forN
    rw [wp_pbind]
    have h0 := h 0 (fun a => WP c E (forN n (fun j => f j.succ) a) K)
    have hr := wp_forN n (fun j => f j.succ) (fun j => val (j + 1)) (fun j => I (j + 1)) (fun j K => h j.succ K) K
    exact BIBase.Entails.trans (sep_mono_right (BIClass.wand_intro (BIBase.Entails.trans sep_comm.1 hr))) h0

/-! ## The quantiser -/

theorem blk_lt {a b n : ℕ} (h : a < 128 * n) : a / 128 < n := by omega

/-- The row tile quantised and rescaled, block by block. -/
def quantT (x : Vec F S512x2816 .bf16) : Vec F S512x2816 .bf16 := fun y =>
  qpay (window x ![128 * ((y 0).val / 128), 128 * ((y 1).val / 128)] S128x128.size
      (inb_x ⟨(y 0).val / 128, by have : (y 0).val < 512 := (y 0).isLt; omega⟩ ⟨(y 1).val / 128, by have : (y 1).val < 2816 := (y 1).isLt; omega⟩))
    (ix2 ⟨(y 0).val % 128, Nat.mod_lt _ (by decide)⟩ ⟨(y 1).val % 128, Nat.mod_lt _ (by decide)⟩)

/-- The scratch when the blocks before (r, c) are quantised. -/
def quantPart (x s : Vec F S512x2816 .bf16) (r k : ℕ) : Vec F S512x2816 .bf16 := fun y =>
  if (y 0).val / 128 < r ∨ ((y 0).val / 128 = r ∧ (y 1).val / 128 < k) then quantT x y else s y

theorem quantT_at (x : Vec F S512x2816 .bf16) (y : S512x2816.Idx) (r : Fin 4) (k : Fin 22) (e0 : (y 0).val / 128 = r.val) (e1 : (y 1).val / 128 = k.val)
    (z : S128x128.Idx) (hz : ∀ a : Fin 2, (z a).val = (![(y 0).val % 128, (y 1).val % 128] : Fin 2 → ℕ) a) :
    qpay (window x ![128 * r.val, 128 * k.val] S128x128.size (inb_x r k)) z = quantT x y := by
  have hr : r = ⟨(y 0).val / 128, by have : (y 0).val < 512 := (y 0).isLt; omega⟩ := Fin.ext e0.symm
  have hk : k = ⟨(y 1).val / 128, by have : (y 1).val < 2816 := (y 1).isLt; omega⟩ := Fin.ext e1.symm
  have hz' : z = ix2 ⟨(y 0).val % 128, Nat.mod_lt _ (by decide)⟩ ⟨(y 1).val % 128, Nat.mod_lt _ (by decide)⟩ := by
    funext a
    fin_cases a
    · exact Fin.ext (hz 0)
    · exact Fin.ext (hz 1)
  rw [hz', hr, hk]
  rfl

theorem quantPart_step (x s : Vec F S512x2816 .bf16) (r : Fin 4) (k : Fin 22) :
    put (quantPart x s r k) ![128 * r.val, 128 * k.val] S128x128.size (qpay (window x ![128 * r.val, 128 * k.val] S128x128.size (inb_x r k)))
      = quantPart x s r (k.val + 1) := by
  funext y
  have hy0 : (y 0).val < 512 := (y 0).isLt
  have hy1 : (y 1).val < 2816 := (y 1).isLt
  unfold put
  split
  · rename_i h
    have h0 : 128 * r.val ≤ (y 0).val ∧ (y 0).val < 128 * r.val + 128 := h 0
    have h1 : 128 * k.val ≤ (y 1).val ∧ (y 1).val < 128 * k.val + 128 := h 1
    have e0 : (y 0).val / 128 = r.val := by omega
    have e1 : (y 1).val / 128 = k.val := by omega
    unfold quantPart
    rw [if_pos (Or.inr ⟨e0, by omega⟩)]
    exact quantT_at x y r k e0 e1 _ (fun a => by
      fin_cases a
      · show (y 0).val - 128 * r.val = (y 0).val % 128; omega
      · show (y 1).val - 128 * k.val = (y 1).val % 128; omega)
  · rename_i h
    have h' : ¬ ((y 0).val / 128 = r.val ∧ (y 1).val / 128 = k.val) := fun ⟨e0, e1⟩ => h fun a => by
      fin_cases a
      · show 128 * r.val ≤ (y 0).val ∧ (y 0).val < 128 * r.val + 128; omega
      · show 128 * k.val ≤ (y 1).val ∧ (y 1).val < 128 * k.val + 128; omega
    unfold quantPart
    congr 1
    apply propext
    omega

theorem quantPart_row (x s : Vec F S512x2816 .bf16) (r : ℕ) : quantPart x s r 22 = quantPart x s (r + 1) 0 := by
  funext y
  have hy1 : (y 1).val < 2816 := (y 1).isLt
  unfold quantPart
  congr 1
  apply propext
  omega

theorem quantPart_zero (x s : Vec F S512x2816 .bf16) : quantPart x s 0 0 = s := by
  funext y
  unfold quantPart
  rw [if_neg (by omega)]

theorem quantPart_all (x s : Vec F S512x2816 .bf16) : quantPart x s 4 0 = quantT x := by
  funext y
  have hy0 : (y 0).val < 512 := (y 0).isLt
  unfold quantPart
  rw [if_pos (by omega)]

section
variable (arg5 : Memref sig .tc .vmem S512x2816 .bf16) (arg10 : Memref sig .tc .vmem S512x2048 .bf16) (harg10 : arg10.IsWhole)
  (arg11 : Memref sig .tc .vmem S512x2816 .bf16) (harg11 : arg11.IsWhole)

theorem wp_quant1 (x s : Vec F S512x2816 .bf16) (r : Fin 4) (k : Fin 22) (K : PUnit → sProp 𝕄) :
    iprop((owns (c : Thread nD τ) arg5 fullShare x ∗ owns (c : Thread nD τ) arg11 fullShare (quantPart x s r k))
        ∗ ((owns (c : Thread nD τ) arg5 fullShare x ∗ owns (c : Thread nD τ) arg11 fullShare (quantPart x s r (k.val + 1))) -∗ K ⟨⟩))
      ⊢ WP c E (quant1 arg5 arg11 harg11 r k) K := by
  unfold quant1
  rw [wp_pbind]
  iintro ⟨⟨H5, H11⟩, Hk⟩
  iapply (wp_ld c E arg5 fullShare x (inb_x r k) _ _)
  isplitl [H5]; · iexact H5
  iintro H5
  rw [wp_pbind]
  iapply (wp_ld c E arg11 fullShare _ (inb_x r k) _ _)
  isplitl [H11]; · iexact H11
  iintro H11
  iapply (wp_st c E arg11 _ (inb_x r k) _ _ _ _)
  isplitl [H11]; · iexact H11
  iintro H11
  rw [quantPart_step]
  iapply Hk
  isplitl [H5]; · iexact H5
  iexact H11

theorem wp_quantAll (x s : Vec F S512x2816 .bf16) (o : Vec F S512x2048 .bf16) (K : PUnit → sProp 𝕄) :
    iprop((owns (c : Thread nD τ) arg5 fullShare x ∗ owns (c : Thread nD τ) arg10 fullShare o ∗ owns (c : Thread nD τ) arg11 fullShare s)
        ∗ ((owns (c : Thread nD τ) arg5 fullShare x ∗ owns (c : Thread nD τ) arg10 fullShare (broadcast S512x2048 (Scalar.ofBits .bf16 0x0000#16 : F .bf16))
            ∗ owns (c : Thread nD τ) arg11 fullShare (quantT x)) -∗ K ⟨⟩))
      ⊢ WP c E (quantAll arg5 arg10 harg10 arg11 harg11) K := by
  have hin := fun (r : Fin 4) (K : PUnit → sProp 𝕄) => wp_forN c E 22 (fun k _ => quant1 (F := F) arg5 arg11 harg11 r k) (fun _ => PUnit.unit)
    (fun k => iprop(owns (c : Thread nD τ) arg5 fullShare x ∗ owns (c : Thread nD τ) arg11 fullShare (quantPart x s r k)))
    (fun k K => wp_quant1 c E arg5 arg11 harg11 x s r k K) K
  simp only [quantPart_row] at hin
  have hout := wp_forN c E 4 (fun r _ => forN 22 (fun k _ => quant1 (F := F) arg5 arg11 harg11 r k) PUnit.unit) (fun _ => PUnit.unit)
    (fun r => iprop(owns (c : Thread nD τ) arg5 fullShare x ∗ owns (c : Thread nD τ) arg11 fullShare (quantPart x s r 0)))
    hin K
  simp only [quantPart_all, quantPart_zero] at hout
  unfold quantAll
  rw [wp_pbind]
  iintro ⟨⟨H5, H10, H11⟩, Hk⟩
  iapply (wp_ld c E arg10 fullShare o inb_S512x2048_S512x2048_0_0 _ _)
  isplitl [H10]; · iexact H10
  iintro H10
  rw [wp_pbind]
  iapply (wp_st c E arg10 _ inb_S512x2048_S512x2048_0_0 _ _ _ _)
  isplitl [H10]; · iexact H10
  iintro H10
  iapply hout
  isplitl [H5 H11]
  · isplitl [H5]; · iexact H5
    iexact H11
  iintro ⟨H5, H11⟩
  iapply Hk
  isplitl [H5]; · iexact H5
  isplitl [H10]
  · rw [show put o ![0, 0] S512x2048.size (broadcast S512x2048 (Scalar.ofBits .bf16 0x0000#16 : F .bf16)) = broadcast S512x2048 (Scalar.ofBits .bf16 0x0000#16 : F .bf16) from by
      funext y
      unfold put
      rw [dif_pos (fun a => ⟨by fin_cases a <;> exact Nat.zero_le _, by have := (y a).isLt; fin_cases a <;> simpa using this⟩)]
      rfl]
    iexact H10
  iexact H11
end

/-! ## The gated product -/

section
variable (arg6 : Memref sig .tc .vmem S1x2816x2048 .fp8e4m3) (arg7 : Memref sig .tc .vmem S1x2816x2048 .fp8e4m3)
  (arg8 : Memref sig .tc .smem S8x22x16 .f32) (arg9 : Memref sig .tc .smem S8x22x16 .f32)
  (arg10 : Memref sig .tc .vmem S512x2048 .bf16) (harg10 : arg10.IsWhole) (arg11 : Memref sig .tc .vmem S512x2816 .bf16)
variable (v5 : BitVec 32)
  (hs : ∀ (k2 : Fin 22) (n2 : Fin 16), ∀ a, (offS v5 k2 n2) a + S1x1x1.size a ≤ S8x22x16.size a)

/-- One widened weight block, from the weights and their scales. -/
def blockV (w : Vec F S1x2816x2048 .fp8e4m3) (s : Vec F S8x22x16 .f32) (k2 : Fin 22) (n2 : Fin 16) : FVec F S128x128 .bf16 :=
  wide (window w ![0, 128 * k2.val, 128 * n2.val] S1x128x128.size (inb_w k2 n2))
    (s ((Rect.unit (s := S8x22x16) (offS v5 k2 n2) S1x1x1.size (hs k2 n2)).emb (Shape.Idx.first (by rw [show (Rect.unit (s := S8x22x16) (offS v5 k2 n2) S1x1x1.size (hs k2 n2)).shape.numel = 1 from numel1_S1x1x1]; exact Nat.one_pos))))

/-- One 256 × 256 chunk of the widened weights. -/
def chunkV (w : Vec F S1x2816x2048 .fp8e4m3) (s : Vec F S8x22x16 .f32) (k : Fin 11) (n : Fin 8) : FVec F S256x256 .bf16 :=
  wide4 (blockV v5 hs w s (ev k) (ev n)) (blockV v5 hs w s (ev k) (od n)) (blockV v5 hs w s (od k) (ev n)) (blockV v5 hs w s (od k) (od n))

theorem wp_block1 (argw : Memref sig .tc .vmem S1x2816x2048 .fp8e4m3) (args : Memref sig .tc .smem S8x22x16 .f32)
    (w : Vec F S1x2816x2048 .fp8e4m3) (s : Vec F S8x22x16 .f32) (k2 : Fin 22) (n2 : Fin 16) (K : FVec F S128x128 .bf16 → sProp 𝕄) :
    iprop((owns (c : Thread nD τ) argw fullShare w ∗ owns (c : Thread nD τ) args fullShare s)
        ∗ ((owns (c : Thread nD τ) argw fullShare w ∗ owns (c : Thread nD τ) args fullShare s) -∗ K (blockV v5 hs w s k2 n2)))
      ⊢ WP c E (block1 v5 hs argw args k2 n2) K := by
  unfold block1 blockV
  rw [wp_pbind]
  iintro ⟨⟨Hw, Hs⟩, Hk⟩
  iapply (wp_word c E args fullShare s (hs k2 n2) _ _ _)
  isplitl [Hs]; · iexact Hs
  iintro Hs
  rw [wp_pbind]
  iapply (wp_ld c E argw fullShare w (inb_w k2 n2) _ _)
  isplitl [Hw]; · iexact Hw
  iintro Hw
  rw [WP, wp_ret]
  imodintro
  iapply Hk
  isplitl [Hw]; · iexact Hw
  iexact Hs

theorem wp_chunk1 (argw : Memref sig .tc .vmem S1x2816x2048 .fp8e4m3) (args : Memref sig .tc .smem S8x22x16 .f32)
    (w : Vec F S1x2816x2048 .fp8e4m3) (s : Vec F S8x22x16 .f32) (k : Fin 11) (n : Fin 8) (K : FVec F S256x256 .bf16 → sProp 𝕄) :
    iprop((owns (c : Thread nD τ) argw fullShare w ∗ owns (c : Thread nD τ) args fullShare s)
        ∗ ((owns (c : Thread nD τ) argw fullShare w ∗ owns (c : Thread nD τ) args fullShare s) -∗ K (chunkV v5 hs w s k n)))
      ⊢ WP c E (chunk1 v5 hs argw args k n) K := by
  unfold chunk1 chunkV
  iintro ⟨H, Hk⟩
  rw [wp_pbind]
  iapply (wp_block1 c E v5 hs argw args w s _ _ _)
  isplitl [H]; · iexact H
  iintro H
  rw [wp_pbind]
  iapply (wp_block1 c E v5 hs argw args w s _ _ _)
  isplitl [H]; · iexact H
  iintro H
  rw [wp_pbind]
  iapply (wp_block1 c E v5 hs argw args w s _ _ _)
  isplitl [H]; · iexact H
  iintro H
  rw [wp_pbind]
  iapply (wp_block1 c E v5 hs argw args w s _ _ _)
  isplitl [H]; · iexact H
  iintro H
  rw [WP, wp_ret]
  imodintro
  iapply Hk
  iexact H

variable (wg wu : Vec F S1x2816x2048 .fp8e4m3) (sg su : Vec F S8x22x16 .f32) (x : Vec F S512x2816 .bf16)

/-- Both sums of column block n after k chunks. -/
def sums (n : Fin 8) : ℕ → FVec F S512x256 .f32 × FVec F S512x256 .f32
  | 0 => (broadcast S512x256 (Scalar.ofBits .f32 0x00000000#32 : F .f32), broadcast S512x256 (Scalar.ofBits .f32 0x00000000#32 : F .f32))
  | k + 1 => if h : k < 11 then
      (dotAdd (sums n k).1 (window x ![0, 256 * k] S512x256.size (inb_lhs ⟨k, h⟩)) (chunkV v5 hs wg sg ⟨k, h⟩ n),
       dotAdd (sums n k).2 (window x ![0, 256 * k] S512x256.size (inb_lhs ⟨k, h⟩)) (chunkV v5 hs wu su ⟨k, h⟩ n))
    else sums n k

/-- What the gated product reads: the weights, their scales and the quantised row tile. -/
def reads : sProp 𝕄 :=
  iprop((owns (c : Thread nD τ) arg6 fullShare wg ∗ owns (c : Thread nD τ) arg8 fullShare sg)
    ∗ (owns (c : Thread nD τ) arg7 fullShare wu ∗ owns (c : Thread nD τ) arg9 fullShare su)
    ∗ owns (c : Thread nD τ) arg11 fullShare x)

theorem wp_step1 (n : Fin 8) (k : Fin 11) (K : FVec F S512x256 .f32 × FVec F S512x256 .f32 → sProp 𝕄) :
    iprop(reads c arg6 arg7 arg8 arg9 arg11 wg wu sg su x
        ∗ (reads c arg6 arg7 arg8 arg9 arg11 wg wu sg su x -∗ K (sums v5 hs wg wu sg su x n (k.val + 1))))
      ⊢ WP c E (step1 arg6 arg7 arg8 arg9 arg11 v5 hs n k (sums v5 hs wg wu sg su x n k)) K := by
  unfold step1 reads
  iintro ⟨⟨Hg, Hu, Hx⟩, Hk⟩
  rw [wp_pbind]
  iapply (wp_ld c E arg11 fullShare x (inb_lhs k) _ _)
  isplitl [Hx]; · iexact Hx
  iintro Hx
  rw [wp_pbind]
  iapply (wp_chunk1 c E v5 hs arg6 arg8 wg sg k n _)
  isplitl [Hg]; · iexact Hg
  iintro Hg
  rw [wp_pbind]
  iapply (wp_chunk1 c E v5 hs arg7 arg9 wu su k n _)
  isplitl [Hu]; · iexact Hu
  iintro Hu
  rw [WP, wp_ret]
  imodintro
  rw [sums, dif_pos k.isLt]
  iapply Hk
  isplitl [Hg]; · iexact Hg
  isplitl [Hu]; · iexact Hu
  iexact Hx

/-- Column block n of the expert's rows put over `old`. -/
def colV (v1 v3 : BitVec 32) (n : Fin 8) (old : Vec F S512x256 .bf16) : FVec F S512x256 .bf16 :=
  merge v1 v3 (gate (sums v5 hs wg wu sg su x n 11).1 (sums v5 hs wg wu sg su x n 11).2) old

/-- The output tile after the gated product. -/
def mlpT (v1 v3 : BitVec 32) (o : Vec F S512x2048 .bf16) : Vec F S512x2048 .bf16 := fun y =>
  colV v5 hs wg wu sg su x v1 v3 ⟨(y 1).val / 256, by have : (y 1).val < 2048 := (y 1).isLt; omega⟩
    (window o ![0, 256 * ((y 1).val / 256)] S512x256.size (inb_out ⟨(y 1).val / 256, by have : (y 1).val < 2048 := (y 1).isLt; omega⟩))
    (ix2 (y 0) ⟨(y 1).val % 256, Nat.mod_lt _ (by decide)⟩)

/-- The output tile when the column blocks before n are done. -/
def mlpPart (v1 v3 : BitVec 32) (o : Vec F S512x2048 .bf16) (n : ℕ) : Vec F S512x2048 .bf16 := fun y =>
  if (y 1).val / 256 < n then mlpT v5 hs wg wu sg su x v1 v3 o y else o y

theorem mlpT_at (v1 v3 : BitVec 32) (o : Vec F S512x2048 .bf16) (y : S512x2048.Idx) (n : Fin 8) (e1 : (y 1).val / 256 = n.val)
    (z : S512x256.Idx) (hz : ∀ a : Fin 2, (z a).val = (![(y 0).val, (y 1).val % 256] : Fin 2 → ℕ) a) :
    colV v5 hs wg wu sg su x v1 v3 n (window o ![0, 256 * n.val] S512x256.size (inb_out n)) z = mlpT v5 hs wg wu sg su x v1 v3 o y := by
  have hn : n = ⟨(y 1).val / 256, by have : (y 1).val < 2048 := (y 1).isLt; omega⟩ := Fin.ext e1.symm
  have hz' : z = ix2 (y 0) ⟨(y 1).val % 256, Nat.mod_lt _ (by decide)⟩ := by
    funext a
    fin_cases a
    · exact Fin.ext (hz 0)
    · exact Fin.ext (hz 1)
  rw [hz', hn]
  rfl

theorem mlpPart_window (v1 v3 : BitVec 32) (o : Vec F S512x2048 .bf16) (n : Fin 8) :
    window (mlpPart v5 hs wg wu sg su x v1 v3 o n) ![0, 256 * n.val] S512x256.size (inb_out n)
      = window o ![0, 256 * n.val] S512x256.size (inb_out n) := by
  funext y
  unfold window mlpPart
  rw [if_neg]
  show ¬ (256 * n.val + 1 * (y 1).val) / 256 < n.val
  omega

theorem mlpPart_step (v1 v3 : BitVec 32) (o : Vec F S512x2048 .bf16) (n : Fin 8) :
    put (mlpPart v5 hs wg wu sg su x v1 v3 o n) ![0, 256 * n.val] S512x256.size
        (colV v5 hs wg wu sg su x v1 v3 n (window o ![0, 256 * n.val] S512x256.size (inb_out n)))
      = mlpPart v5 hs wg wu sg su x v1 v3 o (n.val + 1) := by
  funext y
  have hy0 : (y 0).val < 512 := (y 0).isLt
  have hy1 : (y 1).val < 2048 := (y 1).isLt
  unfold put
  split
  · rename_i h
    have h1 : 256 * n.val ≤ (y 1).val ∧ (y 1).val < 256 * n.val + 256 := h 1
    have e1 : (y 1).val / 256 = n.val := by omega
    unfold mlpPart
    rw [if_pos (by omega)]
    exact mlpT_at v5 hs wg wu sg su x v1 v3 o y n e1 _ (fun a => by
      fin_cases a
      · show (y 0).val - 0 = (y 0).val; omega
      · show (y 1).val - 256 * n.val = (y 1).val % 256; omega)
  · rename_i h
    have h' : ¬ ((y 1).val / 256 = n.val) := fun e1 => h fun a => by
      fin_cases a
      · show 0 ≤ (y 0).val ∧ (y 0).val < 0 + 512; omega
      · show 256 * n.val ≤ (y 1).val ∧ (y 1).val < 256 * n.val + 256; omega
    unfold mlpPart
    congr 1
    apply propext
    omega

theorem mlpPart_zero (v1 v3 : BitVec 32) (o : Vec F S512x2048 .bf16) : mlpPart v5 hs wg wu sg su x v1 v3 o 0 = o := by
  funext y
  unfold mlpPart
  rw [if_neg (by omega)]

theorem mlpPart_all (v1 v3 : BitVec 32) (o : Vec F S512x2048 .bf16) :
    mlpPart v5 hs wg wu sg su x v1 v3 o 8 = mlpT v5 hs wg wu sg su x v1 v3 o := by
  funext y
  have hy1 : (y 1).val < 2048 := (y 1).isLt
  unfold mlpPart
  rw [if_pos (by omega)]

theorem wp_mlpCol (v1 v3 : BitVec 32) (o : Vec F S512x2048 .bf16) (n : Fin 8) (K : PUnit → sProp 𝕄) :
    iprop((reads c arg6 arg7 arg8 arg9 arg11 wg wu sg su x ∗ owns (c : Thread nD τ) arg10 fullShare (mlpPart v5 hs wg wu sg su x v1 v3 o n))
        ∗ ((reads c arg6 arg7 arg8 arg9 arg11 wg wu sg su x
            ∗ owns (c : Thread nD τ) arg10 fullShare (mlpPart v5 hs wg wu sg su x v1 v3 o (n.val + 1))) -∗ K ⟨⟩))
      ⊢ WP c E (mlpCol arg6 arg7 arg8 arg9 arg10 harg10 arg11 v5 hs v1 v3 n) K := by
  have hl := fun K => wp_forN c E 11 (step1 (F := F) arg6 arg7 arg8 arg9 arg11 v5 hs n) (sums v5 hs wg wu sg su x n)
    (fun _ => reads c arg6 arg7 arg8 arg9 arg11 wg wu sg su x)
    (fun k K => wp_step1 c E arg6 arg7 arg8 arg9 arg11 v5 hs wg wu sg su x n k K) K
  unfold mlpCol
  iintro ⟨⟨H, H10⟩, Hk⟩
  rw [wp_pbind]
  iapply (hl _)
  isplitl [H]; · iexact H
  iintro H
  rw [wp_pbind]
  iapply (wp_ld c E arg10 fullShare _ (inb_out n) _ _)
  isplitl [H10]; · iexact H10
  iintro H10
  rw [wp_pbind]
  iapply (wp_ld c E arg10 fullShare _ (inb_out n) _ _)
  isplitl [H10]; · iexact H10
  iintro H10
  iapply (wp_st c E arg10 _ (inb_out n) _ _ _ _)
  isplitl [H10]; · iexact H10
  iintro H10
  rw [mlpPart_window, ← mlpPart_step]
  iapply Hk
  isplitl [H]; · iexact H
  iexact H10

theorem wp_mlpCols (v1 v3 : BitVec 32) (o : Vec F S512x2048 .bf16) (K : PUnit → sProp 𝕄) :
    iprop((reads c arg6 arg7 arg8 arg9 arg11 wg wu sg su x ∗ owns (c : Thread nD τ) arg10 fullShare o)
        ∗ ((reads c arg6 arg7 arg8 arg9 arg11 wg wu sg su x
            ∗ owns (c : Thread nD τ) arg10 fullShare (mlpT v5 hs wg wu sg su x v1 v3 o)) -∗ K ⟨⟩))
      ⊢ WP c E (mlpCols arg6 arg7 arg8 arg9 arg10 harg10 arg11 v5 hs v1 v3) K := by
  have h := wp_forN c E 8 (fun n _ => mlpCol (F := F) arg6 arg7 arg8 arg9 arg10 harg10 arg11 v5 hs v1 v3 n) (fun _ => PUnit.unit)
    (fun n => iprop(reads c arg6 arg7 arg8 arg9 arg11 wg wu sg su x ∗ owns (c : Thread nD τ) arg10 fullShare (mlpPart v5 hs wg wu sg su x v1 v3 o n)))
    (fun n K => wp_mlpCol c E arg6 arg7 arg8 arg9 arg10 harg10 arg11 v5 hs wg wu sg su x v1 v3 o n K) K
  simp only [mlpPart_zero, mlpPart_all] at h
  exact h

/-- The output tile after the second half of the body. -/
def mlpV (v1 v3 v5 : BitVec 32) (h : k0_chk1 v1 v3 v5) (o : Vec F S512x2048 .bf16) : Vec F S512x2048 .bf16 :=
  if h2 : k0_cond2 v1 v3 = 1#1 then mlpT v5 (hs_of v1 v3 v5 h h2) wg wu sg su x v1 v3 o else o

theorem wp_mlp (v1 v3 v5 : BitVec 32) (h : k0_chk1 v1 v3 v5) (o : Vec F S512x2048 .bf16) (K : PUnit → sProp 𝕄) :
    iprop((reads c arg6 arg7 arg8 arg9 arg11 wg wu sg su x ∗ owns (c : Thread nD τ) arg10 fullShare o)
        ∗ ((reads c arg6 arg7 arg8 arg9 arg11 wg wu sg su x
            ∗ owns (c : Thread nD τ) arg10 fullShare (mlpV wg wu sg su x v1 v3 v5 h o)) -∗ K ⟨⟩))
      ⊢ WP c E (mlp arg6 arg7 arg8 arg9 arg10 harg10 arg11 v1 v3 v5 h) K := by
  unfold mlp mlpV
  split
  · exact wp_mlpCols c E arg6 arg7 arg8 arg9 arg10 harg10 arg11 v5 _ wg wu sg su x v1 v3 o K
  · rw [WP, wp_pure]
    iintro ⟨H, Hk⟩
    imodintro
    iapply Hk
    iexact H
end

/-! ## The body -/

section
variable (i : grid0.Coords)

theorem first_pos : 0 < (Rect.unit (s := S55) (k0_off1 i) S1.size (k0_off1_inb i)).shape.numel := by
  rw [show (Rect.unit (s := S55) (k0_off1 i) S1.size (k0_off1_inb i)).shape.numel = 1 from numel1_S1]; exact Nat.one_pos

/-- This point's word of a table. -/
abbrev word1 (T : Vec F S55 .i32) : BitVec 32 :=
  T ((Rect.unit (s := S55) (k0_off1 i) S1.size (k0_off1_inb i)).emb (Shape.Idx.first (by
    rw [show (Rect.unit (s := S55) (k0_off1 i) S1.size (k0_off1_inb i)).shape.numel = 1 from numel1_S1]; exact Nat.one_pos)))

/-- The word of a table at the point before (at this one for the first). -/
abbrev word2 (T : Vec F S55 .i32) : BitVec 32 :=
  T ((Rect.unit (s := S55) (k0_off2 i) S1.size (k0_off2_inb i)).emb (Shape.Idx.first (by
    rw [show (Rect.unit (s := S55) (k0_off2 i) S1.size (k0_off2_inb i)).shape.numel = 1 from numel1_S1]; exact Nat.one_pos)))

/-- Whether this point opens a new row tile. -/
abbrev opens (T : Vec F S55 .i32) : Prop := k0_cond1 i (word1 (F := F) i T) (word2 (F := F) i T) = 1#1

open Classical in
/-- The scratch after the body. -/
def scrV (T : Vec F S55 .i32) (x s : Vec F S512x2816 .bf16) : Vec F S512x2816 .bf16 :=
  if opens (F := F) i T then quantT x else s

open Classical in
/-- The output tile the gated product starts from. -/
def outV (T : Vec F S55 .i32) (o : Vec F S512x2048 .bf16) : Vec F S512x2048 .bf16 :=
  if opens (F := F) i T then broadcast S512x2048 (Scalar.ofBits .bf16 0x0000#16 : F .bf16) else o

variable (arg1 : Memref sig .tc .smem S55 .i32) (arg2 : Memref sig .tc .smem S55 .i32) (arg3 : Memref sig .tc .smem S55 .i32) (arg4 : Memref sig .tc .smem S55 .i32)
  (arg5 : Memref sig .tc .vmem S512x2816 .bf16) (arg6 : Memref sig .tc .vmem S1x2816x2048 .fp8e4m3) (arg7 : Memref sig .tc .vmem S1x2816x2048 .fp8e4m3)
  (arg8 : Memref sig .tc .smem S8x22x16 .f32) (arg9 : Memref sig .tc .smem S8x22x16 .f32)
  (arg10 : Memref sig .tc .vmem S512x2048 .bf16) (harg10 : arg10.IsWhole) (arg11 : Memref sig .tc .vmem S512x2816 .bf16) (harg11 : arg11.IsWhole)
variable (wg wu : Vec F S1x2816x2048 .fp8e4m3) (sg su : Vec F S8x22x16 .f32) (x s : Vec F S512x2816 .bf16) (o : Vec F S512x2048 .bf16)
  (t1 t2 t3 t4 : Vec F S55 .i32)

theorem wp_body (q : PosShare TreeShare) (hk : k0_chk1 (word1 (F := F) i t3) (word1 (F := F) i t4) (word1 (F := F) i t1)) (K : PUnit → sProp 𝕄) :
    iprop((owns (c : Thread nD τ) arg1 q t1 ∗ owns (c : Thread nD τ) arg2 q t2 ∗ owns (c : Thread nD τ) arg3 q t3 ∗ owns (c : Thread nD τ) arg4 q t4)
        ∗ owns (c : Thread nD τ) arg5 fullShare x ∗ owns (c : Thread nD τ) arg6 fullShare wg ∗ owns (c : Thread nD τ) arg7 fullShare wu
        ∗ owns (c : Thread nD τ) arg8 fullShare sg ∗ owns (c : Thread nD τ) arg9 fullShare su ∗ owns (c : Thread nD τ) arg10 fullShare o
        ∗ owns (c : Thread nD τ) arg11 fullShare s
        ∗ (((owns (c : Thread nD τ) arg1 q t1 ∗ owns (c : Thread nD τ) arg2 q t2 ∗ owns (c : Thread nD τ) arg3 q t3 ∗ owns (c : Thread nD τ) arg4 q t4)
          ∗ owns (c : Thread nD τ) arg5 fullShare x ∗ owns (c : Thread nD τ) arg6 fullShare wg ∗ owns (c : Thread nD τ) arg7 fullShare wu
          ∗ owns (c : Thread nD τ) arg8 fullShare sg ∗ owns (c : Thread nD τ) arg9 fullShare su
          ∗ owns (c : Thread nD τ) arg10 fullShare (mlpV wg wu sg su (scrV (F := F) i t2 x s) _ _ _ hk (outV (F := F) i t2 o))
          ∗ owns (c : Thread nD τ) arg11 fullShare (scrV (F := F) i t2 x s)) -∗ K ⟨⟩))
      ⊢ WP c E (body i arg1 arg2 arg3 arg4 arg5 arg6 arg7 arg8 arg9 arg10 harg10 arg11 harg11) K := by
  unfold body
  iintro ⟨⟨T1, T2, T3, T4⟩, H5, H6, H7, H8, H9, H10, H11, Hk⟩
  rw [WP, wp_bind]
  iapply (wp_word c E arg3 q t3 (k0_off1_inb i) _ _ _)
  isplitl [T3]; · iexact T3
  iintro T3
  rw [wp_bind]
  iapply (wp_word c E arg4 q t4 (k0_off1_inb i) _ _ _)
  isplitl [T4]; · iexact T4
  iintro T4
  rw [wp_bind]
  iapply (wp_word c E arg1 q t1 (k0_off1_inb i) _ _ _)
  isplitl [T1]; · iexact T1
  iintro T1
  rw [wp_bind]
  iapply (wp_asm c E (d := k0_chk1.dec _ _ _) hk _)
  rw [wp_bind]
  iapply (wp_word c E arg2 q t2 (k0_off1_inb i) _ _ _)
  isplitl [T2]; · iexact T2
  iintro T2
  rw [wp_bind]
  iapply (wp_word c E arg2 q t2 (k0_off2_inb i) _ _ _)
  isplitl [T2]; · iexact T2
  iintro T2
  by_cases h1 : opens (F := F) i t2
  · rw [dif_pos h1]
    rw [← WP, wp_pbind]
    iapply (wp_quantAll c E arg5 arg10 harg10 arg11 harg11 x s o _)
    isplitl [H5 H10 H11]
    · isplitl [H5]; · iexact H5
      isplitl [H10]; · iexact H10
      iexact H11
    iintro ⟨H5, H10, H11⟩
    iapply (wp_mlp c E arg6 arg7 arg8 arg9 arg10 harg10 arg11 wg wu sg su (quantT x) _ _ _ hk _ _)
    isplitl [H6 H7 H8 H9 H10 H11]
    · unfold reads
      isplitr [H10]
      · isplitl [H6 H8]
        · isplitl [H6]; · iexact H6
          iexact H8
        isplitl [H7 H9]
        · isplitl [H7]; · iexact H7
          iexact H9
        iexact H11
      iexact H10
    unfold reads scrV outV
    rw [if_pos h1, if_pos h1]
    iintro ⟨⟨⟨H6, H8⟩, ⟨H7, H9⟩, H11⟩, H10⟩
    iapply Hk
    isplitl [T1 T2 T3 T4]
    · isplitl [T1]; · iexact T1
      isplitl [T2]; · iexact T2
      isplitl [T3]; · iexact T3
      iexact T4
    isplitl [H5]; · iexact H5
    isplitl [H6]; · iexact H6
    isplitl [H7]; · iexact H7
    isplitl [H8]; · iexact H8
    isplitl [H9]; · iexact H9
    isplitl [H10]; · iexact H10
    iexact H11
  · rw [dif_neg h1]
    rw [← WP]
    iapply (wp_mlp c E arg6 arg7 arg8 arg9 arg10 harg10 arg11 wg wu sg su s _ _ _ hk _ _)
    isplitl [H6 H7 H8 H9 H10 H11]
    · unfold reads
      isplitr [H10]
      · isplitl [H6 H8]
        · isplitl [H6]; · iexact H6
          iexact H8
        isplitl [H7 H9]
        · isplitl [H7]; · iexact H7
          iexact H9
        iexact H11
      iexact H10
    unfold reads scrV outV
    rw [if_neg h1, if_neg h1]
    iintro ⟨⟨⟨H6, H8⟩, ⟨H7, H9⟩, H11⟩, H10⟩
    iapply Hk
    isplitl [T1 T2 T3 T4]
    · isplitl [T1]; · iexact T1
      isplitl [T2]; · iexact T2
      isplitl [T3]; · iexact T3
      iexact T4
    isplitl [H5]; · iexact H5
    isplitl [H6]; · iexact H6
    isplitl [H7]; · iexact H7
    isplitl [H8]; · iexact H8
    isplitl [H9]; · iexact H9
    isplitl [H10]; · iexact H10
    iexact H11
end

end Cert.KernelIdeal.Body
-- ==== Proof.BodyEq.lean ====
module

public import proofs.«01_k».proof.Proof.Body

/-!
# The printed body is the loops
-/

@[expose] public section

set_option maxRecDepth 100000

noncomputable section

namespace Cert.KernelIdeal.Body

open Idealize.ShloMosaic Idealize.SL.Sem
open Cert.KernelIdeal Cert.KernelIdeal.Facts₀ Cert.KernelIdeal.Facts

variable {F : FTy → Type} [FloatOps F]

universe v

theorem bind_congr' {E : Type → Type v} {α β : Type} {p q : Prog E α} {k k' : α → Prog E β} (h : p = q)
    (hk : ∀ x, k x = k' x) : p >>= k = q >>= k' := by rw [h, funext hk]

theorem dite_congr' {E : Type → Type v} {α : Type} {c : Prop} [Decidable c] {a a' : c → Prog E α} {b b' : ¬c → Prog E α}
    (h : ∀ x, a x = a' x) (h' : ∀ x, b x = b' x) : dite c a b = dite c a' b' := by rw [funext h, funext h']

set_option maxHeartbeats 0 in
/-- The printed body is the program of `Body`, its loops unrolled. -/
theorem body_eq (i : grid0.Coords) (arg1 : Memref sig .tc .smem S55 .i32) (harg1 : arg1.IsWhole) (arg2 : Memref sig .tc .smem S55 .i32) (harg2 : arg2.IsWhole) (arg3 : Memref sig .tc .smem S55 .i32) (harg3 : arg3.IsWhole) (arg4 : Memref sig .tc .smem S55 .i32) (harg4 : arg4.IsWhole) (arg5 : Memref sig .tc .vmem S512x2816 .bf16) (harg5 : arg5.IsWhole) (arg6 : Memref sig .tc .vmem S1x2816x2048 .fp8e4m3) (harg6 : arg6.IsWhole) (arg7 : Memref sig .tc .vmem S1x2816x2048 .fp8e4m3) (harg7 : arg7.IsWhole) (arg8 : Memref sig .tc .smem S8x22x16 .f32) (harg8 : arg8.IsWhole) (arg9 : Memref sig .tc .smem S8x22x16 .f32) (harg9 : arg9.IsWhole) (arg10 : Memref sig .tc .vmem S512x2048 .bf16) (harg10 : arg10.IsWhole) (arg11 : Memref sig .tc .vmem S512x2816 .bf16) (harg11 : arg11.IsWhole) : cc0_moe_gated (F := F) i arg1 harg1 arg2 harg2 arg3 harg3 arg4 harg4 arg5 harg5 arg6 harg6 arg7 harg7 arg8 harg8 arg9 harg9 arg10 harg10 arg11 harg11
    = body i arg1 arg2 arg3 arg4 arg5 arg6 arg7 arg8 arg9 arg10 harg10 arg11 harg11 := by
  unfold cc0_moe_gated body
  refine bind_congr' rfl fun v1 => bind_congr' rfl fun v3 => bind_congr' rfl fun v5 => bind_congr' rfl fun hw =>
    bind_congr' rfl fun v8 => bind_congr' rfl fun v12 => dite_congr' (fun h1 => ?_) (fun _ => ?_)
  · unfold quantAll mlp mlpCols
    rfl
  · unfold mlp
    refine dite_congr' (fun h2 => ?_) fun _ => rfl
    unfold mlpCols
    rfl

end Cert.KernelIdeal.Body
-- ==== Proof.Kit.lean ====
module

public import proofs.«01_k».proof.Proof.Run
public import proofs.«01_k».proof.Proof.BodyEq
public import Idealize.ShloMosaic.Lib.Pipeline.FrameBody
public import Idealize.ShloMosaic.Lib.Pipeline.TableIdle
public import Idealize.ShloMosaic.Lib.Pipeline.Value
public import Idealize.ShloMosaic.Lib.Claim

/-!
# The launch of the kernel

The contents of the buffers when the pipeline starts, the four tables it prefetches, the blocks its windows show, and
what every point leaves in the scratch and in the output tile.
-/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Facts₀ Cert.KernelIdeal.Facts Cert.KernelIdeal.Gen

variable {F : FTy → Type} [FloatOps F]

local notation "𝕄" => MT nD τ sig Unit (Elt F) ℕ (UR sig nD τ) ℕ

/-! ## When a point opens a row tile -/

theorem off2_eq : ∀ n : Fin 55, n.val ≠ 0 →
    k0_off2 (grid0.coords n) = k0_off1 (grid0.coords ⟨n.val - 1, by show n.val - 1 < 55; omega⟩) := by decide +kernel

theorem coord_ne : ∀ n : Fin 55, n.val ≠ 0 → Scalar.cmpi .eq (BitVec.ofNat 32 ((grid0.coords n) 0).val) 0#32 = 0#1 := by decide +kernel

theorem coord_eq : ∀ n : Fin 55, n.val = 0 → Scalar.cmpi .eq (BitVec.ofNat 32 ((grid0.coords n) 0).val) 0#32 = 1#1 := by decide +kernel

theorem bits1 : ∀ a b : BitVec 1, (Scalar.cmpi .ne (Scalar.extui (Scalar.ori a b) : BitVec 32) 0#32 = 1#1) = (a = 1#1 ∨ b = 1#1) := by
  decide

theorem cmpi_ne_iff (v w : BitVec 32) : Scalar.cmpi .ne v w = 1#1 ↔ v ≠ w := by
  unfold Scalar.cmpi IntOp.cmpi
  by_cases h : v = w
  · subst h; simp
  · have : (v != w) = true := by simpa using h
    rw [this]; simp [h]

/-- A point opens a tile when it is the first or its tile is not the tile of the point before. -/
theorem opens_iff (n : Fin 55) (T : Vec F S55 .i32) :
    opens (F := F) (grid0.coords n) T ↔ (n.val = 0 ∨ word1 (F := F) (grid0.coords n) T ≠ word2 (F := F) (grid0.coords n) T) := by
  unfold opens k0_cond1
  rw [bits1, cmpi_ne_iff]
  constructor
  · rintro (h | h)
    · by_cases h0 : n.val = 0
      · exact .inl h0
      · rw [coord_ne n h0] at h; exact absurd h (by decide)
    · exact .inr h
  · rintro (h | h)
    · exact .inl (coord_eq n h)
    · exact .inr h

theorem word2_eq (n : Fin 55) (h : n.val ≠ 0) (T : Vec F S55 .i32) :
    word2 (F := F) (grid0.coords n) T = word1 (F := F) (grid0.coords ⟨n.val - 1, by show n.val - 1 < 55; omega⟩) T := by
  unfold word1 word2
  congr 1
  funext a
  apply Fin.ext
  rw [Rect.emb_apply, Rect.emb_apply]
  show k0_off2 (grid0.coords n) a + 1 * _ = k0_off1 _ a + 1 * _
  exact congrArg₂ (fun x y => x + 1 * y) (congrFun (off2_eq n h) a) rfl

variable (m : (ℓ : Loc nD τ sig) → Buf (Elt F) ℓ) (ρ : Dev nD → PrngReg)

/-! ## Up to the pipeline -/

/-- The host operations before the pipeline. -/
abbrev hostOps : List (HloOp τ sig (Elt F)) :=
  [hostOps0, hostOps0_1, hostOps0_2, hostOps0_3, hostOps0_4, hostOps0_5, hostOps0_6, hostOps0_7, hostOps0_8, hostOps0_9].flatten

/-- The contents of core `c`'s buffers when the pipeline starts. -/
def V (c : Dev nD) (b : Ref sig .tc) : Buf (Elt F) ((c : Thread nD τ).loc b) :=
  StableHlo.after (hostOps (F := F)) (fun b => m (c, b)) b

set_option maxHeartbeats 4000000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main
    [hostOps0, hostOps0_1, hostOps0_2, hostOps0_3, hostOps0_4, hostOps0_5, hostOps0_6, hostOps0_7, hostOps0_8, hostOps0_9]
    ⟨hostOps0_sub, hostOps0_1_sub, hostOps0_2_sub, hostOps0_3_sub, hostOps0_4_sub, hostOps0_5_sub, hostOps0_6_sub, hostOps0_7_sub,
      hostOps0_8_sub, hostOps0_9_sub⟩
    (by simp only [List.Forall]; repeat' first | rfl | apply And.intro)
    fun c => (main_chain c).trans rfl

attribute [irreducible] V

/-! ## The prefetched tables -/

def tbl : pre0.Contents (Elt F) := fun j => V m (0 : Dev nD) (pre0.ref j)
theorem V_pre (c : Dev nD) (j : Fin 4) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The four tables: the expert of a point, its row tile, and its first and last row in the tile. -/
abbrev tE : Vec F S55 .i32 := tbl m 0
abbrev tT : Vec F S55 .i32 := tbl m 1
abbrev tLo : Vec F S55 .i32 := tbl m 2
abbrev tHi : Vec F S55 .i32 := tbl m 3

abbrev tbM0_0 : Memref sig .tc .smem S55 .i32 := Memref.whole main_v27
abbrev tbM0_1 : Memref sig .tc .smem S55 .i32 := Memref.whole main_v44
abbrev tbM0_2 : Memref sig .tc .smem S55 .i32 := Memref.whole main_v56
abbrev tbM0_3 : Memref sig .tc .smem S55 .i32 := Memref.whole main_v71

theorem PhiT0_eq (c : Dev nD) : (Pipeline.ΦT pre0 (tbl m) c : sProp 𝕄)
    = iprop(owns (c : Thread nD τ) tbM0_0 fullShare.right (tE m) ∗ owns (c : Thread nD τ) tbM0_1 fullShare.right (tT m)
      ∗ owns (c : Thread nD τ) tbM0_2 fullShare.right (tLo m) ∗ owns (c : Thread nD τ) tbM0_3 fullShare.right (tHi m)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  simp only [tbM0_0, tbM0_1, tbM0_2, tbM0_3, owns_whole]
  rfl

/-! ## The windows' blocks -/

/-- Window `w`'s block at point `t` when the pipeline starts. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

section before
variable (hO : Ok m) {c : Dev nD} (dat : Dat τ (Elt F) Unit ℕ (UR sig nD τ) ℕ (cfgM m hO) c)

theorem before0_0_of (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end before

abbrev ms0_0 (hO : Ok m) (t : Fin (cfgM m hO).N) : Memref sig .tc .vmem S512x2816 .bf16 := spec0_0.stage ((cfgM m hO).slots t 0)
abbrev hs0_0 (hO : Ok m) (t : Fin (cfgM m hO).N) : (ms0_0 m hO t).IsWhole := Facts₀.hstage0_0 (((cfgM m hO).slots t 0).cast Facts₀.nbuf0_0)
abbrev ms0_1 (hO : Ok m) (t : Fin (cfgM m hO).N) : Memref sig .tc .vmem S1x2816x2048 .fp8e4m3 := spec0_1.stage ((cfgM m hO).slots t 1)
abbrev hs0_1 (hO : Ok m) (t : Fin (cfgM m hO).N) : (ms0_1 m hO t).IsWhole := Facts₀.hstage0_1 (((cfgM m hO).slots t 1).cast Facts₀.nbuf0_1)
abbrev ms0_2 (hO : Ok m) (t : Fin (cfgM m hO).N) : Memref sig .tc .vmem S1x2816x2048 .fp8e4m3 := spec0_2.stage ((cfgM m hO).slots t 2)
abbrev hs0_2 (hO : Ok m) (t : Fin (cfgM m hO).N) : (ms0_2 m hO t).IsWhole := Facts₀.hstage0_2 (((cfgM m hO).slots t 2).cast Facts₀.nbuf0_2)
abbrev ms0_3 (hO : Ok m) (t : Fin (cfgM m hO).N) : Memref sig .tc .smem S8x22x16 .f32 := spec0_3.stage ((cfgM m hO).slots t 3)
abbrev hs0_3 (hO : Ok m) (t : Fin (cfgM m hO).N) : (ms0_3 m hO t).IsWhole := Facts₀.hstage0_3 (((cfgM m hO).slots t 3).cast Facts₀.nbuf0_3)
abbrev ms0_4 (hO : Ok m) (t : Fin (cfgM m hO).N) : Memref sig .tc .smem S8x22x16 .f32 := spec0_4.stage ((cfgM m hO).slots t 4)
abbrev hs0_4 (hO : Ok m) (t : Fin (cfgM m hO).N) : (ms0_4 m hO t).IsWhole := Facts₀.hstage0_4 (((cfgM m hO).slots t 4).cast Facts₀.nbuf0_4)
abbrev ms0_5 (hO : Ok m) (t : Fin (cfgM m hO).N) : Memref sig .tc .vmem S512x2048 .bf16 := spec0_5.stage ((cfgM m hO).slots t 5)
abbrev hs0_5 (hO : Ok m) (t : Fin (cfgM m hO).N) : (ms0_5 m hO t).IsWhole := Facts₀.hstage0_5 (((cfgM m hO).slots t 5).cast Facts₀.nbuf0_5)
abbrev scM0_0 : Memref sig .tc .vmem S512x2816 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the body assumes of the words it reads: the expert's scales lie inside their array. -/
def Hyps (hO : Ok m) : Prop :=
  ∀ t : Fin (cfgM m hO).N, k0_chk1 (word1 (F := F) (grid0.coords t) (tLo m)) (word1 (F := F) (grid0.coords t) (tHi m))
    (word1 (F := F) (grid0.coords t) (tE m))

/-! ## What every point leaves -/

section leaves
variable (hO : Ok m) (hH : Hyps m hO) (c : Dev nD)

/-- Point `n`. -/
def pt (n : ℕ) (h : n < 55) : Fin (cfgM m hO).N := ⟨n, h⟩

/-- The quantised row tile of point `t`. -/
def quantAt (t : Fin (cfgM m hO).N) : Vec F S512x2816 .bf16 := quantT (iblk m hO c 0 t)

/-- The output tile after point `t`, from the tile the point before left. -/
def stepAt (t : Fin (cfgM m hO).N) (o : Vec F S512x2048 .bf16) : Vec F S512x2048 .bf16 :=
  mlpV (iblk m hO c 1 t) (iblk m hO c 2 t) (iblk m hO c 3 t) (iblk m hO c 4 t) (quantAt m hO c t) _ _ _ (hH t)
    (outV (F := F) (grid0.coords t) (tT m) o)

/-- The output tile after point `n`. -/
def outAt : ℕ → Vec F S512x2048 .bf16
  | 0 => stepAt m hO hH c (pt m hO 0 (by decide)) (broadcast S512x2048 (Scalar.ofBits .bf16 0x0000#16 : F .bf16))
  | n + 1 => if h : n + 1 < 55 then stepAt m hO hH c (pt m hO (n + 1) h) (outAt n) else outAt n

/-- What holds beside the windows before point `n`: the scratch at the quantised tile of the point before. -/
def PhiAt : ℕ → sProp 𝕄
  | 0 => iprop(Pipeline.ΦA spec0 c ∗ Pipeline.ΦT pre0 (tbl m) c)
  | n + 1 => if h : n < 55 then
      iprop((owns (c : Thread nD τ) scM0_0 fullShare (quantAt m hO c (pt m hO n h)) ∗ (∃ r, prngReg c r)) ∗ Pipeline.ΦT pre0 (tbl m) c)
    else iprop(Pipeline.ΦA spec0 c ∗ Pipeline.ΦT pre0 (tbl m) c)

end leaves

/-- The proof data of the pipeline. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO hH c t.val
  Φ t := PhiAt m hO c t.val
  q _ := fullShare
  owed _ := 0

section
variable (hO : Ok m) (hH : Hyps m hO) (c : Dev nD)

theorem A_eq (w : Fin (cfgM m hO).W) : (dats m hO hH 0 c).A w = V m c (Pipeline.arrRef spec0 w) := by
  dsimp only [dats]
theorem after0_0 (t : Fin (cfgM m hO).N) : (dats m hO hH 0 c).after 0 t = iblk m hO c 0 t := by dsimp only [dats]; try rfl
theorem after0_1 (t : Fin (cfgM m hO).N) : (dats m hO hH 0 c).after 1 t = iblk m hO c 1 t := by dsimp only [dats]; try rfl
theorem after0_2 (t : Fin (cfgM m hO).N) : (dats m hO hH 0 c).after 2 t = iblk m hO c 2 t := by dsimp only [dats]; try rfl
theorem after0_3 (t : Fin (cfgM m hO).N) : (dats m hO hH 0 c).after 3 t = iblk m hO c 3 t := by dsimp only [dats]; try rfl
theorem after0_4 (t : Fin (cfgM m hO).N) : (dats m hO hH 0 c).after 4 t = iblk m hO c 4 t := by dsimp only [dats]; try rfl
theorem after0_5 (t : Fin (cfgM m hO).N) : (dats m hO hH 0 c).after 5 t = outAt m hO hH c t.val := by dsimp only [dats]; try rfl

theorem before0_0 (t : Fin (cfgM m hO).N) (d) : (dats m hO hH 0 c).before 0 t d = iblk m hO c 0 t :=
  before0_0_of m hO (dats m hO hH 0 c) (A_eq m hO hH c 0) (after0_0 m hO hH c) t d
theorem before0_1 (t : Fin (cfgM m hO).N) (d) : (dats m hO hH 0 c).before 1 t d = iblk m hO c 1 t :=
  before0_1_of m hO (dats m hO hH 0 c) (A_eq m hO hH c 1) (after0_1 m hO hH c) t d
theorem before0_2 (t : Fin (cfgM m hO).N) (d) : (dats m hO hH 0 c).before 2 t d = iblk m hO c 2 t :=
  before0_2_of m hO (dats m hO hH 0 c) (A_eq m hO hH c 2) (after0_2 m hO hH c) t d
theorem before0_3 (t : Fin (cfgM m hO).N) (d) : (dats m hO hH 0 c).before 3 t d = iblk m hO c 3 t :=
  before0_3_of m hO (dats m hO hH 0 c) (A_eq m hO hH c 3) (after0_3 m hO hH c) t d
theorem before0_4 (t : Fin (cfgM m hO).N) (d) : (dats m hO hH 0 c).before 4 t d = iblk m hO c 4 t :=
  before0_4_of m hO (dats m hO hH 0 c) (A_eq m hO hH c 4) (after0_4 m hO hH c) t d

/-- The point before. -/
abbrev pred (t : Fin (cfgM m hO).N) : Fin (cfgM m hO).N := ⟨t.val - 1, Nat.lt_of_le_of_lt (Nat.sub_le _ _) t.isLt⟩

theorem index5 (t : Fin (cfgM m hO).N) :
    ((cfgM m hO).win 5).index t = ![(word1 (F := F) (grid0.coords t) (tT m)).toNat, 0] := rfl

theorem index0 (t : Fin (cfgM m hO).N) :
    ((cfgM m hO).win 0).index t = ![(word1 (F := F) (grid0.coords t) (tT m)).toNat, 0] := rfl

theorem iblk0_apply (t : Fin (cfgM m hO).N) (y : S512x2816.Idx) (j : S24576x2816.Idx)
    (hj : ∀ a, (j a).val = (![(word1 (F := F) (grid0.coords t) (tT m)).toNat, 0] : Fin 2 → ℕ) a * S512x2816.size a + (y a).val) :
    iblk m hO c 0 t y = V m c main_arg0 j := by
  unfold iblk
  show V m c main_arg0 ((((cfgM m hO).win 0).rect t).emb y) = _
  congr 1
  funext a
  apply Fin.ext
  rw [hj a]
  refine (((cfgM m hO).win 0).rect_emb_val t y a).trans ?_
  rw [index0]
  rfl

/-! ## The output tile between points -/

theorem off1_in (i : grid0.Coords) : ∀ a : Fin 1, k0_off1 i a + 1 ≤ S55.size a := fun a => by
  have := Facts₀.k0_off1_inb i a
  fin_cases a
  exact this
theorem off2_in (i : grid0.Coords) : ∀ a : Fin 1, k0_off2 i a + 1 ≤ S55.size a := fun a => by
  have := Facts₀.k0_off2_inb i a
  fin_cases a
  exact this

theorem atD_word1 (pf : pre0.Contents (Elt F)) (i : grid0.Coords) : pf.atD 1 (k0_off1 i) = word1 (F := F) i (pf 1) := by
  have h : ∀ a : Fin (pre0.ref 1).ty.shape.rank, k0_off1 i a + 1 ≤ (pre0.ref 1).ty.shape.size a := off1_in i
  exact (dif_pos h).trans (by unfold word1; congr 1)
theorem atD_word2 (pf : pre0.Contents (Elt F)) (i : grid0.Coords) : pf.atD 1 (k0_off2 i) = word2 (F := F) i (pf 1) := by
  have h : ∀ a : Fin (pre0.ref 1).ty.shape.rank, k0_off2 i a + 1 ≤ (pre0.ref 1).ty.shape.size a := off2_in i
  exact (dif_pos h).trans (by unfold word2; congr 1)
theorem atD_lo (pf : pre0.Contents (Elt F)) (i : grid0.Coords) : pf.atD 2 (k0_off1 i) = word1 (F := F) i (pf 2) := by
  have h : ∀ a : Fin (pre0.ref 2).ty.shape.rank, k0_off1 i a + 1 ≤ (pre0.ref 2).ty.shape.size a := off1_in i
  exact (dif_pos h).trans (by unfold word1; congr 1)
theorem atD_hi (pf : pre0.Contents (Elt F)) (i : grid0.Coords) : pf.atD 3 (k0_off1 i) = word1 (F := F) i (pf 3) := by
  have h : ∀ a : Fin (pre0.ref 3).ty.shape.rank, k0_off1 i a + 1 ≤ (pre0.ref 3).ty.shape.size a := off1_in i
  exact (dif_pos h).trans (by unfold word1; congr 1)

theorem idle5_of (pf : pre0.Contents (Elt F)) (i : grid0.Coords) (h : idle0 pf 5 i = true) :
    ¬ opens (F := F) i (pf 1) ∧ ¬ k0_cond2 (word1 (F := F) i (pf 2)) (word1 (F := F) i (pf 3)) = 1#1 := by
  have h' : (!(k0_cond1 i (pf.atD 1 (k0_off1 i)) (pf.atD 1 (k0_off2 i)) == 1#1)
      && !(k0_cond2 (pf.atD 2 (k0_off1 i)) (pf.atD 3 (k0_off1 i)) == 1#1)) = true := h
  rw [atD_word1, atD_word2, atD_lo, atD_hi] at h'
  simp only [Bool.and_eq_true, Bool.not_eq_true', beq_eq_false_iff_ne, ne_eq] at h'
  exact h'

/-- A point is idle for the output tile when it neither opens a tile nor holds a row. -/
theorem idle5 (i : grid0.Coords) (h : (cfgM m hO).idle 5 i = true) :
    ¬ opens (F := F) i (tT m) ∧ ¬ k0_cond2 (word1 (F := F) i (tLo m)) (word1 (F := F) i (tHi m)) = 1#1 :=
  idle5_of (tbl m) i h

/-- Where the output buffer is fresh a tile is opened. -/
theorem fresh_opens : ∀ (n : ℕ) (h : n < 55), (cfgM m hO).fresh 5 n = true →
    opens (F := F) (grid0.coords (pt m hO n h)) (tT m)
  | 0, h, _ => (opens_iff (⟨0, h⟩ : Fin 55) (tT m)).mpr (.inl rfl)
  | n + 1, h, hf => by
    have hN : n < (cfgM m hO).N := Nat.lt_of_succ_lt h
    rw [(cfgM m hO).fresh_succ 5 n hN, Bool.or_eq_true, Bool.and_eq_true] at hf
    rcases hf with hf | ⟨hi, hf⟩
    · rw [((cfgM m hO).win 5).flush_out rfl] at hf
      rcases hf with hf | ⟨h1, hf⟩
      · exact absurd (show n + 1 = 55 from hf) (by omega)
      · refine (opens_iff (⟨n + 1, h⟩ : Fin 55) (tT m)).mpr (.inr fun hw => hf ?_)
        rw [word2_eq (⟨n + 1, h⟩ : Fin 55) (Nat.succ_ne_zero n)] at hw
        rw [index5, index5]
        exact congrArg (fun w : BitVec 32 => ![w.toNat, 0]) hw
    · exact absurd (fresh_opens n (Nat.lt_of_succ_lt h) hf) (idle5 m hO _ hi).1

theorem outAt_idle (n : ℕ) (h : n + 1 < 55) (hi : (cfgM m hO).idle 5 (grid0.coords (pt m hO (n + 1) h)) = true) :
    outAt m hO hH c (n + 1) = outAt m hO hH c n := by
  have := idle5 m hO _ hi
  rw [outAt, dif_pos h]
  unfold stepAt mlpV outV
  rw [dif_neg this.2, if_neg this.1]

theorem before0_5 (t : Fin (cfgM m hO).N) (d) : (dats m hO hH 0 c).before 5 t d
    = if (cfgM m hO).fresh 5 t.val then d else outAt m hO hH c (t.val - 1) := by
  rw [(dats m hO hH 0 c).before_out_traj 5 rfl (fun _ _ => rfl) ?_ t.val t rfl d]
  · rfl
  · rintro ⟨n, hn⟩ h0 hi _
    rw [after0_5, after0_5]
    obtain ⟨k, rfl⟩ : ∃ k, n = k + 1 := ⟨n - 1, by have : n ≠ 0 := h0; omega⟩
    exact outAt_idle m hO hH c k hn hi

/-- A point that opens no tile shows the row tile of the point before. -/
theorem quantAt_kept (n : ℕ) (h : n + 1 < 55) (ho : ¬ opens (F := F) (grid0.coords (pt m hO (n + 1) h)) (tT m)) :
    quantAt m hO c (pt m hO (n + 1) h) = quantAt m hO c (pt m hO n (Nat.lt_of_succ_lt h)) := by
  have ho' := fun hh => ho ((opens_iff (⟨n + 1, h⟩ : Fin 55) (tT m)).mpr (.inr hh))
  rw [word2_eq (⟨n + 1, h⟩ : Fin 55) (Nat.succ_ne_zero n)] at ho'
  have hw : word1 (F := F) (grid0.coords (pt m hO (n + 1) h)) (tT m) = word1 (F := F) (grid0.coords (pt m hO n (Nat.lt_of_succ_lt h))) (tT m) :=
    Classical.byContradiction ho'
  unfold quantAt
  congr 1
  funext y
  have e : ∀ a, ((((cfgM m hO).win 0).rect (pt m hO n (Nat.lt_of_succ_lt h))).emb y a).val
      = (![(word1 (F := F) (grid0.coords (pt m hO n (Nat.lt_of_succ_lt h))) (tT m)).toNat, 0] : Fin 2 → ℕ) a * S512x2816.size a + (y a).val := by
    intro a
    refine (((cfgM m hO).win 0).rect_emb_val (pt m hO n (Nat.lt_of_succ_lt h)) y a).trans ?_
    rw [index0]
    rfl
  refine (iblk0_apply m hO c (pt m hO (n + 1) h) y _ ?_).trans (iblk0_apply m hO c (pt m hO n (Nat.lt_of_succ_lt h)) y _ e).symm
  intro a
  rw [hw]
  exact e a

/-! ## The body at a point -/

theorem scrV_opens (t : Fin (cfgM m hO).N) (x s : Vec F S512x2816 .bf16) (h : opens (F := F) (grid0.coords t) (tT m)) :
    scrV (F := F) (grid0.coords t) (tT m) x s = quantT x := by unfold scrV; rw [if_pos h]
theorem scrV_keeps (t : Fin (cfgM m hO).N) (x s : Vec F S512x2816 .bf16) (h : ¬ opens (F := F) (grid0.coords t) (tT m)) :
    scrV (F := F) (grid0.coords t) (tT m) x s = s := by unfold scrV; rw [if_neg h]
theorem outV_opens (t : Fin (cfgM m hO).N) (o o' : Vec F S512x2048 .bf16) (h : opens (F := F) (grid0.coords t) (tT m)) :
    outV (F := F) (grid0.coords t) (tT m) o = outV (F := F) (grid0.coords t) (tT m) o' := by unfold outV; rw [if_pos h, if_pos h]

/-- What the body finds in the scratch is right for it: it quantises afresh, or the tile is the one quantised before. -/
def FindsS (t : Fin (cfgM m hO).N) (s : Vec F S512x2816 .bf16) : Prop :=
  scrV (F := F) (grid0.coords t) (tT m) (iblk m hO c 0 t) s = quantAt m hO c t

theorem Phi_before (t : Fin (cfgM m hO).N) : PhiAt m hO c t.val
    ⊢ (iprop(((∃ s, ⌜FindsS m hO c t s⌝ ∗ owns (c : Thread nD τ) scM0_0 fullShare s) ∗ (∃ r, prngReg c r)) ∗ Pipeline.ΦT pre0 (tbl m) c) : sProp 𝕄) := by
  obtain ⟨n, hn⟩ := t
  cases n with
  | zero =>
    rw [PhiAt, PhiA0_eq]
    iintro ⟨⟨⟨%d, HS⟩, Hg⟩, HT⟩
    isplitl [HS Hg]
    · isplitl [HS]
      · iexists d
        isplitr [HS]
        · ipureintro
          exact scrV_opens m hO ⟨0, hn⟩ _ _ ((opens_iff (⟨0, hn⟩ : Fin 55) (tT m)).mpr (.inl rfl))
        iexact HS
      iexact Hg
    iexact HT
  | succ n =>
    rw [PhiAt, dif_pos (Nat.lt_of_succ_lt hn : n < 55)]
    iintro ⟨⟨HS, Hg⟩, HT⟩
    isplitl [HS Hg]
    · isplitl [HS]
      · iexists _
        isplitr [HS]
        · ipureintro
          show FindsS m hO c ⟨n + 1, hn⟩ (quantAt m hO c (pt m hO n (Nat.lt_of_succ_lt hn)))
          unfold FindsS
          by_cases ho : opens (F := F) (grid0.coords (pt m hO (n + 1) hn)) (tT m)
          · exact scrV_opens m hO (pt m hO (n + 1) hn) _ _ ho
          · exact (scrV_keeps m hO (pt m hO (n + 1) hn) _ _ ho).trans (quantAt_kept m hO c n hn ho).symm
        iexact HS
      iexact Hg
    iexact HT

theorem Phi_after (t : Fin (cfgM m hO).N) : PhiAt m hO c (t.val + 1)
    = (iprop((owns (c : Thread nD τ) scM0_0 fullShare (quantAt m hO c t) ∗ (∃ r, prngReg c r)) ∗ Pipeline.ΦT pre0 (tbl m) c) : sProp 𝕄) := by
  rw [PhiAt, dif_pos (show t.val < 55 from t.isLt)]
  rfl

/-- What the body makes of the output buffer it finds. -/
theorem step_before (t : Fin (cfgM m hO).N) (d) :
    stepAt m hO hH c t ((dats m hO hH 0 c).before 5 t d) = outAt m hO hH c t.val := by
  by_cases hf : (cfgM m hO).fresh 5 t.val = true
  · have ho : opens (F := F) (grid0.coords t) (tT m) := fresh_opens m hO t.val t.isLt hf
    have hs : ∀ o o', stepAt m hO hH c t o = stepAt m hO hH c t o' := fun o o' => by
      unfold stepAt
      congr 1
      exact outV_opens m hO t _ _ ho
    obtain ⟨n, hn⟩ := t
    cases n with
    | zero => rw [outAt]; exact hs _ _
    | succ n => rw [outAt, dif_pos (show n + 1 < 55 from hn)]; exact hs _ _
  · have hb : (dats m hO hH 0 c).before 5 t d = outAt m hO hH c (t.val - 1) := (before0_5 m hO hH c t d).trans (if_neg hf)
    rw [hb]
    obtain ⟨n, hn⟩ := t
    cases n with
    | zero => exact absurd ((cfgM m hO).fresh_zero 5) hf
    | succ n => rw [outAt, dif_pos (show n + 1 < 55 from hn)]; rfl

/-- What is said of the output buffer after the body. -/
def outPost (t : Fin (cfgM m hO).N) : sProp 𝕄 :=
  match (cfgM m hO).idle 5 (grid0.coords t) with
  | true =>
    match ((cfgM m hO).win 5).flush t with
    | false => iprop(∃ d, owns (c : Thread nD τ) (ms0_5 m hO t) fullShare ((dats m hO hH 0 c).before 5 t d))
    | true => owns (c : Thread nD τ) (ms0_5 m hO t) fullShare ((dats m hO hH 0 c).after 5 t)
  | false => owns (c : Thread nD τ) (ms0_5 m hO t) fullShare ((dats m hO hH 0 c).after 5 t)

theorem outPost_of (t : Fin (cfgM m hO).N) :
    (owns (c : Thread nD τ) (ms0_5 m hO t) fullShare (outAt m hO hH c t.val) : sProp 𝕄) ⊢ outPost m hO hH c t := by
  have h5 := after0_5 m hO hH c t
  unfold outPost
  rw [h5]
  split
  · rename_i hi
    split
    · have hb : ∀ d, (dats m hO hH 0 c).before 5 t d = outAt m hO hH c t.val := by
        intro d
        have ho := (idle5 m hO _ hi).1
        have hf : ¬ (cfgM m hO).fresh 5 t.val = true := fun hf => ho (fresh_opens m hO t.val t.isLt hf)
        refine (before0_5 m hO hH c t d).trans ((if_neg hf).trans ?_)
        obtain ⟨n, hn⟩ := t
        cases n with
        | zero => exact absurd ((cfgM m hO).fresh_zero 5) hf
        | succ n => exact (outAt_idle m hO hH c n hn hi).symm
      iintro H
      iexists (fun _ => default)
      rw [hb]
      iexact H
    · iintro H; iexact H
  · iintro H; iexact H

def bodyPre (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d)))

def bodyPost (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ outPost m hO hH c t)

/-- The body as the pipeline calls it at point `t`. -/
abbrev bodyAt (t : Fin (cfgM m hO).N) : Pg F PUnit :=
  body (F := F) (grid0.coords t) tbM0_0 tbM0_1 tbM0_2 tbM0_3 (ms0_0 m hO t) (ms0_1 m hO t) (ms0_2 m hO t) (ms0_3 m hO t)
    (ms0_4 m hO t) (ms0_5 m hO t) (hs0_5 m hO t) scM0_0 (Memref.isWhole_whole _)

theorem sound_body (t : Fin (cfgM m hO).N) :
    bodyPre m hO hH c t ⊢ wp frame (wpE (defs₀ (F := F)) Variants.none c none) Set.univ (bodyAt m hO t) (fun _ => bodyPost m hO hH c t) := by
  unfold bodyPre bodyPost
  simp only [before0_0, before0_1, before0_2, before0_3, before0_4]
  rw [show (dats m hO hH 0 c).Φ t.castSucc = PhiAt m hO c t.val from rfl, show (dats m hO hH 0 c).Φ t.succ = PhiAt m hO c (t.val + 1) from rfl,
    show (dats m hO hH 0 c).owesAt () t.succ = (dats m hO hH 0 c).owesAt () t.castSucc from rfl,
    after0_0, after0_1, after0_2, after0_3, after0_4, Phi_after]
  iintro ⟨HP, Ho, ⟨%d0, H0⟩, ⟨%d1, H1⟩, ⟨%d2, H2⟩, ⟨%d3, H3⟩, ⟨%d4, H4⟩, ⟨%d5, H5⟩⟩
  ihave HP' := (Phi_before m hO c t) $$ HP
  rw [PhiT0_eq]
  icases HP' with ⟨⟨⟨%s, %hs, HS⟩, Hg⟩, HT⟩
  unfold FindsS at hs
  iapply (wp_body c Set.univ (grid0.coords t) tbM0_0 tbM0_1 tbM0_2 tbM0_3 (ms0_0 m hO t) (ms0_1 m hO t) (ms0_2 m hO t) (ms0_3 m hO t)
    (ms0_4 m hO t) (ms0_5 m hO t) (hs0_5 m hO t) scM0_0 (Memref.isWhole_whole _)
    (iblk m hO c 1 t) (iblk m hO c 2 t) (iblk m hO c 3 t) (iblk m hO c 4 t) (iblk m hO c 0 t) s ((dats m hO hH 0 c).before 5 t d5)
    (tE m) (tT m) (tLo m) (tHi m) fullShare.right (hH t) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [HS]; · iexact HS
  rw [hs]
  iintro ⟨HT, H0, H1, H2, H3, H4, H5, HS⟩
  ihave H5' : (owns (c : Thread nD τ) (ms0_5 m hO t) fullShare (outAt m hO hH c t.val)) $$ [H5]
  · rw [← step_before m hO hH c t d5]; iexact H5
  isplitl [HS Hg HT]
  · isplitl [HS Hg]
    · isplitl [HS]; · iexact HS
      iexact Hg
    iexact HT
  isplitl [Ho]; · iexact Ho
  isplitl [H0]; · iexact H0
  isplitl [H1]; · iexact H1
  isplitl [H2]; · iexact H2
  isplitl [H3]; · iexact H3
  isplitl [H4]; · iexact H4
  iapply (outPost_of m hO hH c t)
  iexact H5'

theorem defs₀_row (t : Fin (cfgM m hO).N) :
    defs₀ (F := F) .tc (cfgM m hO).body ((cfgM m hO).bodyArgs t ((cfgM m hO).slots t)) = bodyAt m hO t := by
  unfold defs₀; rw [Defs.onTc_tc]
  exact body_eq ..

theorem body_obligation : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run -/

theorem Phi_in : iprop(Pipeline.ΦA spec0 c ∗ Pipeline.ΦT pre0 (tbl m) c) ⊢ (dats (F := F) m hO hH 0 c).Φ 0 := .rfl

theorem Phi_out : (dats (F := F) m hO hH 0 c).Φ (Fin.last (cfgM m hO).N) ⊢ (Pipeline.ΦA spec0 c : sProp 𝕄) := by
  show PhiAt m hO c ((⟨54, by show 54 < 55; decide⟩ : Fin (cfgM m hO).N).val + 1) ⊢ _
  rw [Phi_after, PhiA0_eq]
  iintro ⟨⟨HS, Hg⟩, -⟩
  isplitl [HS]
  · iexists _; iexact HS
  iexact Hg

end

set_option backward.isDefEq.respectTransparency.types false in
/-- The launch: every run ends, each window's array at what the points wrote back, every other buffer as the pipeline found it,
    every semaphore at zero. -/
theorem run_main (hO : Ok m) (hH : Hyps m hO) : θ_run defs (onTc (τ := τ) (main (F := F))) (s₀ m ρ)
    (fun r => Pipeline.FramePost (Pipeline.pin pcfgs fun _ => adm m hO) (dats m hO hH) 0 (V m) r ∧ r.2.sem = fun _ => 0) :=
  Pipeline.θ_run_frameP_track (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hin := fun c => Phi_in m hO hH c) (hout := fun c => Phi_out m hO hH c)

end Cert.KernelIdeal.Body
-- ==== Proof.Plan.lean ====
module

public import Idealize.ShloMosaic.Lib.Routing.OpsSet
public import Idealize.ShloMosaic.Lib.Routing.OpsOne
public import Idealize.ShloMosaic.Lib.Routing.Words

/-!
# The plan of the grid

Eight runs of rows, cut into tiles of 512 rows, are visited by 55 points. Here are the four tables of the plan, first as
natural numbers, then as the words that the host operations compute from the lengths of the runs.
-/

@[expose] public section

noncomputable section

namespace Cert.Plan

open Idealize.ShloMosaic Idealize.ShloMosaic.ValueIdx
open Idealize.ShloMosaic.Routing

/-! ## Natural numbers -/

/-- The sum of the first `k` entries. -/
def pre (f : ℕ → ℕ) (k : ℕ) : ℕ := ((List.range k).map f).sum

theorem pre_zero (f : ℕ → ℕ) : pre f 0 = 0 := rfl
theorem pre_succ (f : ℕ → ℕ) (k : ℕ) : pre f (k + 1) = pre f k + f k := by
  unfold pre; rw [List.range_succ, List.map_append, List.sum_append]; simp

theorem pre_mono (f : ℕ → ℕ) {a b : ℕ} (h : a ≤ b) : pre f a ≤ pre f b := by
  induction h with
  | refl => exact le_rfl
  | step _ ih => rw [Nat.succ_eq_add_one, pre_succ]; omega

variable (G : ℕ → ℕ)

/-- The number of tiles run `e` meets. -/
def cnt (e : ℕ) : ℕ := if 0 < G e then (pre G (e + 1) - 1) / 512 - pre G e / 512 + 1 else 0

/-- The number of points before run `e`. -/
def D (e : ℕ) : ℕ := pre (cnt G) e

theorem D_succ (e : ℕ) : D G (e + 1) = D G e + cnt G e := pre_succ _ _

theorem D_bounds (e : ℕ) : (pre G e = 0 → D G e = 0) ∧ (0 < pre G e → 0 < D G e ∧ D G e ≤ (pre G e - 1) / 512 + e) := by
  induction e with
  | zero => exact ⟨fun _ => rfl, fun h => absurd h (by rw [pre_zero]; omega)⟩
  | succ e ih =>
    rw [D_succ]
    obtain ⟨h0, h1⟩ := ih
    have hs := pre_succ G e
    unfold cnt
    by_cases hg : 0 < G e
    · rw [if_pos hg]
      refine ⟨fun h => by omega, fun _ => ⟨by omega, ?_⟩⟩
      by_cases hp : pre G e = 0
      · rw [h0 hp]; rw [hp] at hs ⊢; omega
      · have := (h1 (by omega)).2; omega
    · rw [if_neg hg]
      have hz : G e = 0 := by omega
      rw [hz] at hs
      refine ⟨fun h => by rw [h0 (by omega)], fun h => ?_⟩
      have := h1 (by omega)
      rw [hs]; omega

/-- The number of points the eight runs take. -/
def total : ℕ := D G 8

theorem total_bounds (h : pre G 8 = 24576) : 0 < total G ∧ total G ≤ 55 := by
  have := (D_bounds G 8).2 (by omega)
  rw [h] at this
  exact ⟨this.1, by unfold total; omega⟩

/-- The point whose visit point `p` makes or repeats. -/
def q (p : ℕ) : ℕ := min p (total G - 1)

/-- The run point `p` works on. -/
def ex (p : ℕ) : ℕ := Nat.count (fun e => D G (e + 1) ≤ q G p) 8

theorem count_prefix (P : ℕ → ℕ) (hm : ∀ {a b}, a ≤ b → P a ≤ P b) (x : ℕ) (h0 : P 0 ≤ x) (n : ℕ) :
    Nat.count (fun e => P (e + 1) ≤ x) n ≤ n ∧ P (Nat.count (fun e => P (e + 1) ≤ x) n) ≤ x
      ∧ (Nat.count (fun e => P (e + 1) ≤ x) n < n → x < P (Nat.count (fun e => P (e + 1) ≤ x) n + 1)) := by
  induction n with
  | zero => exact ⟨le_rfl, h0, fun h => absurd h (by simp)⟩
  | succ n ih =>
    rw [Nat.count_succ]
    generalize Nat.count (fun e => P (e + 1) ≤ x) n = c at ih ⊢
    obtain ⟨h1, h2, h3⟩ := ih
    by_cases hn : P (n + 1) ≤ x
    · rw [if_pos hn]
      have hc : c = n := by
        by_contra hne
        have := h3 (by omega)
        have := hm (show c + 1 ≤ n + 1 by omega)
        omega
      subst hc
      exact ⟨le_rfl, hn, fun h => absurd h (by omega)⟩
    · rw [if_neg hn, Nat.add_zero]
      refine ⟨by omega, h2, fun _ => ?_⟩
      by_cases hc : c < n
      · exact h3 hc
      · obtain rfl : c = n := by omega
        omega

section
variable (h : pre G 8 = 24576) (p : ℕ)
include h

theorem ex_spec : ex G p < 8 ∧ D G (ex G p) ≤ q G p ∧ q G p < D G (ex G p + 1) := by
  have ht := total_bounds G h
  have hq : q G p < D G 8 := by unfold q; show _ < total G; omega
  have := count_prefix (D G) (fun h => pre_mono _ h) (q G p) (by show 0 ≤ _; omega) 8
  change ex G p ≤ 8 ∧ D G (ex G p) ≤ q G p ∧ (ex G p < 8 → q G p < D G (ex G p + 1)) at this
  have h8 : ex G p ≠ 8 := fun e => by rw [e] at this; omega
  exact ⟨by omega, this.2.1, this.2.2 (by omega)⟩

/-- The tile of point `p`. -/
def tile (G : ℕ → ℕ) (p : ℕ) : ℕ := pre G (ex G p) / 512 + q G p - D G (ex G p)

theorem pre_le (e : ℕ) (he : e ≤ 8) : pre G e ≤ 24576 := h ▸ pre_mono G he

/-- The tile meets the run. -/
theorem tile_spec : 0 < G (ex G p) ∧ pre G (ex G p) / 512 ≤ tile G p ∧ tile G p ≤ (pre G (ex G p + 1) - 1) / 512 ∧ tile G p < 48 := by
  obtain ⟨h1, h2, h3⟩ := ex_spec G h p
  rw [D_succ] at h3
  have hg : 0 < G (ex G p) := by
    by_contra hn
    unfold cnt at h3
    rw [if_neg hn] at h3
    omega
  have hs := pre_succ G (ex G p)
  have hl := pre_le G h (ex G p + 1) (by omega)
  unfold cnt at h3
  rw [if_pos hg] at h3
  unfold tile
  refine ⟨hg, ?_, ?_, ?_⟩ <;> omega

end

/-- The first row of the run in the tile of point `p`. -/
def lo (p : ℕ) : ℕ := pre G (ex G p) - 512 * tile G p
/-- The end of the run in the tile of point `p`, and zero at a point past the last visit. -/
def hi (p : ℕ) : ℕ := if p < total G then min (pre G (ex G p + 1) - 512 * tile G p) 512 else 0

/-! ## Words -/

/-- The shapes the plan's operations relate. -/
structure Sides : Prop where
  b0 : shape0.BroadcastsInDim shape0 (![] : Fin 0 → Fin shape0.rank)
  b8 : shape0.BroadcastsInDim (shape1 8) (![] : Fin 0 → Fin (shape1 8).rank)
  b55 : shape0.BroadcastsInDim (shape1 55) (![] : Fin 0 → Fin (shape1 55).rank)
  row : (shape1 8).BroadcastsInDim (shape2 1 8) (![1] : Fin 1 → Fin (shape2 1 8).rank)
  rows : (shape2 1 8).BroadcastsInDim (shape2 55 8) (![0, 1] : Fin 2 → Fin (shape2 55 8).rank)
  col : (shape1 55).BroadcastsInDim (shape2 55 1) (![0] : Fin 1 → Fin (shape2 55 1).rank)
  cols : (shape2 55 1).BroadcastsInDim (shape2 55 8) (![0, 1] : Fin 2 → Fin (shape2 55 8).rank)
  win : (shape1 8).ReduceWindows (![8] : Fin 1 → ℕ) ![1] ![7] ![0] (shape1 8)
  red : (shape2 55 8).ReducesTo [1] (shape1 55)
  pos : 0 < shape0.numel
  lt : 1 < 32
  sl : (shape1 8).Slices ![7] (shape1 1)
  ca : (shape1 1).ShapeCasts shape0
  ga : GatherDims.WF (shape1 8) (shape2 55 1) (shape1 55) [] [0] [] [0] [] 1 ![1]

section words
variable (s : Sides) (g : IVec (shape1 8) 32)

def c8 (n : BitVec 32) : IVec (shape1 8) 32 := broadcastInDim (shape1 8) ![] s.b8 (constantI shape0 32 n)
def c55 (n : BitVec 32) : IVec (shape1 55) 32 := broadcastInDim (shape1 55) ![] s.b55 (constantI shape0 32 n)
def sums (x : IVec (shape1 8) 32) : IVec (shape1 8) 32 :=
  Host.reduceWindow IntOp.addi ![8] ![1] ![7] ![0] x (broadcastInDim shape0 ![] s.b0 (constantI shape0 32 0#32)) s.win s.pos
/-- The ends of the runs. -/
def w0 : IVec (shape1 8) 32 := sums s g
/-- The starts of the runs. -/
def w1 : IVec (shape1 8) 32 := subi (w0 s g) g
def w2 : IVec (shape1 8) 32 := pyDiv s.b8 (w1 s g) (constantI shape0 32 512#32)
def w7 : IVec (shape1 8) 32 := pyDiv s.b8 (maxsi (subi (w0 s g) (c8 s 1#32)) (c8 s 0#32)) (constantI shape0 32 512#32)
/-- The tiles each run meets. -/
def w13 : IVec (shape1 8) 32 := select (cmpi .sgt g (c8 s 0#32)) (addi (subi (w7 s g) (w2 s g)) (c8 s 1#32)) (c8 s 0#32)
def w14 : IVec (shape1 8) 32 := sums s (w13 s g)
def w17 : IVec shape0 32 := shapeCast shape0 (extractStridedSlice (shape1 1) ![7] (w14 s g) s.sl) s.ca
def w20 : IVec (shape1 55) 32 :=
  minsi (iotaInDim (shape1 55) 32 0) (broadcastInDim (shape1 55) ![] s.b55 (subi (w17 s g) (constantI shape0 32 1#32)))
/-- The table of runs. -/
def w27 : IVec (shape1 55) 32 :=
  Host.reduce IntOp.addi (extui 32 (cmpi .sle
      (broadcastInDim (shape2 55 8) ![0, 1] s.rows (broadcastInDim (shape2 1 8) ![1] s.row (w14 s g)))
      (broadcastInDim (shape2 55 8) ![0, 1] s.cols (broadcastInDim (shape2 55 1) ![0] s.col (w20 s g)))) s.lt)
    (constantI shape0 32 0#32) s.red s.pos
def gd : GatherDims (shape1 8) (shape2 55 1) (shape1 55) where
  offsetDims := []
  collapsedSliceDims := [0]
  operandBatchingDims := []
  startIndicesBatchingDims := []
  startIndexMap := [0]
  indexVectorDim := 1
  sliceSizes := ![1]
  wf := s.ga
/-- An array of the runs, read at the run of each point. -/
def take (x : IVec (shape1 8) 32) : IVec (shape1 55) 32 :=
  Host.gather (gd s) x (broadcastInDim (shape2 55 1) ![0] s.col
    (select (cmpi .slt (w27 s g) (c55 s 0#32)) (addi (w27 s g) (c55 s 8#32)) (w27 s g)))
/-- The table of tiles. -/
def w44 : IVec (shape1 55) 32 :=
  subi (addi (take s g (w2 s g)) (w20 s g)) (take s g (subi (w14 s g) (w13 s g)))
def w46 : IVec (shape1 55) 32 := muli (w44 s g) (c55 s 512#32)
/-- The table of first rows. -/
def w56 : IVec (shape1 55) 32 := maxsi (subi (take s g (w1 s g)) (w46 s g)) (c55 s 0#32)
/-- The table of last rows. -/
def w71 : IVec (shape1 55) 32 :=
  select (cmpi .slt (iotaInDim (shape1 55) 32 0) (broadcastInDim (shape1 55) ![] s.b55 (w17 s g)))
    (minsi (subi (take s g (w0 s g)) (w46 s g)) (c55 s 512#32)) (c55 s 0#32)

/-! ## What the words hold -/

theorem ofNat_sub {a b : ℕ} (h : b ≤ a) (ha : a < 2 ^ 32) : BitVec.ofNat 32 a - BitVec.ofNat 32 b = BitVec.ofNat 32 (a - b) := by
  apply BitVec.eq_of_toNat_eq; simp only [BitVec.toNat_sub, BitVec.toNat_ofNat]; omega

theorem ofNat_add (a b : ℕ) : BitVec.ofNat 32 a + BitVec.ofNat 32 b = BitVec.ofNat 32 (a + b) := (BitVec.ofNat_add a b).symm

theorem toInt_small {a : ℕ} (h : a < 2 ^ 31) : (BitVec.ofNat 32 a).toInt = a := StableHlo.Predicate.toInt_ofNat_small _ h

theorem minsi_small {a b : ℕ} (ha : a < 2 ^ 31) (hb : b < 2 ^ 31) :
    IntOp.minsi (BitVec.ofNat 32 a) (BitVec.ofNat 32 b) = BitVec.ofNat 32 (min a b) := by
  apply BitVec.eq_of_toInt_eq
  unfold IntOp.minsi
  rw [BitVec.slt_eq_decide, toInt_small ha, toInt_small hb, toInt_small (by omega)]
  by_cases h : a < b
  · rw [if_pos (by simpa using h), toInt_small ha]; omega
  · rw [if_neg (by simpa using h), toInt_small hb]; omega

theorem maxsi_sub {a b : ℕ} (ha : a < 2 ^ 30) (hb : b < 2 ^ 30) :
    IntOp.maxsi (BitVec.ofNat 32 a - BitVec.ofNat 32 b) 0#32 = BitVec.ofNat 32 (a - b) := by
  have hd : (BitVec.ofNat 32 a - BitVec.ofNat 32 b).toInt = (a : ℤ) - b := by
    rw [BitVec.toInt_sub, toInt_small (by omega), toInt_small (by omega)]
    exact Int.bmod_eq_of_le (by omega) (by omega)
  apply BitVec.eq_of_toInt_eq
  unfold IntOp.maxsi
  have h0 : (0#32 : BitVec 32).toInt = 0 := rfl
  rw [BitVec.slt_eq_decide, hd, toInt_small (a := a - b) (by omega), h0]
  split_ifs with h <;> simp only [decide_eq_true_eq] at h <;> first | (rw [hd]; omega) | (rw [h0]; omega)

theorem cmpi_sle_small {a b : ℕ} (ha : a < 2 ^ 31) (hb : b < 2 ^ 31) :
    IntOp.cmpi .sle (BitVec.ofNat 32 a) (BitVec.ofNat 32 b) = 1#1 ↔ a ≤ b := by
  show BitVec.ofBool ((BitVec.ofNat 32 a).sle (BitVec.ofNat 32 b)) = 1#1 ↔ _
  rw [BitVec.sle_eq_decide, toInt_small ha, toInt_small hb]
  by_cases h : a ≤ b <;> simp [h]

theorem cmpi_slt_small {a b : ℕ} (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  rw [BitVec.slt_eq_decide, toInt_small ha, toInt_small hb]
  simp

theorem cmpi_sgt_small {a b : ℕ} (ha : a < 2 ^ 31) (hb : b < 2 ^ 31) :
    IntOp.cmpi .sgt (BitVec.ofNat 32 a) (BitVec.ofNat 32 b) = BitVec.ofBool (decide (b < a)) :=
  cmpi_slt_small hb ha

theorem select_ofBool {α : Type} (P : Prop) [Decidable P] (a b : α) :
    Scalar.select (BitVec.ofBool (decide P)) a b = if P then a else b := by
  by_cases h : P <;> simp [h, Scalar.select]

variable (hg : ∀ e : Fin 8, g (ix1 e) = BitVec.ofNat 32 (G e.val)) (h : pre G 8 = 24576)

theorem c8_at (n : BitVec 32) (i) : c8 s n i = n := bc0 s.b8 _ i
theorem c55_at (n : BitVec 32) (i) : c55 s n i = n := bc0 s.b55 _ i

theorem sums_at (x : IVec (shape1 8) 32) (f : ℕ → ℕ) (hx : ∀ i : Fin 8, x (ix1 i) = BitVec.ofNat 32 (f i.val)) (j : Fin 8) :
    sums s x (ix1 j) = BitVec.ofNat 32 (pre f (j.val + 1)) :=
  cumsum1 (by decide) x f hx _ (bc0 s.b0 _ _) s.win s.pos j

include hg in
theorem w0_at (e : Fin 8) : w0 s g (ix1 e) = BitVec.ofNat 32 (pre G (e.val + 1)) := sums_at s g G hg e

include hg h

theorem w1_at (e : Fin 8) : w1 s g (ix1 e) = BitVec.ofNat 32 (pre G e.val) := by
  have hs := pre_succ G e.val
  have hl := pre_le G h (e.val + 1) (by omega)
  show w0 s g (ix1 e) - g (ix1 e) = _
  rw [w0_at G s g hg, hg, ofNat_sub (by omega) (by omega)]
  congr 1; omega

theorem w2_at (e : Fin 8) : w2 s g (ix1 e) = BitVec.ofNat 32 (pre G e.val / 512) := by
  have hl := pre_le G h e.val (by omega)
  exact pyDiv_ap s.b8 _ _ _ (w1_at G s g hg h e) rfl (by omega) (by omega) (by omega)

theorem w7_at (e : Fin 8) : w7 s g (ix1 e) = BitVec.ofNat 32 ((pre G (e.val + 1) - 1) / 512) := by
  have hl := pre_le G h (e.val + 1) (by omega)
  refine pyDiv_ap s.b8 _ _ _ ?_ rfl (by omega) (by omega) (by omega)
  show IntOp.maxsi (w0 s g (ix1 e) - c8 s 1#32 (ix1 e)) (c8 s 0#32 (ix1 e)) = _
  rw [c8_at, c8_at, w0_at G s g hg]
  exact maxsi_sub (b := 1) (by omega) (by omega)

theorem w13_at (e : Fin 8) : w13 s g (ix1 e) = BitVec.ofNat 32 (cnt G e.val) := by
  have hs := pre_succ G e.val
  have hl := pre_le G h (e.val + 1) (by omega)
  show Scalar.select (IntOp.cmpi .sgt (g (ix1 e)) (c8 s 0#32 (ix1 e)))
    (w7 s g (ix1 e) - w2 s g (ix1 e) + c8 s 1#32 (ix1 e)) (c8 s 0#32 (ix1 e)) = _
  rw [c8_at, c8_at, w7_at G s g hg h, w2_at G s g hg h, hg, show (0#32 : BitVec 32) = BitVec.ofNat 32 0 from rfl,
    cmpi_sgt_small (by omega) (by omega), select_ofBool]
  unfold cnt
  by_cases hp : 0 < G e.val
  · rw [if_pos hp, if_pos hp, ofNat_sub (by omega) (by omega), show (1#32 : BitVec 32) = BitVec.ofNat 32 1 from rfl, ofNat_add]
  · rw [if_neg hp, if_neg hp]

theorem w14_at (e : Fin 8) : w14 s g (ix1 e) = BitVec.ofNat 32 (D G (e.val + 1)) :=
  sums_at s _ (cnt G) (w13_at G s g hg h) e

theorem w17_at : w17 s g ix0 = BitVec.ofNat 32 (total G) := by
  refine Eq.trans ?_ (w14_at G s g hg h 7)
  have hi : ∀ i : (shape1 1).Idx, i = ix1 (0 : Fin 1) := fun i => by
    funext a; match a with | ⟨0, _⟩ => exact Subsingleton.elim (α := Fin 1) _ _
  unfold w17 shapeCast
  rw [hi (Shape.reshapeEquiv _ _)]
  exact slice1 7 _ s.sl 0 (by decide)

theorem w20_at (p : Fin 55) : w20 s g (ix1 p) = BitVec.ofNat 32 (q G p.val) := by
  have ht := total_bounds G h
  have hp := p.isLt
  show IntOp.minsi (BitVec.ofNat 32 p.val) (broadcastInDim (shape1 55) ![] s.b55 (subi (w17 s g) (constantI shape0 32 1#32)) (ix1 p)) = _
  rw [bc0 s.b55]
  show IntOp.minsi (BitVec.ofNat 32 p.val) (w17 s g ix0 - 1#32) = _
  rw [w17_at G s g hg h, show (1#32 : BitVec 32) = BitVec.ofNat 32 1 from rfl, ofNat_sub (by omega) (by omega),
    minsi_small (by omega) (by omega)]
  rfl

theorem w27_at (p : Fin 55) : w27 s g (ix1 p) = BitVec.ofNat 32 (ex G p.val) := by
  have ht := total_bounds G h
  refine reduce_count (by decide) _ s.lt s.red s.pos p (fun e => D G (e + 1) ≤ q G p.val) fun e => ?_
  show IntOp.cmpi .sle (broadcastInDim (shape2 55 8) ![0, 1] s.rows (broadcastInDim (shape2 1 8) ![1] s.row (w14 s g)) (ix2 p e))
    (broadcastInDim (shape2 55 8) ![0, 1] s.cols (broadcastInDim (shape2 55 1) ![0] s.col (w20 s g)) (ix2 p e)) = 1#1 ↔ _
  rw [bcCols, bcRows, w14_at G s g hg h, w20_at G s g hg h]
  have : D G (e.val + 1) ≤ total G := pre_mono (cnt G) (by omega)
  have hq : q G p.val < 55 := by unfold q; omega
  exact cmpi_sle_small (by omega) (by omega)

theorem take_at (x : IVec (shape1 8) 32) (p : Fin 55) : take s g x (ix1 p) = x (ix1 ⟨ex G p.val, (ex_spec G h p.val).1⟩) := by
  have he := (ex_spec G h p.val).1
  refine gather_take1 (gd s) rfl rfl rfl rfl x _ p _ ?_ (by decide)
  rw [bcCol]
  show Scalar.select (IntOp.cmpi .slt (w27 s g (ix1 p)) (c55 s 0#32 (ix1 p))) _ (w27 s g (ix1 p)) = _
  rw [c55_at, w27_at G s g hg h]
  exact wrap_of_lt _ _ (by rw [BitVec.toNat_ofNat]; omega)

theorem w44_at (p : Fin 55) : w44 s g (ix1 p) = BitVec.ofNat 32 (tile G p.val) := by
  obtain ⟨h1, h2, h3⟩ := ex_spec G h p.val
  have hl := pre_le G h (ex G p.val) (by omega)
  have hq : q G p.val < 55 := by have := total_bounds G h; unfold q; omega
  show take s g (w2 s g) (ix1 p) + w20 s g (ix1 p) - take s g (subi (w14 s g) (w13 s g)) (ix1 p) = _
  rw [take_at G s g hg h, take_at G s g hg h, w2_at G s g hg h, w20_at G s g hg h]
  show _ - (w14 s g (ix1 ⟨ex G p.val, h1⟩) - w13 s g (ix1 ⟨ex G p.val, h1⟩)) = _
  have hb : D G (ex G p.val + 1) ≤ total G := pre_mono (cnt G) (by omega)
  have ht := total_bounds G h
  have hd := D_succ G (ex G p.val)
  rw [w14_at G s g hg h, w13_at G s g hg h, ofNat_sub (by show cnt G (ex G p.val) ≤ D G (ex G p.val + 1); omega) (by show D G (ex G p.val + 1) < _; omega), ofNat_add,
    ofNat_sub (by show D G (ex G p.val + 1) - cnt G (ex G p.val) ≤ pre G (ex G p.val) / 512 + q G p.val; omega) (by show pre G (ex G p.val) / 512 + q G p.val < _; omega)]
  unfold tile
  congr 1
  show pre G (ex G p.val) / 512 + q G p.val - (D G (ex G p.val + 1) - cnt G (ex G p.val)) = _
  omega

theorem w46_at (p : Fin 55) : w46 s g (ix1 p) = BitVec.ofNat 32 (512 * tile G p.val) := by
  show w44 s g (ix1 p) * c55 s 512#32 (ix1 p) = _
  rw [c55_at, w44_at G s g hg h, Nat.mul_comm, BitVec.ofNat_mul]

theorem w56_at (p : Fin 55) : w56 s g (ix1 p) = BitVec.ofNat 32 (lo G p.val) := by
  obtain ⟨h1, h2, h3⟩ := ex_spec G h p.val
  have hl := pre_le G h (ex G p.val) (by omega)
  have ht := (tile_spec G h p.val).2.2.2
  show IntOp.maxsi (take s g (w1 s g) (ix1 p) - w46 s g (ix1 p)) (c55 s 0#32 (ix1 p)) = _
  rw [take_at G s g hg h, w1_at G s g hg h, w46_at G s g hg h, c55_at]
  exact maxsi_sub (by show pre G (ex G p.val) < _; omega) (by omega)

theorem w71_at (p : Fin 55) : w71 s g (ix1 p) = BitVec.ofNat 32 (hi G p.val) := by
  obtain ⟨h1, h2, h3⟩ := ex_spec G h p.val
  have hl := pre_le G h (ex G p.val + 1) (by omega)
  obtain ⟨hg0, ht1, ht2, ht⟩ := tile_spec G h p.val
  have hp := p.isLt
  have htt := total_bounds G h
  have hs := pre_succ G (ex G p.val)
  show Scalar.select (IntOp.cmpi .slt (BitVec.ofNat 32 p.val) (broadcastInDim (shape1 55) ![] s.b55 (w17 s g) (ix1 p)))
    (IntOp.minsi (take s g (w0 s g) (ix1 p) - w46 s g (ix1 p)) (c55 s 512#32 (ix1 p))) (c55 s 0#32 (ix1 p)) = _
  rw [bc0 s.b55, w17_at G s g hg h, c55_at, c55_at, take_at G s g hg h, w0_at G s g hg, w46_at G s g hg h,
    cmpi_slt_small (by omega) (by omega), select_ofBool,
    ofNat_sub (by show 512 * tile G p.val ≤ pre G (ex G p.val + 1); omega) (by show pre G (ex G p.val + 1) < _; omega),
    show (512#32 : BitVec 32) = BitVec.ofNat 32 512 from rfl,
    minsi_small (by show pre G (ex G p.val + 1) - 512 * tile G p.val < _; omega) (by omega)]
  unfold hi
  split_ifs <;> rfl

end words

end Cert.Plan

end
-- ==== Proof.Tables.lean ====
module

public import proofs.«01_k».proof.Proof.Kit
public import proofs.«01_k».proof.Proof.Plan
public import Idealize.ShloMosaic.Lib.StableHlo.RunRead

/-!
# The prefetched tables

The host operations before the launch compute the four tables of the plan.
-/

@[expose] public section

set_option maxRecDepth 16384

noncomputable section

namespace Cert.KernelIdeal.Body

open Idealize.ShloMosaic Idealize.ShloMosaic.TcCoe Idealize.ShloMosaic.Tactic
open Idealize.ShloMosaic.ValueIdx
open Cert.KernelIdeal Cert.KernelIdeal.Facts₀ Cert.KernelIdeal.Facts Cert.KernelIdeal.Gen

variable {F : FTy → Type} [FloatOps F]
variable (m : (ℓ : Loc nD τ sig) → Buf (Elt F) ℓ)

theorem sides : Plan.Sides :=
  ⟨Gen.bcast_S_S_, Gen.bcast_S_S8, Gen.bcast_S_S55, Gen.bcast_S8_S1x8_1, Gen.bcast_S1x8_S55x8_0_1, Gen.bcast_S55_S55x1_0, Gen.bcast_S55x1_S55x8_0_1,
    Gen.reduceWindows_S8_S8_w8s1p7_0, Gen.reducesTo_S55x8_S55_d1, Gen.h_S_, Gen.natLt_1_32, Gen.slices_S8_S1_7, Gen.shapeCasts_S1_S_,
    Gen.gather_S8_S55x1_S55_n_0_n_n_0_1_1_wf⟩

/-- The lengths of the runs. -/
def gsz : IVec S8 32 := m ((0 : Dev nD), main_arg1)

set_option maxHeartbeats 4000000 in
theorem tE_eq : tE m = Plan.w27 sides (gsz m) := by
  unfold tE tbl
  show V m 0 main_v27 = _
  unfold V
  after_reads_simp
  simp -implicitDefEqProofs only [StableHlo.TRef.toBuf, StableHlo.TRef.ofBuf, cast_cast, cast_eq]
  rfl

set_option maxHeartbeats 4000000 in
theorem tT_eq : tT m = Plan.w44 sides (gsz m) := by
  unfold tT tbl
  show V m 0 main_v44 = _
  unfold V
  after_reads_simp
  simp -implicitDefEqProofs only [StableHlo.TRef.toBuf, StableHlo.TRef.ofBuf, cast_cast, cast_eq]
  rfl

set_option maxHeartbeats 4000000 in
theorem tLo_eq : tLo m = Plan.w56 sides (gsz m) := by
  unfold tLo tbl
  show V m 0 main_v56 = _
  unfold V
  after_reads_simp
  simp -implicitDefEqProofs only [StableHlo.TRef.toBuf, StableHlo.TRef.ofBuf, cast_cast, cast_eq]
  rfl

set_option maxHeartbeats 4000000 in
theorem tHi_eq : tHi m = Plan.w71 sides (gsz m) := by
  unfold tHi tbl
  show V m 0 main_v71 = _
  unfold V
  after_reads_simp
  simp -implicitDefEqProofs only [StableHlo.TRef.toBuf, StableHlo.TRef.ofBuf, cast_cast, cast_eq]
  rfl

/-! The host operations write none of the arguments. -/

theorem V_arg0 (c : Dev nD) : V m c main_arg0 = m (c, main_arg0) := by
  unfold V; after_reads_simp
theorem V_arg1 (c : Dev nD) : V m c main_arg1 = m (c, main_arg1) := by
  unfold V; after_reads_simp
theorem V_arg2 (c : Dev nD) : V m c main_arg2 = m (c, main_arg2) := by
  unfold V; after_reads_simp
theorem V_arg3 (c : Dev nD) : V m c main_arg3 = m (c, main_arg3) := by
  unfold V; after_reads_simp
theorem V_arg4 (c : Dev nD) : V m c main_arg4 = m (c, main_arg4) := by
  unfold V; after_reads_simp
theorem V_arg5 (c : Dev nD) : V m c main_arg5 = m (c, main_arg5) := by
  unfold V; after_reads_simp

end Cert.KernelIdeal.Body

end
-- ==== Proof.Cut.lean ====
module

public import proofs.«01_k».proof.Proof.Plan
public import Idealize.ShloMosaic.Lib.WordCmp

/-!
# Reading the precondition

The precondition says that the lengths of the runs are between zero and the number of rows and sum to it. Here it is as a
statement of natural numbers.
-/

@[expose] public section

noncomputable section

namespace Cert.Plan

open Idealize.ShloMosaic Idealize.ShloMosaic.ValueIdx
open Idealize.ShloMosaic.Routing

/-- The words `g` are the natural numbers `G`, and those sum to the number of rows. -/
structure Cut (g : IVec (shape1 8) 32) (G : ℕ → ℕ) : Prop where
  at_ : ∀ e : Fin 8, g (ix1 e) = BitVec.ofNat 32 (G e.val)
  all : pre G 8 = 24576

theorem toNat_le_of_range (w : BitVec 32) (h0 : IntOp.cmpi .sge w 0#32 = 1#1) (h1 : IntOp.cmpi .sle w 24576#32 = 1#1) : w.toNat ≤ 24576 := by
  simp only [IntOp.cmpi, WordCmp.ofBool_eq_one_iff, BitVec.sle_eq_decide, decide_eq_true_eq] at h0 h1
  have e : (24576#32).toInt = 24576 := by decide
  have z : (0#32).toInt = 0 := by decide
  rw [e] at h1; rw [z] at h0
  rw [BitVec.toInt_eq_toNat_cond] at h0 h1
  split at h0 <;> omega

theorem cut_of_pre (b8 : shape0.BroadcastsInDim (shape1 8) (![] : Fin 0 → Fin (shape1 8).rank)) (red : (shape1 8).ReducesTo [0] shape0)
    (pos : 0 < shape0.numel) (g : IVec (shape1 8) 32)
    (e : andi (andi (cmpi .sge g (broadcastInDim (shape1 8) ![] b8 (constantI shape0 32 0#32)))
        (cmpi .sle g (broadcastInDim (shape1 8) ![] b8 (constantI shape0 32 24576#32))))
      (broadcastInDim (shape1 8) ![] b8 (cmpi .eq (Host.reduce IntOp.addi g (constantI shape0 32 0#32) red pos) (constantI shape0 32 24576#32)))
      = fun _ => 1#1) : ∃ G, Cut g G := by
  have and1 : ∀ a b : BitVec 1, a &&& b = 1#1 → a = 1#1 ∧ b = 1#1 := by decide
  have hall : ∀ j : Fin 8, (IntOp.cmpi .sge (g (ix1 j)) 0#32 = 1#1 ∧ IntOp.cmpi .sle (g (ix1 j)) 24576#32 = 1#1) ∧
      IntOp.cmpi .eq (Host.reduce IntOp.addi g (constantI shape0 32 0#32) red pos ix0) 24576#32 = 1#1 := fun j => by
    have h := congrFun e (ix1 j)
    obtain ⟨hl, hr⟩ := and1 _ _ h
    obtain ⟨ha, hb⟩ := and1 _ _ hl
    refine ⟨⟨ha, hb⟩, ?_⟩
    exact (congrArg (fun z => IntOp.cmpi .eq (Host.reduce IntOp.addi g (constantI shape0 32 0#32) red pos z) 24576#32) (eq_ix0 _)).symm.trans hr
  let G : ℕ → ℕ := fun k => if h : k < 8 then (g (ix1 ⟨k, h⟩)).toNat else 0
  have hat : ∀ j : Fin 8, g (ix1 j) = BitVec.ofNat 32 (G j.val) := fun j => by
    show _ = BitVec.ofNat 32 (if h : j.val < 8 then (g (ix1 ⟨j.val, h⟩)).toNat else 0)
    rw [dif_pos j.isLt, BitVec.ofNat_toNat]; exact (BitVec.setWidth_eq _).symm
  have hle : ∀ k, G k ≤ 24576 := fun k => by
    show (if h : k < 8 then (g (ix1 ⟨k, h⟩)).toNat else 0) ≤ _
    split
    · exact toNat_le_of_range _ (hall _).1.1 (hall _).1.2
    · omega
  have hs := (hall 0).2
  rw [reduce_sum g G hat red pos] at hs
  simp only [IntOp.cmpi, WordCmp.ofBool_eq_one_iff, beq_iff_eq] at hs
  have hn := congrArg BitVec.toNat hs
  refine ⟨G, hat, ?_⟩
  have h8 : pre G 8 ≤ 8 * 24576 := by
    have s0 := pre_zero G
    have s1 : pre G 1 = pre G 0 + G 0 := pre_succ G 0
    have s2 : pre G 2 = pre G 1 + G 1 := pre_succ G 1
    have s3 : pre G 3 = pre G 2 + G 2 := pre_succ G 2
    have s4 : pre G 4 = pre G 3 + G 3 := pre_succ G 3
    have s5 : pre G 5 = pre G 4 + G 4 := pre_succ G 4
    have s6 : pre G 6 = pre G 5 + G 5 := pre_succ G 5
    have s7 : pre G 7 = pre G 6 + G 6 := pre_succ G 6
    have s8 : pre G 8 = pre G 7 + G 7 := pre_succ G 7
    have l0 := hle 0; have l1 := hle 1; have l2 := hle 2; have l3 := hle 3; have l4 := hle 4; have l5 := hle 5; have l6 := hle 6; have l7 := hle 7
    omega
  have he : (24576#32 : BitVec 32).toNat = 24576 := by decide
  rw [he, BitVec.toNat_ofNat] at hn
  change pre G 8 % 2 ^ 32 = 24576 at hn
  omega

end Cert.Plan

end
-- ==== Proof.Frame.lean ====
module

public import proofs.«01_k».proof.Proof.Tables
public import proofs.«01_k».proof.Proof.Cut

/-!
# The run leaves the arguments as they were

Where the lengths of the runs cut the rows, the four tables name tiles and experts that exist. So every block of the
launch is inside its array and every access of the body is inside its buffer, and the run of the launch applies.
-/

@[expose] public section

set_option maxRecDepth 16384

noncomputable section

namespace Cert.KernelIdeal.Body

open Idealize.ShloMosaic Idealize.ShloMosaic.TcCoe Idealize.ShloMosaic.Tactic
open Idealize.ShloMosaic.ValueIdx Idealize.ShloMosaic.Routing
open Cert.KernelIdeal Cert.KernelIdeal.Facts₀ Cert.KernelIdeal.Facts Cert.KernelIdeal.Gen

variable {F : FTy → Type} [FloatOps F]

/-- A point's word of a table is the entry at the point's number. -/
theorem word1_at (i : grid0.Coords) (T : Vec F S55 .i32) (p : Fin 55) (hp : (i 0).val = p.val) : word1 (F := F) i T = T (ValueIdx.ix1 p) := by
  show T _ = T _
  congr 1
  refine funext fun a => Fin.ext ?_
  match a with
  | ⟨0, _⟩ =>
    show (BitVec.ofNat 32 (i 0).val).toNat + 0 * 1 = p.val
    have := p.isLt
    rw [hp, BitVec.toNat_ofNat]
    omega

variable (m : (ℓ : Loc nD τ sig) → Buf (Elt F) ℓ) (ρ : Dev nD → PrngReg)
variable {G : ℕ → ℕ} (hG : Plan.Cut (gsz m) G)
include hG

theorem E_at (i : grid0.Coords) : word1 (F := F) i (tE m) = BitVec.ofNat 32 (Plan.ex G (i 0).val) :=
  (word1_at i (tE m) (i 0) rfl).trans ((congrFun (tE_eq m) (ValueIdx.ix1 (i 0))).trans (Plan.w27_at G sides (gsz m) hG.at_ hG.all (i 0)))
theorem T_at (i : grid0.Coords) : word1 (F := F) i (tT m) = BitVec.ofNat 32 (Plan.tile G (i 0).val) :=
  (word1_at i (tT m) (i 0) rfl).trans ((congrFun (tT_eq m) (ValueIdx.ix1 (i 0))).trans (Plan.w44_at G sides (gsz m) hG.at_ hG.all (i 0)))
theorem Lo_at (i : grid0.Coords) : word1 (F := F) i (tLo m) = BitVec.ofNat 32 (Plan.lo G (i 0).val) :=
  (word1_at i (tLo m) (i 0) rfl).trans ((congrFun (tLo_eq m) (ValueIdx.ix1 (i 0))).trans (Plan.w56_at G sides (gsz m) hG.at_ hG.all (i 0)))
theorem Hi_at (i : grid0.Coords) : word1 (F := F) i (tHi m) = BitVec.ofNat 32 (Plan.hi G (i 0).val) :=
  (word1_at i (tHi m) (i 0) rfl).trans ((congrFun (tHi_eq m) (ValueIdx.ix1 (i 0))).trans (Plan.w71_at G sides (gsz m) hG.at_ hG.all (i 0)))

theorem E_nat (i : grid0.Coords) : (word1 (F := F) i (tE m)).toNat = Plan.ex G (i 0).val := by
  have := (Plan.ex_spec G hG.all (i 0).val).1
  rw [E_at m hG, BitVec.toNat_ofNat]; omega
theorem T_nat (i : grid0.Coords) : (word1 (F := F) i (tT m)).toNat = Plan.tile G (i 0).val := by
  have := (Plan.tile_spec G hG.all (i 0).val).2.2.2
  rw [T_at m hG, BitVec.toNat_ofNat]; omega

theorem E_lt (i : grid0.Coords) : (word1 (F := F) i (tE m)).toNat < 8 := by
  rw [E_nat m hG]; exact (Plan.ex_spec G hG.all (i 0).val).1
theorem T_lt (i : grid0.Coords) : (word1 (F := F) i (tT m)).toNat < 48 := by
  rw [T_nat m hG]; exact (Plan.tile_spec G hG.all (i 0).val).2.2.2

omit hG in
theorem tile_in {w : ℕ} (v : BitVec 32) (hv : v.toNat < 48) :
    ∀ a, (![v.toNat, (0#32).toNat] a + 1) * (⟨2, ![512, w]⟩ : Shape).size a ≤ (⟨2, ![24576, w]⟩ : Shape).size a := fun a => by
  match a with
  | ⟨0, _⟩ => show (v.toNat + 1) * 512 ≤ 24576; omega
  | ⟨1, _⟩ => show (0 + 1) * w ≤ w; omega

omit hG in
theorem expert_in (v : BitVec 32) (hv : v.toNat < 8) :
    ∀ a, (![v.toNat, (0#32).toNat, (0#32).toNat] a + 1) * S1x2816x2048.size a ≤ S8x2816x2048.size a := fun a => by
  match a with
  | ⟨0, _⟩ => show (v.toNat + 1) * 1 ≤ 8; omega
  | ⟨1, _⟩ => show (0 + 1) * 2816 ≤ 2816; omega
  | ⟨2, _⟩ => show (0 + 1) * 2048 ≤ 2048; omega

/-- Every block of the launch is inside its array. -/
theorem ok : Ok m := by
  refine ⟨fun i => ⟨tile_in _ (T_lt m hG i), .inr ?_⟩, fun i => ⟨expert_in _ (E_lt m hG i), .inr ?_⟩,
    fun i => ⟨expert_in _ (E_lt m hG i), .inr ?_⟩, fun i => ⟨tile_in _ (T_lt m hG i), .inr ?_⟩⟩
  · exact Affine.block_words_dvd (by decide) (by decide)
  · exact Affine.block_words_rows (by decide) rfl
  · exact Affine.block_words_rows (by decide) rfl
  · exact Affine.block_words_dvd (by decide) (by decide)

omit hG in
theorem scale_in (v : BitVec 32) (hv : v.toNat < 8) (r c : ℕ) (hr : r < 22) (hc : c < 16) :
    ∀ a, ![v.toNat, r, c] a + S1x1x1.size a ≤ S8x22x16.size a := fun a => by
  match a with
  | ⟨0, _⟩ => show v.toNat + 1 ≤ 8; omega
  | ⟨1, _⟩ => show r + 1 ≤ 22; omega
  | ⟨2, _⟩ => show c + 1 ≤ 16; omega

omit hG in
/-- Where the expert exists, every scale the body reads is inside its array. -/
theorem chk (v1 v3 v5 : BitVec 32) (h : v5.toNat < 8) : k0_chk1 v1 v3 v5 := by
  unfold k0_chk1 k0_chk1_0 k0_chk1_1 k0_chk1_2 k0_chk1_3 k0_chk1_4 k0_chk1_5 k0_chk1_6 k0_chk1_7 k0_chk1_8 k0_chk1_9 k0_chk1_10
  repeat' first
    | apply And.intro
    | exact fun _ => scale_in v5 h _ _ (by decide) (by decide)

theorem hyps : Hyps m (ok m hG) := fun t => chk _ _ _ (E_lt m hG _)

set_option maxHeartbeats 1000000 in
/-- The run of the program, the arguments unchanged and the counters at zero, with what the launch leaves. -/
theorem frame_value : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)
      ∧ ∀ c : Dev nD, r.2.mem ((c.tc : Thread nD τ).loc main_v72) = (dats m (ok m hG) (hyps m hG) 0 c).arrAt 5 (cfgM m (ok m hG)).N) := by
  refine (θ_run defs _ _).mono (fun r h => ?_) (run_main m ρ (ok m hG) (hyps m hG))
  obtain ⟨hF, hs⟩ := h
  have hin : ∀ (c : Dev nD) (w : Fin (cfgM m (ok m hG)).W), ((cfgM m (ok m hG)).win w).isOut = false →
      r.2.mem (((cfgM m (ok m hG)).spec w).arr.view.loc (c.tc : Thread nD τ)) = V m c (Pipeline.arrRef spec0 w) := fun c w hw =>
    ((hF c).1 w).trans ((((dats m (ok m hG) (hyps m hG) 0 c).arrAt_in w hw _)).trans (A_eq m (ok m hG) (hyps m hG) c w))
  refine ⟨⟨fun c => ⟨?_, ?_, ?_, ?_, ?_, ?_⟩, hs⟩, fun c => (hF c).1 5⟩
  · exact (hin c 0 rfl).trans (V_arg0 m c)
  · exact ((hF c).2 main_arg1 (show main_arg1 ∈ Pipeline.restRefs sig spec0 by decide +kernel)).trans (V_arg1 m c)
  · exact (hin c 1 rfl).trans (V_arg2 m c)
  · exact (hin c 3 rfl).trans (V_arg3 m c)
  · exact (hin c 2 rfl).trans (V_arg4 m c)
  · exact (hin c 4 rfl).trans (V_arg5 m c)

end Cert.KernelIdeal.Body

end
-- ==== Proof.Words.Body.lean ====
module

public import proofs.«01_k».proof.Proof.Gen.Kernel

/-!
# The kernel body as loops

The printed body is 16 000 statements long: its loops are unrolled. Here it is written as the loops it comes
from: `quantAll` quantises the 4 × 22 blocks of the row tile, `mlpCols` computes the 8 column blocks of the
gated product, each over 11 chunks of the contraction. The two programs are the same term once the loops are
unrolled.
-/

@[expose] public section

set_option maxRecDepth 100000

noncomputable section

namespace Cert.Kernel.Body

open Idealize.ShloMosaic Idealize.SL.Sem
open Cert.Kernel Cert.Kernel.Facts₀ Cert.Kernel.Facts

variable {F : FTy → Type} [FloatOps F]

universe v

/-- Sequencing. -/
def pbind {E : Type → Type v} {α β : Type} : Prog E α → (α → Prog E β) → Prog E β
  | .ret a, k => k a
  | .op e c, k => .op e fun x => pbind (c x) k

theorem pbind_eq {E : Type → Type v} {α β : Type} (p : Prog E α) (k : α → Prog E β) : pbind p k = p >>= k := by
  induction p with
  | ret a => rfl
  | op e c ih => exact congrArg (Prog.op e) (funext fun x => ih x)

/-- A counted loop that carries a value. -/
def forN {E : Type → Type v} {α : Type} : (n : ℕ) → (Fin n → α → Prog E α) → α → Prog E α
  | 0, _, a => .ret a
  | n + 1, f, a => pbind (f 0 a) (forN n fun j => f j.succ)

/-- The quantised and rescaled form of one 128 × 128 block. -/
def qpay (v22 : Vec F S128x128 .bf16) : FVec F S128x128 .bf16 :=
  have v23 : FVec F S128x128 .f32 := extf .f32 v22 bitsLt_bf16_f32
  have v24 : FVec F S128x128 .f32 := absf v23
  have v25 : FVec F S128 .f32 := multiReduction .maximumf [1] S128 v24 0xFF800000#32 reduces_S128x128_S128 (.inl rfl) rfl
  have v26 : FVec F S128x1 .f32 := shapeCast S128x1 v25 shapeCasts_S128_S128x1
  have v27 : IVec S1x256 32 := iota .tc S1x256 32 [1] iota_S1x256_d1_w32
  have v28 : IVec S1x256 32 := broadcast S1x256 23#32
  have v29 : IVec S1x256 32 := shli v27 v28
  have v30 : FVec F S1x256 .f32 := bitcastToFloat .f32 v29
  have cst_7 : F .f32 := Scalar.ofBits .f32 0x3B124925#32
  have v31 : FVec F S128x1 .f32 := broadcast S128x1 cst_7
  have v32 : FVec F S128x1 .f32 := mulf v26 v31
  have v33 : FVec F S128x256 .f32 := broadcastTo S128x256 v32 broadcasts_S128x1_S128x256
  have v34 : FVec F S128x256 .f32 := broadcastTo S128x256 v30 broadcasts_S1x256_S128x256
  have v35 : IVec S128x256 1 := cmpf .oge v33 v34
  have v36 : IVec S128x256 32 := extui 32 v35 natLt_1_32
  have v37 : IVec S128 32 := multiReductionI .add [1] S128 v36 0#32 reduces_S128x256_S128 rfl
  have v38 : IVec S128x1 32 := shapeCast S128x1 v37 shapeCasts_S128_S128x1
  have v39 : IVec S128x1 32 := broadcast S128x1 1#32
  have v40 : IVec S128x1 32 := subi v38 v39
  have v41 : IVec S128x1 32 := broadcast S128x1 23#32
  have v42 : IVec S128x1 32 := shli v40 v41
  have v43 : IVec S128x1 32 := broadcast S128x1 0#32
  have v44 : IVec S128x1 1 := cmpi .eq v42 v43
  have v45 : IVec S128x1 32 := broadcast S128x1 1056964608#32
  have v46 : IVec S128x1 32 := select v44 v45 v42
  have v47 : IVec S128x1 32 := broadcast S128x1 8388608#32
  have v48 : IVec S128x1 32 := addi v46 v47
  have v49 : FVec F S128x1 .f32 := bitcastToFloat .f32 v48
  have v50 : IVec S128x1 32 := broadcast S128x1 2122317824#32
  have v51 : IVec S128x1 32 := subi v50 v46
  have v52 : FVec F S128x1 .f32 := bitcastToFloat .f32 v51
  have v53 : FVec F S128x128 .f32 := broadcastTo S128x128 v52 broadcasts_S128x1_S128x128
  have v54 : FVec F S128x128 .f32 := mulf v23 v53
  have cst_12 : F .f32 := Scalar.ofBits .f32 0xC3E00000#32
  have cst_13 : F .f32 := Scalar.ofBits .f32 0x43E00000#32
  have v55 : FVec F S128x128 .f32 := broadcast S128x128 cst_12
  have v56 : FVec F S128x128 .f32 := maximumf v55 v54
  have v57 : FVec F S128x128 .f32 := broadcast S128x128 cst_13
  have v58 : FVec F S128x128 .f32 := minimumf v57 v56
  have v59 : FVec F S128x128 .fp8e4m3 := truncf .fp8e4m3 v58 bitsLt_fp8e4m3_f32
  have v60 : FVec F S128x128 .bf16 := extf .bf16 v59 bitsLt_fp8e4m3_bf16
  have v61 : FVec F S128x1 .bf16 := truncf .bf16 v49 bitsLt_bf16_f32
  have v62 : FVec F S128x128 .bf16 := broadcastTo S128x128 v61 broadcasts_S128x1_S128x128
  have v63 : FVec F S128x128 .bf16 := mulf v60 v62
  shapeCast S128x128 v63 shapeCasts_S128x128_S128x128

theorem inb_x (r : Fin 4) (c : Fin 22) :
    ∀ a, (![128 * r.val, 128 * c.val] : Fin 2 → Nat) a + S128x128.size a ≤ S512x2816.size a := by
  intro a; fin_cases a <;> simp <;> omega

theorem packed_x (r : Fin 4) (c : Fin 22) :
    (Rect.unit (s := S512x2816) ![128 * r.val, 128 * c.val] S128x128.size (inb_x r c)).PackedRows (EltTy.packing .bf16) :=
  .inr ⟨Nat.le_refl 2, rfl, .inl ⟨⟨64 * r.val, by show 128 * r.val = 2 * (64 * r.val); omega⟩, ⟨64, rfl⟩⟩⟩

theorem inb_lhs (k : Fin 11) :
    ∀ a, (![0, 256 * k.val] : Fin 2 → Nat) a + S512x256.size a ≤ S512x2816.size a := by
  intro a; fin_cases a <;> simp <;> omega

theorem inb_w (k2 : Fin 22) (n2 : Fin 16) :
    ∀ a, (![0, 128 * k2.val, 128 * n2.val] : Fin 3 → Nat) a + S1x128x128.size a ≤ S1x2816x2048.size a := by
  intro a; fin_cases a <;> simp <;> omega

theorem inb_out (n : Fin 8) :
    ∀ a, (![0, 256 * n.val] : Fin 2 → Nat) a + S512x256.size a ≤ S512x2048.size a := by
  intro a; fin_cases a <;> simp <;> omega

theorem packed_out (n : Fin 8) :
    (Rect.unit (s := S512x2048) ![0, 256 * n.val] S512x256.size (inb_out n)).PackedRows (EltTy.packing .bf16) :=
  .inr ⟨Nat.le_refl 2, rfl, .inl ⟨⟨0, rfl⟩, ⟨256, rfl⟩⟩⟩

/-- Where the scale of the weight block (k2, n2) of expert v5 lies. -/
def offS (v5 : BitVec 32) (k2 : Fin 22) (n2 : Fin 16) : Fin 3 → Nat :=
  ![(Scalar.indexCast v5).toNat, k2.val, n2.val]

variable (i : grid0.Coords) (arg1 : Memref sig .tc .smem S55 .i32) (harg1 : arg1.IsWhole) (arg2 : Memref sig .tc .smem S55 .i32) (harg2 : arg2.IsWhole) (arg3 : Memref sig .tc .smem S55 .i32) (harg3 : arg3.IsWhole) (arg4 : Memref sig .tc .smem S55 .i32) (harg4 : arg4.IsWhole) (arg5 : Memref sig .tc .vmem S512x2816 .bf16) (harg5 : arg5.IsWhole) (arg6 : Memref sig .tc .vmem S1x2816x2048 .fp8e4m3) (harg6 : arg6.IsWhole) (arg7 : Memref sig .tc .vmem S1x2816x2048 .fp8e4m3) (harg7 : arg7.IsWhole) (arg8 : Memref sig .tc .smem S8x22x16 .f32) (harg8 : arg8.IsWhole) (arg9 : Memref sig .tc .smem S8x22x16 .f32) (harg9 : arg9.IsWhole) (arg10 : Memref sig .tc .vmem S512x2048 .bf16) (harg10 : arg10.IsWhole) (arg11 : Memref sig .tc .vmem S512x2816 .bf16) (harg11 : arg11.IsWhole)

abbrev Pg (F : FTy → Type) (α : Type) := Prog (TpuEff nD τ sig (Elt F) Λ₀ .tc) α

/-- Quantises one block of the row tile. -/
def quant1 (r : Fin 4) (c : Fin 22) : Pg F PUnit :=
  pbind (Prog.lift (.load arg5 (Rect.unit (s := S512x2816) ![128 * r.val, 128 * c.val] S128x128.size (inb_x r c)).toLoadRect (View.loadsAt_vmem h_S128x128))) fun (x : Vec F S128x128 .bf16) =>
  pbind (Prog.lift (.load arg11 (Rect.unit (s := S512x2816) ![128 * r.val, 128 * c.val] S128x128.size (inb_x r c)).toLoadRect (View.loadsAt_vmem h_S128x128))) fun (_y : Vec F S128x128 .bf16) =>
  Prog.lift (.store arg11 (Rect.unit (s := S512x2816) ![128 * r.val, 128 * c.val] S128x128.size (inb_x r c)) (qpay x) Finset.univ (View.stores_vmem h_S128x128 (harg11.storeExact_slice rfl _ (packed_x r c)) (fun _ => rfl)) (.inl rfl))

/-- Clears the output tile and quantises the row tile. -/
def quantAll : Pg F PUnit :=
  pbind (Prog.lift (.load arg10 (Rect.unit (s := S512x2048) ![0, 0] S512x2048.size inb_S512x2048_S512x2048_0_0).toLoadRect (View.loadsAt_vmem h_S512x2048))) fun (_y : Vec F S512x2048 .bf16) =>
  pbind (Prog.lift (.store arg10 (Rect.unit (s := S512x2048) ![0, 0] S512x2048.size inb_S512x2048_S512x2048_0_0) (broadcast S512x2048 (Scalar.ofBits .bf16 0x0000#16 : F .bf16)) Finset.univ (View.stores_vmem h_S512x2048 (harg10.storeExact_slice rfl _ packedbf16_S512x2048_S512x2048_0_0) (fun _ => rfl)) (.inl rfl))) fun _ =>
  forN 4 (fun r _ => forN 22 (fun c _ => quant1 arg5 arg11 harg11 r c) PUnit.unit) PUnit.unit

/-- One weight block times its scale. -/
def wide (w : Vec F S1x128x128 .fp8e4m3) (s : Elt F .f32) : FVec F S128x128 .bf16 :=
  mulf (extf .bf16 (shapeCast S128x128 w shapeCasts_S1x128x128_S128x128 : FVec F S128x128 .fp8e4m3) bitsLt_fp8e4m3_bf16)
    (truncf .bf16 (broadcast S128x128 s : FVec F S128x128 .f32) bitsLt_bf16_f32)

/-- The four widened blocks of one 256 × 256 chunk of the weights, put together. -/
def wide4 (a b c d : FVec F S128x128 .bf16) : FVec F S256x256 .bf16 :=
  concatenate S256x256 0 [⟨S128x256, concatenate S128x256 1 [⟨S128x128, a⟩, ⟨S128x128, b⟩] concatenates_S128x128_S128x128_S128x256_d1⟩,
    ⟨S128x256, concatenate S128x256 1 [⟨S128x128, c⟩, ⟨S128x128, d⟩] concatenates_S128x128_S128x128_S128x256_d1⟩] concatenates_S128x256_S128x256_S256x256_d0

/-- One chunk's product added to the sum so far. -/
def dotAdd (g : FVec F S512x256 .f32) (x : Vec F S512x256 .bf16) (w : FVec F S256x256 .bf16) : FVec F S512x256 .f32 :=
  addf g (matmul dot_S512x256_S256x256_S512x256_1_0_0_1_n_n none x w (constant S512x256 .f32 0x00000000#32))

section
variable (v5 : BitVec 32)
  (hs : ∀ (k2 : Fin 22) (n2 : Fin 16), ∀ a, (offS v5 k2 n2) a + S1x1x1.size a ≤ S8x22x16.size a)

/-- Loads one weight block and its scale. -/
def block1 (argw : Memref sig .tc .vmem S1x2816x2048 .fp8e4m3) (args : Memref sig .tc .smem S8x22x16 .f32)
    (k2 : Fin 22) (n2 : Fin 16) : Pg F (FVec F S128x128 .bf16) :=
  pbind (smemLoad args (Rect.unit (s := S8x22x16) (offS v5 k2 n2) S1x1x1.size (hs k2 n2)) numel1_S1x1x1 rfl) fun (s : Elt F .f32) =>
  pbind (Prog.lift (.load argw (Rect.unit (s := S1x2816x2048) ![0, 128 * k2.val, 128 * n2.val] S1x128x128.size (inb_w k2 n2)).toLoadRect (View.loadsAt_vmem h_S1x128x128))) fun (w : Vec F S1x128x128 .fp8e4m3) =>
  .ret (wide w s)

/-- Twice an index, and the one after it. -/
def ev {n : ℕ} (k : Fin n) : Fin (2 * n) := ⟨2 * k.val, by omega⟩
def od {n : ℕ} (k : Fin n) : Fin (2 * n) := ⟨2 * k.val + 1, by omega⟩

/-- One 256 × 256 chunk of the widened weights. -/
def chunk1 (argw : Memref sig .tc .vmem S1x2816x2048 .fp8e4m3) (args : Memref sig .tc .smem S8x22x16 .f32)
    (k : Fin 11) (n : Fin 8) : Pg F (FVec F S256x256 .bf16) :=
  pbind (block1 v5 hs argw args (ev k) (ev n)) fun (a : _) =>
  pbind (block1 v5 hs argw args (ev k) (od n)) fun (b : _) =>
  pbind (block1 v5 hs argw args (od k) (ev n)) fun (c : _) =>
  pbind (block1 v5 hs argw args (od k) (od n)) fun (d : _) =>
  .ret (wide4 a b c d)

/-- One step of both contractions. -/
def step1 (n : Fin 8) (k : Fin 11) (gu : FVec F S512x256 .f32 × FVec F S512x256 .f32) :
    Pg F (FVec F S512x256 .f32 × FVec F S512x256 .f32) :=
  pbind (Prog.lift (.load arg11 (Rect.unit (s := S512x2816) ![0, 256 * k.val] S512x256.size (inb_lhs k)).toLoadRect (View.loadsAt_vmem h_S512x256))) fun (x : Vec F S512x256 .bf16) =>
  pbind (chunk1 v5 hs arg6 arg8 k n) fun (wg : _) =>
  pbind (chunk1 v5 hs arg7 arg9 k n) fun (wu : _) =>
  .ret (dotAdd gu.1 x wg, dotAdd gu.2 x wu)

/-- The gate: g · 1/(1 + exp(−g)) · u. -/
def gate (g u : FVec F S512x256 .f32) : FVec F S512x256 .f32 :=
  mulf (mulf g (divf (broadcast S512x256 (Scalar.ofBits .f32 0x3F800000#32 : F .f32)) (addf (broadcast S512x256 (Scalar.ofBits .f32 0x3F800000#32 : F .f32)) (exp (subf (broadcast S512x256 (Scalar.ofBits .f32 0x00000000#32 : F .f32)) g))))) u

/-- The rows of the tile that belong to the expert. -/
def mask (v1 v3 : BitVec 32) : IVec S512x256 1 :=
  andi (cmpi .sge (iota .tc S512x256 32 [0] iota_S512x256_d0_w32) (broadcast S512x256 v1)) (cmpi .slt (iota .tc S512x256 32 [0] iota_S512x256_d0_w32) (broadcast S512x256 v3))

/-- The expert's rows of the new block, the other rows as they were. -/
def merge (v1 v3 : BitVec 32) (y : FVec F S512x256 .f32) (old : Vec F S512x256 .bf16) : FVec F S512x256 .bf16 :=
  truncf .bf16 (select (mask v1 v3) y (extf .f32 (shapeCast S512x256 old shapeCasts_S512x256_S512x256 : FVec F S512x256 .bf16) bitsLt_bf16_f32)) bitsLt_bf16_f32

/-- One column block of the output tile. -/
def mlpCol (v1 v3 : BitVec 32) (n : Fin 8) : Pg F PUnit :=
  pbind (forN 11 (step1 arg6 arg7 arg8 arg9 arg11 v5 hs n) (broadcast S512x256 (Scalar.ofBits .f32 0x00000000#32 : F .f32), broadcast S512x256 (Scalar.ofBits .f32 0x00000000#32 : F .f32))) fun (gu : _) =>
  pbind (Prog.lift (.load arg10 (Rect.unit (s := S512x2048) ![0, 256 * n.val] S512x256.size (inb_out n)).toLoadRect (View.loadsAt_vmem h_S512x256))) fun (old : Vec F S512x256 .bf16) =>
  pbind (Prog.lift (.load arg10 (Rect.unit (s := S512x2048) ![0, 256 * n.val] S512x256.size (inb_out n)).toLoadRect (View.loadsAt_vmem h_S512x256))) fun (_old : Vec F S512x256 .bf16) =>
  Prog.lift (.store arg10 (Rect.unit (s := S512x2048) ![0, 256 * n.val] S512x256.size (inb_out n)) (merge v1 v3 (gate gu.1 gu.2) old) Finset.univ (View.stores_vmem h_S512x256 (harg10.storeExact_slice rfl _ (packed_out n)) (fun _ => rfl)) (.inl rfl))

/-- The eight column blocks. -/
def mlpCols (v1 v3 : BitVec 32) : Pg F PUnit :=
  forN 8 (fun n _ => mlpCol arg6 arg7 arg8 arg9 arg10 harg10 arg11 v5 hs v1 v3 n) PUnit.unit
end

theorem hs_of (v1 v3 v5 : BitVec 32) (h : k0_chk1 v1 v3 v5) (h2 : k0_cond2 v1 v3 = 1#1) :
    ∀ (k2 : Fin 22) (n2 : Fin 16), ∀ a, (offS v5 k2 n2) a + S1x1x1.size a ≤ S8x22x16.size a := by
  have h0 := k0_off3_inb v1 v3 v5 h h2 0
  have h0' : (Scalar.indexCast v5).toNat + 1 ≤ 8 := h0
  intro k2 n2 a
  fin_cases a
  · exact h0'
  · show k2.val + 1 ≤ 22; omega
  · show n2.val + 1 ≤ 16; omega

/-- The second half of the body: the gated product, where the expert has rows of this tile. -/
def mlp (v1 v3 v5 : BitVec 32) (h : k0_chk1 v1 v3 v5) : Pg F PUnit :=
  if h2 : k0_cond2 v1 v3 = 1#1 then
    mlpCols arg6 arg7 arg8 arg9 arg10 harg10 arg11 v5 (hs_of v1 v3 v5 h h2) v1 v3
  else pure ⟨⟩

/-- The body, with its loops. -/
def body : Pg F PUnit := do
  let v1 : Elt F .i32 ← smemLoad arg3 (Rect.unit (s := S55) (k0_off1 i) S1.size (k0_off1_inb i)) numel1_S1 rfl
  let v3 : Elt F .i32 ← smemLoad arg4 (Rect.unit (s := S55) (k0_off1 i) S1.size (k0_off1_inb i)) numel1_S1 rfl
  let v5 : Elt F .i32 ← smemLoad arg1 (Rect.unit (s := S55) (k0_off1 i) S1.size (k0_off1_inb i)) numel1_S1 rfl
  have k0_hw1 : k0_chk1 v1 v3 v5 := (← Prog.lift (TpuEff.assume (k0_chk1 v1 v3 v5) (k0_chk1.dec v1 v3 v5))).down
  let v8 : Elt F .i32 ← smemLoad arg2 (Rect.unit (s := S55) (k0_off1 i) S1.size (k0_off1_inb i)) numel1_S1 rfl
  let v12 : Elt F .i32 ← smemLoad arg2 (Rect.unit (s := S55) (k0_off2 i) S1.size (k0_off2_inb i)) numel1_S1 rfl
  if _h1 : k0_cond1 i v8 v12 = 1#1 then
    pbind (quantAll arg5 arg10 harg10 arg11 harg11) fun _ =>
      mlp arg6 arg7 arg8 arg9 arg10 harg10 arg11 v1 v3 v5 k0_hw1
  else mlp arg6 arg7 arg8 arg9 arg10 harg10 arg11 v1 v3 v5 k0_hw1

end Cert.Kernel.Body
-- ==== Proof.Words.Run.lean ====
module

public import proofs.«01_k».proof.Proof.Words.Body
public import proofs.«01_k».proof.Proof.Gen.Kernel.Launch
public import Idealize.ShloMosaic.Lib.Pipeline.FrameBody
public import Idealize.ShloMosaic.Lib.VecWindow
public import Idealize.ShloMosaic.Lib.Tactic
public import Idealize.ShloMosaic.Lib.Pointwise.Index

/-!
# What the kernel body does

Each step of the body, from the contents of the buffers it holds to the contents it leaves: the scratch after the
quantiser (`quantLoop`), the output tile after the gated product (`mlpLoop`), and the whole body.
-/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Facts₀ Cert.Kernel.Facts
open VecWindow

variable {F : FTy → Type} [FloatOps F]

local notation "𝕄" => MT nD τ sig Unit (Elt F) ℕ (UR sig nD τ) ℕ

variable (c : Dev nD) (E : Set ℕ)

/-- The weakest precondition of a program of core `c`. -/
abbrev WP {α : Type} (p : Pg F α) (K : α → sProp 𝕄) : sProp 𝕄 :=
  wp frame (wpE (defs₀ (F := F)) Variants.none (c : Thread nD τ) none) E p K

theorem wp_pbind {α β : Type} (p : Pg F α) (k : α → Pg F β) (K : β → sProp 𝕄) :
    WP c E (pbind p k) K = WP c E p (fun a => WP c E (k a) K) := by
  rw [pbind_eq]; exact wp_bind _ _ _ _ _ _

/-- A load of a box of a buffer whose contents read `x`. -/
theorem wp_ld {sp : CoreSpace} {s : Shape} {e : EltTy} (M : Memref sig .tc sp s e) (q : PosShare TreeShare) (x : s.Idx → Elt F e)
    {off size : Fin s.rank → ℕ} (inb : ∀ a, off a + size a ≤ s.size a) (hl : M.view.LoadsAt (Rect.unit off size inb).toLoadRect)
    (K : ((Rect.unit off size inb).shape.Idx → Elt F e) → sProp 𝕄) :
    iprop(owns (c : Thread nD τ) M q x ∗ (owns (c : Thread nD τ) M q x -∗ K (window x off size inb)))
      ⊢ WP c E (Prog.lift (.load M (Rect.unit off size inb).toLoadRect hl)) K := by
  unfold owns
  iintro ⟨⟨%f, %hf, H⟩, Hk⟩
  ihave Hw := wp_load (defs := defs₀ (F := F)) Variants.none (c : Thread nD τ) none E (m := M)
    (r := (Rect.unit off size inb).toLoadRect) (hl := hl) (k := .ret) (Q := K) (S := M.view.set) (q := q) (f := f)
    (View.setOn_subset_set _ _) $$ H
  iapply Hw
  iintro H
  rw [wp_ret]
  imodintro
  rw [← hf, View.readAt_unit M.view f inb rfl inb]
  iapply Hk
  iexists f
  isplitr; · ipureintro; rfl
  iexact H

/-- A store to a box of a buffer whose contents read `x`. -/
theorem wp_st {sp : CoreSpace} {s : Shape} {e : EltTy} (M : Memref sig .tc sp s e) (x : s.Idx → Elt F e)
    {off size : Fin s.rank → ℕ} (inb : ∀ a, off a + size a ≤ s.size a) (w : (Rect.unit off size inb).shape.Idx → Elt F e)
    (hx : (M.access (Rect.unit off size inb)).Stores Finset.univ)
    (hm : (Finset.univ : Finset (Rect.unit off size inb).shape.Idx) = Finset.univ ∨ ∀ a, (Rect.unit off size inb).stride a = 1)
    (K : PUnit → sProp 𝕄) :
    iprop(owns (c : Thread nD τ) M fullShare x ∗ (owns (c : Thread nD τ) M fullShare (put x off size w) -∗ K ⟨⟩))
      ⊢ WP c E (Prog.lift (.store M (Rect.unit off size inb) w Finset.univ hx hm)) K := by
  unfold owns
  iintro ⟨⟨%f, %hf, H⟩, Hk⟩
  ihave Hw := wp_store (defs := defs₀ (F := F)) Variants.none (c : Thread nD τ) none E (m := M)
    (r := Rect.unit off size inb) (w := w) (Mk := Finset.univ) (hx := hx) (hm := hm) (k := .ret) (Q := K) (S := M.view.set) (f := f)
    (Memref.setOn_access_subset M _ _) $$ H
  iapply Hw
  iintro H
  rw [wp_ret]
  imodintro
  iapply Hk
  iexists ((M.access (Rect.unit off size inb)).write (Elt F) f w Finset.univ)
  isplitr
  · ipureintro
    have h := View.read_writes_cons_put M.view f inb w [] rfl
    rw [View.writes_nil, hf] at h
    exact h
  iexact H

/-- A load of one word of a buffer of scalar memory. -/
theorem wp_word {s : Shape} {e : EltTy} (M : Memref sig .tc .smem s e) (q : PosShare TreeShare) (x : s.Idx → Elt F e)
    {off size : Fin s.rank → ℕ} (inb : ∀ a, off a + size a ≤ s.size a) (h1 : (Rect.unit off size inb).shape.numel = 1)
    (hp : e.packing = 1) (K : Elt F e → sProp 𝕄) :
    iprop(owns (c : Thread nD τ) M q x ∗ (owns (c : Thread nD τ) M q x -∗
        K (x ((Rect.unit off size inb).emb (Shape.Idx.first (by rw [h1]; exact Nat.one_pos))))))
      ⊢ WP c E (smemLoad M (Rect.unit off size inb) h1 hp) K := by
  unfold owns smemLoad smemLoadElt
  iintro ⟨⟨%f, %hf, H⟩, Hk⟩
  ihave Hw := wp_load (defs := defs₀ (F := F)) Variants.none (c : Thread nD τ) none E (m := M)
    (r := (Rect.unit off size inb).toLoadRect) (hl := View.loadsAt_rect (View.loads_smem_one hp h1))
    (k := fun g => .ret (g (Shape.Idx.first (h1.symm ▸ Nat.one_pos)))) (Q := K) (S := M.view.set) (q := q) (f := f)
    (View.setOn_subset_set _ _) $$ H
  iapply Hw
  iintro H
  rw [wp_ret]
  imodintro
  rw [← hf, View.readAt_unit M.view f inb rfl inb]
  unfold window
  iapply Hk
  iexists f
  isplitr; · ipureintro; rfl
  iexact H

/-- A checked side condition that holds. -/
theorem wp_asm {P : Prop} {d : Decidable P} (h : P) (K : PLift P → sProp 𝕄) :
    K ⟨h⟩ ⊢ WP c E (Prog.lift (TpuEff.assume P d)) K := by
  refine BIBase.Entails.trans ?_ (wp_assume (defs := defs₀ (F := F)) Variants.none (c : Thread nD τ) none E h)
  exact le_wp_ret _ _ _ _ _

/-- A counted loop, from an invariant: before trip `j` the loop carries `val j` and holds `I j`. -/
theorem wp_forN {α : Type} : ∀ (n : ℕ) (f : Fin n → α → Pg F α) (val : ℕ → α) (I : ℕ → sProp 𝕄)
    (_ : ∀ (j : Fin n) (K : α → sProp 𝕄), iprop(I j.val ∗ (I (j.val + 1) -∗ K (val (j.val + 1)))) ⊢ WP c E (f j (val j.val)) K)
    (K : α → sProp 𝕄), iprop(I 0 ∗ (I n -∗ K (val n))) ⊢ WP c E (forN n f (val 0)) K
  | 0, _, val, I, _, K => by
    unfold forN
    rw [WP, wp_ret]
    iintro ⟨H, Hk⟩
    imodintro
    iapply Hk
    iexact H
  | n + 1, f, val, I, h, K => by
    unfold forN
    rw [wp_pbind]
    have h0 := h 0 (fun a => WP c E (forN n (fun j => f j.succ) a) K)
    have hr := wp_forN n (fun j => f j.succ) (fun j => val (j + 1)) (fun j => I (j + 1)) (fun j K => h j.succ K) K
    exact BIBase.Entails.trans (sep_mono_right (BIClass.wand_intro (BIBase.Entails.trans sep_comm.1 hr))) h0

/-! ## The quantiser -/

theorem blk_lt {a b n : ℕ} (h : a < 128 * n) : a / 128 < n := by omega

/-- The row tile quantised and rescaled, block by block. -/
def quantT (x : Vec F S512x2816 .bf16) : Vec F S512x2816 .bf16 := fun y =>
  qpay (window x ![128 * ((y 0).val / 128), 128 * ((y 1).val / 128)] S128x128.size
      (inb_x ⟨(y 0).val / 128, by have : (y 0).val < 512 := (y 0).isLt; omega⟩ ⟨(y 1).val / 128, by have : (y 1).val < 2816 := (y 1).isLt; omega⟩))
    (ix2 ⟨(y 0).val % 128, Nat.mod_lt _ (by decide)⟩ ⟨(y 1).val % 128, Nat.mod_lt _ (by decide)⟩)

/-- The scratch when the blocks before (r, c) are quantised. -/
def quantPart (x s : Vec F S512x2816 .bf16) (r k : ℕ) : Vec F S512x2816 .bf16 := fun y =>
  if (y 0).val / 128 < r ∨ ((y 0).val / 128 = r ∧ (y 1).val / 128 < k) then quantT x y else s y

theorem quantT_at (x : Vec F S512x2816 .bf16) (y : S512x2816.Idx) (r : Fin 4) (k : Fin 22) (e0 : (y 0).val / 128 = r.val) (e1 : (y 1).val / 128 = k.val)
    (z : S128x128.Idx) (hz : ∀ a : Fin 2, (z a).val = (![(y 0).val % 128, (y 1).val % 128] : Fin 2 → ℕ) a) :
    qpay (window x ![128 * r.val, 128 * k.val] S128x128.size (inb_x r k)) z = quantT x y := by
  have hr : r = ⟨(y 0).val / 128, by have : (y 0).val < 512 := (y 0).isLt; omega⟩ := Fin.ext e0.symm
  have hk : k = ⟨(y 1).val / 128, by have : (y 1).val < 2816 := (y 1).isLt; omega⟩ := Fin.ext e1.symm
  have hz' : z = ix2 ⟨(y 0).val % 128, Nat.mod_lt _ (by decide)⟩ ⟨(y 1).val % 128, Nat.mod_lt _ (by decide)⟩ := by
    funext a
    fin_cases a
    · exact Fin.ext (hz 0)
    · exact Fin.ext (hz 1)
  rw [hz', hr, hk]
  rfl

theorem quantPart_step (x s : Vec F S512x2816 .bf16) (r : Fin 4) (k : Fin 22) :
    put (quantPart x s r k) ![128 * r.val, 128 * k.val] S128x128.size (qpay (window x ![128 * r.val, 128 * k.val] S128x128.size (inb_x r k)))
      = quantPart x s r (k.val + 1) := by
  funext y
  have hy0 : (y 0).val < 512 := (y 0).isLt
  have hy1 : (y 1).val < 2816 := (y 1).isLt
  unfold put
  split
  · rename_i h
    have h0 : 128 * r.val ≤ (y 0).val ∧ (y 0).val < 128 * r.val + 128 := h 0
    have h1 : 128 * k.val ≤ (y 1).val ∧ (y 1).val < 128 * k.val + 128 := h 1
    have e0 : (y 0).val / 128 = r.val := by omega
    have e1 : (y 1).val / 128 = k.val := by omega
    unfold quantPart
    rw [if_pos (Or.inr ⟨e0, by omega⟩)]
    exact quantT_at x y r k e0 e1 _ (fun a => by
      fin_cases a
      · show (y 0).val - 128 * r.val = (y 0).val % 128; omega
      · show (y 1).val - 128 * k.val = (y 1).val % 128; omega)
  · rename_i h
    have h' : ¬ ((y 0).val / 128 = r.val ∧ (y 1).val / 128 = k.val) := fun ⟨e0, e1⟩ => h fun a => by
      fin_cases a
      · show 128 * r.val ≤ (y 0).val ∧ (y 0).val < 128 * r.val + 128; omega
      · show 128 * k.val ≤ (y 1).val ∧ (y 1).val < 128 * k.val + 128; omega
    unfold quantPart
    congr 1
    apply propext
    omega

theorem quantPart_row (x s : Vec F S512x2816 .bf16) (r : ℕ) : quantPart x s r 22 = quantPart x s (r + 1) 0 := by
  funext y
  have hy1 : (y 1).val < 2816 := (y 1).isLt
  unfold quantPart
  congr 1
  apply propext
  omega

theorem quantPart_zero (x s : Vec F S512x2816 .bf16) : quantPart x s 0 0 = s := by
  funext y
  unfold quantPart
  rw [if_neg (by omega)]

theorem quantPart_all (x s : Vec F S512x2816 .bf16) : quantPart x s 4 0 = quantT x := by
  funext y
  have hy0 : (y 0).val < 512 := (y 0).isLt
  unfold quantPart
  rw [if_pos (by omega)]

section
variable (arg5 : Memref sig .tc .vmem S512x2816 .bf16) (arg10 : Memref sig .tc .vmem S512x2048 .bf16) (harg10 : arg10.IsWhole)
  (arg11 : Memref sig .tc .vmem S512x2816 .bf16) (harg11 : arg11.IsWhole)

theorem wp_quant1 (x s : Vec F S512x2816 .bf16) (r : Fin 4) (k : Fin 22) (K : PUnit → sProp 𝕄) :
    iprop((owns (c : Thread nD τ) arg5 fullShare x ∗ owns (c : Thread nD τ) arg11 fullShare (quantPart x s r k))
        ∗ ((owns (c : Thread nD τ) arg5 fullShare x ∗ owns (c : Thread nD τ) arg11 fullShare (quantPart x s r (k.val + 1))) -∗ K ⟨⟩))
      ⊢ WP c E (quant1 arg5 arg11 harg11 r k) K := by
  unfold quant1
  rw [wp_pbind]
  iintro ⟨⟨H5, H11⟩, Hk⟩
  iapply (wp_ld c E arg5 fullShare x (inb_x r k) _ _)
  isplitl [H5]; · iexact H5
  iintro H5
  rw [wp_pbind]
  iapply (wp_ld c E arg11 fullShare _ (inb_x r k) _ _)
  isplitl [H11]; · iexact H11
  iintro H11
  iapply (wp_st c E arg11 _ (inb_x r k) _ _ _ _)
  isplitl [H11]; · iexact H11
  iintro H11
  rw [quantPart_step]
  iapply Hk
  isplitl [H5]; · iexact H5
  iexact H11

theorem wp_quantAll (x s : Vec F S512x2816 .bf16) (o : Vec F S512x2048 .bf16) (K : PUnit → sProp 𝕄) :
    iprop((owns (c : Thread nD τ) arg5 fullShare x ∗ owns (c : Thread nD τ) arg10 fullShare o ∗ owns (c : Thread nD τ) arg11 fullShare s)
        ∗ ((owns (c : Thread nD τ) arg5 fullShare x ∗ owns (c : Thread nD τ) arg10 fullShare (broadcast S512x2048 (Scalar.ofBits .bf16 0x0000#16 : F .bf16))
            ∗ owns (c : Thread nD τ) arg11 fullShare (quantT x)) -∗ K ⟨⟩))
      ⊢ WP c E (quantAll arg5 arg10 harg10 arg11 harg11) K := by
  have hin := fun (r : Fin 4) (K : PUnit → sProp 𝕄) => wp_forN c E 22 (fun k _ => quant1 (F := F) arg5 arg11 harg11 r k) (fun _ => PUnit.unit)
    (fun k => iprop(owns (c : Thread nD τ) arg5 fullShare x ∗ owns (c : Thread nD τ) arg11 fullShare (quantPart x s r k)))
    (fun k K => wp_quant1 c E arg5 arg11 harg11 x s r k K) K
  simp only [quantPart_row] at hin
  have hout := wp_forN c E 4 (fun r _ => forN 22 (fun k _ => quant1 (F := F) arg5 arg11 harg11 r k) PUnit.unit) (fun _ => PUnit.unit)
    (fun r => iprop(owns (c : Thread nD τ) arg5 fullShare x ∗ owns (c : Thread nD τ) arg11 fullShare (quantPart x s r 0)))
    hin K
  simp only [quantPart_all, quantPart_zero] at hout
  unfold quantAll
  rw [wp_pbind]
  iintro ⟨⟨H5, H10, H11⟩, Hk⟩
  iapply (wp_ld c E arg10 fullShare o inb_S512x2048_S512x2048_0_0 _ _)
  isplitl [H10]; · iexact H10
  iintro H10
  rw [wp_pbind]
  iapply (wp_st c E arg10 _ inb_S512x2048_S512x2048_0_0 _ _ _ _)
  isplitl [H10]; · iexact H10
  iintro H10
  iapply hout
  isplitl [H5 H11]
  · isplitl [H5]; · iexact H5
    iexact H11
  iintro ⟨H5, H11⟩
  iapply Hk
  isplitl [H5]; · iexact H5
  isplitl [H10]
  · rw [show put o ![0, 0] S512x2048.size (broadcast S512x2048 (Scalar.ofBits .bf16 0x0000#16 : F .bf16)) = broadcast S512x2048 (Scalar.ofBits .bf16 0x0000#16 : F .bf16) from by
      funext y
      unfold put
      rw [dif_pos (fun a => ⟨by fin_cases a <;> exact Nat.zero_le _, by have := (y a).isLt; fin_cases a <;> simpa using this⟩)]
      rfl]
    iexact H10
  iexact H11
end

/-! ## The gated product -/

section
variable (arg6 : Memref sig .tc .vmem S1x2816x2048 .fp8e4m3) (arg7 : Memref sig .tc .vmem S1x2816x2048 .fp8e4m3)
  (arg8 : Memref sig .tc .smem S8x22x16 .f32) (arg9 : Memref sig .tc .smem S8x22x16 .f32)
  (arg10 : Memref sig .tc .vmem S512x2048 .bf16) (harg10 : arg10.IsWhole) (arg11 : Memref sig .tc .vmem S512x2816 .bf16)
variable (v5 : BitVec 32)
  (hs : ∀ (k2 : Fin 22) (n2 : Fin 16), ∀ a, (offS v5 k2 n2) a + S1x1x1.size a ≤ S8x22x16.size a)

/-- One widened weight block, from the weights and their scales. -/
def blockV (w : Vec F S1x2816x2048 .fp8e4m3) (s : Vec F S8x22x16 .f32) (k2 : Fin 22) (n2 : Fin 16) : FVec F S128x128 .bf16 :=
  wide (window w ![0, 128 * k2.val, 128 * n2.val] S1x128x128.size (inb_w k2 n2))
    (s ((Rect.unit (s := S8x22x16) (offS v5 k2 n2) S1x1x1.size (hs k2 n2)).emb (Shape.Idx.first (by rw [show (Rect.unit (s := S8x22x16) (offS v5 k2 n2) S1x1x1.size (hs k2 n2)).shape.numel = 1 from numel1_S1x1x1]; exact Nat.one_pos))))

/-- One 256 × 256 chunk of the widened weights. -/
def chunkV (w : Vec F S1x2816x2048 .fp8e4m3) (s : Vec F S8x22x16 .f32) (k : Fin 11) (n : Fin 8) : FVec F S256x256 .bf16 :=
  wide4 (blockV v5 hs w s (ev k) (ev n)) (blockV v5 hs w s (ev k) (od n)) (blockV v5 hs w s (od k) (ev n)) (blockV v5 hs w s (od k) (od n))

theorem wp_block1 (argw : Memref sig .tc .vmem S1x2816x2048 .fp8e4m3) (args : Memref sig .tc .smem S8x22x16 .f32)
    (w : Vec F S1x2816x2048 .fp8e4m3) (s : Vec F S8x22x16 .f32) (k2 : Fin 22) (n2 : Fin 16) (K : FVec F S128x128 .bf16 → sProp 𝕄) :
    iprop((owns (c : Thread nD τ) argw fullShare w ∗ owns (c : Thread nD τ) args fullShare s)
        ∗ ((owns (c : Thread nD τ) argw fullShare w ∗ owns (c : Thread nD τ) args fullShare s) -∗ K (blockV v5 hs w s k2 n2)))
      ⊢ WP c E (block1 v5 hs argw args k2 n2) K := by
  unfold block1 blockV
  rw [wp_pbind]
  iintro ⟨⟨Hw, Hs⟩, Hk⟩
  iapply (wp_word c E args fullShare s (hs k2 n2) _ _ _)
  isplitl [Hs]; · iexact Hs
  iintro Hs
  rw [wp_pbind]
  iapply (wp_ld c E argw fullShare w (inb_w k2 n2) _ _)
  isplitl [Hw]; · iexact Hw
  iintro Hw
  rw [WP, wp_ret]
  imodintro
  iapply Hk
  isplitl [Hw]; · iexact Hw
  iexact Hs

theorem wp_chunk1 (argw : Memref sig .tc .vmem S1x2816x2048 .fp8e4m3) (args : Memref sig .tc .smem S8x22x16 .f32)
    (w : Vec F S1x2816x2048 .fp8e4m3) (s : Vec F S8x22x16 .f32) (k : Fin 11) (n : Fin 8) (K : FVec F S256x256 .bf16 → sProp 𝕄) :
    iprop((owns (c : Thread nD τ) argw fullShare w ∗ owns (c : Thread nD τ) args fullShare s)
        ∗ ((owns (c : Thread nD τ) argw fullShare w ∗ owns (c : Thread nD τ) args fullShare s) -∗ K (chunkV v5 hs w s k n)))
      ⊢ WP c E (chunk1 v5 hs argw args k n) K := by
  unfold chunk1 chunkV
  iintro ⟨H, Hk⟩
  rw [wp_pbind]
  iapply (wp_block1 c E v5 hs argw args w s _ _ _)
  isplitl [H]; · iexact H
  iintro H
  rw [wp_pbind]
  iapply (wp_block1 c E v5 hs argw args w s _ _ _)
  isplitl [H]; · iexact H
  iintro H
  rw [wp_pbind]
  iapply (wp_block1 c E v5 hs argw args w s _ _ _)
  isplitl [H]; · iexact H
  iintro H
  rw [wp_pbind]
  iapply (wp_block1 c E v5 hs argw args w s _ _ _)
  isplitl [H]; · iexact H
  iintro H
  rw [WP, wp_ret]
  imodintro
  iapply Hk
  iexact H

variable (wg wu : Vec F S1x2816x2048 .fp8e4m3) (sg su : Vec F S8x22x16 .f32) (x : Vec F S512x2816 .bf16)

/-- Both sums of column block n after k chunks. -/
def sums (n : Fin 8) : ℕ → FVec F S512x256 .f32 × FVec F S512x256 .f32
  | 0 => (broadcast S512x256 (Scalar.ofBits .f32 0x00000000#32 : F .f32), broadcast S512x256 (Scalar.ofBits .f32 0x00000000#32 : F .f32))
  | k + 1 => if h : k < 11 then
      (dotAdd (sums n k).1 (window x ![0, 256 * k] S512x256.size (inb_lhs ⟨k, h⟩)) (chunkV v5 hs wg sg ⟨k, h⟩ n),
       dotAdd (sums n k).2 (window x ![0, 256 * k] S512x256.size (inb_lhs ⟨k, h⟩)) (chunkV v5 hs wu su ⟨k, h⟩ n))
    else sums n k

/-- What the gated product reads: the weights, their scales and the quantised row tile. -/
def reads : sProp 𝕄 :=
  iprop((owns (c : Thread nD τ) arg6 fullShare wg ∗ owns (c : Thread nD τ) arg8 fullShare sg)
    ∗ (owns (c : Thread nD τ) arg7 fullShare wu ∗ owns (c : Thread nD τ) arg9 fullShare su)
    ∗ owns (c : Thread nD τ) arg11 fullShare x)

theorem wp_step1 (n : Fin 8) (k : Fin 11) (K : FVec F S512x256 .f32 × FVec F S512x256 .f32 → sProp 𝕄) :
    iprop(reads c arg6 arg7 arg8 arg9 arg11 wg wu sg su x
        ∗ (reads c arg6 arg7 arg8 arg9 arg11 wg wu sg su x -∗ K (sums v5 hs wg wu sg su x n (k.val + 1))))
      ⊢ WP c E (step1 arg6 arg7 arg8 arg9 arg11 v5 hs n k (sums v5 hs wg wu sg su x n k)) K := by
  unfold step1 reads
  iintro ⟨⟨Hg, Hu, Hx⟩, Hk⟩
  rw [wp_pbind]
  iapply (wp_ld c E arg11 fullShare x (inb_lhs k) _ _)
  isplitl [Hx]; · iexact Hx
  iintro Hx
  rw [wp_pbind]
  iapply (wp_chunk1 c E v5 hs arg6 arg8 wg sg k n _)
  isplitl [Hg]; · iexact Hg
  iintro Hg
  rw [wp_pbind]
  iapply (wp_chunk1 c E v5 hs arg7 arg9 wu su k n _)
  isplitl [Hu]; · iexact Hu
  iintro Hu
  rw [WP, wp_ret]
  imodintro
  rw [sums, dif_pos k.isLt]
  iapply Hk
  isplitl [Hg]; · iexact Hg
  isplitl [Hu]; · iexact Hu
  iexact Hx

/-- Column block n of the expert's rows put over `old`. -/
def colV (v1 v3 : BitVec 32) (n : Fin 8) (old : Vec F S512x256 .bf16) : FVec F S512x256 .bf16 :=
  merge v1 v3 (gate (sums v5 hs wg wu sg su x n 11).1 (sums v5 hs wg wu sg su x n 11).2) old

/-- The output tile after the gated product. -/
def mlpT (v1 v3 : BitVec 32) (o : Vec F S512x2048 .bf16) : Vec F S512x2048 .bf16 := fun y =>
  colV v5 hs wg wu sg su x v1 v3 ⟨(y 1).val / 256, by have : (y 1).val < 2048 := (y 1).isLt; omega⟩
    (window o ![0, 256 * ((y 1).val / 256)] S512x256.size (inb_out ⟨(y 1).val / 256, by have : (y 1).val < 2048 := (y 1).isLt; omega⟩))
    (ix2 (y 0) ⟨(y 1).val % 256, Nat.mod_lt _ (by decide)⟩)

/-- The output tile when the column blocks before n are done. -/
def mlpPart (v1 v3 : BitVec 32) (o : Vec F S512x2048 .bf16) (n : ℕ) : Vec F S512x2048 .bf16 := fun y =>
  if (y 1).val / 256 < n then mlpT v5 hs wg wu sg su x v1 v3 o y else o y

theorem mlpT_at (v1 v3 : BitVec 32) (o : Vec F S512x2048 .bf16) (y : S512x2048.Idx) (n : Fin 8) (e1 : (y 1).val / 256 = n.val)
    (z : S512x256.Idx) (hz : ∀ a : Fin 2, (z a).val = (![(y 0).val, (y 1).val % 256] : Fin 2 → ℕ) a) :
    colV v5 hs wg wu sg su x v1 v3 n (window o ![0, 256 * n.val] S512x256.size (inb_out n)) z = mlpT v5 hs wg wu sg su x v1 v3 o y := by
  have hn : n = ⟨(y 1).val / 256, by have : (y 1).val < 2048 := (y 1).isLt; omega⟩ := Fin.ext e1.symm
  have hz' : z = ix2 (y 0) ⟨(y 1).val % 256, Nat.mod_lt _ (by decide)⟩ := by
    funext a
    fin_cases a
    · exact Fin.ext (hz 0)
    · exact Fin.ext (hz 1)
  rw [hz', hn]
  rfl

theorem mlpPart_window (v1 v3 : BitVec 32) (o : Vec F S512x2048 .bf16) (n : Fin 8) :
    window (mlpPart v5 hs wg wu sg su x v1 v3 o n) ![0, 256 * n.val] S512x256.size (inb_out n)
      = window o ![0, 256 * n.val] S512x256.size (inb_out n) := by
  funext y
  unfold window mlpPart
  rw [if_neg]
  show ¬ (256 * n.val + 1 * (y 1).val) / 256 < n.val
  omega

theorem mlpPart_step (v1 v3 : BitVec 32) (o : Vec F S512x2048 .bf16) (n : Fin 8) :
    put (mlpPart v5 hs wg wu sg su x v1 v3 o n) ![0, 256 * n.val] S512x256.size
        (colV v5 hs wg wu sg su x v1 v3 n (window o ![0, 256 * n.val] S512x256.size (inb_out n)))
      = mlpPart v5 hs wg wu sg su x v1 v3 o (n.val + 1) := by
  funext y
  have hy0 : (y 0).val < 512 := (y 0).isLt
  have hy1 : (y 1).val < 2048 := (y 1).isLt
  unfold put
  split
  · rename_i h
    have h1 : 256 * n.val ≤ (y 1).val ∧ (y 1).val < 256 * n.val + 256 := h 1
    have e1 : (y 1).val / 256 = n.val := by omega
    unfold mlpPart
    rw [if_pos (by omega)]
    exact mlpT_at v5 hs wg wu sg su x v1 v3 o y n e1 _ (fun a => by
      fin_cases a
      · show (y 0).val - 0 = (y 0).val; omega
      · show (y 1).val - 256 * n.val = (y 1).val % 256; omega)
  · rename_i h
    have h' : ¬ ((y 1).val / 256 = n.val) := fun e1 => h fun a => by
      fin_cases a
      · show 0 ≤ (y 0).val ∧ (y 0).val < 0 + 512; omega
      · show 256 * n.val ≤ (y 1).val ∧ (y 1).val < 256 * n.val + 256; omega
    unfold mlpPart
    congr 1
    apply propext
    omega

theorem mlpPart_zero (v1 v3 : BitVec 32) (o : Vec F S512x2048 .bf16) : mlpPart v5 hs wg wu sg su x v1 v3 o 0 = o := by
  funext y
  unfold mlpPart
  rw [if_neg (by omega)]

theorem mlpPart_all (v1 v3 : BitVec 32) (o : Vec F S512x2048 .bf16) :
    mlpPart v5 hs wg wu sg su x v1 v3 o 8 = mlpT v5 hs wg wu sg su x v1 v3 o := by
  funext y
  have hy1 : (y 1).val < 2048 := (y 1).isLt
  unfold mlpPart
  rw [if_pos (by omega)]

theorem wp_mlpCol (v1 v3 : BitVec 32) (o : Vec F S512x2048 .bf16) (n : Fin 8) (K : PUnit → sProp 𝕄) :
    iprop((reads c arg6 arg7 arg8 arg9 arg11 wg wu sg su x ∗ owns (c : Thread nD τ) arg10 fullShare (mlpPart v5 hs wg wu sg su x v1 v3 o n))
        ∗ ((reads c arg6 arg7 arg8 arg9 arg11 wg wu sg su x
            ∗ owns (c : Thread nD τ) arg10 fullShare (mlpPart v5 hs wg wu sg su x v1 v3 o (n.val + 1))) -∗ K ⟨⟩))
      ⊢ WP c E (mlpCol arg6 arg7 arg8 arg9 arg10 harg10 arg11 v5 hs v1 v3 n) K := by
  have hl := fun K => wp_forN c E 11 (step1 (F := F) arg6 arg7 arg8 arg9 arg11 v5 hs n) (sums v5 hs wg wu sg su x n)
    (fun _ => reads c arg6 arg7 arg8 arg9 arg11 wg wu sg su x)
    (fun k K => wp_step1 c E arg6 arg7 arg8 arg9 arg11 v5 hs wg wu sg su x n k K) K
  unfold mlpCol
  iintro ⟨⟨H, H10⟩, Hk⟩
  rw [wp_pbind]
  iapply (hl _)
  isplitl [H]; · iexact H
  iintro H
  rw [wp_pbind]
  iapply (wp_ld c E arg10 fullShare _ (inb_out n) _ _)
  isplitl [H10]; · iexact H10
  iintro H10
  rw [wp_pbind]
  iapply (wp_ld c E arg10 fullShare _ (inb_out n) _ _)
  isplitl [H10]; · iexact H10
  iintro H10
  iapply (wp_st c E arg10 _ (inb_out n) _ _ _ _)
  isplitl [H10]; · iexact H10
  iintro H10
  rw [mlpPart_window, ← mlpPart_step]
  iapply Hk
  isplitl [H]; · iexact H
  iexact H10

theorem wp_mlpCols (v1 v3 : BitVec 32) (o : Vec F S512x2048 .bf16) (K : PUnit → sProp 𝕄) :
    iprop((reads c arg6 arg7 arg8 arg9 arg11 wg wu sg su x ∗ owns (c : Thread nD τ) arg10 fullShare o)
        ∗ ((reads c arg6 arg7 arg8 arg9 arg11 wg wu sg su x
            ∗ owns (c : Thread nD τ) arg10 fullShare (mlpT v5 hs wg wu sg su x v1 v3 o)) -∗ K ⟨⟩))
      ⊢ WP c E (mlpCols arg6 arg7 arg8 arg9 arg10 harg10 arg11 v5 hs v1 v3) K := by
  have h := wp_forN c E 8 (fun n _ => mlpCol (F := F) arg6 arg7 arg8 arg9 arg10 harg10 arg11 v5 hs v1 v3 n) (fun _ => PUnit.unit)
    (fun n => iprop(reads c arg6 arg7 arg8 arg9 arg11 wg wu sg su x ∗ owns (c : Thread nD τ) arg10 fullShare (mlpPart v5 hs wg wu sg su x v1 v3 o n)))
    (fun n K => wp_mlpCol c E arg6 arg7 arg8 arg9 arg10 harg10 arg11 v5 hs wg wu sg su x v1 v3 o n K) K
  simp only [mlpPart_zero, mlpPart_all] at h
  exact h

/-- The output tile after the second half of the body. -/
def mlpV (v1 v3 v5 : BitVec 32) (h : k0_chk1 v1 v3 v5) (o : Vec F S512x2048 .bf16) : Vec F S512x2048 .bf16 :=
  if h2 : k0_cond2 v1 v3 = 1#1 then mlpT v5 (hs_of v1 v3 v5 h h2) wg wu sg su x v1 v3 o else o

theorem wp_mlp (v1 v3 v5 : BitVec 32) (h : k0_chk1 v1 v3 v5) (o : Vec F S512x2048 .bf16) (K : PUnit → sProp 𝕄) :
    iprop((reads c arg6 arg7 arg8 arg9 arg11 wg wu sg su x ∗ owns (c : Thread nD τ) arg10 fullShare o)
        ∗ ((reads c arg6 arg7 arg8 arg9 arg11 wg wu sg su x
            ∗ owns (c : Thread nD τ) arg10 fullShare (mlpV wg wu sg su x v1 v3 v5 h o)) -∗ K ⟨⟩))
      ⊢ WP c E (mlp arg6 arg7 arg8 arg9 arg10 harg10 arg11 v1 v3 v5 h) K := by
  unfold mlp mlpV
  split
  · exact wp_mlpCols c E arg6 arg7 arg8 arg9 arg10 harg10 arg11 v5 _ wg wu sg su x v1 v3 o K
  · rw [WP, wp_pure]
    iintro ⟨H, Hk⟩
    imodintro
    iapply Hk
    iexact H
end

/-! ## The body -/

section
variable (i : grid0.Coords)

theorem first_pos : 0 < (Rect.unit (s := S55) (k0_off1 i) S1.size (k0_off1_inb i)).shape.numel := by
  rw [show (Rect.unit (s := S55) (k0_off1 i) S1.size (k0_off1_inb i)).shape.numel = 1 from numel1_S1]; exact Nat.one_pos

/-- This point's word of a table. -/
abbrev word1 (T : Vec F S55 .i32) : BitVec 32 :=
  T ((Rect.unit (s := S55) (k0_off1 i) S1.size (k0_off1_inb i)).emb (Shape.Idx.first (by
    rw [show (Rect.unit (s := S55) (k0_off1 i) S1.size (k0_off1_inb i)).shape.numel = 1 from numel1_S1]; exact Nat.one_pos)))

/-- The word of a table at the point before (at this one for the first). -/
abbrev word2 (T : Vec F S55 .i32) : BitVec 32 :=
  T ((Rect.unit (s := S55) (k0_off2 i) S1.size (k0_off2_inb i)).emb (Shape.Idx.first (by
    rw [show (Rect.unit (s := S55) (k0_off2 i) S1.size (k0_off2_inb i)).shape.numel = 1 from numel1_S1]; exact Nat.one_pos)))

/-- Whether this point opens a new row tile. -/
abbrev opens (T : Vec F S55 .i32) : Prop := k0_cond1 i (word1 (F := F) i T) (word2 (F := F) i T) = 1#1

open Classical in
/-- The scratch after the body. -/
def scrV (T : Vec F S55 .i32) (x s : Vec F S512x2816 .bf16) : Vec F S512x2816 .bf16 :=
  if opens (F := F) i T then quantT x else s

open Classical in
/-- The output tile the gated product starts from. -/
def outV (T : Vec F S55 .i32) (o : Vec F S512x2048 .bf16) : Vec F S512x2048 .bf16 :=
  if opens (F := F) i T then broadcast S512x2048 (Scalar.ofBits .bf16 0x0000#16 : F .bf16) else o

variable (arg1 : Memref sig .tc .smem S55 .i32) (arg2 : Memref sig .tc .smem S55 .i32) (arg3 : Memref sig .tc .smem S55 .i32) (arg4 : Memref sig .tc .smem S55 .i32)
  (arg5 : Memref sig .tc .vmem S512x2816 .bf16) (arg6 : Memref sig .tc .vmem S1x2816x2048 .fp8e4m3) (arg7 : Memref sig .tc .vmem S1x2816x2048 .fp8e4m3)
  (arg8 : Memref sig .tc .smem S8x22x16 .f32) (arg9 : Memref sig .tc .smem S8x22x16 .f32)
  (arg10 : Memref sig .tc .vmem S512x2048 .bf16) (harg10 : arg10.IsWhole) (arg11 : Memref sig .tc .vmem S512x2816 .bf16) (harg11 : arg11.IsWhole)
variable (wg wu : Vec F S1x2816x2048 .fp8e4m3) (sg su : Vec F S8x22x16 .f32) (x s : Vec F S512x2816 .bf16) (o : Vec F S512x2048 .bf16)
  (t1 t2 t3 t4 : Vec F S55 .i32)

theorem wp_body (q : PosShare TreeShare) (hk : k0_chk1 (word1 (F := F) i t3) (word1 (F := F) i t4) (word1 (F := F) i t1)) (K : PUnit → sProp 𝕄) :
    iprop((owns (c : Thread nD τ) arg1 q t1 ∗ owns (c : Thread nD τ) arg2 q t2 ∗ owns (c : Thread nD τ) arg3 q t3 ∗ owns (c : Thread nD τ) arg4 q t4)
        ∗ owns (c : Thread nD τ) arg5 fullShare x ∗ owns (c : Thread nD τ) arg6 fullShare wg ∗ owns (c : Thread nD τ) arg7 fullShare wu
        ∗ owns (c : Thread nD τ) arg8 fullShare sg ∗ owns (c : Thread nD τ) arg9 fullShare su ∗ owns (c : Thread nD τ) arg10 fullShare o
        ∗ owns (c : Thread nD τ) arg11 fullShare s
        ∗ (((owns (c : Thread nD τ) arg1 q t1 ∗ owns (c : Thread nD τ) arg2 q t2 ∗ owns (c : Thread nD τ) arg3 q t3 ∗ owns (c : Thread nD τ) arg4 q t4)
          ∗ owns (c : Thread nD τ) arg5 fullShare x ∗ owns (c : Thread nD τ) arg6 fullShare wg ∗ owns (c : Thread nD τ) arg7 fullShare wu
          ∗ owns (c : Thread nD τ) arg8 fullShare sg ∗ owns (c : Thread nD τ) arg9 fullShare su
          ∗ owns (c : Thread nD τ) arg10 fullShare (mlpV wg wu sg su (scrV (F := F) i t2 x s) _ _ _ hk (outV (F := F) i t2 o))
          ∗ owns (c : Thread nD τ) arg11 fullShare (scrV (F := F) i t2 x s)) -∗ K ⟨⟩))
      ⊢ WP c E (body i arg1 arg2 arg3 arg4 arg5 arg6 arg7 arg8 arg9 arg10 harg10 arg11 harg11) K := by
  unfold body
  iintro ⟨⟨T1, T2, T3, T4⟩, H5, H6, H7, H8, H9, H10, H11, Hk⟩
  rw [WP, wp_bind]
  iapply (wp_word c E arg3 q t3 (k0_off1_inb i) _ _ _)
  isplitl [T3]; · iexact T3
  iintro T3
  rw [wp_bind]
  iapply (wp_word c E arg4 q t4 (k0_off1_inb i) _ _ _)
  isplitl [T4]; · iexact T4
  iintro T4
  rw [wp_bind]
  iapply (wp_word c E arg1 q t1 (k0_off1_inb i) _ _ _)
  isplitl [T1]; · iexact T1
  iintro T1
  rw [wp_bind]
  iapply (wp_asm c E (d := k0_chk1.dec _ _ _) hk _)
  rw [wp_bind]
  iapply (wp_word c E arg2 q t2 (k0_off1_inb i) _ _ _)
  isplitl [T2]; · iexact T2
  iintro T2
  rw [wp_bind]
  iapply (wp_word c E arg2 q t2 (k0_off2_inb i) _ _ _)
  isplitl [T2]; · iexact T2
  iintro T2
  by_cases h1 : opens (F := F) i t2
  · rw [dif_pos h1]
    rw [← WP, wp_pbind]
    iapply (wp_quantAll c E arg5 arg10 harg10 arg11 harg11 x s o _)
    isplitl [H5 H10 H11]
    · isplitl [H5]; · iexact H5
      isplitl [H10]; · iexact H10
      iexact H11
    iintro ⟨H5, H10, H11⟩
    iapply (wp_mlp c E arg6 arg7 arg8 arg9 arg10 harg10 arg11 wg wu sg su (quantT x) _ _ _ hk _ _)
    isplitl [H6 H7 H8 H9 H10 H11]
    · unfold reads
      isplitr [H10]
      · isplitl [H6 H8]
        · isplitl [H6]; · iexact H6
          iexact H8
        isplitl [H7 H9]
        · isplitl [H7]; · iexact H7
          iexact H9
        iexact H11
      iexact H10
    unfold reads scrV outV
    rw [if_pos h1, if_pos h1]
    iintro ⟨⟨⟨H6, H8⟩, ⟨H7, H9⟩, H11⟩, H10⟩
    iapply Hk
    isplitl [T1 T2 T3 T4]
    · isplitl [T1]; · iexact T1
      isplitl [T2]; · iexact T2
      isplitl [T3]; · iexact T3
      iexact T4
    isplitl [H5]; · iexact H5
    isplitl [H6]; · iexact H6
    isplitl [H7]; · iexact H7
    isplitl [H8]; · iexact H8
    isplitl [H9]; · iexact H9
    isplitl [H10]; · iexact H10
    iexact H11
  · rw [dif_neg h1]
    rw [← WP]
    iapply (wp_mlp c E arg6 arg7 arg8 arg9 arg10 harg10 arg11 wg wu sg su s _ _ _ hk _ _)
    isplitl [H6 H7 H8 H9 H10 H11]
    · unfold reads
      isplitr [H10]
      · isplitl [H6 H8]
        · isplitl [H6]; · iexact H6
          iexact H8
        isplitl [H7 H9]
        · isplitl [H7]; · iexact H7
          iexact H9
        iexact H11
      iexact H10
    unfold reads scrV outV
    rw [if_neg h1, if_neg h1]
    iintro ⟨⟨⟨H6, H8⟩, ⟨H7, H9⟩, H11⟩, H10⟩
    iapply Hk
    isplitl [T1 T2 T3 T4]
    · isplitl [T1]; · iexact T1
      isplitl [T2]; · iexact T2
      isplitl [T3]; · iexact T3
      iexact T4
    isplitl [H5]; · iexact H5
    isplitl [H6]; · iexact H6
    isplitl [H7]; · iexact H7
    isplitl [H8]; · iexact H8
    isplitl [H9]; · iexact H9
    isplitl [H10]; · iexact H10
    iexact H11
end

end Cert.Kernel.Body
-- ==== Proof.Words.BodyEq.lean ====
module

public import proofs.«01_k».proof.Proof.Words.Body

/-!
# The printed body is the loops
-/

@[expose] public section

set_option maxRecDepth 100000

noncomputable section

namespace Cert.Kernel.Body

open Idealize.ShloMosaic Idealize.SL.Sem
open Cert.Kernel Cert.Kernel.Facts₀ Cert.Kernel.Facts

variable {F : FTy → Type} [FloatOps F]

universe v

theorem bind_congr' {E : Type → Type v} {α β : Type} {p q : Prog E α} {k k' : α → Prog E β} (h : p = q)
    (hk : ∀ x, k x = k' x) : p >>= k = q >>= k' := by rw [h, funext hk]

theorem dite_congr' {E : Type → Type v} {α : Type} {c : Prop} [Decidable c] {a a' : c → Prog E α} {b b' : ¬c → Prog E α}
    (h : ∀ x, a x = a' x) (h' : ∀ x, b x = b' x) : dite c a b = dite c a' b' := by rw [funext h, funext h']

set_option maxHeartbeats 0 in
/-- The printed body is the program of `Body`, its loops unrolled. -/
theorem body_eq (i : grid0.Coords) (arg1 : Memref sig .tc .smem S55 .i32) (harg1 : arg1.IsWhole) (arg2 : Memref sig .tc .smem S55 .i32) (harg2 : arg2.IsWhole) (arg3 : Memref sig .tc .smem S55 .i32) (harg3 : arg3.IsWhole) (arg4 : Memref sig .tc .smem S55 .i32) (harg4 : arg4.IsWhole) (arg5 : Memref sig .tc .vmem S512x2816 .bf16) (harg5 : arg5.IsWhole) (arg6 : Memref sig .tc .vmem S1x2816x2048 .fp8e4m3) (harg6 : arg6.IsWhole) (arg7 : Memref sig .tc .vmem S1x2816x2048 .fp8e4m3) (harg7 : arg7.IsWhole) (arg8 : Memref sig .tc .smem S8x22x16 .f32) (harg8 : arg8.IsWhole) (arg9 : Memref sig .tc .smem S8x22x16 .f32) (harg9 : arg9.IsWhole) (arg10 : Memref sig .tc .vmem S512x2048 .bf16) (harg10 : arg10.IsWhole) (arg11 : Memref sig .tc .vmem S512x2816 .bf16) (harg11 : arg11.IsWhole) : cc0_moe_gated (F := F) i arg1 harg1 arg2 harg2 arg3 harg3 arg4 harg4 arg5 harg5 arg6 harg6 arg7 harg7 arg8 harg8 arg9 harg9 arg10 harg10 arg11 harg11
    = body i arg1 arg2 arg3 arg4 arg5 arg6 arg7 arg8 arg9 arg10 harg10 arg11 harg11 := by
  unfold cc0_moe_gated body
  refine bind_congr' rfl fun v1 => bind_congr' rfl fun v3 => bind_congr' rfl fun v5 => bind_congr' rfl fun hw =>
    bind_congr' rfl fun v8 => bind_congr' rfl fun v12 => dite_congr' (fun h1 => ?_) (fun _ => ?_)
  · unfold quantAll mlp mlpCols
    rfl
  · unfold mlp
    refine dite_congr' (fun h2 => ?_) fun _ => rfl
    unfold mlpCols
    rfl

end Cert.Kernel.Body
-- ==== Proof.Words.Kit.lean ====
module

public import proofs.«01_k».proof.Proof.Words.Run
public import proofs.«01_k».proof.Proof.Words.BodyEq
public import Idealize.ShloMosaic.Lib.Pipeline.FrameBody
public import Idealize.ShloMosaic.Lib.Pipeline.TableIdle
public import Idealize.ShloMosaic.Lib.Pipeline.Value
public import Idealize.ShloMosaic.Lib.Claim

/-!
# The launch of the kernel

The contents of the buffers when the pipeline starts, the four tables it prefetches, the blocks its windows show, and
what every point leaves in the scratch and in the output tile.
-/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Facts₀ Cert.Kernel.Facts Cert.Kernel.Gen

variable {F : FTy → Type} [FloatOps F]

local notation "𝕄" => MT nD τ sig Unit (Elt F) ℕ (UR sig nD τ) ℕ

/-! ## When a point opens a row tile -/

theorem off2_eq : ∀ n : Fin 55, n.val ≠ 0 →
    k0_off2 (grid0.coords n) = k0_off1 (grid0.coords ⟨n.val - 1, by show n.val - 1 < 55; omega⟩) := by decide +kernel

theorem coord_ne : ∀ n : Fin 55, n.val ≠ 0 → Scalar.cmpi .eq (BitVec.ofNat 32 ((grid0.coords n) 0).val) 0#32 = 0#1 := by decide +kernel

theorem coord_eq : ∀ n : Fin 55, n.val = 0 → Scalar.cmpi .eq (BitVec.ofNat 32 ((grid0.coords n) 0).val) 0#32 = 1#1 := by decide +kernel

theorem bits1 : ∀ a b : BitVec 1, (Scalar.cmpi .ne (Scalar.extui (Scalar.ori a b) : BitVec 32) 0#32 = 1#1) = (a = 1#1 ∨ b = 1#1) := by
  decide

theorem cmpi_ne_iff (v w : BitVec 32) : Scalar.cmpi .ne v w = 1#1 ↔ v ≠ w := by
  unfold Scalar.cmpi IntOp.cmpi
  by_cases h : v = w
  · subst h; simp
  · have : (v != w) = true := by simpa using h
    rw [this]; simp [h]

/-- A point opens a tile when it is the first or its tile is not the tile of the point before. -/
theorem opens_iff (n : Fin 55) (T : Vec F S55 .i32) :
    opens (F := F) (grid0.coords n) T ↔ (n.val = 0 ∨ word1 (F := F) (grid0.coords n) T ≠ word2 (F := F) (grid0.coords n) T) := by
  unfold opens k0_cond1
  rw [bits1, cmpi_ne_iff]
  constructor
  · rintro (h | h)
    · by_cases h0 : n.val = 0
      · exact .inl h0
      · rw [coord_ne n h0] at h; exact absurd h (by decide)
    · exact .inr h
  · rintro (h | h)
    · exact .inl (coord_eq n h)
    · exact .inr h

theorem word2_eq (n : Fin 55) (h : n.val ≠ 0) (T : Vec F S55 .i32) :
    word2 (F := F) (grid0.coords n) T = word1 (F := F) (grid0.coords ⟨n.val - 1, by show n.val - 1 < 55; omega⟩) T := by
  unfold word1 word2
  congr 1
  funext a
  apply Fin.ext
  rw [Rect.emb_apply, Rect.emb_apply]
  show k0_off2 (grid0.coords n) a + 1 * _ = k0_off1 _ a + 1 * _
  exact congrArg₂ (fun x y => x + 1 * y) (congrFun (off2_eq n h) a) rfl

variable (m : (ℓ : Loc nD τ sig) → Buf (Elt F) ℓ) (ρ : Dev nD → PrngReg)

/-! ## Up to the pipeline -/

/-- The host operations before the pipeline. -/
abbrev hostOps : List (HloOp τ sig (Elt F)) :=
  [hostOps0, hostOps0_1, hostOps0_2, hostOps0_3, hostOps0_4, hostOps0_5, hostOps0_6, hostOps0_7, hostOps0_8, hostOps0_9].flatten

/-- The contents of core `c`'s buffers when the pipeline starts. -/
def V (c : Dev nD) (b : Ref sig .tc) : Buf (Elt F) ((c : Thread nD τ).loc b) :=
  StableHlo.after (hostOps (F := F)) (fun b => m (c, b)) b

set_option maxHeartbeats 4000000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main
    [hostOps0, hostOps0_1, hostOps0_2, hostOps0_3, hostOps0_4, hostOps0_5, hostOps0_6, hostOps0_7, hostOps0_8, hostOps0_9]
    ⟨hostOps0_sub, hostOps0_1_sub, hostOps0_2_sub, hostOps0_3_sub, hostOps0_4_sub, hostOps0_5_sub, hostOps0_6_sub, hostOps0_7_sub,
      hostOps0_8_sub, hostOps0_9_sub⟩
    (by simp only [List.Forall]; repeat' first | rfl | apply And.intro)
    fun c => (main_chain c).trans rfl

attribute [irreducible] V

/-! ## The prefetched tables -/

def tbl : pre0.Contents (Elt F) := fun j => V m (0 : Dev nD) (pre0.ref j)
theorem V_pre (c : Dev nD) (j : Fin 4) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The four tables: the expert of a point, its row tile, and its first and last row in the tile. -/
abbrev tE : Vec F S55 .i32 := tbl m 0
abbrev tT : Vec F S55 .i32 := tbl m 1
abbrev tLo : Vec F S55 .i32 := tbl m 2
abbrev tHi : Vec F S55 .i32 := tbl m 3

abbrev tbM0_0 : Memref sig .tc .smem S55 .i32 := Memref.whole main_v27
abbrev tbM0_1 : Memref sig .tc .smem S55 .i32 := Memref.whole main_v44
abbrev tbM0_2 : Memref sig .tc .smem S55 .i32 := Memref.whole main_v56
abbrev tbM0_3 : Memref sig .tc .smem S55 .i32 := Memref.whole main_v71

theorem PhiT0_eq (c : Dev nD) : (Pipeline.ΦT pre0 (tbl m) c : sProp 𝕄)
    = iprop(owns (c : Thread nD τ) tbM0_0 fullShare.right (tE m) ∗ owns (c : Thread nD τ) tbM0_1 fullShare.right (tT m)
      ∗ owns (c : Thread nD τ) tbM0_2 fullShare.right (tLo m) ∗ owns (c : Thread nD τ) tbM0_3 fullShare.right (tHi m)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  simp only [tbM0_0, tbM0_1, tbM0_2, tbM0_3, owns_whole]
  rfl

/-! ## The windows' blocks -/

/-- Window `w`'s block at point `t` when the pipeline starts. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

section before
variable (hO : Ok m) {c : Dev nD} (dat : Dat τ (Elt F) Unit ℕ (UR sig nD τ) ℕ (cfgM m hO) c)

theorem before0_0_of (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end before

abbrev ms0_0 (hO : Ok m) (t : Fin (cfgM m hO).N) : Memref sig .tc .vmem S512x2816 .bf16 := spec0_0.stage ((cfgM m hO).slots t 0)
abbrev hs0_0 (hO : Ok m) (t : Fin (cfgM m hO).N) : (ms0_0 m hO t).IsWhole := Facts₀.hstage0_0 (((cfgM m hO).slots t 0).cast Facts₀.nbuf0_0)
abbrev ms0_1 (hO : Ok m) (t : Fin (cfgM m hO).N) : Memref sig .tc .vmem S1x2816x2048 .fp8e4m3 := spec0_1.stage ((cfgM m hO).slots t 1)
abbrev hs0_1 (hO : Ok m) (t : Fin (cfgM m hO).N) : (ms0_1 m hO t).IsWhole := Facts₀.hstage0_1 (((cfgM m hO).slots t 1).cast Facts₀.nbuf0_1)
abbrev ms0_2 (hO : Ok m) (t : Fin (cfgM m hO).N) : Memref sig .tc .vmem S1x2816x2048 .fp8e4m3 := spec0_2.stage ((cfgM m hO).slots t 2)
abbrev hs0_2 (hO : Ok m) (t : Fin (cfgM m hO).N) : (ms0_2 m hO t).IsWhole := Facts₀.hstage0_2 (((cfgM m hO).slots t 2).cast Facts₀.nbuf0_2)
abbrev ms0_3 (hO : Ok m) (t : Fin (cfgM m hO).N) : Memref sig .tc .smem S8x22x16 .f32 := spec0_3.stage ((cfgM m hO).slots t 3)
abbrev hs0_3 (hO : Ok m) (t : Fin (cfgM m hO).N) : (ms0_3 m hO t).IsWhole := Facts₀.hstage0_3 (((cfgM m hO).slots t 3).cast Facts₀.nbuf0_3)
abbrev ms0_4 (hO : Ok m) (t : Fin (cfgM m hO).N) : Memref sig .tc .smem S8x22x16 .f32 := spec0_4.stage ((cfgM m hO).slots t 4)
abbrev hs0_4 (hO : Ok m) (t : Fin (cfgM m hO).N) : (ms0_4 m hO t).IsWhole := Facts₀.hstage0_4 (((cfgM m hO).slots t 4).cast Facts₀.nbuf0_4)
abbrev ms0_5 (hO : Ok m) (t : Fin (cfgM m hO).N) : Memref sig .tc .vmem S512x2048 .bf16 := spec0_5.stage ((cfgM m hO).slots t 5)
abbrev hs0_5 (hO : Ok m) (t : Fin (cfgM m hO).N) : (ms0_5 m hO t).IsWhole := Facts₀.hstage0_5 (((cfgM m hO).slots t 5).cast Facts₀.nbuf0_5)
abbrev scM0_0 : Memref sig .tc .vmem S512x2816 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the body assumes of the words it reads: the expert's scales lie inside their array. -/
def Hyps (hO : Ok m) : Prop :=
  ∀ t : Fin (cfgM m hO).N, k0_chk1 (word1 (F := F) (grid0.coords t) (tLo m)) (word1 (F := F) (grid0.coords t) (tHi m))
    (word1 (F := F) (grid0.coords t) (tE m))

/-! ## What every point leaves -/

section leaves
variable (hO : Ok m) (hH : Hyps m hO) (c : Dev nD)

/-- Point `n`. -/
def pt (n : ℕ) (h : n < 55) : Fin (cfgM m hO).N := ⟨n, h⟩

/-- The quantised row tile of point `t`. -/
def quantAt (t : Fin (cfgM m hO).N) : Vec F S512x2816 .bf16 := quantT (iblk m hO c 0 t)

/-- The output tile after point `t`, from the tile the point before left. -/
def stepAt (t : Fin (cfgM m hO).N) (o : Vec F S512x2048 .bf16) : Vec F S512x2048 .bf16 :=
  mlpV (iblk m hO c 1 t) (iblk m hO c 2 t) (iblk m hO c 3 t) (iblk m hO c 4 t) (quantAt m hO c t) _ _ _ (hH t)
    (outV (F := F) (grid0.coords t) (tT m) o)

/-- The output tile after point `n`. -/
def outAt : ℕ → Vec F S512x2048 .bf16
  | 0 => stepAt m hO hH c (pt m hO 0 (by decide)) (broadcast S512x2048 (Scalar.ofBits .bf16 0x0000#16 : F .bf16))
  | n + 1 => if h : n + 1 < 55 then stepAt m hO hH c (pt m hO (n + 1) h) (outAt n) else outAt n

/-- What holds beside the windows before point `n`: the scratch at the quantised tile of the point before. -/
def PhiAt : ℕ → sProp 𝕄
  | 0 => iprop(Pipeline.ΦA spec0 c ∗ Pipeline.ΦT pre0 (tbl m) c)
  | n + 1 => if h : n < 55 then
      iprop((owns (c : Thread nD τ) scM0_0 fullShare (quantAt m hO c (pt m hO n h)) ∗ (∃ r, prngReg c r)) ∗ Pipeline.ΦT pre0 (tbl m) c)
    else iprop(Pipeline.ΦA spec0 c ∗ Pipeline.ΦT pre0 (tbl m) c)

end leaves

/-- The proof data of the pipeline. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO hH c t.val
  Φ t := PhiAt m hO c t.val
  q _ := fullShare
  owed _ := 0

section
variable (hO : Ok m) (hH : Hyps m hO) (c : Dev nD)

theorem A_eq (w : Fin (cfgM m hO).W) : (dats m hO hH 0 c).A w = V m c (Pipeline.arrRef spec0 w) := by
  dsimp only [dats]
theorem after0_0 (t : Fin (cfgM m hO).N) : (dats m hO hH 0 c).after 0 t = iblk m hO c 0 t := by dsimp only [dats]; try rfl
theorem after0_1 (t : Fin (cfgM m hO).N) : (dats m hO hH 0 c).after 1 t = iblk m hO c 1 t := by dsimp only [dats]; try rfl
theorem after0_2 (t : Fin (cfgM m hO).N) : (dats m hO hH 0 c).after 2 t = iblk m hO c 2 t := by dsimp only [dats]; try rfl
theorem after0_3 (t : Fin (cfgM m hO).N) : (dats m hO hH 0 c).after 3 t = iblk m hO c 3 t := by dsimp only [dats]; try rfl
theorem after0_4 (t : Fin (cfgM m hO).N) : (dats m hO hH 0 c).after 4 t = iblk m hO c 4 t := by dsimp only [dats]; try rfl
theorem after0_5 (t : Fin (cfgM m hO).N) : (dats m hO hH 0 c).after 5 t = outAt m hO hH c t.val := by dsimp only [dats]; try rfl

theorem before0_0 (t : Fin (cfgM m hO).N) (d) : (dats m hO hH 0 c).before 0 t d = iblk m hO c 0 t :=
  before0_0_of m hO (dats m hO hH 0 c) (A_eq m hO hH c 0) (after0_0 m hO hH c) t d
theorem before0_1 (t : Fin (cfgM m hO).N) (d) : (dats m hO hH 0 c).before 1 t d = iblk m hO c 1 t :=
  before0_1_of m hO (dats m hO hH 0 c) (A_eq m hO hH c 1) (after0_1 m hO hH c) t d
theorem before0_2 (t : Fin (cfgM m hO).N) (d) : (dats m hO hH 0 c).before 2 t d = iblk m hO c 2 t :=
  before0_2_of m hO (dats m hO hH 0 c) (A_eq m hO hH c 2) (after0_2 m hO hH c) t d
theorem before0_3 (t : Fin (cfgM m hO).N) (d) : (dats m hO hH 0 c).before 3 t d = iblk m hO c 3 t :=
  before0_3_of m hO (dats m hO hH 0 c) (A_eq m hO hH c 3) (after0_3 m hO hH c) t d
theorem before0_4 (t : Fin (cfgM m hO).N) (d) : (dats m hO hH 0 c).before 4 t d = iblk m hO c 4 t :=
  before0_4_of m hO (dats m hO hH 0 c) (A_eq m hO hH c 4) (after0_4 m hO hH c) t d

/-- The point before. -/
abbrev pred (t : Fin (cfgM m hO).N) : Fin (cfgM m hO).N := ⟨t.val - 1, Nat.lt_of_le_of_lt (Nat.sub_le _ _) t.isLt⟩

theorem index5 (t : Fin (cfgM m hO).N) :
    ((cfgM m hO).win 5).index t = ![(word1 (F := F) (grid0.coords t) (tT m)).toNat, 0] := rfl

theorem index0 (t : Fin (cfgM m hO).N) :
    ((cfgM m hO).win 0).index t = ![(word1 (F := F) (grid0.coords t) (tT m)).toNat, 0] := rfl

theorem iblk0_apply (t : Fin (cfgM m hO).N) (y : S512x2816.Idx) (j : S24576x2816.Idx)
    (hj : ∀ a, (j a).val = (![(word1 (F := F) (grid0.coords t) (tT m)).toNat, 0] : Fin 2 → ℕ) a * S512x2816.size a + (y a).val) :
    iblk m hO c 0 t y = V m c main_arg0 j := by
  unfold iblk
  show V m c main_arg0 ((((cfgM m hO).win 0).rect t).emb y) = _
  congr 1
  funext a
  apply Fin.ext
  rw [hj a]
  refine (((cfgM m hO).win 0).rect_emb_val t y a).trans ?_
  rw [index0]
  rfl

/-! ## The output tile between points -/

theorem off1_in (i : grid0.Coords) : ∀ a : Fin 1, k0_off1 i a + 1 ≤ S55.size a := fun a => by
  have := Facts₀.k0_off1_inb i a
  fin_cases a
  exact this
theorem off2_in (i : grid0.Coords) : ∀ a : Fin 1, k0_off2 i a + 1 ≤ S55.size a := fun a => by
  have := Facts₀.k0_off2_inb i a
  fin_cases a
  exact this

theorem atD_word1 (pf : pre0.Contents (Elt F)) (i : grid0.Coords) : pf.atD 1 (k0_off1 i) = word1 (F := F) i (pf 1) := by
  have h : ∀ a : Fin (pre0.ref 1).ty.shape.rank, k0_off1 i a + 1 ≤ (pre0.ref 1).ty.shape.size a := off1_in i
  exact (dif_pos h).trans (by unfold word1; congr 1)
theorem atD_word2 (pf : pre0.Contents (Elt F)) (i : grid0.Coords) : pf.atD 1 (k0_off2 i) = word2 (F := F) i (pf 1) := by
  have h : ∀ a : Fin (pre0.ref 1).ty.shape.rank, k0_off2 i a + 1 ≤ (pre0.ref 1).ty.shape.size a := off2_in i
  exact (dif_pos h).trans (by unfold word2; congr 1)
theorem atD_lo (pf : pre0.Contents (Elt F)) (i : grid0.Coords) : pf.atD 2 (k0_off1 i) = word1 (F := F) i (pf 2) := by
  have h : ∀ a : Fin (pre0.ref 2).ty.shape.rank, k0_off1 i a + 1 ≤ (pre0.ref 2).ty.shape.size a := off1_in i
  exact (dif_pos h).trans (by unfold word1; congr 1)
theorem atD_hi (pf : pre0.Contents (Elt F)) (i : grid0.Coords) : pf.atD 3 (k0_off1 i) = word1 (F := F) i (pf 3) := by
  have h : ∀ a : Fin (pre0.ref 3).ty.shape.rank, k0_off1 i a + 1 ≤ (pre0.ref 3).ty.shape.size a := off1_in i
  exact (dif_pos h).trans (by unfold word1; congr 1)

theorem idle5_of (pf : pre0.Contents (Elt F)) (i : grid0.Coords) (h : idle0 pf 5 i = true) :
    ¬ opens (F := F) i (pf 1) ∧ ¬ k0_cond2 (word1 (F := F) i (pf 2)) (word1 (F := F) i (pf 3)) = 1#1 := by
  have h' : (!(k0_cond1 i (pf.atD 1 (k0_off1 i)) (pf.atD 1 (k0_off2 i)) == 1#1)
      && !(k0_cond2 (pf.atD 2 (k0_off1 i)) (pf.atD 3 (k0_off1 i)) == 1#1)) = true := h
  rw [atD_word1, atD_word2, atD_lo, atD_hi] at h'
  simp only [Bool.and_eq_true, Bool.not_eq_true', beq_eq_false_iff_ne, ne_eq] at h'
  exact h'

/-- A point is idle for the output tile when it neither opens a tile nor holds a row. -/
theorem idle5 (i : grid0.Coords) (h : (cfgM m hO).idle 5 i = true) :
    ¬ opens (F := F) i (tT m) ∧ ¬ k0_cond2 (word1 (F := F) i (tLo m)) (word1 (F := F) i (tHi m)) = 1#1 :=
  idle5_of (tbl m) i h

/-- Where the output buffer is fresh a tile is opened. -/
theorem fresh_opens : ∀ (n : ℕ) (h : n < 55), (cfgM m hO).fresh 5 n = true →
    opens (F := F) (grid0.coords (pt m hO n h)) (tT m)
  | 0, h, _ => (opens_iff (⟨0, h⟩ : Fin 55) (tT m)).mpr (.inl rfl)
  | n + 1, h, hf => by
    have hN : n < (cfgM m hO).N := Nat.lt_of_succ_lt h
    rw [(cfgM m hO).fresh_succ 5 n hN, Bool.or_eq_true, Bool.and_eq_true] at hf
    rcases hf with hf | ⟨hi, hf⟩
    · rw [((cfgM m hO).win 5).flush_out rfl] at hf
      rcases hf with hf | ⟨h1, hf⟩
      · exact absurd (show n + 1 = 55 from hf) (by omega)
      · refine (opens_iff (⟨n + 1, h⟩ : Fin 55) (tT m)).mpr (.inr fun hw => hf ?_)
        rw [word2_eq (⟨n + 1, h⟩ : Fin 55) (Nat.succ_ne_zero n)] at hw
        rw [index5, index5]
        exact congrArg (fun w : BitVec 32 => ![w.toNat, 0]) hw
    · exact absurd (fresh_opens n (Nat.lt_of_succ_lt h) hf) (idle5 m hO _ hi).1

theorem outAt_idle (n : ℕ) (h : n + 1 < 55) (hi : (cfgM m hO).idle 5 (grid0.coords (pt m hO (n + 1) h)) = true) :
    outAt m hO hH c (n + 1) = outAt m hO hH c n := by
  have := idle5 m hO _ hi
  rw [outAt, dif_pos h]
  unfold stepAt mlpV outV
  rw [dif_neg this.2, if_neg this.1]

theorem before0_5 (t : Fin (cfgM m hO).N) (d) : (dats m hO hH 0 c).before 5 t d
    = if (cfgM m hO).fresh 5 t.val then d else outAt m hO hH c (t.val - 1) := by
  rw [(dats m hO hH 0 c).before_out_traj 5 rfl (fun _ _ => rfl) ?_ t.val t rfl d]
  · rfl
  · rintro ⟨n, hn⟩ h0 hi _
    rw [after0_5, after0_5]
    obtain ⟨k, rfl⟩ : ∃ k, n = k + 1 := ⟨n - 1, by have : n ≠ 0 := h0; omega⟩
    exact outAt_idle m hO hH c k hn hi

/-- A point that opens no tile shows the row tile of the point before. -/
theorem quantAt_kept (n : ℕ) (h : n + 1 < 55) (ho : ¬ opens (F := F) (grid0.coords (pt m hO (n + 1) h)) (tT m)) :
    quantAt m hO c (pt m hO (n + 1) h) = quantAt m hO c (pt m hO n (Nat.lt_of_succ_lt h)) := by
  have ho' := fun hh => ho ((opens_iff (⟨n + 1, h⟩ : Fin 55) (tT m)).mpr (.inr hh))
  rw [word2_eq (⟨n + 1, h⟩ : Fin 55) (Nat.succ_ne_zero n)] at ho'
  have hw : word1 (F := F) (grid0.coords (pt m hO (n + 1) h)) (tT m) = word1 (F := F) (grid0.coords (pt m hO n (Nat.lt_of_succ_lt h))) (tT m) :=
    Classical.byContradiction ho'
  unfold quantAt
  congr 1
  funext y
  have e : ∀ a, ((((cfgM m hO).win 0).rect (pt m hO n (Nat.lt_of_succ_lt h))).emb y a).val
      = (![(word1 (F := F) (grid0.coords (pt m hO n (Nat.lt_of_succ_lt h))) (tT m)).toNat, 0] : Fin 2 → ℕ) a * S512x2816.size a + (y a).val := by
    intro a
    refine (((cfgM m hO).win 0).rect_emb_val (pt m hO n (Nat.lt_of_succ_lt h)) y a).trans ?_
    rw [index0]
    rfl
  refine (iblk0_apply m hO c (pt m hO (n + 1) h) y _ ?_).trans (iblk0_apply m hO c (pt m hO n (Nat.lt_of_succ_lt h)) y _ e).symm
  intro a
  rw [hw]
  exact e a

/-! ## The body at a point -/

theorem scrV_opens (t : Fin (cfgM m hO).N) (x s : Vec F S512x2816 .bf16) (h : opens (F := F) (grid0.coords t) (tT m)) :
    scrV (F := F) (grid0.coords t) (tT m) x s = quantT x := by unfold scrV; rw [if_pos h]
theorem scrV_keeps (t : Fin (cfgM m hO).N) (x s : Vec F S512x2816 .bf16) (h : ¬ opens (F := F) (grid0.coords t) (tT m)) :
    scrV (F := F) (grid0.coords t) (tT m) x s = s := by unfold scrV; rw [if_neg h]
theorem outV_opens (t : Fin (cfgM m hO).N) (o o' : Vec F S512x2048 .bf16) (h : opens (F := F) (grid0.coords t) (tT m)) :
    outV (F := F) (grid0.coords t) (tT m) o = outV (F := F) (grid0.coords t) (tT m) o' := by unfold outV; rw [if_pos h, if_pos h]

/-- What the body finds in the scratch is right for it: it quantises afresh, or the tile is the one quantised before. -/
def FindsS (t : Fin (cfgM m hO).N) (s : Vec F S512x2816 .bf16) : Prop :=
  scrV (F := F) (grid0.coords t) (tT m) (iblk m hO c 0 t) s = quantAt m hO c t

theorem Phi_before (t : Fin (cfgM m hO).N) : PhiAt m hO c t.val
    ⊢ (iprop(((∃ s, ⌜FindsS m hO c t s⌝ ∗ owns (c : Thread nD τ) scM0_0 fullShare s) ∗ (∃ r, prngReg c r)) ∗ Pipeline.ΦT pre0 (tbl m) c) : sProp 𝕄) := by
  obtain ⟨n, hn⟩ := t
  cases n with
  | zero =>
    rw [PhiAt, PhiA0_eq]
    iintro ⟨⟨⟨%d, HS⟩, Hg⟩, HT⟩
    isplitl [HS Hg]
    · isplitl [HS]
      · iexists d
        isplitr [HS]
        · ipureintro
          exact scrV_opens m hO ⟨0, hn⟩ _ _ ((opens_iff (⟨0, hn⟩ : Fin 55) (tT m)).mpr (.inl rfl))
        iexact HS
      iexact Hg
    iexact HT
  | succ n =>
    rw [PhiAt, dif_pos (Nat.lt_of_succ_lt hn : n < 55)]
    iintro ⟨⟨HS, Hg⟩, HT⟩
    isplitl [HS Hg]
    · isplitl [HS]
      · iexists _
        isplitr [HS]
        · ipureintro
          show FindsS m hO c ⟨n + 1, hn⟩ (quantAt m hO c (pt m hO n (Nat.lt_of_succ_lt hn)))
          unfold FindsS
          by_cases ho : opens (F := F) (grid0.coords (pt m hO (n + 1) hn)) (tT m)
          · exact scrV_opens m hO (pt m hO (n + 1) hn) _ _ ho
          · exact (scrV_keeps m hO (pt m hO (n + 1) hn) _ _ ho).trans (quantAt_kept m hO c n hn ho).symm
        iexact HS
      iexact Hg
    iexact HT

theorem Phi_after (t : Fin (cfgM m hO).N) : PhiAt m hO c (t.val + 1)
    = (iprop((owns (c : Thread nD τ) scM0_0 fullShare (quantAt m hO c t) ∗ (∃ r, prngReg c r)) ∗ Pipeline.ΦT pre0 (tbl m) c) : sProp 𝕄) := by
  rw [PhiAt, dif_pos (show t.val < 55 from t.isLt)]
  rfl

/-- What the body makes of the output buffer it finds. -/
theorem step_before (t : Fin (cfgM m hO).N) (d) :
    stepAt m hO hH c t ((dats m hO hH 0 c).before 5 t d) = outAt m hO hH c t.val := by
  by_cases hf : (cfgM m hO).fresh 5 t.val = true
  · have ho : opens (F := F) (grid0.coords t) (tT m) := fresh_opens m hO t.val t.isLt hf
    have hs : ∀ o o', stepAt m hO hH c t o = stepAt m hO hH c t o' := fun o o' => by
      unfold stepAt
      congr 1
      exact outV_opens m hO t _ _ ho
    obtain ⟨n, hn⟩ := t
    cases n with
    | zero => rw [outAt]; exact hs _ _
    | succ n => rw [outAt, dif_pos (show n + 1 < 55 from hn)]; exact hs _ _
  · have hb : (dats m hO hH 0 c).before 5 t d = outAt m hO hH c (t.val - 1) := (before0_5 m hO hH c t d).trans (if_neg hf)
    rw [hb]
    obtain ⟨n, hn⟩ := t
    cases n with
    | zero => exact absurd ((cfgM m hO).fresh_zero 5) hf
    | succ n => rw [outAt, dif_pos (show n + 1 < 55 from hn)]; rfl

/-- What is said of the output buffer after the body. -/
def outPost (t : Fin (cfgM m hO).N) : sProp 𝕄 :=
  match (cfgM m hO).idle 5 (grid0.coords t) with
  | true =>
    match ((cfgM m hO).win 5).flush t with
    | false => iprop(∃ d, owns (c : Thread nD τ) (ms0_5 m hO t) fullShare ((dats m hO hH 0 c).before 5 t d))
    | true => owns (c : Thread nD τ) (ms0_5 m hO t) fullShare ((dats m hO hH 0 c).after 5 t)
  | false => owns (c : Thread nD τ) (ms0_5 m hO t) fullShare ((dats m hO hH 0 c).after 5 t)

theorem outPost_of (t : Fin (cfgM m hO).N) :
    (owns (c : Thread nD τ) (ms0_5 m hO t) fullShare (outAt m hO hH c t.val) : sProp 𝕄) ⊢ outPost m hO hH c t := by
  have h5 := after0_5 m hO hH c t
  unfold outPost
  rw [h5]
  split
  · rename_i hi
    split
    · have hb : ∀ d, (dats m hO hH 0 c).before 5 t d = outAt m hO hH c t.val := by
        intro d
        have ho := (idle5 m hO _ hi).1
        have hf : ¬ (cfgM m hO).fresh 5 t.val = true := fun hf => ho (fresh_opens m hO t.val t.isLt hf)
        refine (before0_5 m hO hH c t d).trans ((if_neg hf).trans ?_)
        obtain ⟨n, hn⟩ := t
        cases n with
        | zero => exact absurd ((cfgM m hO).fresh_zero 5) hf
        | succ n => exact (outAt_idle m hO hH c n hn hi).symm
      iintro H
      iexists (fun _ => default)
      rw [hb]
      iexact H
    · iintro H; iexact H
  · iintro H; iexact H

def bodyPre (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d)))

def bodyPost (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ outPost m hO hH c t)

/-- The body as the pipeline calls it at point `t`. -/
abbrev bodyAt (t : Fin (cfgM m hO).N) : Pg F PUnit :=
  body (F := F) (grid0.coords t) tbM0_0 tbM0_1 tbM0_2 tbM0_3 (ms0_0 m hO t) (ms0_1 m hO t) (ms0_2 m hO t) (ms0_3 m hO t)
    (ms0_4 m hO t) (ms0_5 m hO t) (hs0_5 m hO t) scM0_0 (Memref.isWhole_whole _)

theorem sound_body (t : Fin (cfgM m hO).N) :
    bodyPre m hO hH c t ⊢ wp frame (wpE (defs₀ (F := F)) Variants.none c none) Set.univ (bodyAt m hO t) (fun _ => bodyPost m hO hH c t) := by
  unfold bodyPre bodyPost
  simp only [before0_0, before0_1, before0_2, before0_3, before0_4]
  rw [show (dats m hO hH 0 c).Φ t.castSucc = PhiAt m hO c t.val from rfl, show (dats m hO hH 0 c).Φ t.succ = PhiAt m hO c (t.val + 1) from rfl,
    show (dats m hO hH 0 c).owesAt () t.succ = (dats m hO hH 0 c).owesAt () t.castSucc from rfl,
    after0_0, after0_1, after0_2, after0_3, after0_4, Phi_after]
  iintro ⟨HP, Ho, ⟨%d0, H0⟩, ⟨%d1, H1⟩, ⟨%d2, H2⟩, ⟨%d3, H3⟩, ⟨%d4, H4⟩, ⟨%d5, H5⟩⟩
  ihave HP' := (Phi_before m hO c t) $$ HP
  rw [PhiT0_eq]
  icases HP' with ⟨⟨⟨%s, %hs, HS⟩, Hg⟩, HT⟩
  unfold FindsS at hs
  iapply (wp_body c Set.univ (grid0.coords t) tbM0_0 tbM0_1 tbM0_2 tbM0_3 (ms0_0 m hO t) (ms0_1 m hO t) (ms0_2 m hO t) (ms0_3 m hO t)
    (ms0_4 m hO t) (ms0_5 m hO t) (hs0_5 m hO t) scM0_0 (Memref.isWhole_whole _)
    (iblk m hO c 1 t) (iblk m hO c 2 t) (iblk m hO c 3 t) (iblk m hO c 4 t) (iblk m hO c 0 t) s ((dats m hO hH 0 c).before 5 t d5)
    (tE m) (tT m) (tLo m) (tHi m) fullShare.right (hH t) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [HS]; · iexact HS
  rw [hs]
  iintro ⟨HT, H0, H1, H2, H3, H4, H5, HS⟩
  ihave H5' : (owns (c : Thread nD τ) (ms0_5 m hO t) fullShare (outAt m hO hH c t.val)) $$ [H5]
  · rw [← step_before m hO hH c t d5]; iexact H5
  isplitl [HS Hg HT]
  · isplitl [HS Hg]
    · isplitl [HS]; · iexact HS
      iexact Hg
    iexact HT
  isplitl [Ho]; · iexact Ho
  isplitl [H0]; · iexact H0
  isplitl [H1]; · iexact H1
  isplitl [H2]; · iexact H2
  isplitl [H3]; · iexact H3
  isplitl [H4]; · iexact H4
  iapply (outPost_of m hO hH c t)
  iexact H5'

theorem defs₀_row (t : Fin (cfgM m hO).N) :
    defs₀ (F := F) .tc (cfgM m hO).body ((cfgM m hO).bodyArgs t ((cfgM m hO).slots t)) = bodyAt m hO t := by
  unfold defs₀; rw [Defs.onTc_tc]
  exact body_eq ..

theorem body_obligation : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run -/

theorem Phi_in : iprop(Pipeline.ΦA spec0 c ∗ Pipeline.ΦT pre0 (tbl m) c) ⊢ (dats (F := F) m hO hH 0 c).Φ 0 := .rfl

theorem Phi_out : (dats (F := F) m hO hH 0 c).Φ (Fin.last (cfgM m hO).N) ⊢ (Pipeline.ΦA spec0 c : sProp 𝕄) := by
  show PhiAt m hO c ((⟨54, by show 54 < 55; decide⟩ : Fin (cfgM m hO).N).val + 1) ⊢ _
  rw [Phi_after, PhiA0_eq]
  iintro ⟨⟨HS, Hg⟩, -⟩
  isplitl [HS]
  · iexists _; iexact HS
  iexact Hg

end

set_option backward.isDefEq.respectTransparency.types false in
/-- The launch: every run ends, each window's array at what the points wrote back, every other buffer as the pipeline found it,
    every semaphore at zero. -/
theorem run_main (hO : Ok m) (hH : Hyps m hO) : θ_run defs (onTc (τ := τ) (main (F := F))) (s₀ m ρ)
    (fun r => Pipeline.FramePost (Pipeline.pin pcfgs fun _ => adm m hO) (dats m hO hH) 0 (V m) r ∧ r.2.sem = fun _ => 0) :=
  Pipeline.θ_run_frameP_track (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hin := fun c => Phi_in m hO hH c) (hout := fun c => Phi_out m hO hH c)

end Cert.Kernel.Body
-- ==== Proof.Words.Tables.lean ====
module

public import proofs.«01_k».proof.Proof.Words.Kit
public import proofs.«01_k».proof.Proof.Plan
public import Idealize.ShloMosaic.Lib.StableHlo.RunRead

/-!
# The prefetched tables

The host operations before the launch compute the four tables of the plan.
-/

@[expose] public section

set_option maxRecDepth 16384

noncomputable section

namespace Cert.Kernel.Body

open Idealize.ShloMosaic Idealize.ShloMosaic.TcCoe Idealize.ShloMosaic.Tactic
open Idealize.ShloMosaic.ValueIdx
open Cert.Kernel Cert.Kernel.Facts₀ Cert.Kernel.Facts Cert.Kernel.Gen

variable {F : FTy → Type} [FloatOps F]
variable (m : (ℓ : Loc nD τ sig) → Buf (Elt F) ℓ)

theorem sides : Plan.Sides :=
  ⟨Gen.bcast_S_S_, Gen.bcast_S_S8, Gen.bcast_S_S55, Gen.bcast_S8_S1x8_1, Gen.bcast_S1x8_S55x8_0_1, Gen.bcast_S55_S55x1_0, Gen.bcast_S55x1_S55x8_0_1,
    Gen.reduceWindows_S8_S8_w8s1p7_0, Gen.reducesTo_S55x8_S55_d1, Gen.h_S_, Gen.natLt_1_32, Gen.slices_S8_S1_7, Gen.shapeCasts_S1_S_,
    Gen.gather_S8_S55x1_S55_n_0_n_n_0_1_1_wf⟩

/-- The lengths of the runs. -/
def gsz : IVec S8 32 := m ((0 : Dev nD), main_arg1)

set_option maxHeartbeats 4000000 in
theorem tE_eq : tE m = Plan.w27 sides (gsz m) := by
  unfold tE tbl
  show V m 0 main_v27 = _
  unfold V
  after_reads_simp
  simp -implicitDefEqProofs only [StableHlo.TRef.toBuf, StableHlo.TRef.ofBuf, cast_cast, cast_eq]
  rfl

set_option maxHeartbeats 4000000 in
theorem tT_eq : tT m = Plan.w44 sides (gsz m) := by
  unfold tT tbl
  show V m 0 main_v44 = _
  unfold V
  after_reads_simp
  simp -implicitDefEqProofs only [StableHlo.TRef.toBuf, StableHlo.TRef.ofBuf, cast_cast, cast_eq]
  rfl

set_option maxHeartbeats 4000000 in
theorem tLo_eq : tLo m = Plan.w56 sides (gsz m) := by
  unfold tLo tbl
  show V m 0 main_v56 = _
  unfold V
  after_reads_simp
  simp -implicitDefEqProofs only [StableHlo.TRef.toBuf, StableHlo.TRef.ofBuf, cast_cast, cast_eq]
  rfl

set_option maxHeartbeats 4000000 in
theorem tHi_eq : tHi m = Plan.w71 sides (gsz m) := by
  unfold tHi tbl
  show V m 0 main_v71 = _
  unfold V
  after_reads_simp
  simp -implicitDefEqProofs only [StableHlo.TRef.toBuf, StableHlo.TRef.ofBuf, cast_cast, cast_eq]
  rfl

/-! The host operations write none of the arguments. -/

theorem V_arg0 (c : Dev nD) : V m c main_arg0 = m (c, main_arg0) := by
  unfold V; after_reads_simp
theorem V_arg1 (c : Dev nD) : V m c main_arg1 = m (c, main_arg1) := by
  unfold V; after_reads_simp
theorem V_arg2 (c : Dev nD) : V m c main_arg2 = m (c, main_arg2) := by
  unfold V; after_reads_simp
theorem V_arg3 (c : Dev nD) : V m c main_arg3 = m (c, main_arg3) := by
  unfold V; after_reads_simp
theorem V_arg4 (c : Dev nD) : V m c main_arg4 = m (c, main_arg4) := by
  unfold V; after_reads_simp
theorem V_arg5 (c : Dev nD) : V m c main_arg5 = m (c, main_arg5) := by
  unfold V; after_reads_simp

end Cert.Kernel.Body

end
-- ==== Proof.Words.Frame.lean ====
module

public import proofs.«01_k».proof.Proof.Words.Tables
public import proofs.«01_k».proof.Proof.Cut

/-!
# The run leaves the arguments as they were

Where the lengths of the runs cut the rows, the four tables name tiles and experts that exist. So every block of the
launch is inside its array and every access of the body is inside its buffer, and the run of the launch applies.
-/

@[expose] public section

set_option maxRecDepth 16384

noncomputable section

namespace Cert.Kernel.Body

open Idealize.ShloMosaic Idealize.ShloMosaic.TcCoe Idealize.ShloMosaic.Tactic
open Idealize.ShloMosaic.ValueIdx Idealize.ShloMosaic.Routing
open Cert.Kernel Cert.Kernel.Facts₀ Cert.Kernel.Facts Cert.Kernel.Gen

variable {F : FTy → Type} [FloatOps F]

/-- A point's word of a table is the entry at the point's number. -/
theorem word1_at (i : grid0.Coords) (T : Vec F S55 .i32) (p : Fin 55) (hp : (i 0).val = p.val) : word1 (F := F) i T = T (ValueIdx.ix1 p) := by
  show T _ = T _
  congr 1
  refine funext fun a => Fin.ext ?_
  match a with
  | ⟨0, _⟩ =>
    show (BitVec.ofNat 32 (i 0).val).toNat + 0 * 1 = p.val
    have := p.isLt
    rw [hp, BitVec.toNat_ofNat]
    omega

variable (m : (ℓ : Loc nD τ sig) → Buf (Elt F) ℓ) (ρ : Dev nD → PrngReg)
variable {G : ℕ → ℕ} (hG : Plan.Cut (gsz m) G)
include hG

theorem E_at (i : grid0.Coords) : word1 (F := F) i (tE m) = BitVec.ofNat 32 (Plan.ex G (i 0).val) :=
  (word1_at i (tE m) (i 0) rfl).trans ((congrFun (tE_eq m) (ValueIdx.ix1 (i 0))).trans (Plan.w27_at G sides (gsz m) hG.at_ hG.all (i 0)))
theorem T_at (i : grid0.Coords) : word1 (F := F) i (tT m) = BitVec.ofNat 32 (Plan.tile G (i 0).val) :=
  (word1_at i (tT m) (i 0) rfl).trans ((congrFun (tT_eq m) (ValueIdx.ix1 (i 0))).trans (Plan.w44_at G sides (gsz m) hG.at_ hG.all (i 0)))
theorem Lo_at (i : grid0.Coords) : word1 (F := F) i (tLo m) = BitVec.ofNat 32 (Plan.lo G (i 0).val) :=
  (word1_at i (tLo m) (i 0) rfl).trans ((congrFun (tLo_eq m) (ValueIdx.ix1 (i 0))).trans (Plan.w56_at G sides (gsz m) hG.at_ hG.all (i 0)))
theorem Hi_at (i : grid0.Coords) : word1 (F := F) i (tHi m) = BitVec.ofNat 32 (Plan.hi G (i 0).val) :=
  (word1_at i (tHi m) (i 0) rfl).trans ((congrFun (tHi_eq m) (ValueIdx.ix1 (i 0))).trans (Plan.w71_at G sides (gsz m) hG.at_ hG.all (i 0)))

theorem E_nat (i : grid0.Coords) : (word1 (F := F) i (tE m)).toNat = Plan.ex G (i 0).val := by
  have := (Plan.ex_spec G hG.all (i 0).val).1
  rw [E_at m hG, BitVec.toNat_ofNat]; omega
theorem T_nat (i : grid0.Coords) : (word1 (F := F) i (tT m)).toNat = Plan.tile G (i 0).val := by
  have := (Plan.tile_spec G hG.all (i 0).val).2.2.2
  rw [T_at m hG, BitVec.toNat_ofNat]; omega

theorem E_lt (i : grid0.Coords) : (word1 (F := F) i (tE m)).toNat < 8 := by
  rw [E_nat m hG]; exact (Plan.ex_spec G hG.all (i 0).val).1
theorem T_lt (i : grid0.Coords) : (word1 (F := F) i (tT m)).toNat < 48 := by
  rw [T_nat m hG]; exact (Plan.tile_spec G hG.all (i 0).val).2.2.2

omit hG in
theorem tile_in {w : ℕ} (v : BitVec 32) (hv : v.toNat < 48) :
    ∀ a, (![v.toNat, (0#32).toNat] a + 1) * (⟨2, ![512, w]⟩ : Shape).size a ≤ (⟨2, ![24576, w]⟩ : Shape).size a := fun a => by
  match a with
  | ⟨0, _⟩ => show (v.toNat + 1) * 512 ≤ 24576; omega
  | ⟨1, _⟩ => show (0 + 1) * w ≤ w; omega

omit hG in
theorem expert_in (v : BitVec 32) (hv : v.toNat < 8) :
    ∀ a, (![v.toNat, (0#32).toNat, (0#32).toNat] a + 1) * S1x2816x2048.size a ≤ S8x2816x2048.size a := fun a => by
  match a with
  | ⟨0, _⟩ => show (v.toNat + 1) * 1 ≤ 8; omega
  | ⟨1, _⟩ => show (0 + 1) * 2816 ≤ 2816; omega
  | ⟨2, _⟩ => show (0 + 1) * 2048 ≤ 2048; omega

/-- Every block of the launch is inside its array. -/
theorem ok : Ok m := by
  refine ⟨fun i => ⟨tile_in _ (T_lt m hG i), .inr ?_⟩, fun i => ⟨expert_in _ (E_lt m hG i), .inr ?_⟩,
    fun i => ⟨expert_in _ (E_lt m hG i), .inr ?_⟩, fun i => ⟨tile_in _ (T_lt m hG i), .inr ?_⟩⟩
  · exact Affine.block_words_dvd (by decide) (by decide)
  · exact Affine.block_words_rows (by decide) rfl
  · exact Affine.block_words_rows (by decide) rfl
  · exact Affine.block_words_dvd (by decide) (by decide)

omit hG in
theorem scale_in (v : BitVec 32) (hv : v.toNat < 8) (r c : ℕ) (hr : r < 22) (hc : c < 16) :
    ∀ a, ![v.toNat, r, c] a + S1x1x1.size a ≤ S8x22x16.size a := fun a => by
  match a with
  | ⟨0, _⟩ => show v.toNat + 1 ≤ 8; omega
  | ⟨1, _⟩ => show r + 1 ≤ 22; omega
  | ⟨2, _⟩ => show c + 1 ≤ 16; omega

omit hG in
/-- Where the expert exists, every scale the body reads is inside its array. -/
theorem chk (v1 v3 v5 : BitVec 32) (h : v5.toNat < 8) : k0_chk1 v1 v3 v5 := by
  unfold k0_chk1 k0_chk1_0 k0_chk1_1 k0_chk1_2 k0_chk1_3 k0_chk1_4 k0_chk1_5 k0_chk1_6 k0_chk1_7 k0_chk1_8 k0_chk1_9 k0_chk1_10
  repeat' first
    | apply And.intro
    | exact fun _ => scale_in v5 h _ _ (by decide) (by decide)

theorem hyps : Hyps m (ok m hG) := fun t => chk _ _ _ (E_lt m hG _)

set_option maxHeartbeats 1000000 in
/-- The run of the program, the arguments unchanged and the counters at zero, with what the launch leaves. -/
theorem frame_value : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)
      ∧ ∀ c : Dev nD, r.2.mem ((c.tc : Thread nD τ).loc main_v72) = (dats m (ok m hG) (hyps m hG) 0 c).arrAt 5 (cfgM m (ok m hG)).N) := by
  refine (θ_run defs _ _).mono (fun r h => ?_) (run_main m ρ (ok m hG) (hyps m hG))
  obtain ⟨hF, hs⟩ := h
  have hin : ∀ (c : Dev nD) (w : Fin (cfgM m (ok m hG)).W), ((cfgM m (ok m hG)).win w).isOut = false →
      r.2.mem (((cfgM m (ok m hG)).spec w).arr.view.loc (c.tc : Thread nD τ)) = V m c (Pipeline.arrRef spec0 w) := fun c w hw =>
    ((hF c).1 w).trans ((((dats m (ok m hG) (hyps m hG) 0 c).arrAt_in w hw _)).trans (A_eq m (ok m hG) (hyps m hG) c w))
  refine ⟨⟨fun c => ⟨?_, ?_, ?_, ?_, ?_, ?_⟩, hs⟩, fun c => (hF c).1 5⟩
  · exact (hin c 0 rfl).trans (V_arg0 m c)
  · exact ((hF c).2 main_arg1 (show main_arg1 ∈ Pipeline.restRefs sig spec0 by decide +kernel)).trans (V_arg1 m c)
  · exact (hin c 1 rfl).trans (V_arg2 m c)
  · exact (hin c 3 rfl).trans (V_arg3 m c)
  · exact (hin c 2 rfl).trans (V_arg4 m c)
  · exact (hin c 4 rfl).trans (V_arg5 m c)

end Cert.Kernel.Body

end
-- ==== Proof.PlanRows.lean ====
module

public import proofs.«01_k».proof.Proof.Plan

/-!
# How the points follow each other

From one live point to the next either the expert goes on into the next tile, or the next expert with rows begins in
the same tile or at its end: no row is left out and none is visited twice.
-/

@[expose] public section

namespace Cert.Plan

variable (G : ℕ → ℕ) (h : pre G 8 = 24576)
include h

/-- Runs without rows between two runs take no points and no rows. -/
theorem pre_eq_of_D_eq (a b : ℕ) (hab : a ≤ b) (hD : D G a = D G b) : pre G a = pre G b := by
  induction hab with
  | refl => rfl
  | @step b hab ih =>
    have h1 : D G (b + 1) = D G b + cnt G b := D_succ G b
    have h2 : D G a ≤ D G b := pre_mono _ hab
    have h3 := pre_succ G b
    have hD' : D G a = D G (b + 1) := hD
    have hc : cnt G b = 0 := by omega
    have hg : G b = 0 := by
      unfold cnt at hc
      by_contra hg
      rw [if_pos (by omega)] at hc
      omega
    have := ih (by omega)
    show pre G a = pre G (b + 1)
    omega

theorem q_live (p : ℕ) (hp : p < total G) : q G p = p := by unfold q; omega

/-- The first point is at the first tile and the first row. -/
theorem first : tile G 0 = 0 ∧ pre G (ex G 0) = 0 := by
  obtain ⟨e1, e2, e3⟩ := ex_spec G h 0
  obtain ⟨t1, t2, t3, t4⟩ := tile_spec G h 0
  have hq : q G 0 = 0 := by unfold q; omega
  have hp := pre_eq_of_D_eq G h 0 (ex G 0) (Nat.zero_le _) (by have : D G 0 = 0 := rfl; omega)
  have h0 : pre G 0 = 0 := rfl
  refine ⟨?_, by omega⟩
  unfold tile
  omega

/-- The last live point ends the rows. -/
theorem last (p : ℕ) (hp : p + 1 = total G) : pre G (ex G p + 1) = 24576 ∧ tile G p = 47 := by
  obtain ⟨e1, e2, e3⟩ := ex_spec G h p
  obtain ⟨t1, t2, t3, t4⟩ := tile_spec G h p
  have hq := q_live G h p (by omega)
  have hm : D G (ex G p + 1) ≤ D G 8 := pre_mono _ (by omega)
  have hT : total G = D G 8 := rfl
  have hpre := pre_eq_of_D_eq G h (ex G p + 1) 8 (by omega) (by omega)
  have hc : D G (ex G p + 1) = D G (ex G p) + cnt G (ex G p) := D_succ G _
  refine ⟨by omega, ?_⟩
  unfold cnt at hc
  rw [if_pos t1] at hc
  unfold tile
  omega

/-- From a live point to the next live point. -/
theorem next (p : ℕ) (hp : p + 1 < total G) :
    (ex G (p + 1) = ex G p ∧ tile G (p + 1) = tile G p + 1 ∧ 512 * (tile G p + 1) ≤ pre G (ex G p + 1))
    ∨ (pre G (ex G (p + 1)) = pre G (ex G p + 1) ∧ tile G (p + 1) = pre G (ex G p + 1) / 512
        ∧ tile G p = (pre G (ex G p + 1) - 1) / 512 ∧ 0 < pre G (ex G p + 1) ∧ ex G p < ex G (p + 1)) := by
  obtain ⟨e1, e2, e3⟩ := ex_spec G h p
  obtain ⟨t1, t2, t3, t4⟩ := tile_spec G h p
  obtain ⟨e1', e2', e3'⟩ := ex_spec G h (p + 1)
  obtain ⟨t1', t2', t3', t4'⟩ := tile_spec G h (p + 1)
  have hq := q_live G h p (by omega)
  have hq' := q_live G h (p + 1) hp
  have hc : D G (ex G p + 1) = D G (ex G p) + cnt G (ex G p) := D_succ G _
  have hs : pre G (ex G p + 1) = pre G (ex G p) + G (ex G p) := pre_succ G _
  have ht : tile G p = pre G (ex G p) / 512 + q G p - D G (ex G p) := rfl
  have ht' : tile G (p + 1) = pre G (ex G (p + 1)) / 512 + q G (p + 1) - D G (ex G (p + 1)) := rfl
  unfold cnt at hc
  rw [if_pos t1] at hc
  by_cases hlast : p + 1 < D G (ex G p + 1)
  · have he : ex G (p + 1) = ex G p := by
      rcases lt_trichotomy (ex G (p + 1)) (ex G p) with hh | hh | hh
      · have : D G (ex G (p + 1) + 1) ≤ D G (ex G p) := pre_mono _ hh
        omega
      · exact hh
      · have : D G (ex G p + 1) ≤ D G (ex G (p + 1)) := pre_mono _ hh
        omega
    left
    rw [he] at ht'
    exact ⟨he, by omega, by omega⟩
  · have hlt : ex G p < ex G (p + 1) := by
      by_contra hh
      have : D G (ex G (p + 1) + 1) ≤ D G (ex G p + 1) := pre_mono _ (by omega)
      omega
    have hD : D G (ex G p + 1) ≤ D G (ex G (p + 1)) := pre_mono _ hlt
    have hpre := pre_eq_of_D_eq G h (ex G p + 1) (ex G (p + 1)) hlt (by omega)
    right
    exact ⟨hpre.symm, by rw [hpre]; omega, by omega, by omega, hlt⟩

/-- Points past the last live one repeat it. -/
theorem repeats (p : ℕ) (hp : total G ≤ p) : ex G p = ex G (total G - 1) ∧ tile G p = tile G (total G - 1) := by
  have hq : q G p = q G (total G - 1) := by unfold q; omega
  have he : ex G p = ex G (total G - 1) := by unfold ex; rw [hq]
  exact ⟨he, by unfold tile; rw [he, hq]⟩

end Cert.Plan
-- ==== Proof.Spec.lean ====
module

public import proofs.«01_k».proof.Proof.PlanRows
public import proofs.«01_k».proof.Proof.Cut
public import Idealize.ShloMosaic.Lib.Pointwise

/-!
# The value of one row

A row times an expert's widened weights, through the gate.
-/

@[expose] public section

noncomputable section

namespace Cert.Spec

open Idealize.ShloMosaic

/-- The gate: g · logistic(g) · u. -/
def act (g u : EReal) : EReal := g * Ideal.logistic g * u

/-- A row times column `n` of expert `e`'s widened weights. -/
def dot (x : Fin 2816 → EReal) (w : (⟨3, ![8, 2816, 2048]⟩ : Shape).Idx → EReal) (s : (⟨3, ![8, 22, 16]⟩ : Shape).Idx → EReal) (e : Fin 8) (n : Fin 2048) : EReal :=
  ∑ k : Fin 2816, x k * (w (ix3 e k n) * s (ix3 e ⟨k.val / 128, by omega⟩ ⟨n.val / 128, by omega⟩))

/-- Column `n` of the row's result under expert `e`. -/
def row (x : Fin 2816 → EReal) (wg : (⟨3, ![8, 2816, 2048]⟩ : Shape).Idx → EReal) (sg : (⟨3, ![8, 22, 16]⟩ : Shape).Idx → EReal)
    (wu : (⟨3, ![8, 2816, 2048]⟩ : Shape).Idx → EReal) (su : (⟨3, ![8, 22, 16]⟩ : Shape).Idx → EReal) (e : Fin 8) (n : Fin 2048) : EReal :=
  act (dot x wg sg e n) (dot x wu su e n)

theorem select_ofBool {α : Type} (P : Prop) [Decidable P] (a b : α) : Scalar.select (BitVec.ofBool (decide P)) a b = if P then a else b := by
  by_cases h : P
  · rw [decide_eq_true h, if_pos h]; rfl
  · rw [decide_eq_false h, if_neg h]; rfl

/-- Signed comparisons of small words are comparisons of numbers. -/
theorem between (a b r : ℕ) (ha : a < 2 ^ 31) (hb : b < 2 ^ 31) (hr : r < 2 ^ 31) :
    IntOp.andi (IntOp.cmpi .sge (BitVec.ofNat 32 r) (BitVec.ofNat 32 a)) (IntOp.cmpi .slt (BitVec.ofNat 32 r) (BitVec.ofNat 32 b))
      = BitVec.ofBool (decide (a ≤ r ∧ r < b)) := by
  have h1 : IntOp.cmpi .sge (BitVec.ofNat 32 r) (BitVec.ofNat 32 a) = BitVec.ofBool (decide (a ≤ r)) := by
    unfold IntOp.cmpi
    simp only [BitVec.sle, Plan.toInt_small ha, Plan.toInt_small hr, Nat.cast_le]
  have h2 : IntOp.cmpi .slt (BitVec.ofNat 32 r) (BitVec.ofNat 32 b) = BitVec.ofBool (decide (r < b)) := by
    unfold IntOp.cmpi
    simp only [BitVec.slt, Plan.toInt_small hb, Plan.toInt_small hr, Nat.cast_lt]
  rw [h1, h2]
  by_cases c1 : a ≤ r <;> by_cases c2 : r < b <;> simp [c1, c2, IntOp.andi]

end Cert.Spec
-- ==== Proof.KValue.lean ====
module

public import proofs.«01_k».proof.Proof.Run
public import proofs.«01_k».proof.Proof.Spec
public import Idealize.ShloMosaic.Lib.Pointwise
public import Idealize.ShloMosaic.Lib.MatmulPlain
public import Idealize.ShloMosaic.Lib.IdealHost

/-!
# What one point of the kernel computes

The widened weight blocks, the contraction in eleven chunks, the gate and the rows that are kept.
-/

@[expose] public section

set_option maxRecDepth 16384

noncomputable section

namespace Cert.KernelIdeal.Body

open Idealize.ShloMosaic VecWindow
open Cert.KernelIdeal Cert.KernelIdeal.Facts₀ Cert.KernelIdeal.Facts

theorem wide_at (w : Vec Ideal S1x128x128 .fp8e4m3) (s : Elt Ideal .f32) (r l : Fin 128) :
    wide (F := Ideal) w s (ix2 r l) = w (ix3 0 r l) * s := by
  pointwise [wide]

theorem wide4_at (A B C D : FVec Ideal S128x128 .bf16) (f : ℕ → ℕ → EReal)
    (hA : ∀ r l : Fin 128, A (ix2 r l) = f r.val l.val) (hB : ∀ r l : Fin 128, B (ix2 r l) = f r.val (128 + l.val))
    (hC : ∀ r l : Fin 128, C (ix2 r l) = f (128 + r.val) l.val) (hD : ∀ r l : Fin 128, D (ix2 r l) = f (128 + r.val) (128 + l.val))
    (r l : Fin 256) : wide4 (F := Ideal) A B C D (ix2 r l) = f r.val l.val := by
  unfold wide4
  have hrow : ∀ (X Y : FVec Ideal S128x128 .bf16) (g : ℕ → EReal) (r' : Fin 128) (_ : ∀ l : Fin 128, X (ix2 r' l) = g l.val) (_ : ∀ l : Fin 128, Y (ix2 r' l) = g (128 + l.val)),
      concatenate S128x256 1 [⟨S128x128, X⟩, ⟨S128x128, Y⟩] concatenates_S128x128_S128x128_S128x256_d1 (ix2 r' l) = g l.val := by
    intro X Y g r' hX hY
    by_cases hl : l.val < 128
    · refine (concatenate_pair_apply_left (t := S128x256) (s₁ := S128x128) (s₂ := S128x128) 1 X Y concatenates_S128x128_S128x128_S128x256_d1 (ix2 r' l) rfl (ix2 r' (⟨l.val, hl⟩ : Fin 128)) ?_).trans (hX _)
      intro b
      match b with
      | ⟨0, _⟩ => rfl
      | ⟨1, _⟩ => rfl
    · refine (concatenate_pair_apply_right (t := S128x256) (s₁ := S128x128) (s₂ := S128x128) 1 X Y concatenates_S128x128_S128x128_S128x256_d1 (ix2 r' l) rfl rfl (ix2 r' (⟨l.val - 128, by omega⟩ : Fin 128)) ?_ ?_).trans ((hY _).trans (congrArg g ?_))
      · intro b hb
        match b with
        | ⟨0, _⟩ => rfl
        | ⟨1, _⟩ => exact absurd rfl hb
      · show l.val - 128 + 128 = l.val; omega
      · show 128 + (l.val - 128) = l.val; omega
  by_cases hr : r.val < 128
  · refine (concatenate_pair_apply_left (t := S256x256) (s₁ := S128x256) (s₂ := S128x256) 0 _ _ concatenates_S128x256_S128x256_S256x256_d0 (ix2 r l) rfl (ix2 (⟨r.val, hr⟩ : Fin 128) l) ?_).trans (hrow A B (f r.val) ⟨r.val, hr⟩ (hA _) (hB _))
    intro b
    match b with
    | ⟨0, _⟩ => rfl
    | ⟨1, _⟩ => rfl
  · have e : 128 + (r.val - 128) = r.val := by omega
    refine (concatenate_pair_apply_right (t := S256x256) (s₁ := S128x256) (s₂ := S128x256) 0 _ _ concatenates_S128x256_S128x256_S256x256_d0 (ix2 r l) rfl rfl (ix2 (⟨r.val - 128, by omega⟩ : Fin 128) l) ?_ ?_).trans
      (hrow C D (f r.val) ⟨r.val - 128, by omega⟩ (fun l => (hC _ l).trans (by rw [e])) (fun l => (hD _ l).trans (by rw [e])))
    · intro b hb
      match b with
      | ⟨0, _⟩ => exact absurd rfl hb
      | ⟨1, _⟩ => rfl
    · show r.val - 128 + 128 = r.val; omega

/-- The widened weight at row `k`, column `n` (anything outside the array). -/
def wAt (e : Fin 8) (w : Vec Ideal S1x2816x2048 .fp8e4m3) (s : Vec Ideal S8x22x16 .f32) (k n : ℕ) : EReal :=
  if h : k < 2816 ∧ n < 2048 then w (ix3 0 ⟨k, h.1⟩ ⟨n, h.2⟩) * s (ix3 e ⟨k / 128, by omega⟩ ⟨n / 128, by omega⟩) else 0

/-- A row of the tile times a column of the widened weights. -/
def dotK (e : Fin 8) (x : Vec Ideal S512x2816 .bf16) (w : Vec Ideal S1x2816x2048 .fp8e4m3) (s : Vec Ideal S8x22x16 .f32) (r : Fin 512) (n : Fin 2048) : EReal :=
  ∑ k : Fin 2816, x (ix2 r k) * (w (ix3 0 k n) * s (ix3 e ⟨k.val / 128, by omega⟩ ⟨n.val / 128, by omega⟩))

/-- The row's entry `k` (anything outside the row). -/
def xAt (x : Vec Ideal S512x2816 .bf16) (r : Fin 512) (k : ℕ) : EReal := if h : k < 2816 then x (ix2 r ⟨k, h⟩) else 0

section
variable (v5 : BitVec 32) (hs : ∀ (k2 : Fin 22) (n2 : Fin 16), ∀ a, (offS v5 k2 n2) a + S1x1x1.size a ≤ S8x22x16.size a)
variable (e : Fin 8) (he : v5.toNat = e.val)
include he

theorem blockV_at (w : Vec Ideal S1x2816x2048 .fp8e4m3) (s : Vec Ideal S8x22x16 .f32) (k2 : Fin 22) (n2 : Fin 16) (r l : Fin 128) :
    blockV (F := Ideal) v5 hs w s k2 n2 (ix2 r l) = wAt e w s (128 * k2.val + r.val) (128 * n2.val + l.val) := by
  unfold blockV wAt
  rw [wide_at, dif_pos (by omega)]
  refine congrArg₂ (· * ·) (congrArg w (funext fun a => Fin.ext ?_)) (congrArg s (funext fun a => Fin.ext ?_))
  · match a with
    | ⟨0, _⟩ => rfl
    | ⟨1, _⟩ => show 128 * k2.val + 1 * r.val = 128 * k2.val + r.val; omega
    | ⟨2, _⟩ => show 128 * n2.val + 1 * l.val = 128 * n2.val + l.val; omega
  · match a with
    | ⟨0, _⟩ => show v5.toNat + 1 * 0 = e.val; omega
    | ⟨1, _⟩ => show k2.val + 1 * 0 = (128 * k2.val + r.val) / 128; omega
    | ⟨2, _⟩ => show n2.val + 1 * 0 = (128 * n2.val + l.val) / 128; omega

theorem chunkV_at (w : Vec Ideal S1x2816x2048 .fp8e4m3) (s : Vec Ideal S8x22x16 .f32) (k : Fin 11) (n : Fin 8) (r l : Fin 256) :
    chunkV (F := Ideal) v5 hs w s k n (ix2 r l) = wAt e w s (256 * k.val + r.val) (256 * n.val + l.val) := by
  unfold chunkV
  refine wide4_at _ _ _ _ (fun a b => wAt e w s (256 * k.val + a) (256 * n.val + b)) ?_ ?_ ?_ ?_ r l <;> intro r l <;>
    refine (blockV_at v5 hs e he w s _ _ r l).trans (congrArg₂ (wAt e w s) ?_ ?_) <;> dsimp only [ev, od] <;> omega

omit he in
theorem dotAdd_at (g : FVec Ideal S512x256 .f32) (x : Vec Ideal S512x256 .bf16) (w : FVec Ideal S256x256 .bf16) (r : Fin 512) (l : Fin 256) :
    dotAdd (F := Ideal) g x w (ix2 r l) = g (ix2 r l) + ∑ k : Fin 256, x (ix2 r k) * w (ix2 k l) := by
  have h := Ideal.matmul_plain_apply (φ₁ := .bf16) (M := 512) (K := 256) (N := 256) none x w (constant S512x256 .f32 0x00000000#32) r l
  unfold dotAdd
  show (g (ix2 r l) + _ : EReal) = _
  refine congrArg (g (ix2 r l) + ·) ?_
  refine Eq.trans h ?_
  refine (congrArg (· + _) (show (constant (F := Ideal) S512x256 .f32 0x00000000#32) (ix2 r l) = (0 : EReal) from Ideal.ofBits_zero_f32)).trans ?_
  rw [zero_add]
  rfl

variable (wg wu : Vec Ideal S1x2816x2048 .fp8e4m3) (sg su : Vec Ideal S8x22x16 .f32) (x : Vec Ideal S512x2816 .bf16)

omit he in
theorem window_x (k : Fin 11) (r : Fin 512) (t : Fin 256) :
    window x ![0, 256 * k.val] S512x256.size (inb_lhs k) (ix2 r t) = xAt x r (256 * k.val + t.val) := by
  unfold xAt
  rw [dif_pos (by omega)]
  refine congrArg x (funext fun a => Fin.ext ?_)
  match a with
  | ⟨0, _⟩ => show 0 + 1 * r.val = r.val; omega
  | ⟨1, _⟩ => show 256 * k.val + 1 * t.val = 256 * k.val + t.val; omega

theorem chunk_sum (w : Vec Ideal S1x2816x2048 .fp8e4m3) (s : Vec Ideal S8x22x16 .f32) (n : Fin 8) (r : Fin 512) (l : Fin 256) (k : ℕ) (hk : k < 11)
    (g : FVec Ideal S512x256 .f32)
    (ih : g (ix2 r l) = ∑ j ∈ Finset.range (256 * k), xAt x r j * wAt e w s j (256 * n.val + l.val)) :
    dotAdd (F := Ideal) g (window x ![0, 256 * k] S512x256.size (inb_lhs ⟨k, hk⟩)) (chunkV v5 hs w s ⟨k, hk⟩ n) (ix2 r l)
      = ∑ j ∈ Finset.range (256 * (k + 1)), xAt x r j * wAt e w s j (256 * n.val + l.val) := by
  rw [dotAdd_at, ih, show 256 * (k + 1) = 256 * k + 256 from by omega, Finset.sum_range_add, Finset.sum_range (n := 256)]
  refine congrArg (_ + ·) (Finset.sum_congr rfl fun t _ => ?_)
  exact congrArg₂ (· * ·) (window_x x ⟨k, hk⟩ r t) (chunkV_at v5 hs e he w s ⟨k, hk⟩ n t l)

theorem sums_at (n : Fin 8) (r : Fin 512) (l : Fin 256) : ∀ k : ℕ, k ≤ 11 →
    (sums (F := Ideal) v5 hs wg wu sg su x n k).1 (ix2 r l) = ∑ j ∈ Finset.range (256 * k), xAt x r j * wAt e wg sg j (256 * n.val + l.val)
    ∧ (sums (F := Ideal) v5 hs wg wu sg su x n k).2 (ix2 r l) = ∑ j ∈ Finset.range (256 * k), xAt x r j * wAt e wu su j (256 * n.val + l.val)
  | 0, _ => ⟨Ideal.ofBits_zero_f32, Ideal.ofBits_zero_f32⟩
  | k + 1, hk => by
    have ih := sums_at n r l k (by omega)
    rw [sums, dif_pos (show k < 11 by omega)]
    exact ⟨chunk_sum v5 hs e he x wg sg n r l k _ _ ih.1, chunk_sum v5 hs e he x wu su n r l k _ _ ih.2⟩

omit he in
theorem gate_at (g u : FVec Ideal S512x256 .f32) (r : Fin 512) (l : Fin 256) :
    gate (F := Ideal) g u (ix2 r l) = Spec.act (g (ix2 r l)) (u (ix2 r l)) := by
  have h1 : Ideal.ofBits .f32 0x3F800000#32 = 1 := Ideal.ofBits_one_f32
  unfold gate Spec.act Ideal.logistic
  show (g (ix2 r l) * Ideal.div (Ideal.ofBits .f32 0x3F800000#32) (Ideal.ofBits .f32 0x3F800000#32 + Ideal.exp (Ideal.ofBits .f32 0x00000000#32 - g (ix2 r l)))) * u (ix2 r l) = _
  rw [h1, Ideal.ofBits_zero_f32, zero_sub]

omit he in
theorem range_dotK (w : Vec Ideal S1x2816x2048 .fp8e4m3) (s : Vec Ideal S8x22x16 .f32) (r : Fin 512) (n : Fin 2048) :
    ∑ j ∈ Finset.range (256 * 11), xAt x r j * wAt e w s j n.val = dotK e x w s r n := by
  rw [Finset.sum_range]
  unfold dotK
  refine Finset.sum_congr rfl fun k _ => ?_
  unfold xAt wAt
  rw [dif_pos k.isLt, dif_pos ⟨k.isLt, n.isLt⟩]

theorem mlpT_val (lo hi : ℕ) (hlo : lo < 2 ^ 31) (hhi : hi < 2 ^ 31) (o : Vec Ideal S512x2048 .bf16) (r : Fin 512) (n : Fin 2048) :
    mlpT (F := Ideal) v5 hs wg wu sg su x (BitVec.ofNat 32 lo) (BitVec.ofNat 32 hi) o (ix2 r n)
      = if lo ≤ r.val ∧ r.val < hi then Spec.act (dotK e x wg sg r n) (dotK e x wu su r n) else o (ix2 r n) := by
  have hn : n.val / 256 < 8 := by omega
  have hm : n.val % 256 < 256 := Nat.mod_lt _ (by decide)
  have hnn : 256 * (n.val / 256) + n.val % 256 = n.val := by omega
  have h := sums_at v5 hs e he wg wu sg su x ⟨n.val / 256, hn⟩ r ⟨n.val % 256, hm⟩ 11 (le_refl _)
  simp only [hnn, range_dotK] at h
  have hg := gate_at (sums (F := Ideal) v5 hs wg wu sg su x ⟨n.val / 256, hn⟩ 11).1 (sums (F := Ideal) v5 hs wg wu sg su x ⟨n.val / 256, hn⟩ 11).2 r ⟨n.val % 256, hm⟩
  rw [h.1, h.2] at hg
  show Scalar.select (IntOp.andi (IntOp.cmpi .sge (iota Kind.tc S512x256 32 [0] iota_S512x256_d0_w32 (ix2 r (⟨n.val % 256, hm⟩ : Fin 256))) (BitVec.ofNat 32 lo))
    (IntOp.cmpi .slt (iota Kind.tc S512x256 32 [0] iota_S512x256_d0_w32 (ix2 r (⟨n.val % 256, hm⟩ : Fin 256))) (BitVec.ofNat 32 hi)))
    (gate (F := Ideal) (sums (F := Ideal) v5 hs wg wu sg su x ⟨n.val / 256, hn⟩ 11).1 (sums (F := Ideal) v5 hs wg wu sg su x ⟨n.val / 256, hn⟩ 11).2 (ix2 r (⟨n.val % 256, hm⟩ : Fin 256)))
    (shapeCast S512x256 (window o ![0, 256 * (n.val / 256)] S512x256.size (inb_out ⟨n.val / 256, hn⟩)) shapeCasts_S512x256_S512x256 (ix2 r (⟨n.val % 256, hm⟩ : Fin 256))) = _
  rw [show iota Kind.tc S512x256 32 [0] iota_S512x256_d0_w32 (ix2 r (⟨n.val % 256, hm⟩ : Fin 256)) = BitVec.ofNat 32 r.val from iota_single_apply _ _ _ _ _ _,
    Spec.between lo hi r.val hlo hhi (by omega), Spec.select_ofBool, hg]
  have hold : shapeCast S512x256 (window o ![0, 256 * (n.val / 256)] S512x256.size (inb_out ⟨n.val / 256, hn⟩)) shapeCasts_S512x256_S512x256 (ix2 r (⟨n.val % 256, hm⟩ : Fin 256)) = o (ix2 r n) := by
    refine (congrFun (shapeCast_self _ _) _).trans (congrArg o (funext fun a => Fin.ext ?_))
    match a with
    | ⟨0, _⟩ => show 0 + 1 * r.val = r.val; omega
    | ⟨1, _⟩ => show 256 * (n.val / 256) + 1 * (n.val % 256) = n.val; omega
  rw [hold]

theorem mlpV_val (lo hi : ℕ) (hlo : lo < 2 ^ 31) (hhi : hi < 2 ^ 31) (h : k0_chk1 (BitVec.ofNat 32 lo) (BitVec.ofNat 32 hi) v5)
    (o : Vec Ideal S512x2048 .bf16) (r : Fin 512) (n : Fin 2048) :
    mlpV (F := Ideal) wg wu sg su x (BitVec.ofNat 32 lo) (BitVec.ofNat 32 hi) v5 h o (ix2 r n)
      = if lo ≤ r.val ∧ r.val < hi then Spec.act (dotK e x wg sg r n) (dotK e x wu su r n) else o (ix2 r n) := by
  unfold mlpV
  by_cases hc : k0_cond2 (BitVec.ofNat 32 lo) (BitVec.ofNat 32 hi) = 1#1
  · rw [dif_pos hc]
    exact mlpT_val v5 _ e he wg wu sg su x lo hi hlo hhi o r n
  · rw [dif_neg hc, if_neg]
    rintro ⟨h1, h2⟩
    refine hc ?_
    have hlt : IntOp.cmpi .sgt (BitVec.ofNat 32 hi) (BitVec.ofNat 32 lo) = 1#1 := by
      unfold IntOp.cmpi
      simp only [BitVec.slt, Plan.toInt_small hlo, Plan.toInt_small hhi, Nat.cast_lt, decide_eq_true (show lo < hi by omega)]
      rfl
    unfold k0_cond2
    show Scalar.cmpi .ne (Scalar.extui (IntOp.cmpi .sgt (BitVec.ofNat 32 hi) (BitVec.ofNat 32 lo)) : BitVec 32) 0#32 = 1#1
    rw [hlt]
    decide

/-- The same at words that are these numbers. -/
theorem mlpV_words (v1 v3 : BitVec 32) (lo hi : ℕ) (h1 : v1 = BitVec.ofNat 32 lo) (h3 : v3 = BitVec.ofNat 32 hi) (hlo : lo < 2 ^ 31) (hhi : hi < 2 ^ 31)
    (h : k0_chk1 v1 v3 v5) (o : Vec Ideal S512x2048 .bf16) (r : Fin 512) (n : Fin 2048) :
    mlpV (F := Ideal) wg wu sg su x v1 v3 v5 h o (ix2 r n)
      = if lo ≤ r.val ∧ r.val < hi then Spec.act (dotK e x wg sg r n) (dotK e x wu su r n) else o (ix2 r n) := by
  subst h1 h3
  exact mlpV_val v5 e he wg wu sg su x lo hi hlo hhi h o r n
end

end Cert.KernelIdeal.Body
-- ==== Proof.Quant.lean ====
module

public import proofs.«01_k».proof.Proof.Body
public import Idealize.ShloMosaic.Lib.Pointwise

/-!
# The quantiser changes nothing but a group with an infinite entry

A finite block is scaled by a power of two, clipped to ±448 and scaled back. The power is chosen so that the clip never
acts, and the two scales are inverse to each other: over the extended reals the result is the block.
A group with an infinite entry becomes zero.
-/

@[expose] public section

set_option maxRecDepth 16384

noncomputable section

namespace Cert.Quant

open Idealize.ShloMosaic

/-! ## The constants -/

/-- The constant 1/448, as it is rounded. -/
def c : ℝ := 9586981 / 4294967296

theorem word_c : Ideal.ofBits .f32 991054117#32 = ((c : ℝ) : EReal) := by
  simp [Ideal.ofBits, Ideal.ieee, c, -EReal.coe_mul]; norm_num
theorem word_top : Ideal.ofBits .f32 1138753536#32 = ((448 : ℝ) : EReal) := by
  simp [Ideal.ofBits, Ideal.ieee, -EReal.coe_mul]; norm_num
theorem word_bot : Ideal.ofBits .f32 3286237184#32 = ((-448 : ℝ) : EReal) := by
  simp [Ideal.ofBits, Ideal.ieee, -EReal.coe_mul]; norm_num
theorem word_two : Ideal.ofBits .f32 1073741824#32 = ((2 : ℝ) : EReal) := by
  simp [Ideal.ofBits, Ideal.ieee, -EReal.coe_mul]; norm_num
theorem word_ninf : Ideal.ofBits .f32 4286578688#32 = ⊥ := by
  simp [Ideal.ofBits, Ideal.ieee]

/-- The greatest finite value of the input's format. -/
def big : ℝ := 255 * 2 ^ 120

theorem word_big : Ideal.ofBits .bf16 0x7F7F#16 = ((big : ℝ) : EReal) := by
  simp [Ideal.ofBits, Ideal.ieee, big, -EReal.coe_mul]

/-- A word that is an exponent alone is a power of two. -/
theorem word_pow (w : BitVec 32) (j : ℕ) (h1 : 1 ≤ j) (h2 : j ≤ 254) (hw : w.toNat = j * 8388608) :
    Ideal.ofBits .f32 w = (((2 : ℝ) ^ ((j : ℤ) - 127) : ℝ) : EReal) := by
  have e1 : (w.extractLsb' 23 8).toNat = j := by
    rw [BitVec.extractLsb'_toNat, hw, Nat.shiftRight_eq_div_pow]; omega
  have e2 : (w.extractLsb' 0 23).toNat = 0 := by
    rw [BitVec.extractLsb'_toNat, hw, Nat.shiftRight_eq_div_pow]; omega
  have e3 : (w.extractLsb' 31 1 == 1#1) = false := by
    rw [beq_eq_false_iff_ne]
    intro h
    have := congrArg BitVec.toNat h
    rw [BitVec.extractLsb'_toNat, hw, Nat.shiftRight_eq_div_pow] at this
    simp at this
    omega
  show Ideal.ieee 8 23 w = _
  unfold Ideal.ieee
  simp only [e1, e2, e3]
  rw [if_neg (by omega), if_neg (by omega)]
  congr 1
  simp only [Bool.false_eq_true, if_false, one_mul, add_zero]
  rw [show ((j : ℤ) - 127 : ℤ) = 23 + ((j : ℤ) - (2 ^ (8 - 1) - 1) - (23 : ℕ)) from by norm_num, zpow_add₀ (by norm_num)]
  norm_num

/-- The activations of the claim: the numbers up to the format's greatest, and the infinite ones. -/
def Number (x : EReal) : Prop := (∃ r : ℝ, x = (r : EReal) ∧ |r| ≤ big) ∨ max x (-x) = ⊤

open Classical in
/-- What quantising leaves of a row: a group of 128 with an infinite entry becomes zero, any other is as it was. -/
def kept (v : Fin 2816 → EReal) (k : Fin 2816) : EReal :=
  if ∃ q : Fin 2816, q.val / 128 = k.val / 128 ∧ max (v q) (-(v q)) = ⊤ then 0 else v k

/-- A group has an infinite entry or is real. -/
theorem group_cases {n : ℕ} (w : Fin n → EReal) (h : ∀ q, Number (w q)) :
    (∃ q, max (w q) (-(w q)) = ⊤) ∨ ∃ x : Fin n → ℝ, (∀ q, w q = (x q : EReal)) ∧ ∀ q, |x q| ≤ big := by
  by_cases ht : ∃ q, max (w q) (-(w q)) = ⊤
  · exact .inl ht
  · have hr : ∀ q, ∃ r : ℝ, w q = (r : EReal) ∧ |r| ≤ big := fun q => (h q).resolve_right fun e => ht ⟨q, e⟩
    choose x h1 h2 using hr
    exact .inr ⟨x, h1, h2⟩

/-! ## One value -/

theorem absf_coe (r : ℝ) : (FloatOps.absf (F := Ideal) (φ := .f32) (r : EReal) : EReal) = ((|r| : ℝ) : EReal) := by
  show max (r : EReal) (-(r : EReal)) = _
  rw [abs_eq_max_neg, ← EReal.coe_neg]
  exact (EReal.coe_strictMono.monotone.map_max).symm

/-- Scaled by a factor that keeps it in range, clipped, and scaled back, a number is what it was. -/
theorem clip_id (x s t : ℝ) (hst : s * t = 1) (h : |x * s| ≤ 448) :
    (min ((448 : ℝ) : EReal) (max ((-448 : ℝ) : EReal) ((x : EReal) * (s : EReal))) * (t : EReal) : EReal) = (x : EReal) := by
  have h' := abs_le.mp h
  rw [← EReal.coe_mul, max_eq_right (EReal.coe_le_coe_iff.mpr h'.1), min_eq_right (EReal.coe_le_coe_iff.mpr h'.2), ← EReal.coe_mul,
    mul_assoc, hst, mul_one]

/-- The greatest magnitude of a row of real numbers is a real number. -/
theorem row_max {n : ℕ} (f : Fin n → EReal) (x : Fin n → ℝ) (hf : ∀ k, f k = x k) (B : ℝ) (hB : ∀ k, |x k| ≤ B) (k0 : Fin n) :
    ∃ a : ℝ, (Finset.univ.fold max (⊥ : EReal) (fun k => FloatOps.absf (F := Ideal) (φ := .f32) (f k))) = (a : EReal)
      ∧ (∀ k, |x k| ≤ a) ∧ a ≤ B := by
  have e : (fun k => (FloatOps.absf (F := Ideal) (φ := .f32) (f k) : EReal)) = fun k => ((|x k| : ℝ) : EReal) :=
    funext fun k => by rw [hf k]; exact absf_coe _
  rw [show (Finset.univ.fold max (⊥ : EReal) (fun k => FloatOps.absf (F := Ideal) (φ := .f32) (f k)))
    = Finset.univ.fold max (⊥ : EReal) (fun k => ((|x k| : ℝ) : EReal)) from congrArg (fun g => Finset.univ.fold max (⊥ : EReal) g) e]
  generalize hM : Finset.univ.fold max (⊥ : EReal) (fun k => ((|x k| : ℝ) : EReal)) = M
  have hu : M ≤ (B : EReal) := by
    rw [← hM]
    exact Finset.fold_max_le _ |>.mpr ⟨bot_le, fun k _ => EReal.coe_le_coe_iff.mpr (hB k)⟩
  have hl : ∀ k, ((|x k| : ℝ) : EReal) ≤ M := fun k => by
    rw [← hM]
    exact Finset.le_fold_max _ |>.mpr (.inr ⟨k, Finset.mem_univ _, le_rfl⟩)
  have ht : M ≠ ⊤ := fun h => by rw [h] at hu; exact absurd hu (by simp)
  have hb : M ≠ ⊥ := fun h => by have := hl k0; rw [h] at this; exact absurd this (by simp)
  lift M to ℝ using ⟨ht, hb⟩
  exact ⟨M, rfl, fun k => EReal.coe_le_coe_iff.mp (hl k), EReal.coe_le_coe_iff.mp hu⟩

/-- The greatest magnitude of a row with an infinite entry is infinite. -/
theorem row_max_top {n : ℕ} (f : Fin n → EReal) (q : Fin n) (h : max (f q) (-(f q)) = ⊤) :
    Finset.univ.fold max (⊥ : EReal) (fun k => FloatOps.absf (F := Ideal) (φ := .f32) (f k)) = ⊤ :=
  top_le_iff.mp (Finset.le_fold_max _ |>.mpr (.inr ⟨q, Finset.mem_univ _, h.ge⟩))

/-! ## The kernel's exponent -/

/-- Where a number lies between the powers of two that the words count. -/
theorem exp_spec (z : ℝ) (h0 : 0 ≤ z) (h1 : z < 2 ^ (120 : ℤ)) :
    ∃ E : ℕ, E < 247 ∧ (E = 0 → z < 2 ^ (-126 : ℤ)) ∧ z < 2 ^ ((E : ℤ) - 126)
      ∧ ∀ j : ℕ, 1 ≤ j → ((2 : ℝ) ^ ((j : ℤ) - 127) ≤ z ↔ j ≤ E) := by
  by_cases h : z < 2 ^ (-126 : ℤ)
  · refine ⟨0, by decide, fun _ => h, by simpa using h, fun j hj => ⟨fun hz => ?_, fun hz => by omega⟩⟩
    have := lt_of_le_of_lt hz h
    rw [zpow_lt_zpow_iff_right₀ (by norm_num)] at this
    omega
  · push Not at h
    have hz : 0 < z := lt_of_lt_of_le (by positivity) h
    obtain ⟨L, l1, l2⟩ := exists_mem_Ico_zpow hz (by norm_num : (1 : ℝ) < 2)
    have a1 : -126 < L + 1 := (zpow_lt_zpow_iff_right₀ (by norm_num : (1 : ℝ) < 2)).mp (lt_of_le_of_lt h l2)
    have a2 : L < 120 := (zpow_lt_zpow_iff_right₀ (by norm_num : (1 : ℝ) < 2)).mp (lt_of_le_of_lt l1 h1)
    refine ⟨(L + 127).toNat, by omega, fun hE => by omega, ?_, fun j hj => ?_⟩
    · rw [show (((L + 127).toNat : ℕ) : ℤ) - 126 = L + 1 from by omega]; exact l2
    · constructor
      · intro hj'
        have := (zpow_lt_zpow_iff_right₀ (by norm_num : (1 : ℝ) < 2)).mp (lt_of_le_of_lt hj' l2)
        omega
      · intro hj'
        exact le_trans (zpow_le_zpow_right₀ (by norm_num) (by omega)) l1

/-- The exponent whose power of two bounds the row. -/
def ebits (w : BitVec 32) : BitVec 32 :=
  Scalar.select (IntOp.cmpi CmpIPredicate.eq (IntOp.shli ArithUnit.vector (IntOp.subi w 1#32) 23#32) 0#32) (1056964608#32)
    (IntOp.shli ArithUnit.vector (IntOp.subi w 1#32) 23#32)

theorem ebits_spec : ∀ E : Fin 247,
    (IntOp.subi (2122317824#32) (ebits (BitVec.ofNat 32 (E.val + 1)))).toNat = (253 - (if E.val = 0 then 126 else E.val)) * 8388608
    ∧ (IntOp.addi (ebits (BitVec.ofNat 32 (E.val + 1))) 8388608#32).toNat = ((if E.val = 0 then 126 else E.val) + 1) * 8388608 := by
  decide +kernel

theorem shl23 : ∀ j : Fin 256, (IntOp.shli ArithUnit.vector (BitVec.ofNat 32 j.val) 23#32).toNat = j.val * 8388608 := by
  decide +kernel

theorem count_le : ∀ E : Fin 247, Finset.univ.fold IntOp.addi (0#32)
    (fun j : Fin 256 => BitVec.setWidth 32 (BitVec.ofBool (decide (j.val ≤ E.val)))) = BitVec.ofNat 32 (E.val + 1) := by
  decide +kernel

theorem pow_le (z : ℝ) (h0 : 0 ≤ z) (E : ℕ) (hE : E < 247) (hj : ∀ j : ℕ, 1 ≤ j → ((2 : ℝ) ^ ((j : ℤ) - 127) ≤ z ↔ j ≤ E)) (j : Fin 256) :
    Ideal.ofBits .f32 (IntOp.shli ArithUnit.vector (BitVec.ofNat 32 j.val) 23#32) ≤ (z : EReal) ↔ j.val ≤ E := by
  rcases Nat.eq_zero_or_pos j.val with h | h
  · obtain rfl : j = 0 := Fin.ext h
    rw [show (IntOp.shli ArithUnit.vector (BitVec.ofNat 32 (0 : Fin 256).val) 23#32) = 0#32 from by decide]
    simp [Ideal.ofBits, Ideal.ieee, h0]
  · rcases Nat.lt_or_ge j.val 255 with h' | h'
    · rw [word_pow _ j.val h (by omega) (shl23 j), EReal.coe_le_coe_iff]
      exact hj j.val h
    · have hj' : j.val = 255 := by omega
      obtain rfl : j = 255 := Fin.ext hj'
      rw [show (IntOp.shli ArithUnit.vector (BitVec.ofNat 32 (255 : Fin 256).val) 23#32) = 2139095040#32 from by decide]
      have : Ideal.ofBits .f32 2139095040#32 = ⊤ := by simp [Ideal.ofBits, Ideal.ieee]
      rw [this, hj']
      constructor
      · intro h; simp at h
      · intro h; omega

/-- The kernel's quantiser leaves a finite row of a block as it is. -/
theorem qpay_id (v : FVec Ideal Cert.KernelIdeal.S128x128 .bf16) (r : Fin 128) (x : Fin 128 → ℝ) (hx : ∀ l, v (ix2 r l) = (x l : EReal))
    (hB : ∀ l, |x l| ≤ big) (l : Fin 128) :
    Cert.KernelIdeal.Body.qpay (F := Ideal) v (ix2 r l) = v (ix2 r l) := by
  pointwise [Cert.KernelIdeal.Body.qpay]
  obtain ⟨a, ha, hle, haB⟩ := row_max (fun k => v (ix2 r k)) x hx big hB 0
  rw [word_ninf, word_c, word_top, word_bot, ha, ← EReal.coe_mul, hx l]
  have ha0 : 0 ≤ a := (abs_nonneg _).trans (hle 0)
  have hc : 0 < c := by unfold c; norm_num
  obtain ⟨E, hE, hE0, hE1, hj⟩ := exp_spec (a * c) (mul_nonneg ha0 hc.le) (by
    refine lt_of_le_of_lt (mul_le_mul_of_nonneg_right haB hc.le) ?_
    unfold big c; norm_num)
  have hcount : Finset.univ.fold IntOp.addi (0#32) (fun j : Fin 256 => BitVec.setWidth 32 (BitVec.ofBool (decide
      (Ideal.ofBits .f32 (IntOp.shli ArithUnit.vector (BitVec.ofNat 32 j.val) 23#32) ≤ ((a * c : ℝ) : EReal))))) = BitVec.ofNat 32 (E + 1) := by
    rw [← count_le ⟨E, hE⟩]
    congr 1
    funext j
    rw [decide_eq_decide.mpr (pow_le (a * c) (mul_nonneg ha0 hc.le) E hE hj j)]
  rw [hcount]
  obtain ⟨s1, s2⟩ := ebits_spec ⟨E, hE⟩
  dsimp only at s1 s2
  change min _ (max _ ((x l : EReal) * Ideal.ofBits .f32 (IntOp.subi (2122317824#32) (ebits (BitVec.ofNat 32 (E + 1))))))
    * Ideal.ofBits .f32 (IntOp.addi (ebits (BitVec.ofNat 32 (E + 1))) 8388608#32) = _
  rw [word_pow _ _ (by split <;> omega) (by split <;> omega) s1, word_pow _ _ (by split <;> omega) (by split <;> omega) s2]
  have hc448 : 1 < 448 * c := by unfold c; norm_num
  refine clip_id _ _ _ ?_ ?_
  · rw [← zpow_add₀ (by norm_num)]
    split
    · norm_num
    · rw [show (((253 - E : ℕ) : ℤ) - 127 + (((E + 1 : ℕ) : ℤ) - 127)) = 0 from by omega, zpow_zero]
  · have hpos : ∀ z : ℤ, (0 : ℝ) < 2 ^ z := fun z => zpow_pos (by norm_num) z
    rw [abs_mul, abs_of_pos (hpos _)]
    refine (mul_le_mul_of_nonneg_right (hle l) (hpos _).le).trans ?_
    split
    · rename_i h
      have h0 : a * c < 1 := (hE0 h).trans_le (zpow_le_one_of_nonpos₀ (by norm_num) (by norm_num))
      rw [show (((253 - 126 : ℕ) : ℤ) - 127) = 0 from by norm_num, zpow_zero, mul_one]
      nlinarith
    · have hp : (0 : ℝ) < 2 ^ (((253 - E : ℕ) : ℤ) - 127) := by positivity
      have h1 : a * c * 2 ^ (((253 - E : ℕ) : ℤ) - 127) < 1 := by
        refine lt_of_lt_of_le (mul_lt_mul_of_pos_right hE1 hp) ?_
        rw [← zpow_add₀ (by norm_num), show ((E : ℤ) - 126 + (((253 - E : ℕ) : ℤ) - 127)) = 0 from by omega, zpow_zero]
      nlinarith

theorem count_all : Finset.univ.fold IntOp.addi (0#32) (fun _ : Fin 256 => BitVec.setWidth 32 (BitVec.ofBool (decide True))) = 256#32 := by
  decide +kernel

/-- A row with an infinite entry becomes zero: the scale's word is the one after the greatest exponent's. -/
theorem qpay_top (v : FVec Ideal Cert.KernelIdeal.S128x128 .bf16) (r q : Fin 128)
    (h : max (v (ix2 r q) : EReal) (-(v (ix2 r q) : EReal)) = ⊤) (l : Fin 128) :
    (Cert.KernelIdeal.Body.qpay (F := Ideal) v (ix2 r l) : EReal) = 0 := by
  pointwise [Cert.KernelIdeal.Body.qpay]
  have hc : 0 < c := by unfold c; norm_num
  rw [word_ninf, word_c, row_max_top (fun k => v (ix2 r k)) q h, EReal.top_mul_coe_of_pos hc]
  have hcount : Finset.univ.fold IntOp.addi (0#32) (fun j : Fin 256 => BitVec.setWidth 32 (BitVec.ofBool (decide
      (Ideal.ofBits .f32 (IntOp.shli ArithUnit.vector (BitVec.ofNat 32 j.val) 23#32) ≤ (⊤ : EReal))))) = 256#32 := by
    rw [← count_all]
    congr 1
    funext j
    rw [decide_eq_decide.mpr (iff_true_intro le_top)]
  rw [hcount]
  change _ * Ideal.ofBits .f32 (IntOp.addi (ebits 256#32) 8388608#32) = _
  rw [show IntOp.addi (ebits 256#32) 8388608#32 = 0x80000000#32 from by decide,
    show Ideal.ofBits .f32 0x80000000#32 = 0 from by simp [Ideal.ofBits, Ideal.ieee]]
  exact mul_zero _

end Cert.Quant
-- ==== Proof.KRows.lean ====
module

public import proofs.«01_k».proof.Proof.Frame
public import proofs.«01_k».proof.Proof.KValue
public import proofs.«01_k».proof.Proof.Quant
public import Idealize.ShloMosaic.Lib.Pipeline.Covers

/-!
# The rows the kernel leaves

After a point, the rows of its tile below the end of its run hold their values. A tile is written back when all its
rows are below that end, and every tile is written back.
-/

@[expose] public section

set_option maxRecDepth 16384

noncomputable section

namespace Cert.KernelIdeal.Body

open Idealize.ShloMosaic Idealize.ShloMosaic.TcCoe VecWindow
open Cert.KernelIdeal Cert.KernelIdeal.Facts₀ Cert.KernelIdeal.Facts Cert.KernelIdeal.Gen
open Idealize.ShloMosaic.Pipeline (Dat Cfg Window)

theorem coord_val : ∀ n : Fin 55, ((grid0.coords n) 0).val = n.val := by decide +kernel

/-! ## The blocks the windows show -/

section
variable {F : FTy → Type} [FloatOps F]
variable (m : (ℓ : Loc nD τ sig) → Buf (Elt F) ℓ) (hO : Ok m) (c : Dev nD)

theorem index1 (t : Fin (cfgM m hO).N) : ((cfgM m hO).win 1).index t = ![(word1 (F := F) (grid0.coords t) (tE m)).toNat, 0, 0] := rfl
theorem index2 (t : Fin (cfgM m hO).N) : ((cfgM m hO).win 2).index t = ![(word1 (F := F) (grid0.coords t) (tE m)).toNat, 0, 0] := rfl
theorem index3 (t : Fin (cfgM m hO).N) : ((cfgM m hO).win 3).index t = ![0, 0, 0] := rfl
theorem index4 (t : Fin (cfgM m hO).N) : ((cfgM m hO).win 4).index t = ![0, 0, 0] := rfl

theorem iblk1_apply (t : Fin (cfgM m hO).N) (y : S1x2816x2048.Idx) (j : S8x2816x2048.Idx)
    (hj : ∀ a, (j a).val = (![(word1 (F := F) (grid0.coords t) (tE m)).toNat, 0, 0] : Fin 3 → ℕ) a * S1x2816x2048.size a + (y a).val) :
    iblk m hO c 1 t y = V m c main_arg2 j := by
  unfold iblk
  show V m c main_arg2 ((((cfgM m hO).win 1).rect t).emb y) = _
  congr 1
  funext a
  apply Fin.ext
  rw [hj a]
  refine (((cfgM m hO).win 1).rect_emb_val t y a).trans ?_
  rw [index1]
  rfl

theorem iblk2_apply (t : Fin (cfgM m hO).N) (y : S1x2816x2048.Idx) (j : S8x2816x2048.Idx)
    (hj : ∀ a, (j a).val = (![(word1 (F := F) (grid0.coords t) (tE m)).toNat, 0, 0] : Fin 3 → ℕ) a * S1x2816x2048.size a + (y a).val) :
    iblk m hO c 2 t y = V m c main_arg4 j := by
  unfold iblk
  show V m c main_arg4 ((((cfgM m hO).win 2).rect t).emb y) = _
  congr 1
  funext a
  apply Fin.ext
  rw [hj a]
  refine (((cfgM m hO).win 2).rect_emb_val t y a).trans ?_
  rw [index2]
  rfl

theorem iblk3_apply (t : Fin (cfgM m hO).N) (y : S8x22x16.Idx) : iblk m hO c 3 t y = V m c main_arg3 y := by
  unfold iblk
  show V m c main_arg3 ((((cfgM m hO).win 3).rect t).emb y) = _
  congr 1
  funext a
  apply Fin.ext
  refine (((cfgM m hO).win 3).rect_emb_val t y a).trans ?_
  rw [index3]
  match a with
  | ⟨0, _⟩ => show 0 * 8 + (y 0).val = (y 0).val; omega
  | ⟨1, _⟩ => show 0 * 22 + (y 1).val = (y 1).val; omega
  | ⟨2, _⟩ => show 0 * 16 + (y 2).val = (y 2).val; omega

theorem iblk4_apply (t : Fin (cfgM m hO).N) (y : S8x22x16.Idx) : iblk m hO c 4 t y = V m c main_arg5 y := by
  unfold iblk
  show V m c main_arg5 ((((cfgM m hO).win 4).rect t).emb y) = _
  congr 1
  funext a
  apply Fin.ext
  refine (((cfgM m hO).win 4).rect_emb_val t y a).trans ?_
  rw [index4]
  match a with
  | ⟨0, _⟩ => show 0 * 8 + (y 0).val = (y 0).val; omega
  | ⟨1, _⟩ => show 0 * 22 + (y 1).val = (y 1).val; omega
  | ⟨2, _⟩ => show 0 * 16 + (y 2).val = (y 2).val; omega
end

/-! ## The quantised tile -/

/-- What quantising leaves of a tile whose entries are numbers of the format. -/
theorem quantT_val (x : Vec Ideal S512x2816 .bf16) (r : Fin 512) (hx : ∀ k, Quant.Number (x (ix2 r k))) (k : Fin 2816) :
    (quantT (F := Ideal) x (ix2 r k) : EReal) = Quant.kept (fun k => x (ix2 r k)) k := by
  have hr : r.val / 128 < 4 := by omega
  have hk : k.val / 128 < 22 := by omega
  have ja : ∀ q : Fin 128, 128 * (k.val / 128) + q.val < 2816 := fun q => by omega
  set w := window x ![128 * (r.val / 128), 128 * (k.val / 128)] S128x128.size (inb_x ⟨r.val / 128, hr⟩ ⟨k.val / 128, hk⟩)
  have hw : ∀ b : Fin 128, w (ix2 (⟨r.val % 128, Nat.mod_lt _ (by decide)⟩ : Fin 128) b) = x (ix2 r ⟨128 * (k.val / 128) + b.val, ja b⟩) := by
    intro b
    refine congrArg x (funext fun i => Fin.ext ?_)
    match i with
    | ⟨0, _⟩ => show 128 * (r.val / 128) + 1 * (r.val % 128) = r.val; omega
    | ⟨1, _⟩ => show 128 * (k.val / 128) + 1 * b.val = 128 * (k.val / 128) + b.val; omega
  have hq : (quantT (F := Ideal) x (ix2 r k) : EReal) = Body.qpay (F := Ideal) w (ix2 (⟨r.val % 128, Nat.mod_lt _ (by decide)⟩ : Fin 128) ⟨k.val % 128, Nat.mod_lt _ (by decide)⟩) := rfl
  rw [hq]
  unfold Quant.kept
  rcases Quant.group_cases (fun q : Fin 128 => x (ix2 r ⟨128 * (k.val / 128) + q.val, ja q⟩)) (fun q => hx _) with ⟨q, ht⟩ | ⟨f, e1, e2⟩
  · rw [if_pos ⟨_, by show (128 * (k.val / 128) + q.val) / 128 = k.val / 128; omega, ht⟩]
    exact Quant.qpay_top w _ q ((congrArg (fun z : EReal => max z (-z)) (hw q)).trans ht) _
  · rw [if_neg]
    · refine (Quant.qpay_id w _ f (fun q => (hw q).trans (e1 q)) e2 _).trans ((hw _).trans ?_)
      exact congrArg (fun i => x (ix2 r i)) (Fin.ext (by show 128 * (k.val / 128) + k.val % 128 = k.val; omega))
    · rintro ⟨q, hq, ht⟩
      have e : x (ix2 r q) = (f ⟨q.val % 128, Nat.mod_lt _ (by decide)⟩ : EReal) :=
        (congrArg (fun i => x (ix2 r i)) (Fin.ext (by show q.val = 128 * (k.val / 128) + q.val % 128; omega))).trans (e1 _)
      have ht' : max (x (ix2 r q) : EReal) (-(x (ix2 r q) : EReal)) = ⊤ := ht
      rw [e] at ht'
      exact absurd ((Quant.absf_coe _).symm.trans ht') (EReal.coe_ne_top _)

/-! ## The rows -/

section
variable (m : (ℓ : Loc nD τ sig) → Buf (Elt Ideal) ℓ) (c : Dev nD)
variable {G : ℕ → ℕ} (hG : Plan.Cut (gsz m) G)

/-- The arguments, as the launch finds them. -/
abbrev a0 : S24576x2816.Idx → EReal := m (c, main_arg0)
abbrev a2 : S8x2816x2048.Idx → EReal := m (c, main_arg2)
abbrev a3 : S8x22x16.Idx → EReal := m (c, main_arg3)
abbrev a4 : S8x2816x2048.Idx → EReal := m (c, main_arg4)
abbrev a5 : S8x22x16.Idx → EReal := m (c, main_arg5)

variable (hx : ∀ r k, Quant.Number (a0 m c (ix2 r k)))
variable (Z : S24576x2048.Idx → EReal)
  (hZ : ∀ (R : Fin 24576) (n : Fin 2048) (e : Fin 8), Plan.pre G e.val ≤ R.val → R.val < Plan.pre G (e.val + 1) →
    Z (ix2 R n) = Spec.row (Quant.kept fun k => a0 m c (ix2 R k)) (a2 m c) (a3 m c) (a4 m c) (a5 m c) e n)

theorem coordN (t : Fin (cfgM m (ok m hG)).N) : ((grid0.coords t) 0).val = t.val := coord_val ⟨t.val, t.isLt⟩

include hG in
theorem word_tile (n : Fin (cfgM m (ok m hG)).N) : word1 (F := Ideal) (grid0.coords n) (tT m) = BitVec.ofNat 32 (Plan.tile G n.val) :=
  (T_at m hG _).trans (by rw [coordN m hG n])

theorem index5_at (t : Fin (cfgM m (ok m hG)).N) : ((cfgM m (ok m hG)).win 5).index t = ![Plan.tile G t.val, 0] :=
  (index5 m (ok m hG) t).trans (by rw [T_nat m hG]; exact congrArg (fun k => ![Plan.tile G k, 0]) (coordN m hG t))

include hx

theorem quantAt_val (t : Fin (cfgM m (ok m hG)).N) (r : Fin 512) (k : Fin 2816) (R : Fin 24576) (hR : R.val = 512 * Plan.tile G t.val + r.val) :
    (quantAt m (ok m hG) c t (ix2 r k) : EReal) = Quant.kept (fun k => a0 m c (ix2 R k)) k := by
  have hT := (Plan.tile_spec G hG.all t.val).2.2.2
  have hb : ∀ (r : Fin 512) (k : Fin 2816), iblk m (ok m hG) c 0 t (ix2 r k) = a0 m c (ix2 (⟨512 * Plan.tile G t.val + r.val, by omega⟩ : Fin 24576) k) := by
    intro r k
    refine (iblk0_apply m (ok m hG) c t (ix2 r k) (ix2 (⟨512 * Plan.tile G t.val + r.val, by omega⟩ : Fin 24576) k) ?_).trans (congrFun (V_arg0 m c) _)
    intro a
    rw [T_nat m hG, coordN m hG t]
    match a with
    | ⟨0, _⟩ => show 512 * Plan.tile G t.val + r.val = Plan.tile G t.val * 512 + r.val; omega
    | ⟨1, _⟩ => show k.val = 0 * 2816 + k.val; omega
  unfold quantAt
  refine (quantT_val (iblk m (ok m hG) c 0 t) r (fun k => (hb r k).symm ▸ hx _ _) k).trans ?_
  refine congrArg (fun v : Fin 2816 → EReal => Quant.kept v k) (funext fun k => (hb r k).trans ?_)
  exact congrArg (fun i => a0 m c (ix2 i k)) (Fin.ext hR.symm)

/-- What a point computes for a row of its run. -/
theorem stepAt_val (t : Fin (cfgM m (ok m hG)).N) (o : Vec Ideal S512x2048 .bf16) (r : Fin 512) (n : Fin 2048) (R : Fin 24576) (hR : R.val = 512 * Plan.tile G t.val + r.val) (e : Fin 8) (he : e.val = Plan.ex G t.val) :
    stepAt m (ok m hG) (hyps m hG) c t o (ix2 r n)
      = if Plan.lo G t.val ≤ r.val ∧ r.val < Plan.hi G t.val then Spec.row (Quant.kept fun k => a0 m c (ix2 R k)) (a2 m c) (a3 m c) (a4 m c) (a5 m c) e n
        else outV (F := Ideal) (grid0.coords t) (tT m) o (ix2 r n) := by
  have hE := E_nat m hG (grid0.coords t)
  have hlo : Plan.lo G t.val < 2 ^ 31 := by
    have := Plan.pre_le G hG.all (Plan.ex G t.val) (by omega)
    unfold Plan.lo; omega
  have hhi : Plan.hi G t.val < 2 ^ 31 := by
    unfold Plan.hi; split <;> omega
  rw [coordN m hG t] at hE
  have hd1 : dotK e (quantAt m (ok m hG) c t) (iblk m (ok m hG) c 1 t) (iblk m (ok m hG) c 3 t) r n = Spec.dot (Quant.kept fun k => a0 m c (ix2 R k)) (a2 m c) (a3 m c) e n := by
    unfold dotK Spec.dot
    refine Finset.sum_congr rfl fun k _ => ?_
    refine congrArg₂ (· * ·) (quantAt_val m c hG hx t r k R hR) (congrArg₂ (· * ·) ?_ ?_)
    · refine (iblk1_apply m (ok m hG) c t _ (ix3 e k n) ?_).trans (congrFun (V_arg2 m c) _)
      intro a
      rw [hE, ← he]
      match a with
      | ⟨0, _⟩ => show e.val = e.val * 1 + 0; omega
      | ⟨1, _⟩ => show k.val = 0 * 2816 + k.val; omega
      | ⟨2, _⟩ => show n.val = 0 * 2048 + n.val; omega
    · exact (iblk3_apply m (ok m hG) c t _).trans (congrFun (V_arg3 m c) _)
  have hd2 : dotK e (quantAt m (ok m hG) c t) (iblk m (ok m hG) c 2 t) (iblk m (ok m hG) c 4 t) r n = Spec.dot (Quant.kept fun k => a0 m c (ix2 R k)) (a4 m c) (a5 m c) e n := by
    unfold dotK Spec.dot
    refine Finset.sum_congr rfl fun k _ => ?_
    refine congrArg₂ (· * ·) (quantAt_val m c hG hx t r k R hR) (congrArg₂ (· * ·) ?_ ?_)
    · refine (iblk2_apply m (ok m hG) c t _ (ix3 e k n) ?_).trans (congrFun (V_arg4 m c) _)
      intro a
      rw [hE, ← he]
      match a with
      | ⟨0, _⟩ => show e.val = e.val * 1 + 0; omega
      | ⟨1, _⟩ => show k.val = 0 * 2816 + k.val; omega
      | ⟨2, _⟩ => show n.val = 0 * 2048 + n.val; omega
    · exact (iblk4_apply m (ok m hG) c t _).trans (congrFun (V_arg5 m c) _)
  have hl : word1 (F := Ideal) (grid0.coords t) (tLo m) = BitVec.ofNat 32 (Plan.lo G t.val) := (Lo_at m hG _).trans (by rw [coordN m hG t])
  have hh : word1 (F := Ideal) (grid0.coords t) (tHi m) = BitVec.ofNat 32 (Plan.hi G t.val) := (Hi_at m hG _).trans (by rw [coordN m hG t])
  unfold stepAt Spec.row
  rw [← hd1, ← hd2]
  exact mlpV_words _ e (hE.trans he.symm) _ _ _ _ _ _ _ _ _ hl hh hlo hhi _ _ r n

include hZ

/-- A row of a run ends at its value. -/
theorem stepAt_row (t : Fin (cfgM m (ok m hG)).N) (o : Vec Ideal S512x2048 .bf16) (r : Fin 512) (n : Fin 2048) (R : Fin 24576) (hR : R.val = 512 * Plan.tile G t.val + r.val)
    (h1 : Plan.pre G (Plan.ex G t.val) ≤ R.val) (h2 : R.val < Plan.pre G (Plan.ex G t.val + 1)) (ht : t.val < Plan.total G) :
    stepAt m (ok m hG) (hyps m hG) c t o (ix2 r n) = Z (ix2 R n) := by
  have hE8 := (Plan.ex_spec G hG.all t.val).1
  rw [stepAt_val m c hG hx t o r n R hR ⟨Plan.ex G t.val, hE8⟩ rfl, hZ R n ⟨Plan.ex G t.val, hE8⟩ h1 h2, if_pos]
  unfold Plan.lo Plan.hi
  rw [if_pos ht]
  have := r.isLt
  omega

/-- The rows below the end of the point's run hold their values. -/
theorem outAt_row : ∀ (p : ℕ), p < 55 → ∀ (r : Fin 512) (n : Fin 2048) (R : Fin 24576), R.val = 512 * Plan.tile G p + r.val → R.val < Plan.pre G (Plan.ex G p + 1) →
    outAt m (ok m hG) (hyps m hG) c p (ix2 r n) = Z (ix2 R n)
  | 0, _, r, n, R, hR, hlt => by
    have h0 := Plan.first G hG.all
    have ht := Plan.total_bounds G hG.all
    exact stepAt_row m c hG hx Z hZ (pt m (ok m hG) 0 (by decide)) _ r n R hR (by show Plan.pre G (Plan.ex G 0) ≤ _; omega) hlt ht.1
  | p + 1, hp, r, n, R, hR, hlt => by
    have ih := outAt_row p (by omega) r n R
    have hE8 := (Plan.ex_spec G hG.all (p + 1)).1
    rw [outAt, dif_pos hp]
    have hkeep : Plan.tile G (p + 1) = Plan.tile G p → outV (F := Ideal) (grid0.coords (pt m (ok m hG) (p + 1) hp)) (tT m) (outAt m (ok m hG) (hyps m hG) c p) (ix2 r n)
        = outAt m (ok m hG) (hyps m hG) c p (ix2 r n) := by
      intro htile
      unfold outV
      rw [if_neg]
      intro hop
      rcases (opens_iff (⟨p + 1, hp⟩ : Fin 55) (tT m)).mp hop with hh | hh
      · exact absurd hh (Nat.succ_ne_zero p)
      · refine hh ?_
        rw [word2_eq (⟨p + 1, hp⟩ : Fin 55) (Nat.succ_ne_zero p)]
        refine (word_tile m hG (pt m (ok m hG) (p + 1) hp)).trans (Eq.trans ?_ (word_tile m hG (pt m (ok m hG) p (by omega))).symm)
        show BitVec.ofNat 32 (Plan.tile G (p + 1)) = BitVec.ofNat 32 (Plan.tile G p)
        rw [htile]
    by_cases hlive : p + 1 < Plan.total G
    · have hts := Plan.tile_spec G hG.all p
      rcases Plan.next G hG.all p hlive with ⟨e1, e2, e3⟩ | ⟨e1, e2, e3, e4, e5⟩
      · refine stepAt_row m c hG hx Z hZ (pt m (ok m hG) (p + 1) hp) _ r n R hR ?_ hlt hlive
        show Plan.pre G (Plan.ex G (p + 1)) ≤ R.val
        rw [e1]; omega
      · by_cases hge : Plan.pre G (Plan.ex G (p + 1)) ≤ R.val
        · exact stepAt_row m c hG hx Z hZ (pt m (ok m hG) (p + 1) hp) _ r n R hR hge hlt hlive
        · have htile : Plan.tile G (p + 1) = Plan.tile G p := by omega
          refine (stepAt_val m c hG hx (pt m (ok m hG) (p + 1) hp) _ r n R hR ⟨Plan.ex G (p + 1), hE8⟩ rfl).trans ?_
          rw [if_neg, hkeep htile]
          · exact ih (by omega) (by omega)
          · show ¬ (Plan.lo G (p + 1) ≤ r.val ∧ _)
            unfold Plan.lo
            omega
    · have ht := Plan.total_bounds G hG.all
      have r1 := Plan.repeats G hG.all (p + 1) (by omega)
      have r2 : Plan.ex G p = Plan.ex G (Plan.total G - 1) ∧ Plan.tile G p = Plan.tile G (Plan.total G - 1) := by
        by_cases hpt : Plan.total G ≤ p
        · exact Plan.repeats G hG.all p hpt
        · rw [show Plan.total G - 1 = p by omega]; exact ⟨rfl, rfl⟩
      refine (stepAt_val m c hG hx (pt m (ok m hG) (p + 1) hp) _ r n R hR ⟨Plan.ex G (p + 1), hE8⟩ rfl).trans ?_
      rw [if_neg, hkeep (by omega)]
      · exact ih (by omega) (by rw [r2.1, ← r1.1]; exact hlt)
      · show ¬ (_ ∧ r.val < Plan.hi G (p + 1))
        unfold Plan.hi
        rw [if_neg hlive]
        omega

omit hx hZ in
/-- A tile is left only when its rows are done. -/
theorem flush_done (t : Fin (cfgM m (ok m hG)).N) (hf : ((cfgM m (ok m hG)).win 5).flush t = true) : 512 * Plan.tile G t.val + 512 ≤ Plan.pre G (Plan.ex G t.val + 1) := by
  have ht := Plan.total_bounds G hG.all
  have hlast : Plan.total G - 1 ≤ t.val → 512 * Plan.tile G t.val + 512 ≤ Plan.pre G (Plan.ex G t.val + 1) := by
    intro hge
    have hl := Plan.last G hG.all (Plan.total G - 1) (by omega)
    have r2 : Plan.ex G t.val = Plan.ex G (Plan.total G - 1) ∧ Plan.tile G t.val = Plan.tile G (Plan.total G - 1) := by
      by_cases hpt : Plan.total G ≤ t.val
      · exact Plan.repeats G hG.all t.val hpt
      · rw [show Plan.total G - 1 = t.val by omega]; exact ⟨rfl, rfl⟩
    rw [r2.1, r2.2, hl.1, hl.2]
  by_cases hge : Plan.total G - 1 ≤ t.val
  · exact hlast hge
  · have hts := Plan.tile_spec G hG.all t.val
    have hf' := (((cfgM m (ok m hG)).win 5).flush_out rfl t).mp hf
    rcases hf' with hf | ⟨h1, hf⟩
    · exact absurd (show t.val + 1 = 55 from hf) (by omega)
    · have hne : Plan.tile G (t.val + 1) ≠ Plan.tile G t.val := by
        intro he
        refine hf ?_
        refine (index5_at m hG _).trans (Eq.trans ?_ (index5_at m hG _).symm)
        show ![Plan.tile G (t.val + 1), 0] = ![Plan.tile G t.val, 0]
        rw [he]
      rcases Plan.next G hG.all t.val (by omega) with ⟨e1, e2, e3⟩ | ⟨e1, e2, e3, e4, e5⟩ <;> omega

omit hx hZ in
include hG in
/-- Every tile is visited. -/
theorem tile_onto (T : ℕ) (hT : T < 48) : ∃ t : Fin (cfgM m (ok m hG)).N, Plan.tile G t.val = T := by
  have ht := Plan.total_bounds G hG.all
  have h0 := (Plan.first G hG.all).1
  have hl := (Plan.last G hG.all (Plan.total G - 1) (by omega)).2
  have key : ∀ p : ℕ, p < Plan.total G → ∀ T ≤ Plan.tile G p, ∃ q ≤ p, Plan.tile G q = T := by
    intro p
    induction p with
    | zero => intro _ T hT; exact ⟨0, le_refl _, by omega⟩
    | succ p ih =>
      intro hp T hT
      by_cases hle : T ≤ Plan.tile G p
      · obtain ⟨q, hq, e⟩ := ih (by omega) T hle
        exact ⟨q, by omega, e⟩
      · refine ⟨p + 1, le_refl _, ?_⟩
        rcases Plan.next G hG.all p hp with ⟨e1, e2, e3⟩ | ⟨e1, e2, e3, e4, e5⟩ <;> omega
  obtain ⟨q, hq, e⟩ := key (Plan.total G - 1) (by omega) T (by omega)
  exact ⟨pt m (ok m hG) q (by omega), e⟩

/-- The array the launch leaves. -/
theorem final_eq : (dats m (ok m hG) (hyps m hG) 0 c).arrAt 5 (cfgM m (ok m hG)).N = Z := by
  have hemb : ∀ (t : Fin (cfgM m (ok m hG)).N) (y : S512x2048.Idx) (R : Fin 24576), R.val = 512 * Plan.tile G t.val + (y 0).val →
      ((((cfgM m (ok m hG)).win 5).blk t).view.emb y : S24576x2048.Idx) = ix2 R (y 1) := by
    intro t y R hR
    funext a
    apply Fin.ext
    refine (((cfgM m (ok m hG)).win 5).rect_emb_val t y a).trans ?_
    refine (congrArg (fun k : Fin 2 → ℕ => k a * S512x2048.size a + (y a).val) (index5_at m hG t)).trans ?_
    match a with
    | ⟨0, _⟩ => show Plan.tile G t.val * 512 + (y 0).val = R.val; omega
    | ⟨1, _⟩ => show 0 * 2048 + (y 1).val = (y 1).val; omega
  refine (dats m (ok m hG) (hyps m hG) 0 c).arrAt_eq_of_cover 5 Z ?_ ?_
  · intro t hf
    have hdone := flush_done m hG t hf
    have hT := (Plan.tile_spec G hG.all t.val).2.2.2
    show (dats m (ok m hG) (hyps m hG) 0 c).after 5 t = _
    rw [after0_5]
    funext y
    have hy0 : (y 0).val < 512 := (y 0).isLt
    have h := outAt_row m c hG hx Z hZ t.val t.isLt (y 0) (y 1) ⟨512 * Plan.tile G t.val + (y 0).val, by omega⟩ rfl (by show 512 * Plan.tile G t.val + (y 0).val < _; omega)
    refine Eq.trans ?_ (h.trans ?_)
    · refine congrArg (outAt m (ok m hG) (hyps m hG) c t.val) (funext fun a => ?_)
      match a with
      | ⟨0, _⟩ => rfl
      | ⟨1, _⟩ => rfl
    · exact (congrArg Z (hemb t y _ rfl)).symm
  · intro (i : S24576x2048.Idx)
    have hi : (i 0).val < 24576 := (i 0).isLt
    obtain ⟨t0, h0⟩ := tile_onto m hG ((i 0).val / 512) (by omega)
    obtain ⟨t, -, hf, hidx⟩ := ((cfgM m (ok m hG)).win 5).exists_flush_same_index rfl t0
    refine ⟨t, hf, ?_⟩
    have htile : Plan.tile G t.val = (i 0).val / 512 :=
      (congrFun ((index5_at m hG t).symm.trans (hidx.trans (index5_at m hG t0))) 0).trans h0
    have he : ((((cfgM m (ok m hG)).win 5).blk t).view.emb (ix2 (⟨(i 0).val % 512, Nat.mod_lt _ (by decide)⟩ : Fin 512) (i 1) : S512x2048.Idx) : S24576x2048.Idx) = i := by
      refine (hemb t _ (i 0) ?_).trans ?_
      · rw [htile]; show (i 0).val = 512 * ((i 0).val / 512) + (i 0).val % 512; omega
      · funext a
        match a with
        | ⟨0, _⟩ => rfl
        | ⟨1, _⟩ => rfl
    have hm := (((cfgM m (ok m hG)).win 5).blk t).view.emb_mem_set (ix2 (⟨(i 0).val % 512, Nat.mod_lt _ (by decide)⟩ : Fin 512) (i 1) : S512x2048.Idx)
    exact he ▸ hm
end

end Cert.KernelIdeal.Body
-- ==== Proof.RefValue.lean ====
module

public import proofs.«01_k».proof.Proof.Gen.ReferenceIdeal.Value
public import Idealize.ShloMosaic.Lib.Pointwise
public import Idealize.ShloMosaic.Lib.MatmulPlain
public import proofs.«01_k».proof.Proof.Spec

/-!
# What the reference computes

One expert after the other multiplies the quantised rows by its widened weights and writes its own rows.
-/

@[expose] public section

set_option maxRecDepth 16384

noncomputable section

namespace Cert.ReferenceIdeal.Expert

open Idealize.ShloMosaic Cert.ReferenceIdeal Cert.ReferenceIdeal.Gen

theorem hz2 : (![0, 0] : Fin 2 → Nat) = fun _ => 0 := by funext a; fin_cases a <;> rfl

/-- One expert's widened weights. -/
def widenT (w : FVec Ideal S1x2816x2048 .fp8e4m3) (s : FVec Ideal S1x22x16 .f32) : FVec Ideal S2816x2048 .bf16 :=
  shapeCast S2816x2048 (mulf
    (shapeCast S22x128x16x128 (extf .bf16 (shapeCast S2816x2048 w shapeCasts_S1x2816x2048_S2816x2048 : FVec Ideal S2816x2048 .fp8e4m3) bitsLt_fp8e4m3_bf16 : FVec Ideal S2816x2048 .bf16) shapeCasts_S2816x2048_S22x128x16x128)
    (broadcastTo S22x128x16x128 (shapeCast S22x1x16x1 (truncf .bf16 (shapeCast S22x16 s shapeCasts_S1x22x16_S22x16 : FVec Ideal S22x16 .f32) bitsLt_bf16_f32 : FVec Ideal S22x16 .bf16) shapeCasts_S22x16_S22x1x16x1) broadcasts_S22x1x16x1_S22x128x16x128) : FVec Ideal S22x128x16x128 .bf16)
    shapeCasts_S22x128x16x128_S2816x2048

/-- The rows times one expert's widened weights. -/
def prodT (x : FVec Ideal S24576x2816 .bf16) (w : FVec Ideal S1x2816x2048 .fp8e4m3) (s : FVec Ideal S1x22x16 .f32) : FVec Ideal S24576x2048 .f32 :=
  matmul dot_S24576x2816_S2816x2048_S24576x2048_1_0_0_1_n_n none x (widenT w s) (constant S24576x2048 .f32 0x00000000#32)

/-- One expert: its rows are replaced. -/
def stepT (x : FVec Ideal S24576x2816 .bf16) (start len : BitVec 32) (old : FVec Ideal S24576x2048 .bf16)
    (wg : FVec Ideal S1x2816x2048 .fp8e4m3) (sg : FVec Ideal S1x22x16 .f32) (wu : FVec Ideal S1x2816x2048 .fp8e4m3) (su : FVec Ideal S1x22x16 .f32) : FVec Ideal S24576x2048 .bf16 :=
  select (andi (cmpi .sge (iota Kind.tc S24576x2048 32 [0] iota_S24576x2048_d0_w32) (broadcast S24576x2048 start))
      (cmpi .slt (iota Kind.tc S24576x2048 32 [0] iota_S24576x2048_d0_w32) (broadcast S24576x2048 (Scalar.addi start len))))
    (truncf .bf16 (mulf (mulf (prodT x wg sg) (logistic (prodT x wg sg))) (prodT x wu su)) bitsLt_bf16_f32) old

theorem widenT_at (w : FVec Ideal S1x2816x2048 .fp8e4m3) (s : FVec Ideal S1x22x16 .f32) (k : Fin 2816) (n : Fin 2048) :
    widenT w s (ix2 k n) = w (ix3 0 k n) * s (ix3 0 ⟨k.val / 128, by omega⟩ ⟨n.val / 128, by omega⟩) := by
  have hk : k.val / 128 < 22 := by omega
  have hn : n.val / 128 < 16 := by omega
  have hk' : k.val % 128 < 128 := Nat.mod_lt _ (by decide)
  have hn' : n.val % 128 < 128 := Nat.mod_lt _ (by decide)
  unfold widenT
  refine (shapeCast_apply _ _ (ix2 k n) (ix4 (⟨k.val / 128, hk⟩ : Fin 22) (⟨k.val % 128, hk'⟩ : Fin 128) (⟨n.val / 128, hn⟩ : Fin 16) (⟨n.val % 128, hn'⟩ : Fin 128)) ?_).trans ?_
  · rw [Shape.rowMajor_val_four, Shape.rowMajor_val_two]
    show ((k.val / 128 * 128 + k.val % 128) * 16 + n.val / 128) * 128 + n.val % 128 = k.val * 2048 + n.val
    omega
  · show (_ : EReal) * _ = _
    refine congrArg₂ (· * ·) ?_ ?_
    · refine (shapeCast_apply _ _ _ (ix2 k n) ?_).trans ?_
      · rw [Shape.rowMajor_val_four, Shape.rowMajor_val_two]
        show k.val * 2048 + n.val = ((k.val / 128 * 128 + k.val % 128) * 16 + n.val / 128) * 128 + n.val % 128
        omega
      · refine shapeCast_apply w _ (ix2 k n) (ix3 0 k n) ?_
        rw [Shape.rowMajor_val_three, Shape.rowMajor_val_two]
        show (0 * 2816 + k.val) * 2048 + n.val = k.val * 2048 + n.val
        omega
    · refine (broadcastTo_apply _ _ _ (ix4 (⟨k.val / 128, hk⟩ : Fin 22) (0 : Fin 1) (⟨n.val / 128, hn⟩ : Fin 16) (0 : Fin 1)) ?_).trans ?_
      · intro a
        match a with
        | ⟨0, _⟩ => rfl
        | ⟨1, _⟩ => rfl
        | ⟨2, _⟩ => rfl
        | ⟨3, _⟩ => rfl
      · refine (shapeCast_apply _ _ _ (ix2 (⟨k.val / 128, hk⟩ : Fin 22) (⟨n.val / 128, hn⟩ : Fin 16)) ?_).trans ?_
        · rw [Shape.rowMajor_val_four, Shape.rowMajor_val_two]
          show k.val / 128 * 16 + n.val / 128 = ((k.val / 128 * 1 + 0) * 16 + n.val / 128) * 1 + 0
          omega
        · refine shapeCast_apply s _ _ (ix3 0 (⟨k.val / 128, hk⟩ : Fin 22) (⟨n.val / 128, hn⟩ : Fin 16)) ?_
          rw [Shape.rowMajor_val_three, Shape.rowMajor_val_two]
          show (0 * 22 + k.val / 128) * 16 + n.val / 128 = k.val / 128 * 16 + n.val / 128
          omega

theorem prodT_at (x : FVec Ideal S24576x2816 .bf16) (w : FVec Ideal S1x2816x2048 .fp8e4m3) (s : FVec Ideal S1x22x16 .f32) (r : Fin 24576) (n : Fin 2048) :
    prodT x w s (ix2 r n) = ∑ k : Fin 2816, x (ix2 r k) * (w (ix3 0 k n) * s (ix3 0 ⟨k.val / 128, by omega⟩ ⟨n.val / 128, by omega⟩)) := by
  have h := Ideal.matmul_plain_apply (M := 24576) (K := 2816) (N := 2048) none x (widenT w s) (constant S24576x2048 .f32 0x00000000#32) r n
  refine Eq.trans h ?_
  refine (congrArg (· + _) (show (constant (F := Ideal) S24576x2048 .f32 0x00000000#32) (ix2 r n) = (0 : EReal) from Ideal.ofBits_zero_f32)).trans ?_
  rw [zero_add]
  exact Finset.sum_congr rfl fun k _ => by rw [← widenT_at]; rfl

theorem stepT_at (x : FVec Ideal S24576x2816 .bf16) (a b : ℕ) (ha : a ≤ 24576) (hb : a + b ≤ 24576) (old : FVec Ideal S24576x2048 .bf16)
    (wg : FVec Ideal S1x2816x2048 .fp8e4m3) (sg : FVec Ideal S1x22x16 .f32) (wu : FVec Ideal S1x2816x2048 .fp8e4m3) (su : FVec Ideal S1x22x16 .f32)
    (r : Fin 24576) (n : Fin 2048) :
    stepT x (BitVec.ofNat 32 a) (BitVec.ofNat 32 b) old wg sg wu su (ix2 r n)
      = if a ≤ r.val ∧ r.val < a + b then Spec.act (prodT x wg sg (ix2 r n)) (prodT x wu su (ix2 r n)) else old (ix2 r n) := by
  have hr := r.isLt
  have key : IntOp.andi (IntOp.cmpi .sge (BitVec.ofNat 32 r.val) (BitVec.ofNat 32 a)) (IntOp.cmpi .slt (BitVec.ofNat 32 r.val) (Scalar.addi (BitVec.ofNat 32 a) (BitVec.ofNat 32 b)))
      = BitVec.ofBool (decide (a ≤ r.val ∧ r.val < a + b)) := by
    rw [show Scalar.addi (BitVec.ofNat 32 a) (BitVec.ofNat 32 b) = BitVec.ofNat 32 (a + b) from (BitVec.ofNat_add a b).symm]
    exact Spec.between a (a + b) r.val (by omega) (by omega) (by omega)
  unfold stepT
  show Scalar.select (IntOp.andi (IntOp.cmpi .sge (iota Kind.tc S24576x2048 32 [0] iota_S24576x2048_d0_w32 (ix2 r n)) (BitVec.ofNat 32 a))
    (IntOp.cmpi .slt (iota Kind.tc S24576x2048 32 [0] iota_S24576x2048_d0_w32 (ix2 r n)) (Scalar.addi (BitVec.ofNat 32 a) (BitVec.ofNat 32 b)))) _ _ = _
  rw [show iota Kind.tc S24576x2048 32 [0] iota_S24576x2048_d0_w32 (ix2 r n) = BitVec.ofNat 32 r.val from iota_single_apply _ _ _ _ _ _, key, Spec.select_ofBool]
  rfl

/-- The loads of one expert. -/
theorem inbW (e : Fin 8) : ∀ a, (![e.val, 0, 0] : Fin 3 → Nat) a + (![1, 2816, 2048] : Fin 3 → Nat) a ≤ S8x2816x2048.size a := by
  intro a; fin_cases a
  · show e.val + 1 ≤ 8; omega
  · exact Nat.le_refl _
  · exact Nat.le_refl _
theorem inbS (e : Fin 8) : ∀ a, (![e.val, 0, 0] : Fin 3 → Nat) a + (![1, 22, 16] : Fin 3 → Nat) a ≤ S8x22x16.size a := by
  intro a; fin_cases a
  · show e.val + 1 ≤ 8; omega
  · exact Nat.le_refl _
  · exact Nat.le_refl _
def slabW (w : Vec Ideal S8x2816x2048 .fp8e4m3) (e : Fin 8) : FVec Ideal S1x2816x2048 .fp8e4m3 :=
  View.ld w (Rect.unit ![e.val, 0, 0] ![1, 2816, 2048] (inbW e))
def slabS (s : Vec Ideal S8x22x16 .f32) (e : Fin 8) : FVec Ideal S1x22x16 .f32 :=
  View.ld s (Rect.unit ![e.val, 0, 0] ![1, 22, 16] (inbS e))

theorem slabW_at (w : Vec Ideal S8x2816x2048 .fp8e4m3) (e : Fin 8) (k : Fin 2816) (n : Fin 2048) : slabW w e (ix3 0 k n) = w (ix3 e k n) := by
  refine congrArg w (funext fun a => Fin.ext ?_)
  match a with
  | ⟨0, _⟩ => show e.val + 1 * 0 = e.val; omega
  | ⟨1, _⟩ => show 0 + 1 * k.val = k.val; omega
  | ⟨2, _⟩ => show 0 + 1 * n.val = n.val; omega
theorem slabS_at (s : Vec Ideal S8x22x16 .f32) (e : Fin 8) (k : Fin 22) (n : Fin 16) : slabS s e (ix3 0 k n) = s (ix3 e k n) := by
  refine congrArg s (funext fun a => Fin.ext ?_)
  match a with
  | ⟨0, _⟩ => show e.val + 1 * 0 = e.val; omega
  | ⟨1, _⟩ => show 0 + 1 * k.val = k.val; omega
  | ⟨2, _⟩ => show 0 + 1 * n.val = n.val; omega

theorem len_at (x1 : Vec Ideal S8 .i32) (e : Fin 8) (h : ∀ a, (![e.val] : Fin 1 → Nat) a + (![1] : Fin 1 → Nat) a ≤ S8.size a)
    (i : (Rect.unit (s := S8) ![e.val] ![1] h).shape.Idx) : View.ld x1 (Rect.unit (s := S8) ![e.val] ![1] h) i = x1 (ix1 e) := by
  refine congrArg x1 (funext fun a => Fin.ext ?_)
  match a with
  | ⟨0, _⟩ =>
    have h0 : (i 0).val < 1 := (i 0).isLt
    show e.val + 1 * (i 0).val = e.val; omega

/-- The first row of expert `e`, as the reference adds it up. -/
def startW (x1 : Vec Ideal S8 .i32) : ℕ → BitVec 32
  | 0 => 0#32
  | e + 1 => if h : e < 8 then Scalar.addi (startW x1 e) (x1 (ix1 ⟨e, h⟩)) else startW x1 e

/-- The experts one after the other. -/
def chain (q : FVec Ideal S24576x2816 .bf16) (x1 : Vec Ideal S8 .i32) (x2 : Vec Ideal S8x2816x2048 .fp8e4m3) (x3 : Vec Ideal S8x22x16 .f32)
    (x4 : Vec Ideal S8x2816x2048 .fp8e4m3) (x5 : Vec Ideal S8x22x16 .f32) : FVec Ideal S24576x2048 .bf16 :=
  let st := fun (e : Fin 8) old => stepT q (startW x1 e.val) (x1 (ix1 e)) old (slabW x2 e) (slabS x3 e) (slabW x4 e) (slabS x5 e)
  st 7 (st 6 (st 5 (st 4 (st 3 (st 2 (st 1 (st 0 k0_pay3)))))))

theorem chain_at (q : FVec Ideal S24576x2816 .bf16) (x1 : Vec Ideal S8 .i32) (x2 : Vec Ideal S8x2816x2048 .fp8e4m3) (x3 : Vec Ideal S8x22x16 .f32)
    (x4 : Vec Ideal S8x2816x2048 .fp8e4m3) (x5 : Vec Ideal S8x22x16 .f32) (G : ℕ → ℕ) (hG : Plan.Cut x1 G) (r : Fin 24576) (n : Fin 2048)
    (e : Fin 8) (he : Plan.pre G e.val ≤ r.val ∧ r.val < Plan.pre G (e.val + 1)) :
    chain q x1 x2 x3 x4 x5 (ix2 r n) = Spec.row (fun k => q (ix2 r k)) x2 x3 x4 x5 e n := by
  have hs : ∀ i : ℕ, i ≤ 8 → startW x1 i = BitVec.ofNat 32 (Plan.pre G i) := by
    intro i
    induction i with
    | zero => intro _; rfl
    | succ i ih =>
      intro hi
      rw [startW, dif_pos (by omega), ih (by omega), Plan.pre_succ, BitVec.ofNat_add]
      exact congrArg (BitVec.ofNat 32 (Plan.pre G i) + ·) (hG.at_ ⟨i, by omega⟩)
  have hst : ∀ (i : Fin 8) (old : FVec Ideal S24576x2048 .bf16),
      stepT q (startW x1 i.val) (x1 (ix1 i)) old (slabW x2 i) (slabS x3 i) (slabW x4 i) (slabS x5 i) (ix2 r n)
        = if i = e then Spec.row (fun k => q (ix2 r k)) x2 x3 x4 x5 i n else old (ix2 r n) := by
    intro i old
    have h8 := Plan.pre_le G hG.all (i.val + 1) (by omega)
    have h9 := Plan.pre_succ G i.val
    rw [hs i.val (by omega), show x1 (ix1 i) = BitVec.ofNat 32 (G i.val) from hG.at_ i,
      stepT_at q (Plan.pre G i.val) (G i.val) (by omega) (by omega)]
    have hc : (Plan.pre G i.val ≤ r.val ∧ r.val < Plan.pre G i.val + G i.val) ↔ i = e := by
      rw [← h9]
      constructor
      · intro h
        apply Fin.ext
        rcases Nat.lt_trichotomy i.val e.val with hlt | hlt | hlt
        · have := Plan.pre_mono G (show i.val + 1 ≤ e.val from hlt); omega
        · exact hlt
        · have := Plan.pre_mono G (show e.val + 1 ≤ i.val from hlt); omega
      · rintro rfl; exact he
    by_cases hie : i = e
    · rw [if_pos (hc.mpr hie), if_pos hie, prodT_at, prodT_at]
      unfold Spec.row Spec.dot
      simp only [slabW_at, slabS_at]
    · rw [if_neg (fun h => hie (hc.mp h)), if_neg hie]
  unfold chain
  dsimp only
  rw [hst 7, hst 6, hst 5, hst 4, hst 3, hst 2, hst 1, hst 0]
  fin_cases e <;> rfl

theorem out_eq (c : Dev nD) (arg0 : Memref sig .tc .vmem S24576x2816 .bf16) (harg0 : arg0.IsWhole) (arg1 : Memref sig .tc .smem S8 .i32) (harg1 : arg1.IsWhole) (arg2 : Memref sig .tc .vmem S8x2816x2048 .fp8e4m3) (harg2 : arg2.IsWhole) (arg3 : Memref sig .tc .vmem S8x22x16 .f32) (harg3 : arg3.IsWhole) (arg4 : Memref sig .tc .vmem S8x2816x2048 .fp8e4m3) (harg4 : arg4.IsWhole) (arg5 : Memref sig .tc .vmem S8x22x16 .f32) (harg5 : arg5.IsWhole) (arg6 : Memref sig .tc .vmem S24576x2048 .bf16) (harg6 : arg6.IsWhole)
    (x0 : Vec Ideal S24576x2816 .bf16) (x1 : Vec Ideal S8 .i32) (x2 : Vec Ideal S8x2816x2048 .fp8e4m3) (x3 : Vec Ideal S8x22x16 .f32) (x4 : Vec Ideal S8x2816x2048 .fp8e4m3) (x5 : Vec Ideal S8x22x16 .f32) :
    out0_A_6 c arg0 harg0 arg1 harg1 arg2 harg2 arg3 harg3 arg4 harg4 arg5 harg5 arg6 harg6 x0 x1 x2 x3 x4 x5 =
      chain (k0_pay2 x0) x1 x2 x3 x4 x5 := by
  unfold out0_A_6
  rw [View.read_writes_eq_canon _ _ _ (cover0_A_6 c arg0 harg0 arg1 harg1 arg2 harg2 arg3 harg3 arg4 harg4 arg5 harg5 arg6 harg6 x0 x1 x2 x3 x4 x5)]
  unfold kernelRun0_A
  dsimp only
  rw [View.canon_unit_zero hz2]
  sl_unfold_words
  simp only [View.readAt_eq_ld, harg0.read_unread, harg1.read_unread, harg2.read_unread, harg3.read_unread, harg4.read_unread, harg5.read_unread, View.ld_unit_zero (S := S24576x2816) hz2, shapeCast_self]
  have l0 : View.ld x1 (Rect.unit ![0] ![1] inb_S8_S1_0) (Shape.Idx.first (by decide)) = x1 (ix1 0) := len_at x1 0 _ _
  have l1 : View.ld x1 (Rect.unit ![1] ![1] inb_S8_S1_1) (Shape.Idx.first (by decide)) = x1 (ix1 1) := len_at x1 1 _ _
  have l2 : View.ld x1 (Rect.unit ![2] ![1] inb_S8_S1_2) (Shape.Idx.first (by decide)) = x1 (ix1 2) := len_at x1 2 _ _
  have l3 : View.ld x1 (Rect.unit ![3] ![1] inb_S8_S1_3) (Shape.Idx.first (by decide)) = x1 (ix1 3) := len_at x1 3 _ _
  have l4 : View.ld x1 (Rect.unit ![4] ![1] inb_S8_S1_4) (Shape.Idx.first (by decide)) = x1 (ix1 4) := len_at x1 4 _ _
  have l5 : View.ld x1 (Rect.unit ![5] ![1] inb_S8_S1_5) (Shape.Idx.first (by decide)) = x1 (ix1 5) := len_at x1 5 _ _
  have l6 : View.ld x1 (Rect.unit ![6] ![1] inb_S8_S1_6) (Shape.Idx.first (by decide)) = x1 (ix1 6) := len_at x1 6 _ _
  have l7 : View.ld x1 (Rect.unit ![7] ![1] inb_S8_S1_7) (Shape.Idx.first (by decide)) = x1 (ix1 7) := len_at x1 7 _ _
  simp only [l0, l1, l2, l3, l4, l5, l6, l7]
  rfl

end Cert.ReferenceIdeal.Expert
-- ==== Proof.RefArray.lean ====
module

public import proofs.«01_k».proof.Proof.RefValue
public import Idealize.ShloMosaic.Lib.Pipeline.Covers

/-!
# The array the reference leaves

The reference's one point stages its arguments whole and writes its result whole.
-/

@[expose] public section

set_option maxRecDepth 16384

noncomputable section

namespace Cert.ReferenceIdeal.Expert

open Idealize.ShloMosaic Idealize.ShloMosaic.TcCoe Idealize.SL.Sem Cert.ReferenceIdeal Cert.ReferenceIdeal.Gen
open Idealize.ShloMosaic.Pipeline (Dat)

variable (m : (ℓ : Loc nD τ sig) → Buf (Elt Ideal) ℓ) (c : Dev nD)

/-- A block that starts at the first element is indexed as its array. -/
theorem emb_start (w : Fin cfg0.W) (hk : (cfg0.win w).kind = .blocked) (t : Fin cfg0.N) (h : ∀ a, ((cfg0.win w).index t) a = 0) (y) (a) :
    ((((cfg0.win w).rect t).emb y) a).val = (y a).val := by
  refine ((cfg0.win w).rect_emb_val t y a hk).trans ?_
  rw [h a, Nat.zero_mul, Nat.zero_add]

theorem iblk0_eq (t : Fin cfg0.N) : iblk m c 0 t = m ((c : Thread nD τ).loc main_arg0) := by
  refine Eq.trans ?_ (V_main_arg0 m c)
  funext y
  unfold iblk
  exact congrArg (V m c main_arg0) (funext fun a => Fin.ext (emb_start 0 rfl t (by intro a; fin_cases a <;> rfl) y a))

theorem iblk1_eq (t : Fin cfg0.N) : iblk m c 1 t = m ((c : Thread nD τ).loc main_arg1) := by
  refine Eq.trans ?_ (V_main_arg1 m c)
  funext y
  unfold iblk
  exact congrArg (V m c main_arg1) (funext fun a => Fin.ext (emb_start 1 rfl t (by intro a; fin_cases a <;> rfl) y a))

theorem iblk2_eq (t : Fin cfg0.N) : iblk m c 2 t = m ((c : Thread nD τ).loc main_arg2) := by
  refine Eq.trans ?_ (V_main_arg2 m c)
  funext y
  unfold iblk
  exact congrArg (V m c main_arg2) (funext fun a => Fin.ext (emb_start 2 rfl t (by intro a; fin_cases a <;> rfl) y a))

theorem iblk3_eq (t : Fin cfg0.N) : iblk m c 3 t = m ((c : Thread nD τ).loc main_arg3) := by
  refine Eq.trans ?_ (V_main_arg3 m c)
  funext y
  unfold iblk
  exact congrArg (V m c main_arg3) (funext fun a => Fin.ext (emb_start 3 rfl t (by intro a; fin_cases a <;> rfl) y a))

theorem iblk4_eq (t : Fin cfg0.N) : iblk m c 4 t = m ((c : Thread nD τ).loc main_arg4) := by
  refine Eq.trans ?_ (V_main_arg4 m c)
  funext y
  unfold iblk
  exact congrArg (V m c main_arg4) (funext fun a => Fin.ext (emb_start 4 rfl t (by intro a; fin_cases a <;> rfl) y a))

theorem iblk5_eq (t : Fin cfg0.N) : iblk m c 5 t = m ((c : Thread nD τ).loc main_arg5) := by
  refine Eq.trans ?_ (V_main_arg5 m c)
  funext y
  unfold iblk
  exact congrArg (V m c main_arg5) (funext fun a => Fin.ext (emb_start 5 rfl t (by intro a; fin_cases a <;> rfl) y a))

/-- What the reference computes of its arguments. -/
def result : FVec Ideal S24576x2048 .bf16 :=
  chain (k0_pay2 (m ((c : Thread nD τ).loc main_arg0))) (m ((c : Thread nD τ).loc main_arg1)) (m ((c : Thread nD τ).loc main_arg2))
    (m ((c : Thread nD τ).loc main_arg3)) (m ((c : Thread nD τ).loc main_arg4)) (m ((c : Thread nD τ).loc main_arg5))

theorem outsAt_eq (t : Fin cfg0.N) : outsAt0 m c t = result m c := by
  unfold outsAt0
  rw [out_eq, iblk0_eq, iblk1_eq, iblk2_eq, iblk3_eq, iblk4_eq, iblk5_eq]
  rfl

/-- The array the launch leaves. -/
theorem final_eq : (dats m 0 c).arrAt 6 cfg0.N = result m c := by
  have hemb : ∀ (t : Fin cfg0.N) (y : S24576x2048.Idx), (((cfg0.win 6).blk t).view.emb y : S24576x2048.Idx) = y := fun t y =>
    funext fun a => Fin.ext (emb_start 6 rfl t (by intro a; fin_cases a <;> rfl) y a)
  refine (dats m 0 c).arrAt_eq_of_cover 6 (result m c) ?_ ?_
  · intro t _
    show (dats m 0 c).after 6 t = _
    rw [after0_6, outsAt_eq]
    funext y
    exact (congrArg (result m c) (hemb t y)).symm
  · intro (i : S24576x2048.Idx)
    obtain ⟨t, -, hf, -⟩ := (cfg0.win 6).exists_flush_same_index rfl (⟨0, by decide⟩ : Fin cfg0.N)
    exact ⟨t, hf, (hemb t i) ▸ ((cfg0.win 6).blk t).view.emb_mem_set i⟩

end Cert.ReferenceIdeal.Expert
-- ==== Proof.RefQuant.lean ====
module

public import proofs.«01_k».proof.Proof.Quant
public import proofs.«01_k».proof.Proof.Gen.ReferenceIdeal.Skeleton
public import Idealize.ShloMosaic.Lib.Pipeline.Value

/-!
# The reference's quantiser changes nothing but a group with an infinite entry

The reference takes the exponent from a logarithm. It is stated here for any number of rows.
-/

@[expose] public section

set_option maxRecDepth 16384

noncomputable section

namespace Cert.Quant

open Idealize.ShloMosaic

/-- The reference's exponent of a row whose greatest magnitude is `a`. -/
def rexp (a : EReal) : EReal :=
  if a = 0 then 0 else Ideal.liftRound Int.floor (Ideal.div (Ideal.log (a * ((c : ℝ) : EReal))) (Ideal.log ((2 : ℝ) : EReal))) + 1

/-- It is a number whose power of two exceeds `a` times 1/448. -/
theorem rexp_spec (a : ℝ) (h : 0 ≤ a) : ∃ n : ℝ, rexp (a : EReal) = (n : EReal) ∧ a * c < (2 : ℝ) ^ n := by
  have hc : 0 < c := by unfold c; norm_num
  unfold rexp
  by_cases ha : a = 0
  · subst ha
    refine ⟨0, by simp, by simp⟩
  · have ha' : 0 < a := lt_of_le_of_ne h (Ne.symm ha)
    have hz : 0 < a * c := mul_pos ha' hc
    have hl2 : (0 : ℝ) < Real.log 2 := Real.log_pos (by norm_num)
    refine ⟨(⌊Real.log (a * c) / Real.log 2⌋ : ℝ) + 1, ?_, ?_⟩
    · rw [if_neg (by exact_mod_cast ha), ← EReal.coe_mul]
      have e1 : Ideal.log ((a * c : ℝ) : EReal) = ((Real.log (a * c) : ℝ) : EReal) := by
        show (if a * c ≤ 0 then ⊥ else _ : EReal) = _
        rw [if_neg (not_le.mpr hz)]
      have e2 : Ideal.log ((2 : ℝ) : EReal) = ((Real.log 2 : ℝ) : EReal) := by
        show (if (2 : ℝ) ≤ 0 then ⊥ else _ : EReal) = _
        rw [if_neg (by norm_num)]
      have e3 : Ideal.div ((Real.log (a * c) : ℝ) : EReal) ((Real.log 2 : ℝ) : EReal) = ((Real.log (a * c) / Real.log 2 : ℝ) : EReal) := by
        rw [Ideal.div, if_neg (by exact_mod_cast hl2.ne'), ← EReal.coe_inv, ← EReal.coe_mul]
        rfl
      rw [e1, e2, e3]
      show (((⌊Real.log (a * c) / Real.log 2⌋ : ℤ) : ℝ) : EReal) + 1 = _
      rw [← EReal.coe_one, ← EReal.coe_add]
    · have h1 := Int.lt_floor_add_one (Real.log (a * c) / Real.log 2)
      have h2 : Real.log (a * c) < (⌊Real.log (a * c) / Real.log 2⌋ + 1) * Real.log 2 := (div_lt_iff₀ hl2).mp h1
      rw [← Real.log_lt_log_iff hz (by positivity), Real.log_rpow (by norm_num)]
      exact h2

theorem exp2_coe (r : ℝ) : (FloatOps.exp2 (F := Ideal) (φ := .f32) (r : EReal) : EReal) = (((2 : ℝ) ^ r : ℝ) : EReal) := rfl

/-- One value of the reference's quantiser. -/
theorem ref_id (x a : ℝ) (hx : |x| ≤ a) :
    (min ((448 : ℝ) : EReal) (max ((-448 : ℝ) : EReal) ((x : EReal) * FloatOps.exp2 (F := Ideal) (φ := .f32) (0 - rexp (a : EReal))))
      * FloatOps.exp2 (F := Ideal) (φ := .f32) (rexp (a : EReal)) : EReal) = (x : EReal) := by
  obtain ⟨n, hn, hlt⟩ := rexp_spec a ((abs_nonneg _).trans hx)
  rw [hn, show (0 : EReal) - (n : EReal) = ((-n : ℝ) : EReal) from by rw [zero_sub, EReal.coe_neg], exp2_coe, exp2_coe]
  have hp : (0 : ℝ) < 2 ^ n := Real.rpow_pos_of_pos (by norm_num) _
  have hq : (0 : ℝ) < 2 ^ (-n) := Real.rpow_pos_of_pos (by norm_num) _
  have hpq : (2 : ℝ) ^ (-n) * 2 ^ n = 1 := by
    rw [← Real.rpow_add (by norm_num), neg_add_cancel, Real.rpow_zero]
  have hc448 : 1 < 448 * c := by unfold c; norm_num
  refine clip_id _ _ _ hpq ?_
  rw [abs_mul, abs_of_pos hq]
  refine (mul_le_mul_of_nonneg_right hx hq.le).trans ?_
  have h1 : a * c * 2 ^ (-n) < 1 := by
    rw [← hpq, mul_comm ((2 : ℝ) ^ (-n))]
    exact mul_lt_mul_of_pos_right hlt hq
  nlinarith

/-- One value of a group with an infinite entry. -/
theorem ref_top (x : EReal) :
    (min ((448 : ℝ) : EReal) (max ((-448 : ℝ) : EReal) (x * FloatOps.exp2 (F := Ideal) (φ := .f32) (0 - rexp ⊤)))
      * FloatOps.exp2 (F := Ideal) (φ := .f32) (rexp ⊤) : EReal) = 0 := by
  have hc : 0 < c := by unfold c; norm_num
  have hl2 : (0 : ℝ) < Real.log 2 := Real.log_pos (by norm_num)
  have hr : rexp ⊤ = ⊤ := by
    unfold rexp
    rw [if_neg (by simp), EReal.top_mul_coe_of_pos hc]
    have e2 : Ideal.log ((2 : ℝ) : EReal) = ((Real.log 2 : ℝ) : EReal) := by
      show (if (2 : ℝ) ≤ 0 then ⊥ else _ : EReal) = _
      rw [if_neg (by norm_num)]
    rw [show Ideal.log ⊤ = ⊤ from rfl, e2, Ideal.div, if_neg (by exact_mod_cast hl2.ne'), ← EReal.coe_inv, EReal.top_mul_coe_of_pos (inv_pos.mpr hl2)]
    show (⊤ : EReal) + 1 = ⊤
    rw [← EReal.coe_one, EReal.top_add_coe]
  have h0 : (FloatOps.exp2 (F := Ideal) (φ := .f32) ((0 : EReal) - ⊤) : EReal) = 0 := by
    rw [show (0 : EReal) - ⊤ = ⊥ from by simp]
    rfl
  have hm : min ((448 : ℝ) : EReal) (max ((-448 : ℝ) : EReal) 0) = 0 := by
    rw [max_eq_right (by exact_mod_cast (by norm_num : (-448 : ℝ) ≤ 0)), min_eq_right (by exact_mod_cast (by norm_num : (0 : ℝ) ≤ 448))]
  rw [hr, h0, mul_zero, hm, zero_mul]

section generic
variable (R : ℕ) (h1 : (⟨2, ![R, 2816]⟩ : Shape).ShapeCasts ⟨3, ![R, 22, 128]⟩) (h2 : (⟨3, ![R, 22, 128]⟩ : Shape).Reduces [2] ⟨2, ![R, 22]⟩)
    (h3 : (⟨2, ![R, 22]⟩ : Shape).ShapeCasts ⟨3, ![R, 22, 1]⟩) (h4 : (⟨3, ![R, 22, 1]⟩ : Shape).Broadcasts ⟨3, ![R, 22, 128]⟩)
    (h5 : (⟨3, ![R, 22, 128]⟩ : Shape).ShapeCasts ⟨2, ![R, 2816]⟩)
    (b1 : FTy.bf16.bits < FTy.f32.bits) (b2 : FTy.fp8e4m3.bits < FTy.f32.bits) (b3 : FTy.fp8e4m3.bits < FTy.bf16.bits)

/-- The greatest magnitudes of the rows of 128. -/
def amax (v0 : FVec Ideal ⟨2, ![R, 2816]⟩ .bf16) : FVec Ideal ⟨3, ![R, 22, 1]⟩ .f32 :=
  shapeCast ⟨3, ![R, 22, 1]⟩ (multiReduction .maximumf [2] ⟨2, ![R, 22]⟩ (absf (shapeCast ⟨3, ![R, 22, 128]⟩ (extf .f32 v0 b1 : FVec Ideal ⟨2, ![R, 2816]⟩ .f32) h1)) 0xFF800000#32 h2 (.inl rfl) rfl) h3

/-- The exponents of the rows of 128. -/
def expo (v5 : FVec Ideal ⟨3, ![R, 22, 1]⟩ .f32) : FVec Ideal ⟨3, ![R, 22, 1]⟩ .f32 :=
  select (cmpf .oeq v5 (broadcast ⟨3, ![R, 22, 1]⟩ (Scalar.ofBits .f32 0x00000000#32))) (broadcast ⟨3, ![R, 22, 1]⟩ (Scalar.ofBits .f32 0x00000000#32))
    (addf (floor (divf (log (mulf v5 (broadcast ⟨3, ![R, 22, 1]⟩ (Scalar.ofBits .f32 0x3B124925#32)))) (log (broadcast ⟨3, ![R, 22, 1]⟩ (Scalar.ofBits .f32 0x40000000#32)))))
      (broadcast ⟨3, ![R, 22, 1]⟩ (Scalar.ofBits .f32 0x3F800000#32)))

/-- The reference's quantiser, for any number of rows. -/
def quant (v0 : FVec Ideal ⟨2, ![R, 2816]⟩ .bf16) : FVec Ideal ⟨2, ![R, 2816]⟩ .bf16 :=
  have v2 : FVec Ideal ⟨3, ![R, 22, 128]⟩ .f32 := shapeCast ⟨3, ![R, 22, 128]⟩ (extf .f32 v0 b1 : FVec Ideal ⟨2, ![R, 2816]⟩ .f32) h1
  have v18 : FVec Ideal ⟨3, ![R, 22, 1]⟩ .f32 := expo R (amax R h1 h2 h3 b1 v0)
  have v20 : FVec Ideal ⟨3, ![R, 22, 1]⟩ .f32 := subf (broadcast ⟨3, ![R, 22, 1]⟩ (Scalar.ofBits .f32 0x00000000#32)) v18
  have v27 : FVec Ideal ⟨3, ![R, 22, 128]⟩ .f32 := minimumf (broadcast ⟨3, ![R, 22, 128]⟩ (Scalar.ofBits .f32 0x43E00000#32))
    (maximumf (broadcast ⟨3, ![R, 22, 128]⟩ (Scalar.ofBits .f32 0xC3E00000#32)) (mulf v2 (broadcastTo ⟨3, ![R, 22, 128]⟩ (exp2 v20) h4)))
  have v29 : FVec Ideal ⟨3, ![R, 22, 128]⟩ .bf16 := extf .bf16 (truncf .fp8e4m3 v27 b2 : FVec Ideal ⟨3, ![R, 22, 128]⟩ .fp8e4m3) b3
  have v31 : FVec Ideal ⟨3, ![R, 22, 1]⟩ .bf16 := truncf .bf16 (exp2 v18) b1
  shapeCast ⟨2, ![R, 2816]⟩ (mulf v29 (broadcastTo ⟨3, ![R, 22, 128]⟩ v31 h4)) h5

variable {R} in
theorem bcast_at {α : Type} (v : (⟨3, ![R, 22, 1]⟩ : Shape).Idx → α) (r : Fin R) (k : Fin 22) (l : Fin 128) :
    broadcastTo ⟨3, ![R, 22, 128]⟩ v h4 (ix3 r k l) = v (ix3 r k 0) := by
  refine broadcastTo_apply v h4 _ _ fun a => ?_
  match a with
  | ⟨0, _⟩ =>
    show r.val = if R = 1 then 0 else r.val
    split <;> omega
  | ⟨1, _⟩ => rfl
  | ⟨2, _⟩ => rfl

theorem cast_at {α : Type} (v : (⟨2, ![R, 2816]⟩ : Shape).Idx → α) (r : Fin R) (k : Fin 22) (l : Fin 128) (j : Fin 2816) (hj : j.val = k.val * 128 + l.val) :
    shapeCast ⟨3, ![R, 22, 128]⟩ v h1 (ix3 r k l) = v (ix2 r j) := by
  refine shapeCast_apply v h1 _ _ ?_
  rw [Shape.rowMajor_val_three, Shape.rowMajor_val_two]
  show r.val * 2816 + j.val = (r.val * 22 + k.val) * 128 + l.val
  omega

theorem amax_at (v : FVec Ideal ⟨2, ![R, 2816]⟩ .bf16) (r : Fin R) (k : Fin 22) (ja : ∀ q : Fin 128, k.val * 128 + q.val < 2816) :
    amax R h1 h2 h3 b1 v (ix3 r k 0) = Finset.univ.fold max (⊥ : EReal)
      (fun q : Fin 128 => FloatOps.absf (F := Ideal) (φ := .f32) (v (ix2 r ⟨k.val * 128 + q.val, ja q⟩))) := by
  unfold amax
  refine (shapeCast_apply _ h3 (ix3 r k 0) (ix2 r k) ?_).trans ?_
  · rw [Shape.rowMajor_val_three, Shape.rowMajor_val_two]
    show r.val * 22 + k.val = (r.val * 22 + k.val) * 1 + 0
    omega
  · generalize hw : (absf (shapeCast ⟨3, ![R, 22, 128]⟩ (extf .f32 v b1 : FVec Ideal ⟨2, ![R, 2816]⟩ .f32) h1)) = w
    pointwise
    rw [word_ninf]
    congr 1
    funext q
    rw [← hw]
    show FloatOps.absf (shapeCast ⟨3, ![R, 22, 128]⟩ (extf .f32 v b1 : FVec Ideal ⟨2, ![R, 2816]⟩ .f32) h1 (ix3 r k q)) = _
    rw [cast_at R h1 _ r k q ⟨k.val * 128 + q.val, ja q⟩ rfl]
    rfl

theorem quant_at (v : FVec Ideal ⟨2, ![R, 2816]⟩ .bf16) (r : Fin R) (l : Fin 2816) (k : Fin 22) (p : Fin 128) (hlkp : l.val = k.val * 128 + p.val)
    (a : EReal) (ha : amax R h1 h2 h3 b1 v (ix3 r k 0) = a) :
    (quant R h1 h2 h3 h4 h5 b1 b2 b3 v (ix2 r l) : EReal) =
      min ((448 : ℝ) : EReal) (max ((-448 : ℝ) : EReal) ((v (ix2 r l) : EReal) * FloatOps.exp2 (F := Ideal) (φ := .f32) (0 - rexp a)))
        * FloatOps.exp2 (F := Ideal) (φ := .f32) (rexp a) := by
  have hexp : expo R (amax R h1 h2 h3 b1 v) (ix3 r k 0) = rexp a := by
    rw [← ha]
    generalize amax R h1 h2 h3 b1 v = w
    pointwise [expo]
    rw [word_c, word_two]
    rfl
  unfold quant
  refine (shapeCast_apply _ h5 (ix2 r l) (ix3 r k p) ?_).trans ?_
  · rw [Shape.rowMajor_val_three, Shape.rowMajor_val_two]
    show (r.val * 22 + k.val) * 128 + p.val = r.val * 2816 + l.val
    omega
  · show min (Ideal.ofBits .f32 0x43E00000#32) (max (Ideal.ofBits .f32 0xC3E00000#32)
        (shapeCast ⟨3, ![R, 22, 128]⟩ (extf .f32 v b1 : FVec Ideal ⟨2, ![R, 2816]⟩ .f32) h1 (ix3 r k p)
          * broadcastTo ⟨3, ![R, 22, 128]⟩ (exp2 (subf (broadcast ⟨3, ![R, 22, 1]⟩ (Scalar.ofBits .f32 0x00000000#32)) (expo R (amax R h1 h2 h3 b1 v)))) h4 (ix3 r k p)))
      * broadcastTo ⟨3, ![R, 22, 128]⟩ (truncf .bf16 (exp2 (expo R (amax R h1 h2 h3 b1 v))) b1 : FVec Ideal ⟨3, ![R, 22, 1]⟩ .bf16) h4 (ix3 r k p) = _
    rw [bcast_at h4, bcast_at h4, cast_at R h1 _ r k p l hlkp]
    show min _ (max _ ((v (ix2 r l) : EReal) * FloatOps.exp2 (F := Ideal) (φ := .f32) (Ideal.ofBits .f32 0x00000000#32 - expo R (amax R h1 h2 h3 b1 v) (ix3 r k 0))))
      * FloatOps.exp2 (F := Ideal) (φ := .f32) (expo R (amax R h1 h2 h3 b1 v) (ix3 r k 0)) = _
    rw [hexp, word_top, word_bot, show Ideal.ofBits .f32 0x00000000#32 = 0 from Ideal.ofBits_zero_f32]

/-- The reference's quantiser, on a row of numbers of the format. -/
theorem quant_val (v : FVec Ideal ⟨2, ![R, 2816]⟩ .bf16) (r : Fin R) (hx : ∀ l, Number (v (ix2 r l))) (l : Fin 2816) :
    (quant R h1 h2 h3 h4 h5 b1 b2 b3 v (ix2 r l) : EReal) = kept (fun l => v (ix2 r l)) l := by
  have hk : l.val / 128 < 22 := by omega
  have hl : l.val % 128 < 128 := Nat.mod_lt _ (by decide)
  have ja : ∀ q : Fin 128, (⟨l.val / 128, hk⟩ : Fin 22).val * 128 + q.val < 2816 := fun q => by show l.val / 128 * 128 + q.val < 2816; omega
  have hlkp : l.val = (⟨l.val / 128, hk⟩ : Fin 22).val * 128 + (⟨l.val % 128, hl⟩ : Fin 128).val := by
    show l.val = l.val / 128 * 128 + l.val % 128; omega
  have hm := amax_at R h1 h2 h3 b1 v r ⟨l.val / 128, hk⟩ ja
  unfold kept
  rcases group_cases (fun q : Fin 128 => v (ix2 r ⟨(⟨l.val / 128, hk⟩ : Fin 22).val * 128 + q.val, ja q⟩)) (fun q => hx _) with ⟨q, hq⟩ | ⟨x, e1, e2⟩
  · rw [if_pos ⟨_, by show (l.val / 128 * 128 + q.val) / 128 = l.val / 128; omega, hq⟩,
      quant_at R h1 h2 h3 h4 h5 b1 b2 b3 v r l _ _ hlkp ⊤ (hm.trans (row_max_top _ q hq))]
    exact ref_top _
  · rw [if_neg]
    · obtain ⟨a, ha, hle, -⟩ := row_max _ x e1 big e2 0
      rw [quant_at R h1 h2 h3 h4 h5 b1 b2 b3 v r l _ _ hlkp a (hm.trans ha)]
      have e : v (ix2 r l) = (x ⟨l.val % 128, hl⟩ : EReal) := (congrArg (fun i => v (ix2 r i)) (Fin.ext hlkp)).trans (e1 _)
      rw [e]
      exact (ref_id _ _ (hle ⟨l.val % 128, hl⟩)).trans e.symm
    · rintro ⟨q, hq, ht⟩
      have e : v (ix2 r q) = (x ⟨q.val % 128, Nat.mod_lt _ (by decide)⟩ : EReal) :=
        (congrArg (fun i => v (ix2 r i)) (Fin.ext (by show q.val = l.val / 128 * 128 + q.val % 128; omega))).trans (e1 _)
      have ht' : max (v (ix2 r q) : EReal) (-(v (ix2 r q) : EReal)) = ⊤ := ht
      rw [e] at ht'
      exact absurd ((absf_coe _).symm.trans ht') (EReal.coe_ne_top _)

end generic

open Cert.ReferenceIdeal Cert.ReferenceIdeal.Gen in
theorem pay2_eq (v : FVec Ideal S24576x2816 .bf16) :
    k0_pay2 (F := Ideal) v = quant 24576 shapeCasts_S24576x2816_S24576x22x128 reduces_S24576x22x128_S24576x22 shapeCasts_S24576x22_S24576x22x1
      broadcasts_S24576x22x1_S24576x22x128 shapeCasts_S24576x22x128_S24576x2816 bitsLt_bf16_f32 bitsLt_fp8e4m3_f32 bitsLt_fp8e4m3_bf16 v := rfl

end Cert.Quant
-- ==== Proof.Pre.lean ====
module

public import proofs.«01_k».proof.Pre_numbers_and_cut
public import proofs.«01_k».proof.Proof.Cut
public import proofs.«01_k».proof.Proof.Quant

/-!
# The precondition of the value claim

Its side conditions, and what it says: every activation is a number of the input's format, finite or not, and the
lengths of the runs cut the rows.
-/

@[expose] public section

noncomputable section

namespace Cert.Pre_numbers_and_cut

open Idealize.ShloMosaic

/-- The side conditions of the precondition's operations. -/
theorem facts : Facts where
  bcast_S_S24576x2816 := by decide
  bcast_S_S8 := by decide
  reducesTo_S8_S_d0 := by decide
  h_S_ := by decide

/-- What the two comparisons say of one activation. -/
theorem number_of_test (x : EReal) (h : Ideal.cmp .ole (max x (-x)) (Ideal.ofBits .bf16 0x7F7F#16) ||| Ideal.cmp .oeq (max x (-x)) (Ideal.ofBits .bf16 0x7F80#16) = 1#1) :
    Quant.Number x := by
  have or1 : ∀ a b : BitVec 1, a ||| b = 1#1 → a = 1#1 ∨ b = 1#1 := by decide
  rcases or1 _ _ h with e | e
  · left
    rw [Quant.word_big] at e
    have hle : max x (-x) ≤ ((Quant.big : ℝ) : EReal) := by simpa [Ideal.cmp, WordCmp.ofBool_eq_one_iff] using e
    induction x with
    | bot => exact absurd (le_trans (le_max_right _ _) hle) (by simp)
    | top => exact absurd (le_trans (le_max_left _ _) hle) (by simp)
    | coe r => exact ⟨r, rfl, EReal.coe_le_coe_iff.mp ((Quant.absf_coe r).symm.le.trans hle)⟩
  · right
    have ht : Ideal.ofBits .bf16 0x7F80#16 = ⊤ := by simp [Ideal.ofBits, Ideal.ieee]
    rw [ht] at e
    simpa only [Ideal.cmp, WordCmp.ofBool_eq_one_iff, decide_eq_true_eq] using e

variable [Facts]

theorem number_of_pre (x0 : FVec Ideal S24576x2816 .bf16) (x1 : IVec S8 32) (x2 : FVec Ideal S8x2816x2048 .fp8e4m3) (x3 : FVec Ideal S8x22x16 .f32)
    (x4 : FVec Ideal S8x2816x2048 .fp8e4m3) (x5 : FVec Ideal S8x22x16 .f32)
    (h : (fn x0 x1 x2 x3 x4 x5).1 = fun _ => 1#1) (r : Fin 24576) (k : Fin 2816) : Quant.Number (x0 (ix2 r k)) :=
  number_of_test _ (congrFun h (ix2 r k))

theorem cut_of_pre (x0 : FVec Ideal S24576x2816 .bf16) (x1 : IVec S8 32) (x2 : FVec Ideal S8x2816x2048 .fp8e4m3) (x3 : FVec Ideal S8x22x16 .f32)
    (x4 : FVec Ideal S8x2816x2048 .fp8e4m3) (x5 : FVec Ideal S8x22x16 .f32)
    (h : (fn x0 x1 x2 x3 x4 x5).2 = fun _ => 1#1) : ∃ G, Plan.Cut x1 G :=
  Plan.cut_of_pre _ _ _ _ h

end Cert.Pre_numbers_and_cut
-- ==== Proof.Value.lean ====
module

public import proofs.«01_k».proof.Proof.KRows
public import proofs.«01_k».proof.Proof.RefArray
public import proofs.«01_k».proof.Proof.RefQuant
public import proofs.«01_k».proof.Proof.Pre

/-!
# The kernel's array is the reference's

Where the activations are numbers of the format and the lengths cut the rows, each row of either is the product of the row's expert.
-/

@[expose] public section

set_option maxRecDepth 16384

noncomputable section

namespace Cert.Value

open Idealize.ShloMosaic Idealize.ShloMosaic.TcCoe Idealize.SL.Sem

/-- On the rows of an expert, the reference's result is the expert's product of what quantising leaves of the rows. -/
theorem chain_row (x0 : FVec Ideal ReferenceIdeal.S24576x2816 .bf16) (x1 : Vec Ideal ReferenceIdeal.S8 .i32)
    (x2 : Vec Ideal ReferenceIdeal.S8x2816x2048 .fp8e4m3) (x3 : Vec Ideal ReferenceIdeal.S8x22x16 .f32)
    (x4 : Vec Ideal ReferenceIdeal.S8x2816x2048 .fp8e4m3) (x5 : Vec Ideal ReferenceIdeal.S8x22x16 .f32)
    (G : ℕ → ℕ) (hG : Plan.Cut x1 G) (hx : ∀ r k, Quant.Number (x0 (ix2 r k))) (R : Fin 24576) (n : Fin 2048) (e : Fin 8)
    (h0 : Plan.pre G e.val ≤ R.val) (h1 : R.val < Plan.pre G (e.val + 1)) :
    ReferenceIdeal.Expert.chain (ReferenceIdeal.Gen.k0_pay2 x0) x1 x2 x3 x4 x5 (ix2 R n) = Spec.row (Quant.kept fun k => x0 (ix2 R k)) x2 x3 x4 x5 e n := by
  refine (ReferenceIdeal.Expert.chain_at _ x1 x2 x3 x4 x5 G hG R n e ⟨h0, h1⟩).trans ?_
  have hq : (fun k : Fin 2816 => (ReferenceIdeal.Gen.k0_pay2 (F := Ideal) x0 (ix2 R k) : EReal)) = Quant.kept fun k => x0 (ix2 R k) := funext fun k =>
    (congrFun (Quant.pay2_eq x0) (ix2 R k)).trans (Quant.quant_val _ _ _ _ _ _ _ _ _ x0 R (hx R) k)
  exact congrArg (fun q : Fin 2816 → EReal => Spec.row q x2 x3 x4 x5 e n) hq

/-- The array the kernel leaves is the reference's result on the same arguments. -/
theorem arrays_eq (m : (ℓ : Loc KernelIdeal.nD KernelIdeal.τ KernelIdeal.sig) → Buf (Elt Ideal) ℓ) (c : Dev KernelIdeal.nD) (G : ℕ → ℕ)
    (hG : Plan.Cut (KernelIdeal.Body.gsz m) G)
    (hx : ∀ r k, Quant.Number (KernelIdeal.Body.a0 m c (ix2 r k))) :
    (KernelIdeal.Body.dats m (KernelIdeal.Body.ok m hG) (KernelIdeal.Body.hyps m hG) 0 c).arrAt 5 (KernelIdeal.Body.cfgM m (KernelIdeal.Body.ok m hG)).N =
      ReferenceIdeal.Expert.chain (ReferenceIdeal.Gen.k0_pay2 (KernelIdeal.Body.a0 m c)) (KernelIdeal.Body.gsz m) (KernelIdeal.Body.a2 m c)
        (KernelIdeal.Body.a3 m c) (KernelIdeal.Body.a4 m c) (KernelIdeal.Body.a5 m c) :=
  KernelIdeal.Body.final_eq m c hG hx _ fun R n e h0 h1 => chain_row _ _ _ _ _ _ G hG hx R n e h0 h1

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Value
public import proofs.«01_k».proof.Proof.Gen.ReferenceIdeal.Frame
public import proofs.«01_k».proof.Proof.Gen.Pre_groups_cut_the_rows
public import proofs.«01_k».proof.Proof.Frame
public import proofs.«01_k».proof.Proof.Words.Frame
public import proofs.«01_k».proof.Proof.Value
public import Idealize.ShloMosaic.Adequacy
public import Idealize.ShloMosaic.Init

@[expose] public section

noncomputable section

namespace Cert.Proof

open Idealize.ShloMosaic Idealize.SL.Sem Cert.Kernel

/-- From words: where the lengths of the runs cut the rows, the program ends with its arguments unchanged. -/
theorem frame_P : quiescent_Kernel (hKernel := Cert.Kernel.Gen.facts) (hPre_groups_cut_the_rows := Cert.Pre_groups_cut_the_rows.Gen.facts) := fun m g h => by
  obtain ⟨G, hG⟩ := Plan.cut_of_pre _ _ _ _ (h 0)
  exact (θ_run _ _ _).mono (fun r hr => hr.1) (Cert.Kernel.Body.frame_value m g hG)

/-- The same of extended reals. -/
theorem frame_PI : quiescent_KernelIdeal (hKernelIdeal := Cert.KernelIdeal.Gen.facts) (hPre_groups_cut_the_rows := Cert.Pre_groups_cut_the_rows.Gen.facts) := fun m g h => by
  obtain ⟨G, hG⟩ := Plan.cut_of_pre _ _ _ _ (h 0)
  exact (θ_run _ _ _).mono (fun r hr => hr.1) (Cert.KernelIdeal.Body.frame_value m g hG)

/-- The same where the activations are numbers of their format. -/
theorem frame_PI_numbers : quiescent_KernelIdeal_pre_numbers_and_cut (hKernelIdeal := Cert.KernelIdeal.Gen.facts) (hPre_numbers_and_cut := Cert.Pre_numbers_and_cut.facts) := fun m g h => by
  obtain ⟨G, hG⟩ := Plan.cut_of_pre _ _ _ _ (h 0).2
  exact (θ_run _ _ _).mono (fun r hr => hr.1) (Cert.KernelIdeal.Body.frame_value m g hG)

/-- Where the activations are numbers of their format and the lengths of the runs cut the rows, the kernel's result is the reference's. -/
theorem value : algebraic_KernelIdeal_ReferenceIdeal_pre_numbers_and_cut (hKernelIdeal := Cert.KernelIdeal.Gen.facts)
    (hReferenceIdeal := Cert.ReferenceIdeal.Gen.facts) (hPre_numbers_and_cut := Cert.Pre_numbers_and_cut.facts) := fun m g m' g' h hm => by
  obtain ⟨G, hG⟩ := Plan.cut_of_pre _ _ _ _ (h 0).2
  have hres : ∀ c : Dev Cert.KernelIdeal.nD, Cert.ReferenceIdeal.Expert.result m' c =
      (Cert.KernelIdeal.Body.dats m (Cert.KernelIdeal.Body.ok m hG) (Cert.KernelIdeal.Body.hyps m hG) 0 c).arrAt 5 (Cert.KernelIdeal.Body.cfgM m (Cert.KernelIdeal.Body.ok m hG)).N := fun c => by
    obtain rfl : c = 0 := Subsingleton.elim _ _
    letI := Cert.Pre_numbers_and_cut.facts
    have hx := Cert.Pre_numbers_and_cut.number_of_pre _ _ _ _ _ _ (h 0).1
    obtain ⟨e0, e1, e2, e3, e4, e5⟩ := hm 0
    refine Eq.trans ?_ (Cert.Value.arrays_eq m 0 G hG hx).symm
    unfold Cert.ReferenceIdeal.Expert.result
    exact congrArg₂ (fun x y => x y) (congrArg₂ (fun x y => x y) (congrArg₂ (fun x y => x y) (congrArg₂ (fun x y => x y)
      (congrArg₂ (fun x y => Cert.ReferenceIdeal.Expert.chain (Cert.ReferenceIdeal.Gen.k0_pay2 x) y) e0 e1) e2) e3) e4) e5
  refine ⟨fun c => Cert.ReferenceIdeal.Expert.result m' c, ?_, ?_⟩
  · exact (θ_run _ _ _).mono (fun r hr c => ⟨(hr.2 c).trans (hres c).symm, hr.1.1 c⟩) (Cert.KernelIdeal.Body.frame_value m g hG)
  · exact (θ_run _ _ _).mono (fun r hr c => ⟨(hr c).1.trans (Cert.ReferenceIdeal.Expert.final_eq m' c), (hr c).2⟩) (Cert.ReferenceIdeal.Value.run_blocks m' g')

theorem claim : Cert.Claim := ⟨Cert.Kernel.Gen.facts, Cert.KernelIdeal.Gen.facts, Cert.ReferenceIdeal.Gen.facts, Cert.Pre_groups_cut_the_rows.Gen.facts,
  Cert.Pre_numbers_and_cut.facts, frame_P, frame_PI, frame_PI_numbers, fun m g _ => Cert.ReferenceIdeal.Gen.frame m g,
  fun m g _ => Cert.ReferenceIdeal.Gen.frame m g, trivial, value⟩

end Cert.Proof

end
